-- ==== Defs.lean ====
def Pre_GatingBwd (m : (ℓ : Loc Cert.GatingBwd.nD Cert.GatingBwd.τ Cert.GatingBwd.sig) → Buf (Elt Bits) ℓ) : Prop :=
  True

def Pre_GatingBwdIdeal (m : (ℓ : Loc Cert.GatingBwdIdeal.nD Cert.GatingBwdIdeal.τ Cert.GatingBwdIdeal.sig) → Buf (Elt Ideal) ℓ) : Prop :=
  True

def Pre_GatingRefIdeal (m : (ℓ : Loc Cert.GatingRefIdeal.nD Cert.GatingRefIdeal.τ Cert.GatingRefIdeal.sig) → Buf (Elt Ideal) ℓ) : Prop :=
  True

def Pre_WInFwd (m : (ℓ : Loc Cert.WInFwd.nD Cert.WInFwd.τ Cert.WInFwd.sig) → Buf (Elt Bits) ℓ) : Prop :=
  True

def Pre_WInFwdIdeal (m : (ℓ : Loc Cert.WInFwdIdeal.nD Cert.WInFwdIdeal.τ Cert.WInFwdIdeal.sig) → Buf (Elt Ideal) ℓ) : Prop :=
  True

def Pre_WInFwdRefIdeal (m : (ℓ : Loc Cert.WInFwdRefIdeal.nD Cert.WInFwdRefIdeal.τ Cert.WInFwdRefIdeal.sig) → Buf (Elt Ideal) ℓ) : Prop :=
  True

def Pre_WInDx (m : (ℓ : Loc Cert.WInDx.nD Cert.WInDx.τ Cert.WInDx.sig) → Buf (Elt Bits) ℓ) : Prop :=
  True

def Pre_WInDxIdeal (m : (ℓ : Loc Cert.WInDxIdeal.nD Cert.WInDxIdeal.τ Cert.WInDxIdeal.sig) → Buf (Elt Ideal) ℓ) : Prop :=
  True

def Pre_WInDxRefIdeal (m : (ℓ : Loc Cert.WInDxRefIdeal.nD Cert.WInDxRefIdeal.τ Cert.WInDxRefIdeal.sig) → Buf (Elt Ideal) ℓ) : Prop :=
  True

def Pre_WInDw (m : (ℓ : Loc Cert.WInDw.nD Cert.WInDw.τ Cert.WInDw.sig) → Buf (Elt Bits) ℓ) : Prop :=
  True

def Pre_WInDwIdeal (m : (ℓ : Loc Cert.WInDwIdeal.nD Cert.WInDwIdeal.τ Cert.WInDwIdeal.sig) → Buf (Elt Ideal) ℓ) : Prop :=
  True

def Pre_WInDwRefIdeal (m : (ℓ : Loc Cert.WInDwRefIdeal.nD Cert.WInDwRefIdeal.τ Cert.WInDwRefIdeal.sig) → Buf (Elt Ideal) ℓ) : Prop :=
  True

def Pre_WOutFwd (m : (ℓ : Loc Cert.WOutFwd.nD Cert.WOutFwd.τ Cert.WOutFwd.sig) → Buf (Elt Bits) ℓ) : Prop :=
  True

def Pre_WOutFwdIdeal (m : (ℓ : Loc Cert.WOutFwdIdeal.nD Cert.WOutFwdIdeal.τ Cert.WOutFwdIdeal.sig) → Buf (Elt Ideal) ℓ) : Prop :=
  True

def Pre_WOutFwdRefIdeal (m : (ℓ : Loc Cert.WOutFwdRefIdeal.nD Cert.WOutFwdRefIdeal.τ Cert.WOutFwdRefIdeal.sig) → Buf (Elt Ideal) ℓ) : Prop :=
  True

def Pre_WOutDx (m : (ℓ : Loc Cert.WOutDx.nD Cert.WOutDx.τ Cert.WOutDx.sig) → Buf (Elt Bits) ℓ) : Prop :=
  True

def Pre_WOutDxIdeal (m : (ℓ : Loc Cert.WOutDxIdeal.nD Cert.WOutDxIdeal.τ Cert.WOutDxIdeal.sig) → Buf (Elt Ideal) ℓ) : Prop :=
  True

def Pre_WOutDxRefIdeal (m : (ℓ : Loc Cert.WOutDxRefIdeal.nD Cert.WOutDxRefIdeal.τ Cert.WOutDxRefIdeal.sig) → Buf (Elt Ideal) ℓ) : Prop :=
  True

def Pre_WOutDw (m : (ℓ : Loc Cert.WOutDw.nD Cert.WOutDw.τ Cert.WOutDw.sig) → Buf (Elt Bits) ℓ) : Prop :=
  True

def Pre_WOutDwIdeal (m : (ℓ : Loc Cert.WOutDwIdeal.nD Cert.WOutDwIdeal.τ Cert.WOutDwIdeal.sig) → Buf (Elt Ideal) ℓ) : Prop :=
  True

def Pre_WOutDwRefIdeal (m : (ℓ : Loc Cert.WOutDwRefIdeal.nD Cert.WOutDwRefIdeal.τ Cert.WOutDwRefIdeal.sig) → Buf (Elt Ideal) ℓ) : Prop :=
  True

def Pre_FfUpFwd (m : (ℓ : Loc Cert.FfUpFwd.nD Cert.FfUpFwd.τ Cert.FfUpFwd.sig) → Buf (Elt Bits) ℓ) : Prop :=
  True

def Pre_FfUpFwdIdeal (m : (ℓ : Loc Cert.FfUpFwdIdeal.nD Cert.FfUpFwdIdeal.τ Cert.FfUpFwdIdeal.sig) → Buf (Elt Ideal) ℓ) : Prop :=
  True

def Pre_FfUpFwdRefIdeal (m : (ℓ : Loc Cert.FfUpFwdRefIdeal.nD Cert.FfUpFwdRefIdeal.τ Cert.FfUpFwdRefIdeal.sig) → Buf (Elt Ideal) ℓ) : Prop :=
  True

def Pre_FfUpDx (m : (ℓ : Loc Cert.FfUpDx.nD Cert.FfUpDx.τ Cert.FfUpDx.sig) → Buf (Elt Bits) ℓ) : Prop :=
  True

def Pre_FfUpDxIdeal (m : (ℓ : Loc Cert.FfUpDxIdeal.nD Cert.FfUpDxIdeal.τ Cert.FfUpDxIdeal.sig) → Buf (Elt Ideal) ℓ) : Prop :=
  True

def Pre_FfUpDxRefIdeal (m : (ℓ : Loc Cert.FfUpDxRefIdeal.nD Cert.FfUpDxRefIdeal.τ Cert.FfUpDxRefIdeal.sig) → Buf (Elt Ideal) ℓ) : Prop :=
  True

def Pre_FfUpDw (m : (ℓ : Loc Cert.FfUpDw.nD Cert.FfUpDw.τ Cert.FfUpDw.sig) → Buf (Elt Bits) ℓ) : Prop :=
  True

def Pre_FfUpDwIdeal (m : (ℓ : Loc Cert.FfUpDwIdeal.nD Cert.FfUpDwIdeal.τ Cert.FfUpDwIdeal.sig) → Buf (Elt Ideal) ℓ) : Prop :=
  True

def Pre_FfUpDwRefIdeal (m : (ℓ : Loc Cert.FfUpDwRefIdeal.nD Cert.FfUpDwRefIdeal.τ Cert.FfUpDwRefIdeal.sig) → Buf (Elt Ideal) ℓ) : Prop :=
  True

def Pre_FfDownFwd (m : (ℓ : Loc Cert.FfDownFwd.nD Cert.FfDownFwd.τ Cert.FfDownFwd.sig) → Buf (Elt Bits) ℓ) : Prop :=
  True

def Pre_FfDownFwdIdeal (m : (ℓ : Loc Cert.FfDownFwdIdeal.nD Cert.FfDownFwdIdeal.τ Cert.FfDownFwdIdeal.sig) → Buf (Elt Ideal) ℓ) : Prop :=
  True

def Pre_FfDownFwdRefIdeal (m : (ℓ : Loc Cert.FfDownFwdRefIdeal.nD Cert.FfDownFwdRefIdeal.τ Cert.FfDownFwdRefIdeal.sig) → Buf (Elt Ideal) ℓ) : Prop :=
  True

def Pre_FfDownDx (m : (ℓ : Loc Cert.FfDownDx.nD Cert.FfDownDx.τ Cert.FfDownDx.sig) → Buf (Elt Bits) ℓ) : Prop :=
  True

def Pre_FfDownDxIdeal (m : (ℓ : Loc Cert.FfDownDxIdeal.nD Cert.FfDownDxIdeal.τ Cert.FfDownDxIdeal.sig) → Buf (Elt Ideal) ℓ) : Prop :=
  True

def Pre_FfDownDxRefIdeal (m : (ℓ : Loc Cert.FfDownDxRefIdeal.nD Cert.FfDownDxRefIdeal.τ Cert.FfDownDxRefIdeal.sig) → Buf (Elt Ideal) ℓ) : Prop :=
  True

def Pre_FfDownDw (m : (ℓ : Loc Cert.FfDownDw.nD Cert.FfDownDw.τ Cert.FfDownDw.sig) → Buf (Elt Bits) ℓ) : Prop :=
  True

def Pre_FfDownDwIdeal (m : (ℓ : Loc Cert.FfDownDwIdeal.nD Cert.FfDownDwIdeal.τ Cert.FfDownDwIdeal.sig) → Buf (Elt Ideal) ℓ) : Prop :=
  True

def Pre_FfDownDwRefIdeal (m : (ℓ : Loc Cert.FfDownDwRefIdeal.nD Cert.FfDownDwRefIdeal.τ Cert.FfDownDwRefIdeal.sig) → Buf (Elt Ideal) ℓ) : Prop :=
  True

def Pre_AdamAdaW (m : (ℓ : Loc Cert.AdamAdaW.nD Cert.AdamAdaW.τ Cert.AdamAdaW.sig) → Buf (Elt Bits) ℓ) : Prop :=
  True

def Pre_AdamAdaWIdeal (m : (ℓ : Loc Cert.AdamAdaWIdeal.nD Cert.AdamAdaWIdeal.τ Cert.AdamAdaWIdeal.sig) → Buf (Elt Ideal) ℓ) : Prop :=
  True

def Pre_AdamAdaWRefIdeal (m : (ℓ : Loc Cert.AdamAdaWRefIdeal.nD Cert.AdamAdaWRefIdeal.τ Cert.AdamAdaWRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamFfUp (m : (ℓ : Loc Cert.AdamFfUp.nD Cert.AdamFfUp.τ Cert.AdamFfUp.sig) → Buf (Elt Bits) ℓ) : Prop :=
  True

def Pre_AdamFfUpIdeal (m : (ℓ : Loc Cert.AdamFfUpIdeal.nD Cert.AdamFfUpIdeal.τ Cert.AdamFfUpIdeal.sig) → Buf (Elt Ideal) ℓ) : Prop :=
  True

def Pre_AdamFfUpRefIdeal (m : (ℓ : Loc Cert.AdamFfUpRefIdeal.nD Cert.AdamFfUpRefIdeal.τ Cert.AdamFfUpRefIdeal.sig) → Buf (Elt Ideal) ℓ) : Prop :=
  True

def Pre_AdamFfDown (m : (ℓ : Loc Cert.AdamFfDown.nD Cert.AdamFfDown.τ Cert.AdamFfDown.sig) → Buf (Elt Bits) ℓ) : Prop :=
  True

def Pre_AdamFfDownIdeal (m : (ℓ : Loc Cert.AdamFfDownIdeal.nD Cert.AdamFfDownIdeal.τ Cert.AdamFfDownIdeal.sig) → Buf (Elt Ideal) ℓ) : Prop :=
  True

def Pre_AdamFfDownRefIdeal (m : (ℓ : Loc Cert.AdamFfDownRefIdeal.nD Cert.AdamFfDownRefIdeal.τ Cert.AdamFfDownRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def quiescent_GatingBwd [hGatingBwd : Cert.GatingBwd.Facts] : Prop :=
  ∀ (m : (ℓ : Loc Cert.GatingBwd.nD Cert.GatingBwd.τ Cert.GatingBwd.sig) → Buf (Elt Bits) ℓ) (g : Dev Cert.GatingBwd.nD → PrngReg), Pre_GatingBwd m →
    θ_run (Cert.GatingBwd.defs (F := Bits)) (onTc (τ := Cert.GatingBwd.τ) (Cert.GatingBwd.main (F := Bits))) ⟨m, fun _ => 0, g⟩ (fun r => (∀ c : Dev Cert.GatingBwd.nD,
      r.2.mem ((c.tc : Thread Cert.GatingBwd.nD Cert.GatingBwd.τ).loc Cert.GatingBwd.main_arg0) = m ((c.tc : Thread Cert.GatingBwd.nD Cert.GatingBwd.τ).loc Cert.GatingBwd.main_arg0)
      ∧ r.2.mem ((c.tc : Thread Cert.GatingBwd.nD Cert.GatingBwd.τ).loc Cert.GatingBwd.main_arg1) = m ((c.tc : Thread Cert.GatingBwd.nD Cert.GatingBwd.τ).loc Cert.GatingBwd.main_arg1)
      ∧ r.2.mem ((c.tc : Thread Cert.GatingBwd.nD Cert.GatingBwd.τ).loc Cert.GatingBwd.main_arg2) = m ((c.tc : Thread Cert.GatingBwd.nD Cert.GatingBwd.τ).loc Cert.GatingBwd.main_arg2)
      ∧ r.2.mem ((c.tc : Thread Cert.GatingBwd.nD Cert.GatingBwd.τ).loc Cert.GatingBwd.main_arg3) = m ((c.tc : Thread Cert.GatingBwd.nD Cert.GatingBwd.τ).loc Cert.GatingBwd.main_arg3)
      ∧ r.2.mem ((c.tc : Thread Cert.GatingBwd.nD Cert.GatingBwd.τ).loc Cert.GatingBwd.main_arg4) = m ((c.tc : Thread Cert.GatingBwd.nD Cert.GatingBwd.τ).loc Cert.GatingBwd.main_arg4)
      ∧ r.2.mem ((c.tc : Thread Cert.GatingBwd.nD Cert.GatingBwd.τ).loc Cert.GatingBwd.main_arg5) = m ((c.tc : Thread Cert.GatingBwd.nD Cert.GatingBwd.τ).loc Cert.GatingBwd.main_arg5))
      ∧ r.2.sem = fun _ => 0)

def quiescent_GatingBwdIdeal [hGatingBwdIdeal : Cert.GatingBwdIdeal.Facts] : Prop :=
  ∀ (m : (ℓ : Loc Cert.GatingBwdIdeal.nD Cert.GatingBwdIdeal.τ Cert.GatingBwdIdeal.sig) → Buf (Elt Ideal) ℓ) (g : Dev Cert.GatingBwdIdeal.nD → PrngReg), Pre_GatingBwdIdeal m →
    θ_run (Cert.GatingBwdIdeal.defs (F := Ideal)) (onTc (τ := Cert.GatingBwdIdeal.τ) (Cert.GatingBwdIdeal.main (F := Ideal))) ⟨m, fun _ => 0, g⟩ (fun r => (∀ c : Dev Cert.GatingBwdIdeal.nD,
      r.2.mem ((c.tc : Thread Cert.GatingBwdIdeal.nD Cert.GatingBwdIdeal.τ).loc Cert.GatingBwdIdeal.main_arg0) = m ((c.tc : Thread Cert.GatingBwdIdeal.nD Cert.GatingBwdIdeal.τ).loc Cert.GatingBwdIdeal.main_arg0)
      ∧ r.2.mem ((c.tc : Thread Cert.GatingBwdIdeal.nD Cert.GatingBwdIdeal.τ).loc Cert.GatingBwdIdeal.main_arg1) = m ((c.tc : Thread Cert.GatingBwdIdeal.nD Cert.GatingBwdIdeal.τ).loc Cert.GatingBwdIdeal.main_arg1)
      ∧ r.2.mem ((c.tc : Thread Cert.GatingBwdIdeal.nD Cert.GatingBwdIdeal.τ).loc Cert.GatingBwdIdeal.main_arg2) = m ((c.tc : Thread Cert.GatingBwdIdeal.nD Cert.GatingBwdIdeal.τ).loc Cert.GatingBwdIdeal.main_arg2)
      ∧ r.2.mem ((c.tc : Thread Cert.GatingBwdIdeal.nD Cert.GatingBwdIdeal.τ).loc Cert.GatingBwdIdeal.main_arg3) = m ((c.tc : Thread Cert.GatingBwdIdeal.nD Cert.GatingBwdIdeal.τ).loc Cert.GatingBwdIdeal.main_arg3)
      ∧ r.2.mem ((c.tc : Thread Cert.GatingBwdIdeal.nD Cert.GatingBwdIdeal.τ).loc Cert.GatingBwdIdeal.main_arg4) = m ((c.tc : Thread Cert.GatingBwdIdeal.nD Cert.GatingBwdIdeal.τ).loc Cert.GatingBwdIdeal.main_arg4)
      ∧ r.2.mem ((c.tc : Thread Cert.GatingBwdIdeal.nD Cert.GatingBwdIdeal.τ).loc Cert.GatingBwdIdeal.main_arg5) = m ((c.tc : Thread Cert.GatingBwdIdeal.nD Cert.GatingBwdIdeal.τ).loc Cert.GatingBwdIdeal.main_arg5))
      ∧ r.2.sem = fun _ => 0)

def quiescent_GatingRefIdeal [hGatingRefIdeal : Cert.GatingRefIdeal.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4)
      ∧ r.2.mem ((c.tc : Thread Cert.GatingRefIdeal.nD Cert.GatingRefIdeal.τ).loc Cert.GatingRefIdeal.main_arg5) = m ((c.tc : Thread Cert.GatingRefIdeal.nD Cert.GatingRefIdeal.τ).loc Cert.GatingRefIdeal.main_arg5))
      ∧ r.2.sem = fun _ => 0)

def quiescent_WInFwd [hWInFwd : Cert.WInFwd.Facts] : Prop :=
  ∀ (m : (ℓ : Loc Cert.WInFwd.nD Cert.WInFwd.τ Cert.WInFwd.sig) → Buf (Elt Bits) ℓ) (g : Dev Cert.WInFwd.nD → PrngReg), Pre_WInFwd m →
    θ_run (Cert.WInFwd.defs (F := Bits)) (onTc (τ := Cert.WInFwd.τ) (Cert.WInFwd.main (F := Bits))) ⟨m, fun _ => 0, g⟩ (fun r => (∀ c : Dev Cert.WInFwd.nD,
      r.2.mem ((c.tc : Thread Cert.WInFwd.nD Cert.WInFwd.τ).loc Cert.WInFwd.main_arg0) = m ((c.tc : Thread Cert.WInFwd.nD Cert.WInFwd.τ).loc Cert.WInFwd.main_arg0)
      ∧ r.2.mem ((c.tc : Thread Cert.WInFwd.nD Cert.WInFwd.τ).loc Cert.WInFwd.main_arg1) = m ((c.tc : Thread Cert.WInFwd.nD Cert.WInFwd.τ).loc Cert.WInFwd.main_arg1))
      ∧ r.2.sem = fun _ => 0)

def quiescent_WInFwdIdeal [hWInFwdIdeal : Cert.WInFwdIdeal.Facts] : Prop :=
  ∀ (m : (ℓ : Loc Cert.WInFwdIdeal.nD Cert.WInFwdIdeal.τ Cert.WInFwdIdeal.sig) → Buf (Elt Ideal) ℓ) (g : Dev Cert.WInFwdIdeal.nD → PrngReg), Pre_WInFwdIdeal m →
    θ_run (Cert.WInFwdIdeal.defs (F := Ideal)) (onTc (τ := Cert.WInFwdIdeal.τ) (Cert.WInFwdIdeal.main (F := Ideal))) ⟨m, fun _ => 0, g⟩ (fun r => (∀ c : Dev Cert.WInFwdIdeal.nD,
      r.2.mem ((c.tc : Thread Cert.WInFwdIdeal.nD Cert.WInFwdIdeal.τ).loc Cert.WInFwdIdeal.main_arg0) = m ((c.tc : Thread Cert.WInFwdIdeal.nD Cert.WInFwdIdeal.τ).loc Cert.WInFwdIdeal.main_arg0)
      ∧ r.2.mem ((c.tc : Thread Cert.WInFwdIdeal.nD Cert.WInFwdIdeal.τ).loc Cert.WInFwdIdeal.main_arg1) = m ((c.tc : Thread Cert.WInFwdIdeal.nD Cert.WInFwdIdeal.τ).loc Cert.WInFwdIdeal.main_arg1))
      ∧ r.2.sem = fun _ => 0)

def quiescent_WInFwdRefIdeal [hWInFwdRefIdeal : Cert.WInFwdRefIdeal.Facts] : Prop :=
  ∀ (m : (ℓ : Loc Cert.WInFwdRefIdeal.nD Cert.WInFwdRefIdeal.τ Cert.WInFwdRefIdeal.sig) → Buf (Elt Ideal) ℓ) (g : Dev Cert.WInFwdRefIdeal.nD → PrngReg), Pre_WInFwdRefIdeal m →
    θ_run (Cert.WInFwdRefIdeal.defs (F := Ideal)) (onTc (τ := Cert.WInFwdRefIdeal.τ) (Cert.WInFwdRefIdeal.main (F := Ideal))) ⟨m, fun _ => 0, g⟩ (fun r => (∀ c : Dev Cert.WInFwdRefIdeal.nD,
      r.2.mem ((c.tc : Thread Cert.WInFwdRefIdeal.nD Cert.WInFwdRefIdeal.τ).loc Cert.WInFwdRefIdeal.main_arg0) = m ((c.tc : Thread Cert.WInFwdRefIdeal.nD Cert.WInFwdRefIdeal.τ).loc Cert.WInFwdRefIdeal.main_arg0)
      ∧ r.2.mem ((c.tc : Thread Cert.WInFwdRefIdeal.nD Cert.WInFwdRefIdeal.τ).loc Cert.WInFwdRefIdeal.main_arg1) = m ((c.tc : Thread Cert.WInFwdRefIdeal.nD Cert.WInFwdRefIdeal.τ).loc Cert.WInFwdRefIdeal.main_arg1))
      ∧ r.2.sem = fun _ => 0)

def quiescent_WInDx [hWInDx : Cert.WInDx.Facts] : Prop :=
  ∀ (m : (ℓ : Loc Cert.WInDx.nD Cert.WInDx.τ Cert.WInDx.sig) → Buf (Elt Bits) ℓ) (g : Dev Cert.WInDx.nD → PrngReg), Pre_WInDx m →
    θ_run (Cert.WInDx.defs (F := Bits)) (onTc (τ := Cert.WInDx.τ) (Cert.WInDx.main (F := Bits))) ⟨m, fun _ => 0, g⟩ (fun r => (∀ c : Dev Cert.WInDx.nD,
      r.2.mem ((c.tc : Thread Cert.WInDx.nD Cert.WInDx.τ).loc Cert.WInDx.main_arg0) = m ((c.tc : Thread Cert.WInDx.nD Cert.WInDx.τ).loc Cert.WInDx.main_arg0)
      ∧ r.2.mem ((c.tc : Thread Cert.WInDx.nD Cert.WInDx.τ).loc Cert.WInDx.main_arg1) = m ((c.tc : Thread Cert.WInDx.nD Cert.WInDx.τ).loc Cert.WInDx.main_arg1))
      ∧ r.2.sem = fun _ => 0)

def quiescent_WInDxIdeal [hWInDxIdeal : Cert.WInDxIdeal.Facts] : Prop :=
  ∀ (m : (ℓ : Loc Cert.WInDxIdeal.nD Cert.WInDxIdeal.τ Cert.WInDxIdeal.sig) → Buf (Elt Ideal) ℓ) (g : Dev Cert.WInDxIdeal.nD → PrngReg), Pre_WInDxIdeal m →
    θ_run (Cert.WInDxIdeal.defs (F := Ideal)) (onTc (τ := Cert.WInDxIdeal.τ) (Cert.WInDxIdeal.main (F := Ideal))) ⟨m, fun _ => 0, g⟩ (fun r => (∀ c : Dev Cert.WInDxIdeal.nD,
      r.2.mem ((c.tc : Thread Cert.WInDxIdeal.nD Cert.WInDxIdeal.τ).loc Cert.WInDxIdeal.main_arg0) = m ((c.tc : Thread Cert.WInDxIdeal.nD Cert.WInDxIdeal.τ).loc Cert.WInDxIdeal.main_arg0)
      ∧ r.2.mem ((c.tc : Thread Cert.WInDxIdeal.nD Cert.WInDxIdeal.τ).loc Cert.WInDxIdeal.main_arg1) = m ((c.tc : Thread Cert.WInDxIdeal.nD Cert.WInDxIdeal.τ).loc Cert.WInDxIdeal.main_arg1))
      ∧ r.2.sem = fun _ => 0)

def quiescent_WInDxRefIdeal [hWInDxRefIdeal : Cert.WInDxRefIdeal.Facts] : Prop :=
  ∀ (m : (ℓ : Loc Cert.WInDxRefIdeal.nD Cert.WInDxRefIdeal.τ Cert.WInDxRefIdeal.sig) → Buf (Elt Ideal) ℓ) (g : Dev Cert.WInDxRefIdeal.nD → PrngReg), Pre_WInDxRefIdeal m →
    θ_run (Cert.WInDxRefIdeal.defs (F := Ideal)) (onTc (τ := Cert.WInDxRefIdeal.τ) (Cert.WInDxRefIdeal.main (F := Ideal))) ⟨m, fun _ => 0, g⟩ (fun r => (∀ c : Dev Cert.WInDxRefIdeal.nD,
      r.2.mem ((c.tc : Thread Cert.WInDxRefIdeal.nD Cert.WInDxRefIdeal.τ).loc Cert.WInDxRefIdeal.main_arg0) = m ((c.tc : Thread Cert.WInDxRefIdeal.nD Cert.WInDxRefIdeal.τ).loc Cert.WInDxRefIdeal.main_arg0)
      ∧ r.2.mem ((c.tc : Thread Cert.WInDxRefIdeal.nD Cert.WInDxRefIdeal.τ).loc Cert.WInDxRefIdeal.main_arg1) = m ((c.tc : Thread Cert.WInDxRefIdeal.nD Cert.WInDxRefIdeal.τ).loc Cert.WInDxRefIdeal.main_arg1))
      ∧ r.2.sem = fun _ => 0)

def quiescent_WInDw [hWInDw : Cert.WInDw.Facts] : Prop :=
  ∀ (m : (ℓ : Loc Cert.WInDw.nD Cert.WInDw.τ Cert.WInDw.sig) → Buf (Elt Bits) ℓ) (g : Dev Cert.WInDw.nD → PrngReg), Pre_WInDw m →
    θ_run (Cert.WInDw.defs (F := Bits)) (onTc (τ := Cert.WInDw.τ) (Cert.WInDw.main (F := Bits))) ⟨m, fun _ => 0, g⟩ (fun r => (∀ c : Dev Cert.WInDw.nD,
      r.2.mem ((c.tc : Thread Cert.WInDw.nD Cert.WInDw.τ).loc Cert.WInDw.main_arg0) = m ((c.tc : Thread Cert.WInDw.nD Cert.WInDw.τ).loc Cert.WInDw.main_arg0)
      ∧ r.2.mem ((c.tc : Thread Cert.WInDw.nD Cert.WInDw.τ).loc Cert.WInDw.main_arg1) = m ((c.tc : Thread Cert.WInDw.nD Cert.WInDw.τ).loc Cert.WInDw.main_arg1))
      ∧ r.2.sem = fun _ => 0)

def quiescent_WInDwIdeal [hWInDwIdeal : Cert.WInDwIdeal.Facts] : Prop :=
  ∀ (m : (ℓ : Loc Cert.WInDwIdeal.nD Cert.WInDwIdeal.τ Cert.WInDwIdeal.sig) → Buf (Elt Ideal) ℓ) (g : Dev Cert.WInDwIdeal.nD → PrngReg), Pre_WInDwIdeal m →
    θ_run (Cert.WInDwIdeal.defs (F := Ideal)) (onTc (τ := Cert.WInDwIdeal.τ) (Cert.WInDwIdeal.main (F := Ideal))) ⟨m, fun _ => 0, g⟩ (fun r => (∀ c : Dev Cert.WInDwIdeal.nD,
      r.2.mem ((c.tc : Thread Cert.WInDwIdeal.nD Cert.WInDwIdeal.τ).loc Cert.WInDwIdeal.main_arg0) = m ((c.tc : Thread Cert.WInDwIdeal.nD Cert.WInDwIdeal.τ).loc Cert.WInDwIdeal.main_arg0)
      ∧ r.2.mem ((c.tc : Thread Cert.WInDwIdeal.nD Cert.WInDwIdeal.τ).loc Cert.WInDwIdeal.main_arg1) = m ((c.tc : Thread Cert.WInDwIdeal.nD Cert.WInDwIdeal.τ).loc Cert.WInDwIdeal.main_arg1))
      ∧ r.2.sem = fun _ => 0)

def quiescent_WInDwRefIdeal [hWInDwRefIdeal : Cert.WInDwRefIdeal.Facts] : Prop :=
  ∀ (m : (ℓ : Loc Cert.WInDwRefIdeal.nD Cert.WInDwRefIdeal.τ Cert.WInDwRefIdeal.sig) → Buf (Elt Ideal) ℓ) (g : Dev Cert.WInDwRefIdeal.nD → PrngReg), Pre_WInDwRefIdeal m →
    θ_run (Cert.WInDwRefIdeal.defs (F := Ideal)) (onTc (τ := Cert.WInDwRefIdeal.τ) (Cert.WInDwRefIdeal.main (F := Ideal))) ⟨m, fun _ => 0, g⟩ (fun r => (∀ c : Dev Cert.WInDwRefIdeal.nD,
      r.2.mem ((c.tc : Thread Cert.WInDwRefIdeal.nD Cert.WInDwRefIdeal.τ).loc Cert.WInDwRefIdeal.main_arg0) = m ((c.tc : Thread Cert.WInDwRefIdeal.nD Cert.WInDwRefIdeal.τ).loc Cert.WInDwRefIdeal.main_arg0)
      ∧ r.2.mem ((c.tc : Thread Cert.WInDwRefIdeal.nD Cert.WInDwRefIdeal.τ).loc Cert.WInDwRefIdeal.main_arg1) = m ((c.tc : Thread Cert.WInDwRefIdeal.nD Cert.WInDwRefIdeal.τ).loc Cert.WInDwRefIdeal.main_arg1))
      ∧ r.2.sem = fun _ => 0)

def quiescent_WOutFwd [hWOutFwd : Cert.WOutFwd.Facts] : Prop :=
  ∀ (m : (ℓ : Loc Cert.WOutFwd.nD Cert.WOutFwd.τ Cert.WOutFwd.sig) → Buf (Elt Bits) ℓ) (g : Dev Cert.WOutFwd.nD → PrngReg), Pre_WOutFwd m →
    θ_run (Cert.WOutFwd.defs (F := Bits)) (onTc (τ := Cert.WOutFwd.τ) (Cert.WOutFwd.main (F := Bits))) ⟨m, fun _ => 0, g⟩ (fun r => (∀ c : Dev Cert.WOutFwd.nD,
      r.2.mem ((c.tc : Thread Cert.WOutFwd.nD Cert.WOutFwd.τ).loc Cert.WOutFwd.main_arg0) = m ((c.tc : Thread Cert.WOutFwd.nD Cert.WOutFwd.τ).loc Cert.WOutFwd.main_arg0)
      ∧ r.2.mem ((c.tc : Thread Cert.WOutFwd.nD Cert.WOutFwd.τ).loc Cert.WOutFwd.main_arg1) = m ((c.tc : Thread Cert.WOutFwd.nD Cert.WOutFwd.τ).loc Cert.WOutFwd.main_arg1))
      ∧ r.2.sem = fun _ => 0)

def quiescent_WOutFwdIdeal [hWOutFwdIdeal : Cert.WOutFwdIdeal.Facts] : Prop :=
  ∀ (m : (ℓ : Loc Cert.WOutFwdIdeal.nD Cert.WOutFwdIdeal.τ Cert.WOutFwdIdeal.sig) → Buf (Elt Ideal) ℓ) (g : Dev Cert.WOutFwdIdeal.nD → PrngReg), Pre_WOutFwdIdeal m →
    θ_run (Cert.WOutFwdIdeal.defs (F := Ideal)) (onTc (τ := Cert.WOutFwdIdeal.τ) (Cert.WOutFwdIdeal.main (F := Ideal))) ⟨m, fun _ => 0, g⟩ (fun r => (∀ c : Dev Cert.WOutFwdIdeal.nD,
      r.2.mem ((c.tc : Thread Cert.WOutFwdIdeal.nD Cert.WOutFwdIdeal.τ).loc Cert.WOutFwdIdeal.main_arg0) = m ((c.tc : Thread Cert.WOutFwdIdeal.nD Cert.WOutFwdIdeal.τ).loc Cert.WOutFwdIdeal.main_arg0)
      ∧ r.2.mem ((c.tc : Thread Cert.WOutFwdIdeal.nD Cert.WOutFwdIdeal.τ).loc Cert.WOutFwdIdeal.main_arg1) = m ((c.tc : Thread Cert.WOutFwdIdeal.nD Cert.WOutFwdIdeal.τ).loc Cert.WOutFwdIdeal.main_arg1))
      ∧ r.2.sem = fun _ => 0)

def quiescent_WOutFwdRefIdeal [hWOutFwdRefIdeal : Cert.WOutFwdRefIdeal.Facts] : Prop :=
  ∀ (m : (ℓ : Loc Cert.WOutFwdRefIdeal.nD Cert.WOutFwdRefIdeal.τ Cert.WOutFwdRefIdeal.sig) → Buf (Elt Ideal) ℓ) (g : Dev Cert.WOutFwdRefIdeal.nD → PrngReg), Pre_WOutFwdRefIdeal m →
    θ_run (Cert.WOutFwdRefIdeal.defs (F := Ideal)) (onTc (τ := Cert.WOutFwdRefIdeal.τ) (Cert.WOutFwdRefIdeal.main (F := Ideal))) ⟨m, fun _ => 0, g⟩ (fun r => (∀ c : Dev Cert.WOutFwdRefIdeal.nD,
      r.2.mem ((c.tc : Thread Cert.WOutFwdRefIdeal.nD Cert.WOutFwdRefIdeal.τ).loc Cert.WOutFwdRefIdeal.main_arg0) = m ((c.tc : Thread Cert.WOutFwdRefIdeal.nD Cert.WOutFwdRefIdeal.τ).loc Cert.WOutFwdRefIdeal.main_arg0)
      ∧ r.2.mem ((c.tc : Thread Cert.WOutFwdRefIdeal.nD Cert.WOutFwdRefIdeal.τ).loc Cert.WOutFwdRefIdeal.main_arg1) = m ((c.tc : Thread Cert.WOutFwdRefIdeal.nD Cert.WOutFwdRefIdeal.τ).loc Cert.WOutFwdRefIdeal.main_arg1))
      ∧ r.2.sem = fun _ => 0)

def quiescent_WOutDx [hWOutDx : Cert.WOutDx.Facts] : Prop :=
  ∀ (m : (ℓ : Loc Cert.WOutDx.nD Cert.WOutDx.τ Cert.WOutDx.sig) → Buf (Elt Bits) ℓ) (g : Dev Cert.WOutDx.nD → PrngReg), Pre_WOutDx m →
    θ_run (Cert.WOutDx.defs (F := Bits)) (onTc (τ := Cert.WOutDx.τ) (Cert.WOutDx.main (F := Bits))) ⟨m, fun _ => 0, g⟩ (fun r => (∀ c : Dev Cert.WOutDx.nD,
      r.2.mem ((c.tc : Thread Cert.WOutDx.nD Cert.WOutDx.τ).loc Cert.WOutDx.main_arg0) = m ((c.tc : Thread Cert.WOutDx.nD Cert.WOutDx.τ).loc Cert.WOutDx.main_arg0)
      ∧ r.2.mem ((c.tc : Thread Cert.WOutDx.nD Cert.WOutDx.τ).loc Cert.WOutDx.main_arg1) = m ((c.tc : Thread Cert.WOutDx.nD Cert.WOutDx.τ).loc Cert.WOutDx.main_arg1))
      ∧ r.2.sem = fun _ => 0)

def quiescent_WOutDxIdeal [hWOutDxIdeal : Cert.WOutDxIdeal.Facts] : Prop :=
  ∀ (m : (ℓ : Loc Cert.WOutDxIdeal.nD Cert.WOutDxIdeal.τ Cert.WOutDxIdeal.sig) → Buf (Elt Ideal) ℓ) (g : Dev Cert.WOutDxIdeal.nD → PrngReg), Pre_WOutDxIdeal m →
    θ_run (Cert.WOutDxIdeal.defs (F := Ideal)) (onTc (τ := Cert.WOutDxIdeal.τ) (Cert.WOutDxIdeal.main (F := Ideal))) ⟨m, fun _ => 0, g⟩ (fun r => (∀ c : Dev Cert.WOutDxIdeal.nD,
      r.2.mem ((c.tc : Thread Cert.WOutDxIdeal.nD Cert.WOutDxIdeal.τ).loc Cert.WOutDxIdeal.main_arg0) = m ((c.tc : Thread Cert.WOutDxIdeal.nD Cert.WOutDxIdeal.τ).loc Cert.WOutDxIdeal.main_arg0)
      ∧ r.2.mem ((c.tc : Thread Cert.WOutDxIdeal.nD Cert.WOutDxIdeal.τ).loc Cert.WOutDxIdeal.main_arg1) = m ((c.tc : Thread Cert.WOutDxIdeal.nD Cert.WOutDxIdeal.τ).loc Cert.WOutDxIdeal.main_arg1))
      ∧ r.2.sem = fun _ => 0)

def quiescent_WOutDxRefIdeal [hWOutDxRefIdeal : Cert.WOutDxRefIdeal.Facts] : Prop :=
  ∀ (m : (ℓ : Loc Cert.WOutDxRefIdeal.nD Cert.WOutDxRefIdeal.τ Cert.WOutDxRefIdeal.sig) → Buf (Elt Ideal) ℓ) (g : Dev Cert.WOutDxRefIdeal.nD → PrngReg), Pre_WOutDxRefIdeal m →
    θ_run (Cert.WOutDxRefIdeal.defs (F := Ideal)) (onTc (τ := Cert.WOutDxRefIdeal.τ) (Cert.WOutDxRefIdeal.main (F := Ideal))) ⟨m, fun _ => 0, g⟩ (fun r => (∀ c : Dev Cert.WOutDxRefIdeal.nD,
      r.2.mem ((c.tc : Thread Cert.WOutDxRefIdeal.nD Cert.WOutDxRefIdeal.τ).loc Cert.WOutDxRefIdeal.main_arg0) = m ((c.tc : Thread Cert.WOutDxRefIdeal.nD Cert.WOutDxRefIdeal.τ).loc Cert.WOutDxRefIdeal.main_arg0)
      ∧ r.2.mem ((c.tc : Thread Cert.WOutDxRefIdeal.nD Cert.WOutDxRefIdeal.τ).loc Cert.WOutDxRefIdeal.main_arg1) = m ((c.tc : Thread Cert.WOutDxRefIdeal.nD Cert.WOutDxRefIdeal.τ).loc Cert.WOutDxRefIdeal.main_arg1))
      ∧ r.2.sem = fun _ => 0)

def quiescent_WOutDw [hWOutDw : Cert.WOutDw.Facts] : Prop :=
  ∀ (m : (ℓ : Loc Cert.WOutDw.nD Cert.WOutDw.τ Cert.WOutDw.sig) → Buf (Elt Bits) ℓ) (g : Dev Cert.WOutDw.nD → PrngReg), Pre_WOutDw m →
    θ_run (Cert.WOutDw.defs (F := Bits)) (onTc (τ := Cert.WOutDw.τ) (Cert.WOutDw.main (F := Bits))) ⟨m, fun _ => 0, g⟩ (fun r => (∀ c : Dev Cert.WOutDw.nD,
      r.2.mem ((c.tc : Thread Cert.WOutDw.nD Cert.WOutDw.τ).loc Cert.WOutDw.main_arg0) = m ((c.tc : Thread Cert.WOutDw.nD Cert.WOutDw.τ).loc Cert.WOutDw.main_arg0)
      ∧ r.2.mem ((c.tc : Thread Cert.WOutDw.nD Cert.WOutDw.τ).loc Cert.WOutDw.main_arg1) = m ((c.tc : Thread Cert.WOutDw.nD Cert.WOutDw.τ).loc Cert.WOutDw.main_arg1))
      ∧ r.2.sem = fun _ => 0)

def quiescent_WOutDwIdeal [hWOutDwIdeal : Cert.WOutDwIdeal.Facts] : Prop :=
  ∀ (m : (ℓ : Loc Cert.WOutDwIdeal.nD Cert.WOutDwIdeal.τ Cert.WOutDwIdeal.sig) → Buf (Elt Ideal) ℓ) (g : Dev Cert.WOutDwIdeal.nD → PrngReg), Pre_WOutDwIdeal m →
    θ_run (Cert.WOutDwIdeal.defs (F := Ideal)) (onTc (τ := Cert.WOutDwIdeal.τ) (Cert.WOutDwIdeal.main (F := Ideal))) ⟨m, fun _ => 0, g⟩ (fun r => (∀ c : Dev Cert.WOutDwIdeal.nD,
      r.2.mem ((c.tc : Thread Cert.WOutDwIdeal.nD Cert.WOutDwIdeal.τ).loc Cert.WOutDwIdeal.main_arg0) = m ((c.tc : Thread Cert.WOutDwIdeal.nD Cert.WOutDwIdeal.τ).loc Cert.WOutDwIdeal.main_arg0)
      ∧ r.2.mem ((c.tc : Thread Cert.WOutDwIdeal.nD Cert.WOutDwIdeal.τ).loc Cert.WOutDwIdeal.main_arg1) = m ((c.tc : Thread Cert.WOutDwIdeal.nD Cert.WOutDwIdeal.τ).loc Cert.WOutDwIdeal.main_arg1))
      ∧ r.2.sem = fun _ => 0)

def quiescent_WOutDwRefIdeal [hWOutDwRefIdeal : Cert.WOutDwRefIdeal.Facts] : Prop :=
  ∀ (m : (ℓ : Loc Cert.WOutDwRefIdeal.nD Cert.WOutDwRefIdeal.τ Cert.WOutDwRefIdeal.sig) → Buf (Elt Ideal) ℓ) (g : Dev Cert.WOutDwRefIdeal.nD → PrngReg), Pre_WOutDwRefIdeal m →
    θ_run (Cert.WOutDwRefIdeal.defs (F := Ideal)) (onTc (τ := Cert.WOutDwRefIdeal.τ) (Cert.WOutDwRefIdeal.main (F := Ideal))) ⟨m, fun _ => 0, g⟩ (fun r => (∀ c : Dev Cert.WOutDwRefIdeal.nD,
      r.2.mem ((c.tc : Thread Cert.WOutDwRefIdeal.nD Cert.WOutDwRefIdeal.τ).loc Cert.WOutDwRefIdeal.main_arg0) = m ((c.tc : Thread Cert.WOutDwRefIdeal.nD Cert.WOutDwRefIdeal.τ).loc Cert.WOutDwRefIdeal.main_arg0)
      ∧ r.2.mem ((c.tc : Thread Cert.WOutDwRefIdeal.nD Cert.WOutDwRefIdeal.τ).loc Cert.WOutDwRefIdeal.main_arg1) = m ((c.tc : Thread Cert.WOutDwRefIdeal.nD Cert.WOutDwRefIdeal.τ).loc Cert.WOutDwRefIdeal.main_arg1))
      ∧ r.2.sem = fun _ => 0)

def quiescent_FfUpFwd [hFfUpFwd : Cert.FfUpFwd.Facts] : Prop :=
  ∀ (m : (ℓ : Loc Cert.FfUpFwd.nD Cert.FfUpFwd.τ Cert.FfUpFwd.sig) → Buf (Elt Bits) ℓ) (g : Dev Cert.FfUpFwd.nD → PrngReg), Pre_FfUpFwd m →
    θ_run (Cert.FfUpFwd.defs (F := Bits)) (onTc (τ := Cert.FfUpFwd.τ) (Cert.FfUpFwd.main (F := Bits))) ⟨m, fun _ => 0, g⟩ (fun r => (∀ c : Dev Cert.FfUpFwd.nD,
      r.2.mem ((c.tc : Thread Cert.FfUpFwd.nD Cert.FfUpFwd.τ).loc Cert.FfUpFwd.main_arg0) = m ((c.tc : Thread Cert.FfUpFwd.nD Cert.FfUpFwd.τ).loc Cert.FfUpFwd.main_arg0)
      ∧ r.2.mem ((c.tc : Thread Cert.FfUpFwd.nD Cert.FfUpFwd.τ).loc Cert.FfUpFwd.main_arg1) = m ((c.tc : Thread Cert.FfUpFwd.nD Cert.FfUpFwd.τ).loc Cert.FfUpFwd.main_arg1))
      ∧ r.2.sem = fun _ => 0)

def quiescent_FfUpFwdIdeal [hFfUpFwdIdeal : Cert.FfUpFwdIdeal.Facts] : Prop :=
  ∀ (m : (ℓ : Loc Cert.FfUpFwdIdeal.nD Cert.FfUpFwdIdeal.τ Cert.FfUpFwdIdeal.sig) → Buf (Elt Ideal) ℓ) (g : Dev Cert.FfUpFwdIdeal.nD → PrngReg), Pre_FfUpFwdIdeal m →
    θ_run (Cert.FfUpFwdIdeal.defs (F := Ideal)) (onTc (τ := Cert.FfUpFwdIdeal.τ) (Cert.FfUpFwdIdeal.main (F := Ideal))) ⟨m, fun _ => 0, g⟩ (fun r => (∀ c : Dev Cert.FfUpFwdIdeal.nD,
      r.2.mem ((c.tc : Thread Cert.FfUpFwdIdeal.nD Cert.FfUpFwdIdeal.τ).loc Cert.FfUpFwdIdeal.main_arg0) = m ((c.tc : Thread Cert.FfUpFwdIdeal.nD Cert.FfUpFwdIdeal.τ).loc Cert.FfUpFwdIdeal.main_arg0)
      ∧ r.2.mem ((c.tc : Thread Cert.FfUpFwdIdeal.nD Cert.FfUpFwdIdeal.τ).loc Cert.FfUpFwdIdeal.main_arg1) = m ((c.tc : Thread Cert.FfUpFwdIdeal.nD Cert.FfUpFwdIdeal.τ).loc Cert.FfUpFwdIdeal.main_arg1))
      ∧ r.2.sem = fun _ => 0)

def quiescent_FfUpFwdRefIdeal [hFfUpFwdRefIdeal : Cert.FfUpFwdRefIdeal.Facts] : Prop :=
  ∀ (m : (ℓ : Loc Cert.FfUpFwdRefIdeal.nD Cert.FfUpFwdRefIdeal.τ Cert.FfUpFwdRefIdeal.sig) → Buf (Elt Ideal) ℓ) (g : Dev Cert.FfUpFwdRefIdeal.nD → PrngReg), Pre_FfUpFwdRefIdeal m →
    θ_run (Cert.FfUpFwdRefIdeal.defs (F := Ideal)) (onTc (τ := Cert.FfUpFwdRefIdeal.τ) (Cert.FfUpFwdRefIdeal.main (F := Ideal))) ⟨m, fun _ => 0, g⟩ (fun r => (∀ c : Dev Cert.FfUpFwdRefIdeal.nD,
      r.2.mem ((c.tc : Thread Cert.FfUpFwdRefIdeal.nD Cert.FfUpFwdRefIdeal.τ).loc Cert.FfUpFwdRefIdeal.main_arg0) = m ((c.tc : Thread Cert.FfUpFwdRefIdeal.nD Cert.FfUpFwdRefIdeal.τ).loc Cert.FfUpFwdRefIdeal.main_arg0)
      ∧ r.2.mem ((c.tc : Thread Cert.FfUpFwdRefIdeal.nD Cert.FfUpFwdRefIdeal.τ).loc Cert.FfUpFwdRefIdeal.main_arg1) = m ((c.tc : Thread Cert.FfUpFwdRefIdeal.nD Cert.FfUpFwdRefIdeal.τ).loc Cert.FfUpFwdRefIdeal.main_arg1))
      ∧ r.2.sem = fun _ => 0)

def quiescent_FfUpDx [hFfUpDx : Cert.FfUpDx.Facts] : Prop :=
  ∀ (m : (ℓ : Loc Cert.FfUpDx.nD Cert.FfUpDx.τ Cert.FfUpDx.sig) → Buf (Elt Bits) ℓ) (g : Dev Cert.FfUpDx.nD → PrngReg), Pre_FfUpDx m →
    θ_run (Cert.FfUpDx.defs (F := Bits)) (onTc (τ := Cert.FfUpDx.τ) (Cert.FfUpDx.main (F := Bits))) ⟨m, fun _ => 0, g⟩ (fun r => (∀ c : Dev Cert.FfUpDx.nD,
      r.2.mem ((c.tc : Thread Cert.FfUpDx.nD Cert.FfUpDx.τ).loc Cert.FfUpDx.main_arg0) = m ((c.tc : Thread Cert.FfUpDx.nD Cert.FfUpDx.τ).loc Cert.FfUpDx.main_arg0)
      ∧ r.2.mem ((c.tc : Thread Cert.FfUpDx.nD Cert.FfUpDx.τ).loc Cert.FfUpDx.main_arg1) = m ((c.tc : Thread Cert.FfUpDx.nD Cert.FfUpDx.τ).loc Cert.FfUpDx.main_arg1))
      ∧ r.2.sem = fun _ => 0)

def quiescent_FfUpDxIdeal [hFfUpDxIdeal : Cert.FfUpDxIdeal.Facts] : Prop :=
  ∀ (m : (ℓ : Loc Cert.FfUpDxIdeal.nD Cert.FfUpDxIdeal.τ Cert.FfUpDxIdeal.sig) → Buf (Elt Ideal) ℓ) (g : Dev Cert.FfUpDxIdeal.nD → PrngReg), Pre_FfUpDxIdeal m →
    θ_run (Cert.FfUpDxIdeal.defs (F := Ideal)) (onTc (τ := Cert.FfUpDxIdeal.τ) (Cert.FfUpDxIdeal.main (F := Ideal))) ⟨m, fun _ => 0, g⟩ (fun r => (∀ c : Dev Cert.FfUpDxIdeal.nD,
      r.2.mem ((c.tc : Thread Cert.FfUpDxIdeal.nD Cert.FfUpDxIdeal.τ).loc Cert.FfUpDxIdeal.main_arg0) = m ((c.tc : Thread Cert.FfUpDxIdeal.nD Cert.FfUpDxIdeal.τ).loc Cert.FfUpDxIdeal.main_arg0)
      ∧ r.2.mem ((c.tc : Thread Cert.FfUpDxIdeal.nD Cert.FfUpDxIdeal.τ).loc Cert.FfUpDxIdeal.main_arg1) = m ((c.tc : Thread Cert.FfUpDxIdeal.nD Cert.FfUpDxIdeal.τ).loc Cert.FfUpDxIdeal.main_arg1))
      ∧ r.2.sem = fun _ => 0)

def quiescent_FfUpDxRefIdeal [hFfUpDxRefIdeal : Cert.FfUpDxRefIdeal.Facts] : Prop :=
  ∀ (m : (ℓ : Loc Cert.FfUpDxRefIdeal.nD Cert.FfUpDxRefIdeal.τ Cert.FfUpDxRefIdeal.sig) → Buf (Elt Ideal) ℓ) (g : Dev Cert.FfUpDxRefIdeal.nD → PrngReg), Pre_FfUpDxRefIdeal m →
    θ_run (Cert.FfUpDxRefIdeal.defs (F := Ideal)) (onTc (τ := Cert.FfUpDxRefIdeal.τ) (Cert.FfUpDxRefIdeal.main (F := Ideal))) ⟨m, fun _ => 0, g⟩ (fun r => (∀ c : Dev Cert.FfUpDxRefIdeal.nD,
      r.2.mem ((c.tc : Thread Cert.FfUpDxRefIdeal.nD Cert.FfUpDxRefIdeal.τ).loc Cert.FfUpDxRefIdeal.main_arg0) = m ((c.tc : Thread Cert.FfUpDxRefIdeal.nD Cert.FfUpDxRefIdeal.τ).loc Cert.FfUpDxRefIdeal.main_arg0)
      ∧ r.2.mem ((c.tc : Thread Cert.FfUpDxRefIdeal.nD Cert.FfUpDxRefIdeal.τ).loc Cert.FfUpDxRefIdeal.main_arg1) = m ((c.tc : Thread Cert.FfUpDxRefIdeal.nD Cert.FfUpDxRefIdeal.τ).loc Cert.FfUpDxRefIdeal.main_arg1))
      ∧ r.2.sem = fun _ => 0)

def quiescent_FfUpDw [hFfUpDw : Cert.FfUpDw.Facts] : Prop :=
  ∀ (m : (ℓ : Loc Cert.FfUpDw.nD Cert.FfUpDw.τ Cert.FfUpDw.sig) → Buf (Elt Bits) ℓ) (g : Dev Cert.FfUpDw.nD → PrngReg), Pre_FfUpDw m →
    θ_run (Cert.FfUpDw.defs (F := Bits)) (onTc (τ := Cert.FfUpDw.τ) (Cert.FfUpDw.main (F := Bits))) ⟨m, fun _ => 0, g⟩ (fun r => (∀ c : Dev Cert.FfUpDw.nD,
      r.2.mem ((c.tc : Thread Cert.FfUpDw.nD Cert.FfUpDw.τ).loc Cert.FfUpDw.main_arg0) = m ((c.tc : Thread Cert.FfUpDw.nD Cert.FfUpDw.τ).loc Cert.FfUpDw.main_arg0)
      ∧ r.2.mem ((c.tc : Thread Cert.FfUpDw.nD Cert.FfUpDw.τ).loc Cert.FfUpDw.main_arg1) = m ((c.tc : Thread Cert.FfUpDw.nD Cert.FfUpDw.τ).loc Cert.FfUpDw.main_arg1))
      ∧ r.2.sem = fun _ => 0)

def quiescent_FfUpDwIdeal [hFfUpDwIdeal : Cert.FfUpDwIdeal.Facts] : Prop :=
  ∀ (m : (ℓ : Loc Cert.FfUpDwIdeal.nD Cert.FfUpDwIdeal.τ Cert.FfUpDwIdeal.sig) → Buf (Elt Ideal) ℓ) (g : Dev Cert.FfUpDwIdeal.nD → PrngReg), Pre_FfUpDwIdeal m →
    θ_run (Cert.FfUpDwIdeal.defs (F := Ideal)) (onTc (τ := Cert.FfUpDwIdeal.τ) (Cert.FfUpDwIdeal.main (F := Ideal))) ⟨m, fun _ => 0, g⟩ (fun r => (∀ c : Dev Cert.FfUpDwIdeal.nD,
      r.2.mem ((c.tc : Thread Cert.FfUpDwIdeal.nD Cert.FfUpDwIdeal.τ).loc Cert.FfUpDwIdeal.main_arg0) = m ((c.tc : Thread Cert.FfUpDwIdeal.nD Cert.FfUpDwIdeal.τ).loc Cert.FfUpDwIdeal.main_arg0)
      ∧ r.2.mem ((c.tc : Thread Cert.FfUpDwIdeal.nD Cert.FfUpDwIdeal.τ).loc Cert.FfUpDwIdeal.main_arg1) = m ((c.tc : Thread Cert.FfUpDwIdeal.nD Cert.FfUpDwIdeal.τ).loc Cert.FfUpDwIdeal.main_arg1))
      ∧ r.2.sem = fun _ => 0)

def quiescent_FfUpDwRefIdeal [hFfUpDwRefIdeal : Cert.FfUpDwRefIdeal.Facts] : Prop :=
  ∀ (m : (ℓ : Loc Cert.FfUpDwRefIdeal.nD Cert.FfUpDwRefIdeal.τ Cert.FfUpDwRefIdeal.sig) → Buf (Elt Ideal) ℓ) (g : Dev Cert.FfUpDwRefIdeal.nD → PrngReg), Pre_FfUpDwRefIdeal m →
    θ_run (Cert.FfUpDwRefIdeal.defs (F := Ideal)) (onTc (τ := Cert.FfUpDwRefIdeal.τ) (Cert.FfUpDwRefIdeal.main (F := Ideal))) ⟨m, fun _ => 0, g⟩ (fun r => (∀ c : Dev Cert.FfUpDwRefIdeal.nD,
      r.2.mem ((c.tc : Thread Cert.FfUpDwRefIdeal.nD Cert.FfUpDwRefIdeal.τ).loc Cert.FfUpDwRefIdeal.main_arg0) = m ((c.tc : Thread Cert.FfUpDwRefIdeal.nD Cert.FfUpDwRefIdeal.τ).loc Cert.FfUpDwRefIdeal.main_arg0)
      ∧ r.2.mem ((c.tc : Thread Cert.FfUpDwRefIdeal.nD Cert.FfUpDwRefIdeal.τ).loc Cert.FfUpDwRefIdeal.main_arg1) = m ((c.tc : Thread Cert.FfUpDwRefIdeal.nD Cert.FfUpDwRefIdeal.τ).loc Cert.FfUpDwRefIdeal.main_arg1))
      ∧ r.2.sem = fun _ => 0)

def quiescent_FfDownFwd [hFfDownFwd : Cert.FfDownFwd.Facts] : Prop :=
  ∀ (m : (ℓ : Loc Cert.FfDownFwd.nD Cert.FfDownFwd.τ Cert.FfDownFwd.sig) → Buf (Elt Bits) ℓ) (g : Dev Cert.FfDownFwd.nD → PrngReg), Pre_FfDownFwd m →
    θ_run (Cert.FfDownFwd.defs (F := Bits)) (onTc (τ := Cert.FfDownFwd.τ) (Cert.FfDownFwd.main (F := Bits))) ⟨m, fun _ => 0, g⟩ (fun r => (∀ c : Dev Cert.FfDownFwd.nD,
      r.2.mem ((c.tc : Thread Cert.FfDownFwd.nD Cert.FfDownFwd.τ).loc Cert.FfDownFwd.main_arg0) = m ((c.tc : Thread Cert.FfDownFwd.nD Cert.FfDownFwd.τ).loc Cert.FfDownFwd.main_arg0)
      ∧ r.2.mem ((c.tc : Thread Cert.FfDownFwd.nD Cert.FfDownFwd.τ).loc Cert.FfDownFwd.main_arg1) = m ((c.tc : Thread Cert.FfDownFwd.nD Cert.FfDownFwd.τ).loc Cert.FfDownFwd.main_arg1))
      ∧ r.2.sem = fun _ => 0)

def quiescent_FfDownFwdIdeal [hFfDownFwdIdeal : Cert.FfDownFwdIdeal.Facts] : Prop :=
  ∀ (m : (ℓ : Loc Cert.FfDownFwdIdeal.nD Cert.FfDownFwdIdeal.τ Cert.FfDownFwdIdeal.sig) → Buf (Elt Ideal) ℓ) (g : Dev Cert.FfDownFwdIdeal.nD → PrngReg), Pre_FfDownFwdIdeal m →
    θ_run (Cert.FfDownFwdIdeal.defs (F := Ideal)) (onTc (τ := Cert.FfDownFwdIdeal.τ) (Cert.FfDownFwdIdeal.main (F := Ideal))) ⟨m, fun _ => 0, g⟩ (fun r => (∀ c : Dev Cert.FfDownFwdIdeal.nD,
      r.2.mem ((c.tc : Thread Cert.FfDownFwdIdeal.nD Cert.FfDownFwdIdeal.τ).loc Cert.FfDownFwdIdeal.main_arg0) = m ((c.tc : Thread Cert.FfDownFwdIdeal.nD Cert.FfDownFwdIdeal.τ).loc Cert.FfDownFwdIdeal.main_arg0)
      ∧ r.2.mem ((c.tc : Thread Cert.FfDownFwdIdeal.nD Cert.FfDownFwdIdeal.τ).loc Cert.FfDownFwdIdeal.main_arg1) = m ((c.tc : Thread Cert.FfDownFwdIdeal.nD Cert.FfDownFwdIdeal.τ).loc Cert.FfDownFwdIdeal.main_arg1))
      ∧ r.2.sem = fun _ => 0)

def quiescent_FfDownFwdRefIdeal [hFfDownFwdRefIdeal : Cert.FfDownFwdRefIdeal.Facts] : Prop :=
  ∀ (m : (ℓ : Loc Cert.FfDownFwdRefIdeal.nD Cert.FfDownFwdRefIdeal.τ Cert.FfDownFwdRefIdeal.sig) → Buf (Elt Ideal) ℓ) (g : Dev Cert.FfDownFwdRefIdeal.nD → PrngReg), Pre_FfDownFwdRefIdeal m →
    θ_run (Cert.FfDownFwdRefIdeal.defs (F := Ideal)) (onTc (τ := Cert.FfDownFwdRefIdeal.τ) (Cert.FfDownFwdRefIdeal.main (F := Ideal))) ⟨m, fun _ => 0, g⟩ (fun r => (∀ c : Dev Cert.FfDownFwdRefIdeal.nD,
      r.2.mem ((c.tc : Thread Cert.FfDownFwdRefIdeal.nD Cert.FfDownFwdRefIdeal.τ).loc Cert.FfDownFwdRefIdeal.main_arg0) = m ((c.tc : Thread Cert.FfDownFwdRefIdeal.nD Cert.FfDownFwdRefIdeal.τ).loc Cert.FfDownFwdRefIdeal.main_arg0)
      ∧ r.2.mem ((c.tc : Thread Cert.FfDownFwdRefIdeal.nD Cert.FfDownFwdRefIdeal.τ).loc Cert.FfDownFwdRefIdeal.main_arg1) = m ((c.tc : Thread Cert.FfDownFwdRefIdeal.nD Cert.FfDownFwdRefIdeal.τ).loc Cert.FfDownFwdRefIdeal.main_arg1))
      ∧ r.2.sem = fun _ => 0)

def quiescent_FfDownDx [hFfDownDx : Cert.FfDownDx.Facts] : Prop :=
  ∀ (m : (ℓ : Loc Cert.FfDownDx.nD Cert.FfDownDx.τ Cert.FfDownDx.sig) → Buf (Elt Bits) ℓ) (g : Dev Cert.FfDownDx.nD → PrngReg), Pre_FfDownDx m →
    θ_run (Cert.FfDownDx.defs (F := Bits)) (onTc (τ := Cert.FfDownDx.τ) (Cert.FfDownDx.main (F := Bits))) ⟨m, fun _ => 0, g⟩ (fun r => (∀ c : Dev Cert.FfDownDx.nD,
      r.2.mem ((c.tc : Thread Cert.FfDownDx.nD Cert.FfDownDx.τ).loc Cert.FfDownDx.main_arg0) = m ((c.tc : Thread Cert.FfDownDx.nD Cert.FfDownDx.τ).loc Cert.FfDownDx.main_arg0)
      ∧ r.2.mem ((c.tc : Thread Cert.FfDownDx.nD Cert.FfDownDx.τ).loc Cert.FfDownDx.main_arg1) = m ((c.tc : Thread Cert.FfDownDx.nD Cert.FfDownDx.τ).loc Cert.FfDownDx.main_arg1))
      ∧ r.2.sem = fun _ => 0)

def quiescent_FfDownDxIdeal [hFfDownDxIdeal : Cert.FfDownDxIdeal.Facts] : Prop :=
  ∀ (m : (ℓ : Loc Cert.FfDownDxIdeal.nD Cert.FfDownDxIdeal.τ Cert.FfDownDxIdeal.sig) → Buf (Elt Ideal) ℓ) (g : Dev Cert.FfDownDxIdeal.nD → PrngReg), Pre_FfDownDxIdeal m →
    θ_run (Cert.FfDownDxIdeal.defs (F := Ideal)) (onTc (τ := Cert.FfDownDxIdeal.τ) (Cert.FfDownDxIdeal.main (F := Ideal))) ⟨m, fun _ => 0, g⟩ (fun r => (∀ c : Dev Cert.FfDownDxIdeal.nD,
      r.2.mem ((c.tc : Thread Cert.FfDownDxIdeal.nD Cert.FfDownDxIdeal.τ).loc Cert.FfDownDxIdeal.main_arg0) = m ((c.tc : Thread Cert.FfDownDxIdeal.nD Cert.FfDownDxIdeal.τ).loc Cert.FfDownDxIdeal.main_arg0)
      ∧ r.2.mem ((c.tc : Thread Cert.FfDownDxIdeal.nD Cert.FfDownDxIdeal.τ).loc Cert.FfDownDxIdeal.main_arg1) = m ((c.tc : Thread Cert.FfDownDxIdeal.nD Cert.FfDownDxIdeal.τ).loc Cert.FfDownDxIdeal.main_arg1))
      ∧ r.2.sem = fun _ => 0)

def quiescent_FfDownDxRefIdeal [hFfDownDxRefIdeal : Cert.FfDownDxRefIdeal.Facts] : Prop :=
  ∀ (m : (ℓ : Loc Cert.FfDownDxRefIdeal.nD Cert.FfDownDxRefIdeal.τ Cert.FfDownDxRefIdeal.sig) → Buf (Elt Ideal) ℓ) (g : Dev Cert.FfDownDxRefIdeal.nD → PrngReg), Pre_FfDownDxRefIdeal m →
    θ_run (Cert.FfDownDxRefIdeal.defs (F := Ideal)) (onTc (τ := Cert.FfDownDxRefIdeal.τ) (Cert.FfDownDxRefIdeal.main (F := Ideal))) ⟨m, fun _ => 0, g⟩ (fun r => (∀ c : Dev Cert.FfDownDxRefIdeal.nD,
      r.2.mem ((c.tc : Thread Cert.FfDownDxRefIdeal.nD Cert.FfDownDxRefIdeal.τ).loc Cert.FfDownDxRefIdeal.main_arg0) = m ((c.tc : Thread Cert.FfDownDxRefIdeal.nD Cert.FfDownDxRefIdeal.τ).loc Cert.FfDownDxRefIdeal.main_arg0)
      ∧ r.2.mem ((c.tc : Thread Cert.FfDownDxRefIdeal.nD Cert.FfDownDxRefIdeal.τ).loc Cert.FfDownDxRefIdeal.main_arg1) = m ((c.tc : Thread Cert.FfDownDxRefIdeal.nD Cert.FfDownDxRefIdeal.τ).loc Cert.FfDownDxRefIdeal.main_arg1))
      ∧ r.2.sem = fun _ => 0)

def quiescent_FfDownDw [hFfDownDw : Cert.FfDownDw.Facts] : Prop :=
  ∀ (m : (ℓ : Loc Cert.FfDownDw.nD Cert.FfDownDw.τ Cert.FfDownDw.sig) → Buf (Elt Bits) ℓ) (g : Dev Cert.FfDownDw.nD → PrngReg), Pre_FfDownDw m →
    θ_run (Cert.FfDownDw.defs (F := Bits)) (onTc (τ := Cert.FfDownDw.τ) (Cert.FfDownDw.main (F := Bits))) ⟨m, fun _ => 0, g⟩ (fun r => (∀ c : Dev Cert.FfDownDw.nD,
      r.2.mem ((c.tc : Thread Cert.FfDownDw.nD Cert.FfDownDw.τ).loc Cert.FfDownDw.main_arg0) = m ((c.tc : Thread Cert.FfDownDw.nD Cert.FfDownDw.τ).loc Cert.FfDownDw.main_arg0)
      ∧ r.2.mem ((c.tc : Thread Cert.FfDownDw.nD Cert.FfDownDw.τ).loc Cert.FfDownDw.main_arg1) = m ((c.tc : Thread Cert.FfDownDw.nD Cert.FfDownDw.τ).loc Cert.FfDownDw.main_arg1))
      ∧ r.2.sem = fun _ => 0)

def quiescent_FfDownDwIdeal [hFfDownDwIdeal : Cert.FfDownDwIdeal.Facts] : Prop :=
  ∀ (m : (ℓ : Loc Cert.FfDownDwIdeal.nD Cert.FfDownDwIdeal.τ Cert.FfDownDwIdeal.sig) → Buf (Elt Ideal) ℓ) (g : Dev Cert.FfDownDwIdeal.nD → PrngReg), Pre_FfDownDwIdeal m →
    θ_run (Cert.FfDownDwIdeal.defs (F := Ideal)) (onTc (τ := Cert.FfDownDwIdeal.τ) (Cert.FfDownDwIdeal.main (F := Ideal))) ⟨m, fun _ => 0, g⟩ (fun r => (∀ c : Dev Cert.FfDownDwIdeal.nD,
      r.2.mem ((c.tc : Thread Cert.FfDownDwIdeal.nD Cert.FfDownDwIdeal.τ).loc Cert.FfDownDwIdeal.main_arg0) = m ((c.tc : Thread Cert.FfDownDwIdeal.nD Cert.FfDownDwIdeal.τ).loc Cert.FfDownDwIdeal.main_arg0)
      ∧ r.2.mem ((c.tc : Thread Cert.FfDownDwIdeal.nD Cert.FfDownDwIdeal.τ).loc Cert.FfDownDwIdeal.main_arg1) = m ((c.tc : Thread Cert.FfDownDwIdeal.nD Cert.FfDownDwIdeal.τ).loc Cert.FfDownDwIdeal.main_arg1))
      ∧ r.2.sem = fun _ => 0)

def quiescent_FfDownDwRefIdeal [hFfDownDwRefIdeal : Cert.FfDownDwRefIdeal.Facts] : Prop :=
  ∀ (m : (ℓ : Loc Cert.FfDownDwRefIdeal.nD Cert.FfDownDwRefIdeal.τ Cert.FfDownDwRefIdeal.sig) → Buf (Elt Ideal) ℓ) (g : Dev Cert.FfDownDwRefIdeal.nD → PrngReg), Pre_FfDownDwRefIdeal m →
    θ_run (Cert.FfDownDwRefIdeal.defs (F := Ideal)) (onTc (τ := Cert.FfDownDwRefIdeal.τ) (Cert.FfDownDwRefIdeal.main (F := Ideal))) ⟨m, fun _ => 0, g⟩ (fun r => (∀ c : Dev Cert.FfDownDwRefIdeal.nD,
      r.2.mem ((c.tc : Thread Cert.FfDownDwRefIdeal.nD Cert.FfDownDwRefIdeal.τ).loc Cert.FfDownDwRefIdeal.main_arg0) = m ((c.tc : Thread Cert.FfDownDwRefIdeal.nD Cert.FfDownDwRefIdeal.τ).loc Cert.FfDownDwRefIdeal.main_arg0)
      ∧ r.2.mem ((c.tc : Thread Cert.FfDownDwRefIdeal.nD Cert.FfDownDwRefIdeal.τ).loc Cert.FfDownDwRefIdeal.main_arg1) = m ((c.tc : Thread Cert.FfDownDwRefIdeal.nD Cert.FfDownDwRefIdeal.τ).loc Cert.FfDownDwRefIdeal.main_arg1))
      ∧ r.2.sem = fun _ => 0)

def quiescent_AdamAdaW [hAdamAdaW : Cert.AdamAdaW.Facts] : Prop :=
  ∀ (m : (ℓ : Loc Cert.AdamAdaW.nD Cert.AdamAdaW.τ Cert.AdamAdaW.sig) → Buf (Elt Bits) ℓ) (g : Dev Cert.AdamAdaW.nD → PrngReg), Pre_AdamAdaW m →
    θ_run (Cert.AdamAdaW.defs (F := Bits)) (onTc (τ := Cert.AdamAdaW.τ) (Cert.AdamAdaW.main (F := Bits))) ⟨m, fun _ => 0, g⟩ (fun r => (∀ c : Dev Cert.AdamAdaW.nD,
      r.2.mem ((c.tc : Thread Cert.AdamAdaW.nD Cert.AdamAdaW.τ).loc Cert.AdamAdaW.main_arg0) = m ((c.tc : Thread Cert.AdamAdaW.nD Cert.AdamAdaW.τ).loc Cert.AdamAdaW.main_arg0)
      ∧ r.2.mem ((c.tc : Thread Cert.AdamAdaW.nD Cert.AdamAdaW.τ).loc Cert.AdamAdaW.main_arg1) = m ((c.tc : Thread Cert.AdamAdaW.nD Cert.AdamAdaW.τ).loc Cert.AdamAdaW.main_arg1)
      ∧ r.2.mem ((c.tc : Thread Cert.AdamAdaW.nD Cert.AdamAdaW.τ).loc Cert.AdamAdaW.main_arg2) = m ((c.tc : Thread Cert.AdamAdaW.nD Cert.AdamAdaW.τ).loc Cert.AdamAdaW.main_arg2)
      ∧ r.2.mem ((c.tc : Thread Cert.AdamAdaW.nD Cert.AdamAdaW.τ).loc Cert.AdamAdaW.main_arg3) = m ((c.tc : Thread Cert.AdamAdaW.nD Cert.AdamAdaW.τ).loc Cert.AdamAdaW.main_arg3))
      ∧ r.2.sem = fun _ => 0)

def quiescent_AdamAdaWIdeal [hAdamAdaWIdeal : Cert.AdamAdaWIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg), Pre_AdamAdaWIdeal m →
    θ_run (Cert.AdamAdaWIdeal.defs (F := Ideal)) (onTc (τ := Cert.AdamAdaWIdeal.τ) (Cert.AdamAdaWIdeal.main (F := Ideal))) ⟨m, fun _ => 0, g⟩ (fun r => (∀ c : Dev Cert.AdamAdaWIdeal.nD,
      r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
      ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
      ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
      ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ r.2.sem = fun _ => 0)

def quiescent_AdamAdaWRefIdeal [hAdamAdaWRefIdeal : Cert.AdamAdaWRefIdeal.Facts] : Prop :=
  ∀ (m : (ℓ : Loc Cert.AdamAdaWRefIdeal.nD Cert.AdamAdaWRefIdeal.τ Cert.AdamAdaWRefIdeal.sig) → Buf (Elt Ideal) ℓ) (g : Dev Cert.AdamAdaWRefIdeal.nD → PrngReg), Pre_AdamAdaWRefIdeal m →
    θ_run (Cert.AdamAdaWRefIdeal.defs (F := Ideal)) (onTc (τ := Cert.AdamAdaWRefIdeal.τ) (Cert.AdamAdaWRefIdeal.main (F := Ideal))) ⟨m, fun _ => 0, g⟩ (fun r => (∀ c : Dev Cert.AdamAdaWRefIdeal.nD,
      r.2.mem ((c.tc : Thread Cert.AdamAdaWRefIdeal.nD Cert.AdamAdaWRefIdeal.τ).loc Cert.AdamAdaWRefIdeal.main_arg0) = m ((c.tc : Thread Cert.AdamAdaWRefIdeal.nD Cert.AdamAdaWRefIdeal.τ).loc Cert.AdamAdaWRefIdeal.main_arg0)
      ∧ r.2.mem ((c.tc : Thread Cert.AdamAdaWRefIdeal.nD Cert.AdamAdaWRefIdeal.τ).loc Cert.AdamAdaWRefIdeal.main_arg1) = m ((c.tc : Thread Cert.AdamAdaWRefIdeal.nD Cert.AdamAdaWRefIdeal.τ).loc Cert.AdamAdaWRefIdeal.main_arg1)
      ∧ r.2.mem ((c.tc : Thread Cert.AdamAdaWRefIdeal.nD Cert.AdamAdaWRefIdeal.τ).loc Cert.AdamAdaWRefIdeal.main_arg2) = m ((c.tc : Thread Cert.AdamAdaWRefIdeal.nD Cert.AdamAdaWRefIdeal.τ).loc Cert.AdamAdaWRefIdeal.main_arg2)
      ∧ r.2.mem ((c.tc : Thread Cert.AdamAdaWRefIdeal.nD Cert.AdamAdaWRefIdeal.τ).loc Cert.AdamAdaWRefIdeal.main_arg3) = m ((c.tc : Thread Cert.AdamAdaWRefIdeal.nD Cert.AdamAdaWRefIdeal.τ).loc Cert.AdamAdaWRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamFfUp [hAdamFfUp : Cert.AdamFfUp.Facts] : Prop :=
  ∀ (m : (ℓ : Loc Cert.AdamFfUp.nD Cert.AdamFfUp.τ Cert.AdamFfUp.sig) → Buf (Elt Bits) ℓ) (g : Dev Cert.AdamFfUp.nD → PrngReg), Pre_AdamFfUp m →
    θ_run (Cert.AdamFfUp.defs (F := Bits)) (onTc (τ := Cert.AdamFfUp.τ) (Cert.AdamFfUp.main (F := Bits))) ⟨m, fun _ => 0, g⟩ (fun r => (∀ c : Dev Cert.AdamFfUp.nD,
      r.2.mem ((c.tc : Thread Cert.AdamFfUp.nD Cert.AdamFfUp.τ).loc Cert.AdamFfUp.main_arg0) = m ((c.tc : Thread Cert.AdamFfUp.nD Cert.AdamFfUp.τ).loc Cert.AdamFfUp.main_arg0)
      ∧ r.2.mem ((c.tc : Thread Cert.AdamFfUp.nD Cert.AdamFfUp.τ).loc Cert.AdamFfUp.main_arg1) = m ((c.tc : Thread Cert.AdamFfUp.nD Cert.AdamFfUp.τ).loc Cert.AdamFfUp.main_arg1)
      ∧ r.2.mem ((c.tc : Thread Cert.AdamFfUp.nD Cert.AdamFfUp.τ).loc Cert.AdamFfUp.main_arg2) = m ((c.tc : Thread Cert.AdamFfUp.nD Cert.AdamFfUp.τ).loc Cert.AdamFfUp.main_arg2)
      ∧ r.2.mem ((c.tc : Thread Cert.AdamFfUp.nD Cert.AdamFfUp.τ).loc Cert.AdamFfUp.main_arg3) = m ((c.tc : Thread Cert.AdamFfUp.nD Cert.AdamFfUp.τ).loc Cert.AdamFfUp.main_arg3))
      ∧ r.2.sem = fun _ => 0)

def quiescent_AdamFfUpIdeal [hAdamFfUpIdeal : Cert.AdamFfUpIdeal.Facts] : Prop :=
  ∀ (m : (ℓ : Loc Cert.AdamFfUpIdeal.nD Cert.AdamFfUpIdeal.τ Cert.AdamFfUpIdeal.sig) → Buf (Elt Ideal) ℓ) (g : Dev Cert.AdamFfUpIdeal.nD → PrngReg), Pre_AdamFfUpIdeal m →
    θ_run (Cert.AdamFfUpIdeal.defs (F := Ideal)) (onTc (τ := Cert.AdamFfUpIdeal.τ) (Cert.AdamFfUpIdeal.main (F := Ideal))) ⟨m, fun _ => 0, g⟩ (fun r => (∀ c : Dev Cert.AdamFfUpIdeal.nD,
      r.2.mem ((c.tc : Thread Cert.AdamFfUpIdeal.nD Cert.AdamFfUpIdeal.τ).loc Cert.AdamFfUpIdeal.main_arg0) = m ((c.tc : Thread Cert.AdamFfUpIdeal.nD Cert.AdamFfUpIdeal.τ).loc Cert.AdamFfUpIdeal.main_arg0)
      ∧ r.2.mem ((c.tc : Thread Cert.AdamFfUpIdeal.nD Cert.AdamFfUpIdeal.τ).loc Cert.AdamFfUpIdeal.main_arg1) = m ((c.tc : Thread Cert.AdamFfUpIdeal.nD Cert.AdamFfUpIdeal.τ).loc Cert.AdamFfUpIdeal.main_arg1)
      ∧ r.2.mem ((c.tc : Thread Cert.AdamFfUpIdeal.nD Cert.AdamFfUpIdeal.τ).loc Cert.AdamFfUpIdeal.main_arg2) = m ((c.tc : Thread Cert.AdamFfUpIdeal.nD Cert.AdamFfUpIdeal.τ).loc Cert.AdamFfUpIdeal.main_arg2)
      ∧ r.2.mem ((c.tc : Thread Cert.AdamFfUpIdeal.nD Cert.AdamFfUpIdeal.τ).loc Cert.AdamFfUpIdeal.main_arg3) = m ((c.tc : Thread Cert.AdamFfUpIdeal.nD Cert.AdamFfUpIdeal.τ).loc Cert.AdamFfUpIdeal.main_arg3))
      ∧ r.2.sem = fun _ => 0)

def quiescent_AdamFfUpRefIdeal [hAdamFfUpRefIdeal : Cert.AdamFfUpRefIdeal.Facts] : Prop :=
  ∀ (m : (ℓ : Loc Cert.AdamFfUpRefIdeal.nD Cert.AdamFfUpRefIdeal.τ Cert.AdamFfUpRefIdeal.sig) → Buf (Elt Ideal) ℓ) (g : Dev Cert.AdamFfUpRefIdeal.nD → PrngReg), Pre_AdamFfUpRefIdeal m →
    θ_run (Cert.AdamFfUpRefIdeal.defs (F := Ideal)) (onTc (τ := Cert.AdamFfUpRefIdeal.τ) (Cert.AdamFfUpRefIdeal.main (F := Ideal))) ⟨m, fun _ => 0, g⟩ (fun r => (∀ c : Dev Cert.AdamFfUpRefIdeal.nD,
      r.2.mem ((c.tc : Thread Cert.AdamFfUpRefIdeal.nD Cert.AdamFfUpRefIdeal.τ).loc Cert.AdamFfUpRefIdeal.main_arg0) = m ((c.tc : Thread Cert.AdamFfUpRefIdeal.nD Cert.AdamFfUpRefIdeal.τ).loc Cert.AdamFfUpRefIdeal.main_arg0)
      ∧ r.2.mem ((c.tc : Thread Cert.AdamFfUpRefIdeal.nD Cert.AdamFfUpRefIdeal.τ).loc Cert.AdamFfUpRefIdeal.main_arg1) = m ((c.tc : Thread Cert.AdamFfUpRefIdeal.nD Cert.AdamFfUpRefIdeal.τ).loc Cert.AdamFfUpRefIdeal.main_arg1)
      ∧ r.2.mem ((c.tc : Thread Cert.AdamFfUpRefIdeal.nD Cert.AdamFfUpRefIdeal.τ).loc Cert.AdamFfUpRefIdeal.main_arg2) = m ((c.tc : Thread Cert.AdamFfUpRefIdeal.nD Cert.AdamFfUpRefIdeal.τ).loc Cert.AdamFfUpRefIdeal.main_arg2)
      ∧ r.2.mem ((c.tc : Thread Cert.AdamFfUpRefIdeal.nD Cert.AdamFfUpRefIdeal.τ).loc Cert.AdamFfUpRefIdeal.main_arg3) = m ((c.tc : Thread Cert.AdamFfUpRefIdeal.nD Cert.AdamFfUpRefIdeal.τ).loc Cert.AdamFfUpRefIdeal.main_arg3))
      ∧ r.2.sem = fun _ => 0)

def quiescent_AdamFfDown [hAdamFfDown : Cert.AdamFfDown.Facts] : Prop :=
  ∀ (m : (ℓ : Loc Cert.AdamFfDown.nD Cert.AdamFfDown.τ Cert.AdamFfDown.sig) → Buf (Elt Bits) ℓ) (g : Dev Cert.AdamFfDown.nD → PrngReg), Pre_AdamFfDown m →
    θ_run (Cert.AdamFfDown.defs (F := Bits)) (onTc (τ := Cert.AdamFfDown.τ) (Cert.AdamFfDown.main (F := Bits))) ⟨m, fun _ => 0, g⟩ (fun r => (∀ c : Dev Cert.AdamFfDown.nD,
      r.2.mem ((c.tc : Thread Cert.AdamFfDown.nD Cert.AdamFfDown.τ).loc Cert.AdamFfDown.main_arg0) = m ((c.tc : Thread Cert.AdamFfDown.nD Cert.AdamFfDown.τ).loc Cert.AdamFfDown.main_arg0)
      ∧ r.2.mem ((c.tc : Thread Cert.AdamFfDown.nD Cert.AdamFfDown.τ).loc Cert.AdamFfDown.main_arg1) = m ((c.tc : Thread Cert.AdamFfDown.nD Cert.AdamFfDown.τ).loc Cert.AdamFfDown.main_arg1)
      ∧ r.2.mem ((c.tc : Thread Cert.AdamFfDown.nD Cert.AdamFfDown.τ).loc Cert.AdamFfDown.main_arg2) = m ((c.tc : Thread Cert.AdamFfDown.nD Cert.AdamFfDown.τ).loc Cert.AdamFfDown.main_arg2)
      ∧ r.2.mem ((c.tc : Thread Cert.AdamFfDown.nD Cert.AdamFfDown.τ).loc Cert.AdamFfDown.main_arg3) = m ((c.tc : Thread Cert.AdamFfDown.nD Cert.AdamFfDown.τ).loc Cert.AdamFfDown.main_arg3))
      ∧ r.2.sem = fun _ => 0)

def quiescent_AdamFfDownIdeal [hAdamFfDownIdeal : Cert.AdamFfDownIdeal.Facts] : Prop :=
  ∀ (m : (ℓ : Loc Cert.AdamFfDownIdeal.nD Cert.AdamFfDownIdeal.τ Cert.AdamFfDownIdeal.sig) → Buf (Elt Ideal) ℓ) (g : Dev Cert.AdamFfDownIdeal.nD → PrngReg), Pre_AdamFfDownIdeal m →
    θ_run (Cert.AdamFfDownIdeal.defs (F := Ideal)) (onTc (τ := Cert.AdamFfDownIdeal.τ) (Cert.AdamFfDownIdeal.main (F := Ideal))) ⟨m, fun _ => 0, g⟩ (fun r => (∀ c : Dev Cert.AdamFfDownIdeal.nD,
      r.2.mem ((c.tc : Thread Cert.AdamFfDownIdeal.nD Cert.AdamFfDownIdeal.τ).loc Cert.AdamFfDownIdeal.main_arg0) = m ((c.tc : Thread Cert.AdamFfDownIdeal.nD Cert.AdamFfDownIdeal.τ).loc Cert.AdamFfDownIdeal.main_arg0)
      ∧ r.2.mem ((c.tc : Thread Cert.AdamFfDownIdeal.nD Cert.AdamFfDownIdeal.τ).loc Cert.AdamFfDownIdeal.main_arg1) = m ((c.tc : Thread Cert.AdamFfDownIdeal.nD Cert.AdamFfDownIdeal.τ).loc Cert.AdamFfDownIdeal.main_arg1)
      ∧ r.2.mem ((c.tc : Thread Cert.AdamFfDownIdeal.nD Cert.AdamFfDownIdeal.τ).loc Cert.AdamFfDownIdeal.main_arg2) = m ((c.tc : Thread Cert.AdamFfDownIdeal.nD Cert.AdamFfDownIdeal.τ).loc Cert.AdamFfDownIdeal.main_arg2)
      ∧ r.2.mem ((c.tc : Thread Cert.AdamFfDownIdeal.nD Cert.AdamFfDownIdeal.τ).loc Cert.AdamFfDownIdeal.main_arg3) = m ((c.tc : Thread Cert.AdamFfDownIdeal.nD Cert.AdamFfDownIdeal.τ).loc Cert.AdamFfDownIdeal.main_arg3))
      ∧ r.2.sem = fun _ => 0)

def quiescent_AdamFfDownRefIdeal [hAdamFfDownRefIdeal : Cert.AdamFfDownRefIdeal.Facts] : Prop :=
  ∀ (m : (ℓ : Loc Cert.AdamFfDownRefIdeal.nD Cert.AdamFfDownRefIdeal.τ Cert.AdamFfDownRefIdeal.sig) → Buf (Elt Ideal) ℓ) (g : Dev Cert.AdamFfDownRefIdeal.nD → PrngReg), Pre_AdamFfDownRefIdeal m →
    θ_run (Cert.AdamFfDownRefIdeal.defs (F := Ideal)) (onTc (τ := Cert.AdamFfDownRefIdeal.τ) (Cert.AdamFfDownRefIdeal.main (F := Ideal))) ⟨m, fun _ => 0, g⟩ (fun r => (∀ c : Dev Cert.AdamFfDownRefIdeal.nD,
      r.2.mem ((c.tc : Thread Cert.AdamFfDownRefIdeal.nD Cert.AdamFfDownRefIdeal.τ).loc Cert.AdamFfDownRefIdeal.main_arg0) = m ((c.tc : Thread Cert.AdamFfDownRefIdeal.nD Cert.AdamFfDownRefIdeal.τ).loc Cert.AdamFfDownRefIdeal.main_arg0)
      ∧ r.2.mem ((c.tc : Thread Cert.AdamFfDownRefIdeal.nD Cert.AdamFfDownRefIdeal.τ).loc Cert.AdamFfDownRefIdeal.main_arg1) = m ((c.tc : Thread Cert.AdamFfDownRefIdeal.nD Cert.AdamFfDownRefIdeal.τ).loc Cert.AdamFfDownRefIdeal.main_arg1)
      ∧ r.2.mem ((c.tc : Thread Cert.AdamFfDownRefIdeal.nD Cert.AdamFfDownRefIdeal.τ).loc Cert.AdamFfDownRefIdeal.main_arg2) = m ((c.tc : Thread Cert.AdamFfDownRefIdeal.nD Cert.AdamFfDownRefIdeal.τ).loc Cert.AdamFfDownRefIdeal.main_arg2)
      ∧ r.2.mem ((c.tc : Thread Cert.AdamFfDownRefIdeal.nD Cert.AdamFfDownRefIdeal.τ).loc Cert.AdamFfDownRefIdeal.main_arg3) = m ((c.tc : Thread Cert.AdamFfDownRefIdeal.nD Cert.AdamFfDownRefIdeal.τ).loc Cert.AdamFfDownRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0)
      ∧ r.2.mem ((c.tc : Thread Cert.SmallSum.nD Cert.SmallSum.τ).loc Cert.SmallSum.main_arg1) = m ((c.tc : Thread Cert.SmallSum.nD Cert.SmallSum.τ).loc Cert.SmallSum.main_arg1)
      ∧ r.2.mem ((c.tc : Thread Cert.SmallSum.nD Cert.SmallSum.τ).loc Cert.SmallSum.main_arg2) = m ((c.tc : Thread Cert.SmallSum.nD Cert.SmallSum.τ).loc Cert.SmallSum.main_arg2)
      ∧ r.2.mem ((c.tc : Thread Cert.SmallSum.nD Cert.SmallSum.τ).loc Cert.SmallSum.main_arg3) = m ((c.tc : Thread Cert.SmallSum.nD Cert.SmallSum.τ).loc Cert.SmallSum.main_arg3)
      ∧ r.2.mem ((c.tc : Thread Cert.SmallSum.nD Cert.SmallSum.τ).loc Cert.SmallSum.main_arg4) = m ((c.tc : Thread Cert.SmallSum.nD Cert.SmallSum.τ).loc Cert.SmallSum.main_arg4)
      ∧ r.2.mem ((c.tc : Thread Cert.SmallSum.nD Cert.SmallSum.τ).loc Cert.SmallSum.main_arg5) = m ((c.tc : Thread Cert.SmallSum.nD Cert.SmallSum.τ).loc Cert.SmallSum.main_arg5)
      ∧ r.2.mem ((c.tc : Thread Cert.SmallSum.nD Cert.SmallSum.τ).loc Cert.SmallSum.main_arg6) = m ((c.tc : Thread Cert.SmallSum.nD Cert.SmallSum.τ).loc Cert.SmallSum.main_arg6)
      ∧ r.2.mem ((c.tc : Thread Cert.SmallSum.nD Cert.SmallSum.τ).loc Cert.SmallSum.main_arg7) = m ((c.tc : Thread Cert.SmallSum.nD Cert.SmallSum.τ).loc Cert.SmallSum.main_arg7)
      ∧ r.2.mem ((c.tc : Thread Cert.SmallSum.nD Cert.SmallSum.τ).loc Cert.SmallSum.main_arg8) = m ((c.tc : Thread Cert.SmallSum.nD Cert.SmallSum.τ).loc Cert.SmallSum.main_arg8)
      ∧ r.2.mem ((c.tc : Thread Cert.SmallSum.nD Cert.SmallSum.τ).loc Cert.SmallSum.main_arg9) = m ((c.tc : Thread Cert.SmallSum.nD Cert.SmallSum.τ).loc Cert.SmallSum.main_arg9)
      ∧ r.2.mem ((c.tc : Thread Cert.SmallSum.nD Cert.SmallSum.τ).loc Cert.SmallSum.main_arg10) = m ((c.tc : Thread Cert.SmallSum.nD Cert.SmallSum.τ).loc Cert.SmallSum.main_arg10)
      ∧ r.2.mem ((c.tc : Thread Cert.SmallSum.nD Cert.SmallSum.τ).loc Cert.SmallSum.main_arg11) = m ((c.tc : Thread Cert.SmallSum.nD Cert.SmallSum.τ).loc Cert.SmallSum.main_arg11)
      ∧ r.2.mem ((c.tc : Thread Cert.SmallSum.nD Cert.SmallSum.τ).loc Cert.SmallSum.main_arg12) = m ((c.tc : Thread Cert.SmallSum.nD Cert.SmallSum.τ).loc Cert.SmallSum.main_arg12)
      ∧ r.2.mem ((c.tc : Thread Cert.SmallSum.nD Cert.SmallSum.τ).loc Cert.SmallSum.main_arg13) = m ((c.tc : Thread Cert.SmallSum.nD Cert.SmallSum.τ).loc Cert.SmallSum.main_arg13)
      ∧ r.2.mem ((c.tc : Thread Cert.SmallSum.nD Cert.SmallSum.τ).loc Cert.SmallSum.main_arg14) = m ((c.tc : Thread Cert.SmallSum.nD Cert.SmallSum.τ).loc Cert.SmallSum.main_arg14))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
      ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1)
      ∧ r.2.mem ((c.tc : Thread Cert.SmallSumIdeal.nD Cert.SmallSumIdeal.τ).loc Cert.SmallSumIdeal.main_arg2) = m ((c.tc : Thread Cert.SmallSumIdeal.nD Cert.SmallSumIdeal.τ).loc Cert.SmallSumIdeal.main_arg2)
      ∧ r.2.mem ((c.tc : Thread Cert.SmallSumIdeal.nD Cert.SmallSumIdeal.τ).loc Cert.SmallSumIdeal.main_arg3) = m ((c.tc : Thread Cert.SmallSumIdeal.nD Cert.SmallSumIdeal.τ).loc Cert.SmallSumIdeal.main_arg3)
      ∧ r.2.mem ((c.tc : Thread Cert.SmallSumIdeal.nD Cert.SmallSumIdeal.τ).loc Cert.SmallSumIdeal.main_arg4) = m ((c.tc : Thread Cert.SmallSumIdeal.nD Cert.SmallSumIdeal.τ).loc Cert.SmallSumIdeal.main_arg4)
      ∧ r.2.mem ((c.tc : Thread Cert.SmallSumIdeal.nD Cert.SmallSumIdeal.τ).loc Cert.SmallSumIdeal.main_arg5) = m ((c.tc : Thread Cert.SmallSumIdeal.nD Cert.SmallSumIdeal.τ).loc Cert.SmallSumIdeal.main_arg5)
      ∧ r.2.mem ((c.tc : Thread Cert.SmallSumIdeal.nD Cert.SmallSumIdeal.τ).loc Cert.SmallSumIdeal.main_arg6) = m ((c.tc : Thread Cert.SmallSumIdeal.nD Cert.SmallSumIdeal.τ).loc Cert.SmallSumIdeal.main_arg6)
      ∧ r.2.mem ((c.tc : Thread Cert.SmallSumIdeal.nD Cert.SmallSumIdeal.τ).loc Cert.SmallSumIdeal.main_arg7) = m ((c.tc : Thread Cert.SmallSumIdeal.nD Cert.SmallSumIdeal.τ).loc Cert.SmallSumIdeal.main_arg7)
      ∧ r.2.mem ((c.tc : Thread Cert.SmallSumIdeal.nD Cert.SmallSumIdeal.τ).loc Cert.SmallSumIdeal.main_arg8) = m ((c.tc : Thread Cert.SmallSumIdeal.nD Cert.SmallSumIdeal.τ).loc Cert.SmallSumIdeal.main_arg8)
      ∧ r.2.mem ((c.tc : Thread Cert.SmallSumIdeal.nD Cert.SmallSumIdeal.τ).loc Cert.SmallSumIdeal.main_arg9) = m ((c.tc : Thread Cert.SmallSumIdeal.nD Cert.SmallSumIdeal.τ).loc Cert.SmallSumIdeal.main_arg9)
      ∧ r.2.mem ((c.tc : Thread Cert.SmallSumIdeal.nD Cert.SmallSumIdeal.τ).loc Cert.SmallSumIdeal.main_arg10) = m ((c.tc : Thread Cert.SmallSumIdeal.nD Cert.SmallSumIdeal.τ).loc Cert.SmallSumIdeal.main_arg10)
      ∧ r.2.mem ((c.tc : Thread Cert.SmallSumIdeal.nD Cert.SmallSumIdeal.τ).loc Cert.SmallSumIdeal.main_arg11) = m ((c.tc : Thread Cert.SmallSumIdeal.nD Cert.SmallSumIdeal.τ).loc Cert.SmallSumIdeal.main_arg11)
      ∧ r.2.mem ((c.tc : Thread Cert.SmallSumIdeal.nD Cert.SmallSumIdeal.τ).loc Cert.SmallSumIdeal.main_arg12) = m ((c.tc : Thread Cert.SmallSumIdeal.nD Cert.SmallSumIdeal.τ).loc Cert.SmallSumIdeal.main_arg12)
      ∧ r.2.mem ((c.tc : Thread Cert.SmallSumIdeal.nD Cert.SmallSumIdeal.τ).loc Cert.SmallSumIdeal.main_arg13) = m ((c.tc : Thread Cert.SmallSumIdeal.nD Cert.SmallSumIdeal.τ).loc Cert.SmallSumIdeal.main_arg13)
      ∧ r.2.mem ((c.tc : Thread Cert.SmallSumIdeal.nD Cert.SmallSumIdeal.τ).loc Cert.SmallSumIdeal.main_arg14) = m ((c.tc : Thread Cert.SmallSumIdeal.nD Cert.SmallSumIdeal.τ).loc Cert.SmallSumIdeal.main_arg14))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0)
      ∧ r.2.mem ((c.tc : Thread Cert.SmallSumRefIdeal.nD Cert.SmallSumRefIdeal.τ).loc Cert.SmallSumRefIdeal.main_arg1) = m ((c.tc : Thread Cert.SmallSumRefIdeal.nD Cert.SmallSumRefIdeal.τ).loc Cert.SmallSumRefIdeal.main_arg1)
      ∧ r.2.mem ((c.tc : Thread Cert.SmallSumRefIdeal.nD Cert.SmallSumRefIdeal.τ).loc Cert.SmallSumRefIdeal.main_arg2) = m ((c.tc : Thread Cert.SmallSumRefIdeal.nD Cert.SmallSumRefIdeal.τ).loc Cert.SmallSumRefIdeal.main_arg2)
      ∧ r.2.mem ((c.tc : Thread Cert.SmallSumRefIdeal.nD Cert.SmallSumRefIdeal.τ).loc Cert.SmallSumRefIdeal.main_arg3) = m ((c.tc : Thread Cert.SmallSumRefIdeal.nD Cert.SmallSumRefIdeal.τ).loc Cert.SmallSumRefIdeal.main_arg3)
      ∧ r.2.mem ((c.tc : Thread Cert.SmallSumRefIdeal.nD Cert.SmallSumRefIdeal.τ).loc Cert.SmallSumRefIdeal.main_arg4) = m ((c.tc : Thread Cert.SmallSumRefIdeal.nD Cert.SmallSumRefIdeal.τ).loc Cert.SmallSumRefIdeal.main_arg4)
      ∧ r.2.mem ((c.tc : Thread Cert.SmallSumRefIdeal.nD Cert.SmallSumRefIdeal.τ).loc Cert.SmallSumRefIdeal.main_arg5) = m ((c.tc : Thread Cert.SmallSumRefIdeal.nD Cert.SmallSumRefIdeal.τ).loc Cert.SmallSumRefIdeal.main_arg5)
      ∧ r.2.mem ((c.tc : Thread Cert.SmallSumRefIdeal.nD Cert.SmallSumRefIdeal.τ).loc Cert.SmallSumRefIdeal.main_arg6) = m ((c.tc : Thread Cert.SmallSumRefIdeal.nD Cert.SmallSumRefIdeal.τ).loc Cert.SmallSumRefIdeal.main_arg6)
      ∧ r.2.mem ((c.tc : Thread Cert.SmallSumRefIdeal.nD Cert.SmallSumRefIdeal.τ).loc Cert.SmallSumRefIdeal.main_arg7) = m ((c.tc : Thread Cert.SmallSumRefIdeal.nD Cert.SmallSumRefIdeal.τ).loc Cert.SmallSumRefIdeal.main_arg7)
      ∧ r.2.mem ((c.tc : Thread Cert.SmallSumRefIdeal.nD Cert.SmallSumRefIdeal.τ).loc Cert.SmallSumRefIdeal.main_arg8) = m ((c.tc : Thread Cert.SmallSumRefIdeal.nD Cert.SmallSumRefIdeal.τ).loc Cert.SmallSumRefIdeal.main_arg8)
      ∧ r.2.mem ((c.tc : Thread Cert.SmallSumRefIdeal.nD Cert.SmallSumRefIdeal.τ).loc Cert.SmallSumRefIdeal.main_arg9) = m ((c.tc : Thread Cert.SmallSumRefIdeal.nD Cert.SmallSumRefIdeal.τ).loc Cert.SmallSumRefIdeal.main_arg9)
      ∧ r.2.mem ((c.tc : Thread Cert.SmallSumRefIdeal.nD Cert.SmallSumRefIdeal.τ).loc Cert.SmallSumRefIdeal.main_arg10) = m ((c.tc : Thread Cert.SmallSumRefIdeal.nD Cert.SmallSumRefIdeal.τ).loc Cert.SmallSumRefIdeal.main_arg10)
      ∧ r.2.mem ((c.tc : Thread Cert.SmallSumRefIdeal.nD Cert.SmallSumRefIdeal.τ).loc Cert.SmallSumRefIdeal.main_arg11) = m ((c.tc : Thread Cert.SmallSumRefIdeal.nD Cert.SmallSumRefIdeal.τ).loc Cert.SmallSumRefIdeal.main_arg11)
      ∧ r.2.mem ((c.tc : Thread Cert.SmallSumRefIdeal.nD Cert.SmallSumRefIdeal.τ).loc Cert.SmallSumRefIdeal.main_arg12) = m ((c.tc : Thread Cert.SmallSumRefIdeal.nD Cert.SmallSumRefIdeal.τ).loc Cert.SmallSumRefIdeal.main_arg12)
      ∧ r.2.mem ((c.tc : Thread Cert.SmallSumRefIdeal.nD Cert.SmallSumRefIdeal.τ).loc Cert.SmallSumRefIdeal.main_arg13) = m ((c.tc : Thread Cert.SmallSumRefIdeal.nD Cert.SmallSumRefIdeal.τ).loc Cert.SmallSumRefIdeal.main_arg13)
      ∧ r.2.mem ((c.tc : Thread Cert.SmallSumRefIdeal.nD Cert.SmallSumRefIdeal.τ).loc Cert.SmallSumRefIdeal.main_arg14) = m ((c.tc : Thread Cert.SmallSumRefIdeal.nD Cert.SmallSumRefIdeal.τ).loc Cert.SmallSumRefIdeal.main_arg14))
      ∧ r.2.sem = fun _ => 0)

def preserves_GatingBwd_GatingBwdIdeal : Prop :=
  True

def algebraic_GatingBwdIdeal_GatingRefIdeal [hGatingBwdIdeal : Cert.GatingBwdIdeal.Facts] [hGatingRefIdeal : Cert.GatingRefIdeal.Facts] : Prop :=
  ∀ (m : (ℓ : Loc Cert.GatingBwdIdeal.nD Cert.GatingBwdIdeal.τ Cert.GatingBwdIdeal.sig) → Buf (Elt Ideal) ℓ) (g : Dev Cert.GatingBwdIdeal.nD → PrngReg)
    (m' : (ℓ : Loc Cert.GatingRefIdeal.nD Cert.GatingRefIdeal.τ Cert.GatingRefIdeal.sig) → Buf (Elt Ideal) ℓ) (g' : Dev Cert.GatingRefIdeal.nD → PrngReg), Pre_GatingBwdIdeal m →
    (∀ c : Dev Cert.GatingBwdIdeal.nD,
      m' ((c.tc : Thread Cert.GatingRefIdeal.nD Cert.GatingRefIdeal.τ).loc Cert.GatingRefIdeal.main_arg0) = m ((c.tc : Thread Cert.GatingBwdIdeal.nD Cert.GatingBwdIdeal.τ).loc Cert.GatingBwdIdeal.main_arg0)
      ∧ m' ((c.tc : Thread Cert.GatingRefIdeal.nD Cert.GatingRefIdeal.τ).loc Cert.GatingRefIdeal.main_arg1) = m ((c.tc : Thread Cert.GatingBwdIdeal.nD Cert.GatingBwdIdeal.τ).loc Cert.GatingBwdIdeal.main_arg1)
      ∧ m' ((c.tc : Thread Cert.GatingRefIdeal.nD Cert.GatingRefIdeal.τ).loc Cert.GatingRefIdeal.main_arg2) = m ((c.tc : Thread Cert.GatingBwdIdeal.nD Cert.GatingBwdIdeal.τ).loc Cert.GatingBwdIdeal.main_arg2)
      ∧ m' ((c.tc : Thread Cert.GatingRefIdeal.nD Cert.GatingRefIdeal.τ).loc Cert.GatingRefIdeal.main_arg3) = m ((c.tc : Thread Cert.GatingBwdIdeal.nD Cert.GatingBwdIdeal.τ).loc Cert.GatingBwdIdeal.main_arg3)
      ∧ m' ((c.tc : Thread Cert.GatingRefIdeal.nD Cert.GatingRefIdeal.τ).loc Cert.GatingRefIdeal.main_arg4) = m ((c.tc : Thread Cert.GatingBwdIdeal.nD Cert.GatingBwdIdeal.τ).loc Cert.GatingBwdIdeal.main_arg4)
      ∧ m' ((c.tc : Thread Cert.GatingRefIdeal.nD Cert.GatingRefIdeal.τ).loc Cert.GatingRefIdeal.main_arg5) = m ((c.tc : Thread Cert.GatingBwdIdeal.nD Cert.GatingBwdIdeal.τ).loc Cert.GatingBwdIdeal.main_arg5)) →
    ∃ (v0 : (c : Dev Cert.GatingBwdIdeal.nD) → Buf (Elt Ideal) ((c.tc : Thread Cert.GatingBwdIdeal.nD Cert.GatingBwdIdeal.τ).loc Cert.GatingBwdIdeal.main_v5_0)) (v1 : (c : Dev Cert.GatingBwdIdeal.nD) → Buf (Elt Ideal) ((c.tc : Thread Cert.GatingBwdIdeal.nD Cert.GatingBwdIdeal.τ).loc Cert.GatingBwdIdeal.main_v5_1)) (v2 : (c : Dev Cert.GatingBwdIdeal.nD) → Buf (Elt Ideal) ((c.tc : Thread Cert.GatingBwdIdeal.nD Cert.GatingBwdIdeal.τ).loc Cert.GatingBwdIdeal.main_v5_2)) (v3 : (c : Dev Cert.GatingBwdIdeal.nD) → Buf (Elt Ideal) ((c.tc : Thread Cert.GatingBwdIdeal.nD Cert.GatingBwdIdeal.τ).loc Cert.GatingBwdIdeal.main_v5_3)) (v4 : (c : Dev Cert.GatingBwdIdeal.nD) → Buf (Elt Ideal) ((c.tc : Thread Cert.GatingBwdIdeal.nD Cert.GatingBwdIdeal.τ).loc Cert.GatingBwdIdeal.main_v5_4)) (v5 : (c : Dev Cert.GatingBwdIdeal.nD) → Buf (Elt Ideal) ((c.tc : Thread Cert.GatingBwdIdeal.nD Cert.GatingBwdIdeal.τ).loc Cert.GatingBwdIdeal.main_v5_5)),
      θ_run (Cert.GatingBwdIdeal.defs (F := Ideal)) (onTc (τ := Cert.GatingBwdIdeal.τ) (Cert.GatingBwdIdeal.main (F := Ideal))) ⟨m, fun _ => 0, g⟩ (fun r => ∀ c : Dev Cert.GatingBwdIdeal.nD,
          r.2.mem ((c.tc : Thread Cert.GatingBwdIdeal.nD Cert.GatingBwdIdeal.τ).loc Cert.GatingBwdIdeal.main_v5_0) = v0 c
          ∧ r.2.mem ((c.tc : Thread Cert.GatingBwdIdeal.nD Cert.GatingBwdIdeal.τ).loc Cert.GatingBwdIdeal.main_v5_1) = v1 c
          ∧ r.2.mem ((c.tc : Thread Cert.GatingBwdIdeal.nD Cert.GatingBwdIdeal.τ).loc Cert.GatingBwdIdeal.main_v5_2) = v2 c
          ∧ r.2.mem ((c.tc : Thread Cert.GatingBwdIdeal.nD Cert.GatingBwdIdeal.τ).loc Cert.GatingBwdIdeal.main_v5_3) = v3 c
          ∧ r.2.mem ((c.tc : Thread Cert.GatingBwdIdeal.nD Cert.GatingBwdIdeal.τ).loc Cert.GatingBwdIdeal.main_v5_4) = v4 c
          ∧ r.2.mem ((c.tc : Thread Cert.GatingBwdIdeal.nD Cert.GatingBwdIdeal.τ).loc Cert.GatingBwdIdeal.main_v5_5) = v5 c
          ∧ r.2.mem ((c.tc : Thread Cert.GatingBwdIdeal.nD Cert.GatingBwdIdeal.τ).loc Cert.GatingBwdIdeal.main_arg0) = m ((c.tc : Thread Cert.GatingBwdIdeal.nD Cert.GatingBwdIdeal.τ).loc Cert.GatingBwdIdeal.main_arg0)
          ∧ r.2.mem ((c.tc : Thread Cert.GatingBwdIdeal.nD Cert.GatingBwdIdeal.τ).loc Cert.GatingBwdIdeal.main_arg1) = m ((c.tc : Thread Cert.GatingBwdIdeal.nD Cert.GatingBwdIdeal.τ).loc Cert.GatingBwdIdeal.main_arg1)
          ∧ r.2.mem ((c.tc : Thread Cert.GatingBwdIdeal.nD Cert.GatingBwdIdeal.τ).loc Cert.GatingBwdIdeal.main_arg2) = m ((c.tc : Thread Cert.GatingBwdIdeal.nD Cert.GatingBwdIdeal.τ).loc Cert.GatingBwdIdeal.main_arg2)
          ∧ r.2.mem ((c.tc : Thread Cert.GatingBwdIdeal.nD Cert.GatingBwdIdeal.τ).loc Cert.GatingBwdIdeal.main_arg3) = m ((c.tc : Thread Cert.GatingBwdIdeal.nD Cert.GatingBwdIdeal.τ).loc Cert.GatingBwdIdeal.main_arg3)
          ∧ r.2.mem ((c.tc : Thread Cert.GatingBwdIdeal.nD Cert.GatingBwdIdeal.τ).loc Cert.GatingBwdIdeal.main_arg4) = m ((c.tc : Thread Cert.GatingBwdIdeal.nD Cert.GatingBwdIdeal.τ).loc Cert.GatingBwdIdeal.main_arg4)
          ∧ r.2.mem ((c.tc : Thread Cert.GatingBwdIdeal.nD Cert.GatingBwdIdeal.τ).loc Cert.GatingBwdIdeal.main_arg5) = m ((c.tc : Thread Cert.GatingBwdIdeal.nD Cert.GatingBwdIdeal.τ).loc Cert.GatingBwdIdeal.main_arg5))
      ∧ θ_run (Cert.GatingRefIdeal.defs (F := Ideal)) (onTc (τ := Cert.GatingRefIdeal.τ) (Cert.GatingRefIdeal.main (F := Ideal))) ⟨m', fun _ => 0, g'⟩ (fun r => ∀ c : Dev Cert.GatingRefIdeal.nD,
          r.2.mem ((c.tc : Thread Cert.GatingRefIdeal.nD Cert.GatingRefIdeal.τ).loc Cert.GatingRefIdeal.main_v129) = v0 c
          ∧ r.2.mem ((c.tc : Thread Cert.GatingRefIdeal.nD Cert.GatingRefIdeal.τ).loc Cert.GatingRefIdeal.main_v130) = v1 c
          ∧ r.2.mem ((c.tc : Thread Cert.GatingRefIdeal.nD Cert.GatingRefIdeal.τ).loc Cert.GatingRefIdeal.main_v131) = v2 c
          ∧ r.2.mem ((c.tc : Thread Cert.GatingRefIdeal.nD Cert.GatingRefIdeal.τ).loc Cert.GatingRefIdeal.main_v94) = v3 c
          ∧ r.2.mem ((c.tc : Thread Cert.GatingRefIdeal.nD Cert.GatingRefIdeal.τ).loc Cert.GatingRefIdeal.main_v133) = v4 c
          ∧ r.2.mem ((c.tc : Thread Cert.GatingRefIdeal.nD Cert.GatingRefIdeal.τ).loc Cert.GatingRefIdeal.main_v134) = v5 c
          ∧ r.2.mem ((c.tc : Thread Cert.GatingRefIdeal.nD Cert.GatingRefIdeal.τ).loc Cert.GatingRefIdeal.main_arg0) = m' ((c.tc : Thread Cert.GatingRefIdeal.nD Cert.GatingRefIdeal.τ).loc Cert.GatingRefIdeal.main_arg0)
          ∧ r.2.mem ((c.tc : Thread Cert.GatingRefIdeal.nD Cert.GatingRefIdeal.τ).loc Cert.GatingRefIdeal.main_arg1) = m' ((c.tc : Thread Cert.GatingRefIdeal.nD Cert.GatingRefIdeal.τ).loc Cert.GatingRefIdeal.main_arg1)
          ∧ r.2.mem ((c.tc : Thread Cert.GatingRefIdeal.nD Cert.GatingRefIdeal.τ).loc Cert.GatingRefIdeal.main_arg2) = m' ((c.tc : Thread Cert.GatingRefIdeal.nD Cert.GatingRefIdeal.τ).loc Cert.GatingRefIdeal.main_arg2)
          ∧ r.2.mem ((c.tc : Thread Cert.GatingRefIdeal.nD Cert.GatingRefIdeal.τ).loc Cert.GatingRefIdeal.main_arg3) = m' ((c.tc : Thread Cert.GatingRefIdeal.nD Cert.GatingRefIdeal.τ).loc Cert.GatingRefIdeal.main_arg3)
          ∧ r.2.mem ((c.tc : Thread Cert.GatingRefIdeal.nD Cert.GatingRefIdeal.τ).loc Cert.GatingRefIdeal.main_arg4) = m' ((c.tc : Thread Cert.GatingRefIdeal.nD Cert.GatingRefIdeal.τ).loc Cert.GatingRefIdeal.main_arg4)
          ∧ r.2.mem ((c.tc : Thread Cert.GatingRefIdeal.nD Cert.GatingRefIdeal.τ).loc Cert.GatingRefIdeal.main_arg5) = m' ((c.tc : Thread Cert.GatingRefIdeal.nD Cert.GatingRefIdeal.τ).loc Cert.GatingRefIdeal.main_arg5))

def preserves_WInFwd_WInFwdIdeal : Prop :=
  True

def algebraic_WInFwdIdeal_WInFwdRefIdeal [hWInFwdIdeal : Cert.WInFwdIdeal.Facts] [hWInFwdRefIdeal : Cert.WInFwdRefIdeal.Facts] : Prop :=
  ∀ (m : (ℓ : Loc Cert.WInFwdIdeal.nD Cert.WInFwdIdeal.τ Cert.WInFwdIdeal.sig) → Buf (Elt Ideal) ℓ) (g : Dev Cert.WInFwdIdeal.nD → PrngReg)
    (m' : (ℓ : Loc Cert.WInFwdRefIdeal.nD Cert.WInFwdRefIdeal.τ Cert.WInFwdRefIdeal.sig) → Buf (Elt Ideal) ℓ) (g' : Dev Cert.WInFwdRefIdeal.nD → PrngReg), Pre_WInFwdIdeal m →
    (∀ c : Dev Cert.WInFwdIdeal.nD,
      m' ((c.tc : Thread Cert.WInFwdRefIdeal.nD Cert.WInFwdRefIdeal.τ).loc Cert.WInFwdRefIdeal.main_arg0) = m ((c.tc : Thread Cert.WInFwdIdeal.nD Cert.WInFwdIdeal.τ).loc Cert.WInFwdIdeal.main_arg0)
      ∧ m' ((c.tc : Thread Cert.WInFwdRefIdeal.nD Cert.WInFwdRefIdeal.τ).loc Cert.WInFwdRefIdeal.main_arg1) = m ((c.tc : Thread Cert.WInFwdIdeal.nD Cert.WInFwdIdeal.τ).loc Cert.WInFwdIdeal.main_arg1)) →
    ∃ (v0 : (c : Dev Cert.WInFwdIdeal.nD) → Buf (Elt Ideal) ((c.tc : Thread Cert.WInFwdIdeal.nD Cert.WInFwdIdeal.τ).loc Cert.WInFwdIdeal.main_v1)),
      θ_run (Cert.WInFwdIdeal.defs (F := Ideal)) (onTc (τ := Cert.WInFwdIdeal.τ) (Cert.WInFwdIdeal.main (F := Ideal))) ⟨m, fun _ => 0, g⟩ (fun r => ∀ c : Dev Cert.WInFwdIdeal.nD,
          r.2.mem ((c.tc : Thread Cert.WInFwdIdeal.nD Cert.WInFwdIdeal.τ).loc Cert.WInFwdIdeal.main_v1) = v0 c
          ∧ r.2.mem ((c.tc : Thread Cert.WInFwdIdeal.nD Cert.WInFwdIdeal.τ).loc Cert.WInFwdIdeal.main_arg0) = m ((c.tc : Thread Cert.WInFwdIdeal.nD Cert.WInFwdIdeal.τ).loc Cert.WInFwdIdeal.main_arg0)
          ∧ r.2.mem ((c.tc : Thread Cert.WInFwdIdeal.nD Cert.WInFwdIdeal.τ).loc Cert.WInFwdIdeal.main_arg1) = m ((c.tc : Thread Cert.WInFwdIdeal.nD Cert.WInFwdIdeal.τ).loc Cert.WInFwdIdeal.main_arg1))
      ∧ θ_run (Cert.WInFwdRefIdeal.defs (F := Ideal)) (onTc (τ := Cert.WInFwdRefIdeal.τ) (Cert.WInFwdRefIdeal.main (F := Ideal))) ⟨m', fun _ => 0, g'⟩ (fun r => ∀ c : Dev Cert.WInFwdRefIdeal.nD,
          r.2.mem ((c.tc : Thread Cert.WInFwdRefIdeal.nD Cert.WInFwdRefIdeal.τ).loc Cert.WInFwdRefIdeal.main_v3) = v0 c
          ∧ r.2.mem ((c.tc : Thread Cert.WInFwdRefIdeal.nD Cert.WInFwdRefIdeal.τ).loc Cert.WInFwdRefIdeal.main_arg0) = m' ((c.tc : Thread Cert.WInFwdRefIdeal.nD Cert.WInFwdRefIdeal.τ).loc Cert.WInFwdRefIdeal.main_arg0)
          ∧ r.2.mem ((c.tc : Thread Cert.WInFwdRefIdeal.nD Cert.WInFwdRefIdeal.τ).loc Cert.WInFwdRefIdeal.main_arg1) = m' ((c.tc : Thread Cert.WInFwdRefIdeal.nD Cert.WInFwdRefIdeal.τ).loc Cert.WInFwdRefIdeal.main_arg1))

def preserves_WInDx_WInDxIdeal : Prop :=
  True

def algebraic_WInDxIdeal_WInDxRefIdeal [hWInDxIdeal : Cert.WInDxIdeal.Facts] [hWInDxRefIdeal : Cert.WInDxRefIdeal.Facts] : Prop :=
  ∀ (m : (ℓ : Loc Cert.WInDxIdeal.nD Cert.WInDxIdeal.τ Cert.WInDxIdeal.sig) → Buf (Elt Ideal) ℓ) (g : Dev Cert.WInDxIdeal.nD → PrngReg)
    (m' : (ℓ : Loc Cert.WInDxRefIdeal.nD Cert.WInDxRefIdeal.τ Cert.WInDxRefIdeal.sig) → Buf (Elt Ideal) ℓ) (g' : Dev Cert.WInDxRefIdeal.nD → PrngReg), Pre_WInDxIdeal m →
    (∀ c : Dev Cert.WInDxIdeal.nD,
      m' ((c.tc : Thread Cert.WInDxRefIdeal.nD Cert.WInDxRefIdeal.τ).loc Cert.WInDxRefIdeal.main_arg0) = m ((c.tc : Thread Cert.WInDxIdeal.nD Cert.WInDxIdeal.τ).loc Cert.WInDxIdeal.main_arg0)
      ∧ m' ((c.tc : Thread Cert.WInDxRefIdeal.nD Cert.WInDxRefIdeal.τ).loc Cert.WInDxRefIdeal.main_arg1) = m ((c.tc : Thread Cert.WInDxIdeal.nD Cert.WInDxIdeal.τ).loc Cert.WInDxIdeal.main_arg1)) →
    ∃ (v0 : (c : Dev Cert.WInDxIdeal.nD) → Buf (Elt Ideal) ((c.tc : Thread Cert.WInDxIdeal.nD Cert.WInDxIdeal.τ).loc Cert.WInDxIdeal.main_v1)),
      θ_run (Cert.WInDxIdeal.defs (F := Ideal)) (onTc (τ := Cert.WInDxIdeal.τ) (Cert.WInDxIdeal.main (F := Ideal))) ⟨m, fun _ => 0, g⟩ (fun r => ∀ c : Dev Cert.WInDxIdeal.nD,
          r.2.mem ((c.tc : Thread Cert.WInDxIdeal.nD Cert.WInDxIdeal.τ).loc Cert.WInDxIdeal.main_v1) = v0 c
          ∧ r.2.mem ((c.tc : Thread Cert.WInDxIdeal.nD Cert.WInDxIdeal.τ).loc Cert.WInDxIdeal.main_arg0) = m ((c.tc : Thread Cert.WInDxIdeal.nD Cert.WInDxIdeal.τ).loc Cert.WInDxIdeal.main_arg0)
          ∧ r.2.mem ((c.tc : Thread Cert.WInDxIdeal.nD Cert.WInDxIdeal.τ).loc Cert.WInDxIdeal.main_arg1) = m ((c.tc : Thread Cert.WInDxIdeal.nD Cert.WInDxIdeal.τ).loc Cert.WInDxIdeal.main_arg1))
      ∧ θ_run (Cert.WInDxRefIdeal.defs (F := Ideal)) (onTc (τ := Cert.WInDxRefIdeal.τ) (Cert.WInDxRefIdeal.main (F := Ideal))) ⟨m', fun _ => 0, g'⟩ (fun r => ∀ c : Dev Cert.WInDxRefIdeal.nD,
          r.2.mem ((c.tc : Thread Cert.WInDxRefIdeal.nD Cert.WInDxRefIdeal.τ).loc Cert.WInDxRefIdeal.main_v6) = v0 c
          ∧ r.2.mem ((c.tc : Thread Cert.WInDxRefIdeal.nD Cert.WInDxRefIdeal.τ).loc Cert.WInDxRefIdeal.main_arg0) = m' ((c.tc : Thread Cert.WInDxRefIdeal.nD Cert.WInDxRefIdeal.τ).loc Cert.WInDxRefIdeal.main_arg0)
          ∧ r.2.mem ((c.tc : Thread Cert.WInDxRefIdeal.nD Cert.WInDxRefIdeal.τ).loc Cert.WInDxRefIdeal.main_arg1) = m' ((c.tc : Thread Cert.WInDxRefIdeal.nD Cert.WInDxRefIdeal.τ).loc Cert.WInDxRefIdeal.main_arg1))

def preserves_WInDw_WInDwIdeal : Prop :=
  True

def algebraic_WInDwIdeal_WInDwRefIdeal [hWInDwIdeal : Cert.WInDwIdeal.Facts] [hWInDwRefIdeal : Cert.WInDwRefIdeal.Facts] : Prop :=
  ∀ (m : (ℓ : Loc Cert.WInDwIdeal.nD Cert.WInDwIdeal.τ Cert.WInDwIdeal.sig) → Buf (Elt Ideal) ℓ) (g : Dev Cert.WInDwIdeal.nD → PrngReg)
    (m' : (ℓ : Loc Cert.WInDwRefIdeal.nD Cert.WInDwRefIdeal.τ Cert.WInDwRefIdeal.sig) → Buf (Elt Ideal) ℓ) (g' : Dev Cert.WInDwRefIdeal.nD → PrngReg), Pre_WInDwIdeal m →
    (∀ c : Dev Cert.WInDwIdeal.nD,
      m' ((c.tc : Thread Cert.WInDwRefIdeal.nD Cert.WInDwRefIdeal.τ).loc Cert.WInDwRefIdeal.main_arg0) = m ((c.tc : Thread Cert.WInDwIdeal.nD Cert.WInDwIdeal.τ).loc Cert.WInDwIdeal.main_arg0)
      ∧ m' ((c.tc : Thread Cert.WInDwRefIdeal.nD Cert.WInDwRefIdeal.τ).loc Cert.WInDwRefIdeal.main_arg1) = m ((c.tc : Thread Cert.WInDwIdeal.nD Cert.WInDwIdeal.τ).loc Cert.WInDwIdeal.main_arg1)) →
    ∃ (v0 : (c : Dev Cert.WInDwIdeal.nD) → Buf (Elt Ideal) ((c.tc : Thread Cert.WInDwIdeal.nD Cert.WInDwIdeal.τ).loc Cert.WInDwIdeal.main_v2)),
      θ_run (Cert.WInDwIdeal.defs (F := Ideal)) (onTc (τ := Cert.WInDwIdeal.τ) (Cert.WInDwIdeal.main (F := Ideal))) ⟨m, fun _ => 0, g⟩ (fun r => ∀ c : Dev Cert.WInDwIdeal.nD,
          r.2.mem ((c.tc : Thread Cert.WInDwIdeal.nD Cert.WInDwIdeal.τ).loc Cert.WInDwIdeal.main_v2) = v0 c
          ∧ r.2.mem ((c.tc : Thread Cert.WInDwIdeal.nD Cert.WInDwIdeal.τ).loc Cert.WInDwIdeal.main_arg0) = m ((c.tc : Thread Cert.WInDwIdeal.nD Cert.WInDwIdeal.τ).loc Cert.WInDwIdeal.main_arg0)
          ∧ r.2.mem ((c.tc : Thread Cert.WInDwIdeal.nD Cert.WInDwIdeal.τ).loc Cert.WInDwIdeal.main_arg1) = m ((c.tc : Thread Cert.WInDwIdeal.nD Cert.WInDwIdeal.τ).loc Cert.WInDwIdeal.main_arg1))
      ∧ θ_run (Cert.WInDwRefIdeal.defs (F := Ideal)) (onTc (τ := Cert.WInDwRefIdeal.τ) (Cert.WInDwRefIdeal.main (F := Ideal))) ⟨m', fun _ => 0, g'⟩ (fun r => ∀ c : Dev Cert.WInDwRefIdeal.nD,
          r.2.mem ((c.tc : Thread Cert.WInDwRefIdeal.nD Cert.WInDwRefIdeal.τ).loc Cert.WInDwRefIdeal.main_v6) = v0 c
          ∧ r.2.mem ((c.tc : Thread Cert.WInDwRefIdeal.nD Cert.WInDwRefIdeal.τ).loc Cert.WInDwRefIdeal.main_arg0) = m' ((c.tc : Thread Cert.WInDwRefIdeal.nD Cert.WInDwRefIdeal.τ).loc Cert.WInDwRefIdeal.main_arg0)
          ∧ r.2.mem ((c.tc : Thread Cert.WInDwRefIdeal.nD Cert.WInDwRefIdeal.τ).loc Cert.WInDwRefIdeal.main_arg1) = m' ((c.tc : Thread Cert.WInDwRefIdeal.nD Cert.WInDwRefIdeal.τ).loc Cert.WInDwRefIdeal.main_arg1))

def preserves_WOutFwd_WOutFwdIdeal : Prop :=
  True

def algebraic_WOutFwdIdeal_WOutFwdRefIdeal [hWOutFwdIdeal : Cert.WOutFwdIdeal.Facts] [hWOutFwdRefIdeal : Cert.WOutFwdRefIdeal.Facts] : Prop :=
  ∀ (m : (ℓ : Loc Cert.WOutFwdIdeal.nD Cert.WOutFwdIdeal.τ Cert.WOutFwdIdeal.sig) → Buf (Elt Ideal) ℓ) (g : Dev Cert.WOutFwdIdeal.nD → PrngReg)
    (m' : (ℓ : Loc Cert.WOutFwdRefIdeal.nD Cert.WOutFwdRefIdeal.τ Cert.WOutFwdRefIdeal.sig) → Buf (Elt Ideal) ℓ) (g' : Dev Cert.WOutFwdRefIdeal.nD → PrngReg), Pre_WOutFwdIdeal m →
    (∀ c : Dev Cert.WOutFwdIdeal.nD,
      m' ((c.tc : Thread Cert.WOutFwdRefIdeal.nD Cert.WOutFwdRefIdeal.τ).loc Cert.WOutFwdRefIdeal.main_arg0) = m ((c.tc : Thread Cert.WOutFwdIdeal.nD Cert.WOutFwdIdeal.τ).loc Cert.WOutFwdIdeal.main_arg0)
      ∧ m' ((c.tc : Thread Cert.WOutFwdRefIdeal.nD Cert.WOutFwdRefIdeal.τ).loc Cert.WOutFwdRefIdeal.main_arg1) = m ((c.tc : Thread Cert.WOutFwdIdeal.nD Cert.WOutFwdIdeal.τ).loc Cert.WOutFwdIdeal.main_arg1)) →
    ∃ (v0 : (c : Dev Cert.WOutFwdIdeal.nD) → Buf (Elt Ideal) ((c.tc : Thread Cert.WOutFwdIdeal.nD Cert.WOutFwdIdeal.τ).loc Cert.WOutFwdIdeal.main_v1)),
      θ_run (Cert.WOutFwdIdeal.defs (F := Ideal)) (onTc (τ := Cert.WOutFwdIdeal.τ) (Cert.WOutFwdIdeal.main (F := Ideal))) ⟨m, fun _ => 0, g⟩ (fun r => ∀ c : Dev Cert.WOutFwdIdeal.nD,
          r.2.mem ((c.tc : Thread Cert.WOutFwdIdeal.nD Cert.WOutFwdIdeal.τ).loc Cert.WOutFwdIdeal.main_v1) = v0 c
          ∧ r.2.mem ((c.tc : Thread Cert.WOutFwdIdeal.nD Cert.WOutFwdIdeal.τ).loc Cert.WOutFwdIdeal.main_arg0) = m ((c.tc : Thread Cert.WOutFwdIdeal.nD Cert.WOutFwdIdeal.τ).loc Cert.WOutFwdIdeal.main_arg0)
          ∧ r.2.mem ((c.tc : Thread Cert.WOutFwdIdeal.nD Cert.WOutFwdIdeal.τ).loc Cert.WOutFwdIdeal.main_arg1) = m ((c.tc : Thread Cert.WOutFwdIdeal.nD Cert.WOutFwdIdeal.τ).loc Cert.WOutFwdIdeal.main_arg1))
      ∧ θ_run (Cert.WOutFwdRefIdeal.defs (F := Ideal)) (onTc (τ := Cert.WOutFwdRefIdeal.τ) (Cert.WOutFwdRefIdeal.main (F := Ideal))) ⟨m', fun _ => 0, g'⟩ (fun r => ∀ c : Dev Cert.WOutFwdRefIdeal.nD,
          r.2.mem ((c.tc : Thread Cert.WOutFwdRefIdeal.nD Cert.WOutFwdRefIdeal.τ).loc Cert.WOutFwdRefIdeal.main_v3) = v0 c
          ∧ r.2.mem ((c.tc : Thread Cert.WOutFwdRefIdeal.nD Cert.WOutFwdRefIdeal.τ).loc Cert.WOutFwdRefIdeal.main_arg0) = m' ((c.tc : Thread Cert.WOutFwdRefIdeal.nD Cert.WOutFwdRefIdeal.τ).loc Cert.WOutFwdRefIdeal.main_arg0)
          ∧ r.2.mem ((c.tc : Thread Cert.WOutFwdRefIdeal.nD Cert.WOutFwdRefIdeal.τ).loc Cert.WOutFwdRefIdeal.main_arg1) = m' ((c.tc : Thread Cert.WOutFwdRefIdeal.nD Cert.WOutFwdRefIdeal.τ).loc Cert.WOutFwdRefIdeal.main_arg1))

def preserves_WOutDx_WOutDxIdeal : Prop :=
  True

def algebraic_WOutDxIdeal_WOutDxRefIdeal [hWOutDxIdeal : Cert.WOutDxIdeal.Facts] [hWOutDxRefIdeal : Cert.WOutDxRefIdeal.Facts] : Prop :=
  ∀ (m : (ℓ : Loc Cert.WOutDxIdeal.nD Cert.WOutDxIdeal.τ Cert.WOutDxIdeal.sig) → Buf (Elt Ideal) ℓ) (g : Dev Cert.WOutDxIdeal.nD → PrngReg)
    (m' : (ℓ : Loc Cert.WOutDxRefIdeal.nD Cert.WOutDxRefIdeal.τ Cert.WOutDxRefIdeal.sig) → Buf (Elt Ideal) ℓ) (g' : Dev Cert.WOutDxRefIdeal.nD → PrngReg), Pre_WOutDxIdeal m →
    (∀ c : Dev Cert.WOutDxIdeal.nD,
      m' ((c.tc : Thread Cert.WOutDxRefIdeal.nD Cert.WOutDxRefIdeal.τ).loc Cert.WOutDxRefIdeal.main_arg0) = m ((c.tc : Thread Cert.WOutDxIdeal.nD Cert.WOutDxIdeal.τ).loc Cert.WOutDxIdeal.main_arg0)
      ∧ m' ((c.tc : Thread Cert.WOutDxRefIdeal.nD Cert.WOutDxRefIdeal.τ).loc Cert.WOutDxRefIdeal.main_arg1) = m ((c.tc : Thread Cert.WOutDxIdeal.nD Cert.WOutDxIdeal.τ).loc Cert.WOutDxIdeal.main_arg1)) →
    ∃ (v0 : (c : Dev Cert.WOutDxIdeal.nD) → Buf (Elt Ideal) ((c.tc : Thread Cert.WOutDxIdeal.nD Cert.WOutDxIdeal.τ).loc Cert.WOutDxIdeal.main_v1)),
      θ_run (Cert.WOutDxIdeal.defs (F := Ideal)) (onTc (τ := Cert.WOutDxIdeal.τ) (Cert.WOutDxIdeal.main (F := Ideal))) ⟨m, fun _ => 0, g⟩ (fun r => ∀ c : Dev Cert.WOutDxIdeal.nD,
          r.2.mem ((c.tc : Thread Cert.WOutDxIdeal.nD Cert.WOutDxIdeal.τ).loc Cert.WOutDxIdeal.main_v1) = v0 c
          ∧ r.2.mem ((c.tc : Thread Cert.WOutDxIdeal.nD Cert.WOutDxIdeal.τ).loc Cert.WOutDxIdeal.main_arg0) = m ((c.tc : Thread Cert.WOutDxIdeal.nD Cert.WOutDxIdeal.τ).loc Cert.WOutDxIdeal.main_arg0)
          ∧ r.2.mem ((c.tc : Thread Cert.WOutDxIdeal.nD Cert.WOutDxIdeal.τ).loc Cert.WOutDxIdeal.main_arg1) = m ((c.tc : Thread Cert.WOutDxIdeal.nD Cert.WOutDxIdeal.τ).loc Cert.WOutDxIdeal.main_arg1))
      ∧ θ_run (Cert.WOutDxRefIdeal.defs (F := Ideal)) (onTc (τ := Cert.WOutDxRefIdeal.τ) (Cert.WOutDxRefIdeal.main (F := Ideal))) ⟨m', fun _ => 0, g'⟩ (fun r => ∀ c : Dev Cert.WOutDxRefIdeal.nD,
          r.2.mem ((c.tc : Thread Cert.WOutDxRefIdeal.nD Cert.WOutDxRefIdeal.τ).loc Cert.WOutDxRefIdeal.main_v6) = v0 c
          ∧ r.2.mem ((c.tc : Thread Cert.WOutDxRefIdeal.nD Cert.WOutDxRefIdeal.τ).loc Cert.WOutDxRefIdeal.main_arg0) = m' ((c.tc : Thread Cert.WOutDxRefIdeal.nD Cert.WOutDxRefIdeal.τ).loc Cert.WOutDxRefIdeal.main_arg0)
          ∧ r.2.mem ((c.tc : Thread Cert.WOutDxRefIdeal.nD Cert.WOutDxRefIdeal.τ).loc Cert.WOutDxRefIdeal.main_arg1) = m' ((c.tc : Thread Cert.WOutDxRefIdeal.nD Cert.WOutDxRefIdeal.τ).loc Cert.WOutDxRefIdeal.main_arg1))

def preserves_WOutDw_WOutDwIdeal : Prop :=
  True

def algebraic_WOutDwIdeal_WOutDwRefIdeal [hWOutDwIdeal : Cert.WOutDwIdeal.Facts] [hWOutDwRefIdeal : Cert.WOutDwRefIdeal.Facts] : Prop :=
  ∀ (m : (ℓ : Loc Cert.WOutDwIdeal.nD Cert.WOutDwIdeal.τ Cert.WOutDwIdeal.sig) → Buf (Elt Ideal) ℓ) (g : Dev Cert.WOutDwIdeal.nD → PrngReg)
    (m' : (ℓ : Loc Cert.WOutDwRefIdeal.nD Cert.WOutDwRefIdeal.τ Cert.WOutDwRefIdeal.sig) → Buf (Elt Ideal) ℓ) (g' : Dev Cert.WOutDwRefIdeal.nD → PrngReg), Pre_WOutDwIdeal m →
    (∀ c : Dev Cert.WOutDwIdeal.nD,
      m' ((c.tc : Thread Cert.WOutDwRefIdeal.nD Cert.WOutDwRefIdeal.τ).loc Cert.WOutDwRefIdeal.main_arg0) = m ((c.tc : Thread Cert.WOutDwIdeal.nD Cert.WOutDwIdeal.τ).loc Cert.WOutDwIdeal.main_arg0)
      ∧ m' ((c.tc : Thread Cert.WOutDwRefIdeal.nD Cert.WOutDwRefIdeal.τ).loc Cert.WOutDwRefIdeal.main_arg1) = m ((c.tc : Thread Cert.WOutDwIdeal.nD Cert.WOutDwIdeal.τ).loc Cert.WOutDwIdeal.main_arg1)) →
    ∃ (v0 : (c : Dev Cert.WOutDwIdeal.nD) → Buf (Elt Ideal) ((c.tc : Thread Cert.WOutDwIdeal.nD Cert.WOutDwIdeal.τ).loc Cert.WOutDwIdeal.main_v2)),
      θ_run (Cert.WOutDwIdeal.defs (F := Ideal)) (onTc (τ := Cert.WOutDwIdeal.τ) (Cert.WOutDwIdeal.main (F := Ideal))) ⟨m, fun _ => 0, g⟩ (fun r => ∀ c : Dev Cert.WOutDwIdeal.nD,
          r.2.mem ((c.tc : Thread Cert.WOutDwIdeal.nD Cert.WOutDwIdeal.τ).loc Cert.WOutDwIdeal.main_v2) = v0 c
          ∧ r.2.mem ((c.tc : Thread Cert.WOutDwIdeal.nD Cert.WOutDwIdeal.τ).loc Cert.WOutDwIdeal.main_arg0) = m ((c.tc : Thread Cert.WOutDwIdeal.nD Cert.WOutDwIdeal.τ).loc Cert.WOutDwIdeal.main_arg0)
          ∧ r.2.mem ((c.tc : Thread Cert.WOutDwIdeal.nD Cert.WOutDwIdeal.τ).loc Cert.WOutDwIdeal.main_arg1) = m ((c.tc : Thread Cert.WOutDwIdeal.nD Cert.WOutDwIdeal.τ).loc Cert.WOutDwIdeal.main_arg1))
      ∧ θ_run (Cert.WOutDwRefIdeal.defs (F := Ideal)) (onTc (τ := Cert.WOutDwRefIdeal.τ) (Cert.WOutDwRefIdeal.main (F := Ideal))) ⟨m', fun _ => 0, g'⟩ (fun r => ∀ c : Dev Cert.WOutDwRefIdeal.nD,
          r.2.mem ((c.tc : Thread Cert.WOutDwRefIdeal.nD Cert.WOutDwRefIdeal.τ).loc Cert.WOutDwRefIdeal.main_v6) = v0 c
          ∧ r.2.mem ((c.tc : Thread Cert.WOutDwRefIdeal.nD Cert.WOutDwRefIdeal.τ).loc Cert.WOutDwRefIdeal.main_arg0) = m' ((c.tc : Thread Cert.WOutDwRefIdeal.nD Cert.WOutDwRefIdeal.τ).loc Cert.WOutDwRefIdeal.main_arg0)
          ∧ r.2.mem ((c.tc : Thread Cert.WOutDwRefIdeal.nD Cert.WOutDwRefIdeal.τ).loc Cert.WOutDwRefIdeal.main_arg1) = m' ((c.tc : Thread Cert.WOutDwRefIdeal.nD Cert.WOutDwRefIdeal.τ).loc Cert.WOutDwRefIdeal.main_arg1))

def preserves_FfUpFwd_FfUpFwdIdeal : Prop :=
  True

def algebraic_FfUpFwdIdeal_FfUpFwdRefIdeal [hFfUpFwdIdeal : Cert.FfUpFwdIdeal.Facts] [hFfUpFwdRefIdeal : Cert.FfUpFwdRefIdeal.Facts] : Prop :=
  ∀ (m : (ℓ : Loc Cert.FfUpFwdIdeal.nD Cert.FfUpFwdIdeal.τ Cert.FfUpFwdIdeal.sig) → Buf (Elt Ideal) ℓ) (g : Dev Cert.FfUpFwdIdeal.nD → PrngReg)
    (m' : (ℓ : Loc Cert.FfUpFwdRefIdeal.nD Cert.FfUpFwdRefIdeal.τ Cert.FfUpFwdRefIdeal.sig) → Buf (Elt Ideal) ℓ) (g' : Dev Cert.FfUpFwdRefIdeal.nD → PrngReg), Pre_FfUpFwdIdeal m →
    (∀ c : Dev Cert.FfUpFwdIdeal.nD,
      m' ((c.tc : Thread Cert.FfUpFwdRefIdeal.nD Cert.FfUpFwdRefIdeal.τ).loc Cert.FfUpFwdRefIdeal.main_arg0) = m ((c.tc : Thread Cert.FfUpFwdIdeal.nD Cert.FfUpFwdIdeal.τ).loc Cert.FfUpFwdIdeal.main_arg0)
      ∧ m' ((c.tc : Thread Cert.FfUpFwdRefIdeal.nD Cert.FfUpFwdRefIdeal.τ).loc Cert.FfUpFwdRefIdeal.main_arg1) = m ((c.tc : Thread Cert.FfUpFwdIdeal.nD Cert.FfUpFwdIdeal.τ).loc Cert.FfUpFwdIdeal.main_arg1)) →
    ∃ (v0 : (c : Dev Cert.FfUpFwdIdeal.nD) → Buf (Elt Ideal) ((c.tc : Thread Cert.FfUpFwdIdeal.nD Cert.FfUpFwdIdeal.τ).loc Cert.FfUpFwdIdeal.main_v1)),
      θ_run (Cert.FfUpFwdIdeal.defs (F := Ideal)) (onTc (τ := Cert.FfUpFwdIdeal.τ) (Cert.FfUpFwdIdeal.main (F := Ideal))) ⟨m, fun _ => 0, g⟩ (fun r => ∀ c : Dev Cert.FfUpFwdIdeal.nD,
          r.2.mem ((c.tc : Thread Cert.FfUpFwdIdeal.nD Cert.FfUpFwdIdeal.τ).loc Cert.FfUpFwdIdeal.main_v1) = v0 c
          ∧ r.2.mem ((c.tc : Thread Cert.FfUpFwdIdeal.nD Cert.FfUpFwdIdeal.τ).loc Cert.FfUpFwdIdeal.main_arg0) = m ((c.tc : Thread Cert.FfUpFwdIdeal.nD Cert.FfUpFwdIdeal.τ).loc Cert.FfUpFwdIdeal.main_arg0)
          ∧ r.2.mem ((c.tc : Thread Cert.FfUpFwdIdeal.nD Cert.FfUpFwdIdeal.τ).loc Cert.FfUpFwdIdeal.main_arg1) = m ((c.tc : Thread Cert.FfUpFwdIdeal.nD Cert.FfUpFwdIdeal.τ).loc Cert.FfUpFwdIdeal.main_arg1))
      ∧ θ_run (Cert.FfUpFwdRefIdeal.defs (F := Ideal)) (onTc (τ := Cert.FfUpFwdRefIdeal.τ) (Cert.FfUpFwdRefIdeal.main (F := Ideal))) ⟨m', fun _ => 0, g'⟩ (fun r => ∀ c : Dev Cert.FfUpFwdRefIdeal.nD,
          r.2.mem ((c.tc : Thread Cert.FfUpFwdRefIdeal.nD Cert.FfUpFwdRefIdeal.τ).loc Cert.FfUpFwdRefIdeal.main_v3) = v0 c
          ∧ r.2.mem ((c.tc : Thread Cert.FfUpFwdRefIdeal.nD Cert.FfUpFwdRefIdeal.τ).loc Cert.FfUpFwdRefIdeal.main_arg0) = m' ((c.tc : Thread Cert.FfUpFwdRefIdeal.nD Cert.FfUpFwdRefIdeal.τ).loc Cert.FfUpFwdRefIdeal.main_arg0)
          ∧ r.2.mem ((c.tc : Thread Cert.FfUpFwdRefIdeal.nD Cert.FfUpFwdRefIdeal.τ).loc Cert.FfUpFwdRefIdeal.main_arg1) = m' ((c.tc : Thread Cert.FfUpFwdRefIdeal.nD Cert.FfUpFwdRefIdeal.τ).loc Cert.FfUpFwdRefIdeal.main_arg1))

def preserves_FfUpDx_FfUpDxIdeal : Prop :=
  True

def algebraic_FfUpDxIdeal_FfUpDxRefIdeal [hFfUpDxIdeal : Cert.FfUpDxIdeal.Facts] [hFfUpDxRefIdeal : Cert.FfUpDxRefIdeal.Facts] : Prop :=
  ∀ (m : (ℓ : Loc Cert.FfUpDxIdeal.nD Cert.FfUpDxIdeal.τ Cert.FfUpDxIdeal.sig) → Buf (Elt Ideal) ℓ) (g : Dev Cert.FfUpDxIdeal.nD → PrngReg)
    (m' : (ℓ : Loc Cert.FfUpDxRefIdeal.nD Cert.FfUpDxRefIdeal.τ Cert.FfUpDxRefIdeal.sig) → Buf (Elt Ideal) ℓ) (g' : Dev Cert.FfUpDxRefIdeal.nD → PrngReg), Pre_FfUpDxIdeal m →
    (∀ c : Dev Cert.FfUpDxIdeal.nD,
      m' ((c.tc : Thread Cert.FfUpDxRefIdeal.nD Cert.FfUpDxRefIdeal.τ).loc Cert.FfUpDxRefIdeal.main_arg0) = m ((c.tc : Thread Cert.FfUpDxIdeal.nD Cert.FfUpDxIdeal.τ).loc Cert.FfUpDxIdeal.main_arg0)
      ∧ m' ((c.tc : Thread Cert.FfUpDxRefIdeal.nD Cert.FfUpDxRefIdeal.τ).loc Cert.FfUpDxRefIdeal.main_arg1) = m ((c.tc : Thread Cert.FfUpDxIdeal.nD Cert.FfUpDxIdeal.τ).loc Cert.FfUpDxIdeal.main_arg1)) →
    ∃ (v0 : (c : Dev Cert.FfUpDxIdeal.nD) → Buf (Elt Ideal) ((c.tc : Thread Cert.FfUpDxIdeal.nD Cert.FfUpDxIdeal.τ).loc Cert.FfUpDxIdeal.main_v1)),
      θ_run (Cert.FfUpDxIdeal.defs (F := Ideal)) (onTc (τ := Cert.FfUpDxIdeal.τ) (Cert.FfUpDxIdeal.main (F := Ideal))) ⟨m, fun _ => 0, g⟩ (fun r => ∀ c : Dev Cert.FfUpDxIdeal.nD,
          r.2.mem ((c.tc : Thread Cert.FfUpDxIdeal.nD Cert.FfUpDxIdeal.τ).loc Cert.FfUpDxIdeal.main_v1) = v0 c
          ∧ r.2.mem ((c.tc : Thread Cert.FfUpDxIdeal.nD Cert.FfUpDxIdeal.τ).loc Cert.FfUpDxIdeal.main_arg0) = m ((c.tc : Thread Cert.FfUpDxIdeal.nD Cert.FfUpDxIdeal.τ).loc Cert.FfUpDxIdeal.main_arg0)
          ∧ r.2.mem ((c.tc : Thread Cert.FfUpDxIdeal.nD Cert.FfUpDxIdeal.τ).loc Cert.FfUpDxIdeal.main_arg1) = m ((c.tc : Thread Cert.FfUpDxIdeal.nD Cert.FfUpDxIdeal.τ).loc Cert.FfUpDxIdeal.main_arg1))
      ∧ θ_run (Cert.FfUpDxRefIdeal.defs (F := Ideal)) (onTc (τ := Cert.FfUpDxRefIdeal.τ) (Cert.FfUpDxRefIdeal.main (F := Ideal))) ⟨m', fun _ => 0, g'⟩ (fun r => ∀ c : Dev Cert.FfUpDxRefIdeal.nD,
          r.2.mem ((c.tc : Thread Cert.FfUpDxRefIdeal.nD Cert.FfUpDxRefIdeal.τ).loc Cert.FfUpDxRefIdeal.main_v6) = v0 c
          ∧ r.2.mem ((c.tc : Thread Cert.FfUpDxRefIdeal.nD Cert.FfUpDxRefIdeal.τ).loc Cert.FfUpDxRefIdeal.main_arg0) = m' ((c.tc : Thread Cert.FfUpDxRefIdeal.nD Cert.FfUpDxRefIdeal.τ).loc Cert.FfUpDxRefIdeal.main_arg0)
          ∧ r.2.mem ((c.tc : Thread Cert.FfUpDxRefIdeal.nD Cert.FfUpDxRefIdeal.τ).loc Cert.FfUpDxRefIdeal.main_arg1) = m' ((c.tc : Thread Cert.FfUpDxRefIdeal.nD Cert.FfUpDxRefIdeal.τ).loc Cert.FfUpDxRefIdeal.main_arg1))

def preserves_FfUpDw_FfUpDwIdeal : Prop :=
  True

def algebraic_FfUpDwIdeal_FfUpDwRefIdeal [hFfUpDwIdeal : Cert.FfUpDwIdeal.Facts] [hFfUpDwRefIdeal : Cert.FfUpDwRefIdeal.Facts] : Prop :=
  ∀ (m : (ℓ : Loc Cert.FfUpDwIdeal.nD Cert.FfUpDwIdeal.τ Cert.FfUpDwIdeal.sig) → Buf (Elt Ideal) ℓ) (g : Dev Cert.FfUpDwIdeal.nD → PrngReg)
    (m' : (ℓ : Loc Cert.FfUpDwRefIdeal.nD Cert.FfUpDwRefIdeal.τ Cert.FfUpDwRefIdeal.sig) → Buf (Elt Ideal) ℓ) (g' : Dev Cert.FfUpDwRefIdeal.nD → PrngReg), Pre_FfUpDwIdeal m →
    (∀ c : Dev Cert.FfUpDwIdeal.nD,
      m' ((c.tc : Thread Cert.FfUpDwRefIdeal.nD Cert.FfUpDwRefIdeal.τ).loc Cert.FfUpDwRefIdeal.main_arg0) = m ((c.tc : Thread Cert.FfUpDwIdeal.nD Cert.FfUpDwIdeal.τ).loc Cert.FfUpDwIdeal.main_arg0)
      ∧ m' ((c.tc : Thread Cert.FfUpDwRefIdeal.nD Cert.FfUpDwRefIdeal.τ).loc Cert.FfUpDwRefIdeal.main_arg1) = m ((c.tc : Thread Cert.FfUpDwIdeal.nD Cert.FfUpDwIdeal.τ).loc Cert.FfUpDwIdeal.main_arg1)) →
    ∃ (v0 : (c : Dev Cert.FfUpDwIdeal.nD) → Buf (Elt Ideal) ((c.tc : Thread Cert.FfUpDwIdeal.nD Cert.FfUpDwIdeal.τ).loc Cert.FfUpDwIdeal.main_v2)),
      θ_run (Cert.FfUpDwIdeal.defs (F := Ideal)) (onTc (τ := Cert.FfUpDwIdeal.τ) (Cert.FfUpDwIdeal.main (F := Ideal))) ⟨m, fun _ => 0, g⟩ (fun r => ∀ c : Dev Cert.FfUpDwIdeal.nD,
          r.2.mem ((c.tc : Thread Cert.FfUpDwIdeal.nD Cert.FfUpDwIdeal.τ).loc Cert.FfUpDwIdeal.main_v2) = v0 c
          ∧ r.2.mem ((c.tc : Thread Cert.FfUpDwIdeal.nD Cert.FfUpDwIdeal.τ).loc Cert.FfUpDwIdeal.main_arg0) = m ((c.tc : Thread Cert.FfUpDwIdeal.nD Cert.FfUpDwIdeal.τ).loc Cert.FfUpDwIdeal.main_arg0)
          ∧ r.2.mem ((c.tc : Thread Cert.FfUpDwIdeal.nD Cert.FfUpDwIdeal.τ).loc Cert.FfUpDwIdeal.main_arg1) = m ((c.tc : Thread Cert.FfUpDwIdeal.nD Cert.FfUpDwIdeal.τ).loc Cert.FfUpDwIdeal.main_arg1))
      ∧ θ_run (Cert.FfUpDwRefIdeal.defs (F := Ideal)) (onTc (τ := Cert.FfUpDwRefIdeal.τ) (Cert.FfUpDwRefIdeal.main (F := Ideal))) ⟨m', fun _ => 0, g'⟩ (fun r => ∀ c : Dev Cert.FfUpDwRefIdeal.nD,
          r.2.mem ((c.tc : Thread Cert.FfUpDwRefIdeal.nD Cert.FfUpDwRefIdeal.τ).loc Cert.FfUpDwRefIdeal.main_v6) = v0 c
          ∧ r.2.mem ((c.tc : Thread Cert.FfUpDwRefIdeal.nD Cert.FfUpDwRefIdeal.τ).loc Cert.FfUpDwRefIdeal.main_arg0) = m' ((c.tc : Thread Cert.FfUpDwRefIdeal.nD Cert.FfUpDwRefIdeal.τ).loc Cert.FfUpDwRefIdeal.main_arg0)
          ∧ r.2.mem ((c.tc : Thread Cert.FfUpDwRefIdeal.nD Cert.FfUpDwRefIdeal.τ).loc Cert.FfUpDwRefIdeal.main_arg1) = m' ((c.tc : Thread Cert.FfUpDwRefIdeal.nD Cert.FfUpDwRefIdeal.τ).loc Cert.FfUpDwRefIdeal.main_arg1))

def preserves_FfDownFwd_FfDownFwdIdeal : Prop :=
  True

def algebraic_FfDownFwdIdeal_FfDownFwdRefIdeal [hFfDownFwdIdeal : Cert.FfDownFwdIdeal.Facts] [hFfDownFwdRefIdeal : Cert.FfDownFwdRefIdeal.Facts] : Prop :=
  ∀ (m : (ℓ : Loc Cert.FfDownFwdIdeal.nD Cert.FfDownFwdIdeal.τ Cert.FfDownFwdIdeal.sig) → Buf (Elt Ideal) ℓ) (g : Dev Cert.FfDownFwdIdeal.nD → PrngReg)
    (m' : (ℓ : Loc Cert.FfDownFwdRefIdeal.nD Cert.FfDownFwdRefIdeal.τ Cert.FfDownFwdRefIdeal.sig) → Buf (Elt Ideal) ℓ) (g' : Dev Cert.FfDownFwdRefIdeal.nD → PrngReg), Pre_FfDownFwdIdeal m →
    (∀ c : Dev Cert.FfDownFwdIdeal.nD,
      m' ((c.tc : Thread Cert.FfDownFwdRefIdeal.nD Cert.FfDownFwdRefIdeal.τ).loc Cert.FfDownFwdRefIdeal.main_arg0) = m ((c.tc : Thread Cert.FfDownFwdIdeal.nD Cert.FfDownFwdIdeal.τ).loc Cert.FfDownFwdIdeal.main_arg0)
      ∧ m' ((c.tc : Thread Cert.FfDownFwdRefIdeal.nD Cert.FfDownFwdRefIdeal.τ).loc Cert.FfDownFwdRefIdeal.main_arg1) = m ((c.tc : Thread Cert.FfDownFwdIdeal.nD Cert.FfDownFwdIdeal.τ).loc Cert.FfDownFwdIdeal.main_arg1)) →
    ∃ (v0 : (c : Dev Cert.FfDownFwdIdeal.nD) → Buf (Elt Ideal) ((c.tc : Thread Cert.FfDownFwdIdeal.nD Cert.FfDownFwdIdeal.τ).loc Cert.FfDownFwdIdeal.main_v1)),
      θ_run (Cert.FfDownFwdIdeal.defs (F := Ideal)) (onTc (τ := Cert.FfDownFwdIdeal.τ) (Cert.FfDownFwdIdeal.main (F := Ideal))) ⟨m, fun _ => 0, g⟩ (fun r => ∀ c : Dev Cert.FfDownFwdIdeal.nD,
          r.2.mem ((c.tc : Thread Cert.FfDownFwdIdeal.nD Cert.FfDownFwdIdeal.τ).loc Cert.FfDownFwdIdeal.main_v1) = v0 c
          ∧ r.2.mem ((c.tc : Thread Cert.FfDownFwdIdeal.nD Cert.FfDownFwdIdeal.τ).loc Cert.FfDownFwdIdeal.main_arg0) = m ((c.tc : Thread Cert.FfDownFwdIdeal.nD Cert.FfDownFwdIdeal.τ).loc Cert.FfDownFwdIdeal.main_arg0)
          ∧ r.2.mem ((c.tc : Thread Cert.FfDownFwdIdeal.nD Cert.FfDownFwdIdeal.τ).loc Cert.FfDownFwdIdeal.main_arg1) = m ((c.tc : Thread Cert.FfDownFwdIdeal.nD Cert.FfDownFwdIdeal.τ).loc Cert.FfDownFwdIdeal.main_arg1))
      ∧ θ_run (Cert.FfDownFwdRefIdeal.defs (F := Ideal)) (onTc (τ := Cert.FfDownFwdRefIdeal.τ) (Cert.FfDownFwdRefIdeal.main (F := Ideal))) ⟨m', fun _ => 0, g'⟩ (fun r => ∀ c : Dev Cert.FfDownFwdRefIdeal.nD,
          r.2.mem ((c.tc : Thread Cert.FfDownFwdRefIdeal.nD Cert.FfDownFwdRefIdeal.τ).loc Cert.FfDownFwdRefIdeal.main_v3) = v0 c
          ∧ r.2.mem ((c.tc : Thread Cert.FfDownFwdRefIdeal.nD Cert.FfDownFwdRefIdeal.τ).loc Cert.FfDownFwdRefIdeal.main_arg0) = m' ((c.tc : Thread Cert.FfDownFwdRefIdeal.nD Cert.FfDownFwdRefIdeal.τ).loc Cert.FfDownFwdRefIdeal.main_arg0)
          ∧ r.2.mem ((c.tc : Thread Cert.FfDownFwdRefIdeal.nD Cert.FfDownFwdRefIdeal.τ).loc Cert.FfDownFwdRefIdeal.main_arg1) = m' ((c.tc : Thread Cert.FfDownFwdRefIdeal.nD Cert.FfDownFwdRefIdeal.τ).loc Cert.FfDownFwdRefIdeal.main_arg1))

def preserves_FfDownDx_FfDownDxIdeal : Prop :=
  True

def algebraic_FfDownDxIdeal_FfDownDxRefIdeal [hFfDownDxIdeal : Cert.FfDownDxIdeal.Facts] [hFfDownDxRefIdeal : Cert.FfDownDxRefIdeal.Facts] : Prop :=
  ∀ (m : (ℓ : Loc Cert.FfDownDxIdeal.nD Cert.FfDownDxIdeal.τ Cert.FfDownDxIdeal.sig) → Buf (Elt Ideal) ℓ) (g : Dev Cert.FfDownDxIdeal.nD → PrngReg)
    (m' : (ℓ : Loc Cert.FfDownDxRefIdeal.nD Cert.FfDownDxRefIdeal.τ Cert.FfDownDxRefIdeal.sig) → Buf (Elt Ideal) ℓ) (g' : Dev Cert.FfDownDxRefIdeal.nD → PrngReg), Pre_FfDownDxIdeal m →
    (∀ c : Dev Cert.FfDownDxIdeal.nD,
      m' ((c.tc : Thread Cert.FfDownDxRefIdeal.nD Cert.FfDownDxRefIdeal.τ).loc Cert.FfDownDxRefIdeal.main_arg0) = m ((c.tc : Thread Cert.FfDownDxIdeal.nD Cert.FfDownDxIdeal.τ).loc Cert.FfDownDxIdeal.main_arg0)
      ∧ m' ((c.tc : Thread Cert.FfDownDxRefIdeal.nD Cert.FfDownDxRefIdeal.τ).loc Cert.FfDownDxRefIdeal.main_arg1) = m ((c.tc : Thread Cert.FfDownDxIdeal.nD Cert.FfDownDxIdeal.τ).loc Cert.FfDownDxIdeal.main_arg1)) →
    ∃ (v0 : (c : Dev Cert.FfDownDxIdeal.nD) → Buf (Elt Ideal) ((c.tc : Thread Cert.FfDownDxIdeal.nD Cert.FfDownDxIdeal.τ).loc Cert.FfDownDxIdeal.main_v1)),
      θ_run (Cert.FfDownDxIdeal.defs (F := Ideal)) (onTc (τ := Cert.FfDownDxIdeal.τ) (Cert.FfDownDxIdeal.main (F := Ideal))) ⟨m, fun _ => 0, g⟩ (fun r => ∀ c : Dev Cert.FfDownDxIdeal.nD,
          r.2.mem ((c.tc : Thread Cert.FfDownDxIdeal.nD Cert.FfDownDxIdeal.τ).loc Cert.FfDownDxIdeal.main_v1) = v0 c
          ∧ r.2.mem ((c.tc : Thread Cert.FfDownDxIdeal.nD Cert.FfDownDxIdeal.τ).loc Cert.FfDownDxIdeal.main_arg0) = m ((c.tc : Thread Cert.FfDownDxIdeal.nD Cert.FfDownDxIdeal.τ).loc Cert.FfDownDxIdeal.main_arg0)
          ∧ r.2.mem ((c.tc : Thread Cert.FfDownDxIdeal.nD Cert.FfDownDxIdeal.τ).loc Cert.FfDownDxIdeal.main_arg1) = m ((c.tc : Thread Cert.FfDownDxIdeal.nD Cert.FfDownDxIdeal.τ).loc Cert.FfDownDxIdeal.main_arg1))
      ∧ θ_run (Cert.FfDownDxRefIdeal.defs (F := Ideal)) (onTc (τ := Cert.FfDownDxRefIdeal.τ) (Cert.FfDownDxRefIdeal.main (F := Ideal))) ⟨m', fun _ => 0, g'⟩ (fun r => ∀ c : Dev Cert.FfDownDxRefIdeal.nD,
          r.2.mem ((c.tc : Thread Cert.FfDownDxRefIdeal.nD Cert.FfDownDxRefIdeal.τ).loc Cert.FfDownDxRefIdeal.main_v6) = v0 c
          ∧ r.2.mem ((c.tc : Thread Cert.FfDownDxRefIdeal.nD Cert.FfDownDxRefIdeal.τ).loc Cert.FfDownDxRefIdeal.main_arg0) = m' ((c.tc : Thread Cert.FfDownDxRefIdeal.nD Cert.FfDownDxRefIdeal.τ).loc Cert.FfDownDxRefIdeal.main_arg0)
          ∧ r.2.mem ((c.tc : Thread Cert.FfDownDxRefIdeal.nD Cert.FfDownDxRefIdeal.τ).loc Cert.FfDownDxRefIdeal.main_arg1) = m' ((c.tc : Thread Cert.FfDownDxRefIdeal.nD Cert.FfDownDxRefIdeal.τ).loc Cert.FfDownDxRefIdeal.main_arg1))

def preserves_FfDownDw_FfDownDwIdeal : Prop :=
  True

def algebraic_FfDownDwIdeal_FfDownDwRefIdeal [hFfDownDwIdeal : Cert.FfDownDwIdeal.Facts] [hFfDownDwRefIdeal : Cert.FfDownDwRefIdeal.Facts] : Prop :=
  ∀ (m : (ℓ : Loc Cert.FfDownDwIdeal.nD Cert.FfDownDwIdeal.τ Cert.FfDownDwIdeal.sig) → Buf (Elt Ideal) ℓ) (g : Dev Cert.FfDownDwIdeal.nD → PrngReg)
    (m' : (ℓ : Loc Cert.FfDownDwRefIdeal.nD Cert.FfDownDwRefIdeal.τ Cert.FfDownDwRefIdeal.sig) → Buf (Elt Ideal) ℓ) (g' : Dev Cert.FfDownDwRefIdeal.nD → PrngReg), Pre_FfDownDwIdeal m →
    (∀ c : Dev Cert.FfDownDwIdeal.nD,
      m' ((c.tc : Thread Cert.FfDownDwRefIdeal.nD Cert.FfDownDwRefIdeal.τ).loc Cert.FfDownDwRefIdeal.main_arg0) = m ((c.tc : Thread Cert.FfDownDwIdeal.nD Cert.FfDownDwIdeal.τ).loc Cert.FfDownDwIdeal.main_arg0)
      ∧ m' ((c.tc : Thread Cert.FfDownDwRefIdeal.nD Cert.FfDownDwRefIdeal.τ).loc Cert.FfDownDwRefIdeal.main_arg1) = m ((c.tc : Thread Cert.FfDownDwIdeal.nD Cert.FfDownDwIdeal.τ).loc Cert.FfDownDwIdeal.main_arg1)) →
    ∃ (v0 : (c : Dev Cert.FfDownDwIdeal.nD) → Buf (Elt Ideal) ((c.tc : Thread Cert.FfDownDwIdeal.nD Cert.FfDownDwIdeal.τ).loc Cert.FfDownDwIdeal.main_v2)),
      θ_run (Cert.FfDownDwIdeal.defs (F := Ideal)) (onTc (τ := Cert.FfDownDwIdeal.τ) (Cert.FfDownDwIdeal.main (F := Ideal))) ⟨m, fun _ => 0, g⟩ (fun r => ∀ c : Dev Cert.FfDownDwIdeal.nD,
          r.2.mem ((c.tc : Thread Cert.FfDownDwIdeal.nD Cert.FfDownDwIdeal.τ).loc Cert.FfDownDwIdeal.main_v2) = v0 c
          ∧ r.2.mem ((c.tc : Thread Cert.FfDownDwIdeal.nD Cert.FfDownDwIdeal.τ).loc Cert.FfDownDwIdeal.main_arg0) = m ((c.tc : Thread Cert.FfDownDwIdeal.nD Cert.FfDownDwIdeal.τ).loc Cert.FfDownDwIdeal.main_arg0)
          ∧ r.2.mem ((c.tc : Thread Cert.FfDownDwIdeal.nD Cert.FfDownDwIdeal.τ).loc Cert.FfDownDwIdeal.main_arg1) = m ((c.tc : Thread Cert.FfDownDwIdeal.nD Cert.FfDownDwIdeal.τ).loc Cert.FfDownDwIdeal.main_arg1))
      ∧ θ_run (Cert.FfDownDwRefIdeal.defs (F := Ideal)) (onTc (τ := Cert.FfDownDwRefIdeal.τ) (Cert.FfDownDwRefIdeal.main (F := Ideal))) ⟨m', fun _ => 0, g'⟩ (fun r => ∀ c : Dev Cert.FfDownDwRefIdeal.nD,
          r.2.mem ((c.tc : Thread Cert.FfDownDwRefIdeal.nD Cert.FfDownDwRefIdeal.τ).loc Cert.FfDownDwRefIdeal.main_v6) = v0 c
          ∧ r.2.mem ((c.tc : Thread Cert.FfDownDwRefIdeal.nD Cert.FfDownDwRefIdeal.τ).loc Cert.FfDownDwRefIdeal.main_arg0) = m' ((c.tc : Thread Cert.FfDownDwRefIdeal.nD Cert.FfDownDwRefIdeal.τ).loc Cert.FfDownDwRefIdeal.main_arg0)
          ∧ r.2.mem ((c.tc : Thread Cert.FfDownDwRefIdeal.nD Cert.FfDownDwRefIdeal.τ).loc Cert.FfDownDwRefIdeal.main_arg1) = m' ((c.tc : Thread Cert.FfDownDwRefIdeal.nD Cert.FfDownDwRefIdeal.τ).loc Cert.FfDownDwRefIdeal.main_arg1))

def preserves_AdamAdaW_AdamAdaWIdeal : Prop :=
  True

def algebraic_AdamAdaWIdeal_AdamAdaWRefIdeal [hAdamAdaWIdeal : Cert.AdamAdaWIdeal.Facts] [hAdamAdaWRefIdeal : Cert.AdamAdaWRefIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg)
    (m' : (ℓ : Loc Cert.AdamAdaWRefIdeal.nD Cert.AdamAdaWRefIdeal.τ Cert.AdamAdaWRefIdeal.sig) → Buf (Elt Ideal) ℓ) (g' : Dev Cert.AdamAdaWRefIdeal.nD → PrngReg), Pre_AdamAdaWIdeal m →
    (∀ c : Dev Cert.AdamAdaWIdeal.nD,
      m' ((c.tc : Thread Cert.AdamAdaWRefIdeal.nD Cert.AdamAdaWRefIdeal.τ).loc Cert.AdamAdaWRefIdeal.main_arg0) = m ((c.tc : Thread Cert.AdamAdaWIdeal.nD Cert.AdamAdaWIdeal.τ).loc Cert.AdamAdaWIdeal.main_arg0)
      ∧ m' ((c.tc : Thread Cert.AdamAdaWRefIdeal.nD Cert.AdamAdaWRefIdeal.τ).loc Cert.AdamAdaWRefIdeal.main_arg1) = m ((c.tc : Thread Cert.AdamAdaWIdeal.nD Cert.AdamAdaWIdeal.τ).loc Cert.AdamAdaWIdeal.main_arg1)
      ∧ m' ((c.tc : Thread Cert.AdamAdaWRefIdeal.nD Cert.AdamAdaWRefIdeal.τ).loc Cert.AdamAdaWRefIdeal.main_arg2) = m ((c.tc : Thread Cert.AdamAdaWIdeal.nD Cert.AdamAdaWIdeal.τ).loc Cert.AdamAdaWIdeal.main_arg2)
      ∧ m' ((c.tc : Thread Cert.AdamAdaWRefIdeal.nD Cert.AdamAdaWRefIdeal.τ).loc Cert.AdamAdaWRefIdeal.main_arg3) = m ((c.tc : Thread Cert.AdamAdaWIdeal.nD Cert.AdamAdaWIdeal.τ).loc Cert.AdamAdaWIdeal.main_arg3)) →
    ∃ (v0 : (c : Dev Cert.AdamAdaWIdeal.nD) → Buf (Elt Ideal) ((c.tc : Thread Cert.AdamAdaWIdeal.nD Cert.AdamAdaWIdeal.τ).loc Cert.AdamAdaWIdeal.main_v4_0)) (v1 : (c : Dev Cert.AdamAdaWIdeal.nD) → Buf (Elt Ideal) ((c.tc : Thread Cert.AdamAdaWIdeal.nD Cert.AdamAdaWIdeal.τ).loc Cert.AdamAdaWIdeal.main_v4_1)) (v2 : (c : Dev Cert.AdamAdaWIdeal.nD) → Buf (Elt Ideal) ((c.tc : Thread Cert.AdamAdaWIdeal.nD Cert.AdamAdaWIdeal.τ).loc Cert.AdamAdaWIdeal.main_v4_2)),
      θ_run (Cert.AdamAdaWIdeal.defs (F := Ideal)) (onTc (τ := Cert.AdamAdaWIdeal.τ) (Cert.AdamAdaWIdeal.main (F := Ideal))) ⟨m, fun _ => 0, g⟩ (fun r => ∀ c : Dev Cert.AdamAdaWIdeal.nD,
          r.2.mem ((c.tc : Thread Cert.AdamAdaWIdeal.nD Cert.AdamAdaWIdeal.τ).loc Cert.AdamAdaWIdeal.main_v4_0) = v0 c
          ∧ r.2.mem ((c.tc : Thread Cert.AdamAdaWIdeal.nD Cert.AdamAdaWIdeal.τ).loc Cert.AdamAdaWIdeal.main_v4_1) = v1 c
          ∧ r.2.mem ((c.tc : Thread Cert.AdamAdaWIdeal.nD Cert.AdamAdaWIdeal.τ).loc Cert.AdamAdaWIdeal.main_v4_2) = v2 c
          ∧ r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
          ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
          ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
          ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ θ_run (Cert.AdamAdaWRefIdeal.defs (F := Ideal)) (onTc (τ := Cert.AdamAdaWRefIdeal.τ) (Cert.AdamAdaWRefIdeal.main (F := Ideal))) ⟨m', fun _ => 0, g'⟩ (fun r => ∀ c : Dev Cert.AdamAdaWRefIdeal.nD,
          r.2.mem ((c.tc : Thread Cert.AdamAdaWRefIdeal.nD Cert.AdamAdaWRefIdeal.τ).loc Cert.AdamAdaWRefIdeal.main_v24) = v0 c
          ∧ r.2.mem ((c.tc : Thread Cert.AdamAdaWRefIdeal.nD Cert.AdamAdaWRefIdeal.τ).loc Cert.AdamAdaWRefIdeal.main_v25) = v1 c
          ∧ r.2.mem ((c.tc : Thread Cert.AdamAdaWRefIdeal.nD Cert.AdamAdaWRefIdeal.τ).loc Cert.AdamAdaWRefIdeal.main_v26) = v2 c
          ∧ r.2.mem ((c.tc : Thread Cert.AdamAdaWRefIdeal.nD Cert.AdamAdaWRefIdeal.τ).loc Cert.AdamAdaWRefIdeal.main_arg0) = m' ((c.tc : Thread Cert.AdamAdaWRefIdeal.nD Cert.AdamAdaWRefIdeal.τ).loc Cert.AdamAdaWRefIdeal.main_arg0)
          ∧ r.2.mem ((c.tc : Thread Cert.AdamAdaWRefIdeal.nD Cert.AdamAdaWRefIdeal.τ).loc Cert.AdamAdaWRefIdeal.main_arg1) = m' ((c.tc : Thread Cert.AdamAdaWRefIdeal.nD Cert.AdamAdaWRefIdeal.τ).loc Cert.AdamAdaWRefIdeal.main_arg1)
          ∧ r.2.mem ((c.tc : Thread Cert.AdamAdaWRefIdeal.nD Cert.AdamAdaWRefIdeal.τ).loc Cert.AdamAdaWRefIdeal.main_arg2) = m' ((c.tc : Thread Cert.AdamAdaWRefIdeal.nD Cert.AdamAdaWRefIdeal.τ).loc Cert.AdamAdaWRefIdeal.main_arg2)
          ∧ r.2.mem ((c.tc : Thread Cert.AdamAdaWRefIdeal.nD Cert.AdamAdaWRefIdeal.τ).loc Cert.AdamAdaWRefIdeal.main_arg3) = m' ((c.tc : Thread Cert.AdamAdaWRefIdeal.nD Cert.AdamAdaWRefIdeal.τ).loc Cert.AdamAdaWRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v4_0)) (v1 : (c : Dev Cert.AdamWInIdeal.nD) → Buf (Elt Ideal) ((c.tc : Thread Cert.AdamWInIdeal.nD Cert.AdamWInIdeal.τ).loc Cert.AdamWInIdeal.main_v4_1)) (v2 : (c : Dev Cert.AdamWInIdeal.nD) → Buf (Elt Ideal) ((c.tc : Thread Cert.AdamWInIdeal.nD Cert.AdamWInIdeal.τ).loc Cert.AdamWInIdeal.main_v4_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v4_0) = v0 c
          ∧ r.2.mem ((c.tc : Thread Cert.AdamWInIdeal.nD Cert.AdamWInIdeal.τ).loc Cert.AdamWInIdeal.main_v4_1) = v1 c
          ∧ r.2.mem ((c.tc : Thread Cert.AdamWInIdeal.nD Cert.AdamWInIdeal.τ).loc Cert.AdamWInIdeal.main_v4_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v24) = v0 c
          ∧ r.2.mem ((c.tc : Thread Cert.AdamWInRefIdeal.nD Cert.AdamWInRefIdeal.τ).loc Cert.AdamWInRefIdeal.main_v25) = v1 c
          ∧ r.2.mem ((c.tc : Thread Cert.AdamWInRefIdeal.nD Cert.AdamWInRefIdeal.τ).loc Cert.AdamWInRefIdeal.main_v26) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v4_0)) (v1 : (c : Dev Cert.AdamWOutIdeal.nD) → Buf (Elt Ideal) ((c.tc : Thread Cert.AdamWOutIdeal.nD Cert.AdamWOutIdeal.τ).loc Cert.AdamWOutIdeal.main_v4_1)) (v2 : (c : Dev Cert.AdamWOutIdeal.nD) → Buf (Elt Ideal) ((c.tc : Thread Cert.AdamWOutIdeal.nD Cert.AdamWOutIdeal.τ).loc Cert.AdamWOutIdeal.main_v4_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v4_0) = v0 c
          ∧ r.2.mem ((c.tc : Thread Cert.AdamWOutIdeal.nD Cert.AdamWOutIdeal.τ).loc Cert.AdamWOutIdeal.main_v4_1) = v1 c
          ∧ r.2.mem ((c.tc : Thread Cert.AdamWOutIdeal.nD Cert.AdamWOutIdeal.τ).loc Cert.AdamWOutIdeal.main_v4_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v24) = v0 c
          ∧ r.2.mem ((c.tc : Thread Cert.AdamWOutRefIdeal.nD Cert.AdamWOutRefIdeal.τ).loc Cert.AdamWOutRefIdeal.main_v25) = v1 c
          ∧ r.2.mem ((c.tc : Thread Cert.AdamWOutRefIdeal.nD Cert.AdamWOutRefIdeal.τ).loc Cert.AdamWOutRefIdeal.main_v26) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamFfUp_AdamFfUpIdeal : Prop :=
  True

def algebraic_AdamFfUpIdeal_AdamFfUpRefIdeal [hAdamFfUpIdeal : Cert.AdamFfUpIdeal.Facts] [hAdamFfUpRefIdeal : Cert.AdamFfUpRefIdeal.Facts] : Prop :=
  ∀ (m : (ℓ : Loc Cert.AdamFfUpIdeal.nD Cert.AdamFfUpIdeal.τ Cert.AdamFfUpIdeal.sig) → Buf (Elt Ideal) ℓ) (g : Dev Cert.AdamFfUpIdeal.nD → PrngReg)
    (m' : (ℓ : Loc Cert.AdamFfUpRefIdeal.nD Cert.AdamFfUpRefIdeal.τ Cert.AdamFfUpRefIdeal.sig) → Buf (Elt Ideal) ℓ) (g' : Dev Cert.AdamFfUpRefIdeal.nD → PrngReg), Pre_AdamFfUpIdeal m →
    (∀ c : Dev Cert.AdamFfUpIdeal.nD,
      m' ((c.tc : Thread Cert.AdamFfUpRefIdeal.nD Cert.AdamFfUpRefIdeal.τ).loc Cert.AdamFfUpRefIdeal.main_arg0) = m ((c.tc : Thread Cert.AdamFfUpIdeal.nD Cert.AdamFfUpIdeal.τ).loc Cert.AdamFfUpIdeal.main_arg0)
      ∧ m' ((c.tc : Thread Cert.AdamFfUpRefIdeal.nD Cert.AdamFfUpRefIdeal.τ).loc Cert.AdamFfUpRefIdeal.main_arg1) = m ((c.tc : Thread Cert.AdamFfUpIdeal.nD Cert.AdamFfUpIdeal.τ).loc Cert.AdamFfUpIdeal.main_arg1)
      ∧ m' ((c.tc : Thread Cert.AdamFfUpRefIdeal.nD Cert.AdamFfUpRefIdeal.τ).loc Cert.AdamFfUpRefIdeal.main_arg2) = m ((c.tc : Thread Cert.AdamFfUpIdeal.nD Cert.AdamFfUpIdeal.τ).loc Cert.AdamFfUpIdeal.main_arg2)
      ∧ m' ((c.tc : Thread Cert.AdamFfUpRefIdeal.nD Cert.AdamFfUpRefIdeal.τ).loc Cert.AdamFfUpRefIdeal.main_arg3) = m ((c.tc : Thread Cert.AdamFfUpIdeal.nD Cert.AdamFfUpIdeal.τ).loc Cert.AdamFfUpIdeal.main_arg3)) →
    ∃ (v0 : (c : Dev Cert.AdamFfUpIdeal.nD) → Buf (Elt Ideal) ((c.tc : Thread Cert.AdamFfUpIdeal.nD Cert.AdamFfUpIdeal.τ).loc Cert.AdamFfUpIdeal.main_v4_0)) (v1 : (c : Dev Cert.AdamFfUpIdeal.nD) → Buf (Elt Ideal) ((c.tc : Thread Cert.AdamFfUpIdeal.nD Cert.AdamFfUpIdeal.τ).loc Cert.AdamFfUpIdeal.main_v4_1)) (v2 : (c : Dev Cert.AdamFfUpIdeal.nD) → Buf (Elt Ideal) ((c.tc : Thread Cert.AdamFfUpIdeal.nD Cert.AdamFfUpIdeal.τ).loc Cert.AdamFfUpIdeal.main_v4_2)),
      θ_run (Cert.AdamFfUpIdeal.defs (F := Ideal)) (onTc (τ := Cert.AdamFfUpIdeal.τ) (Cert.AdamFfUpIdeal.main (F := Ideal))) ⟨m, fun _ => 0, g⟩ (fun r => ∀ c : Dev Cert.AdamFfUpIdeal.nD,
          r.2.mem ((c.tc : Thread Cert.AdamFfUpIdeal.nD Cert.AdamFfUpIdeal.τ).loc Cert.AdamFfUpIdeal.main_v4_0) = v0 c
          ∧ r.2.mem ((c.tc : Thread Cert.AdamFfUpIdeal.nD Cert.AdamFfUpIdeal.τ).loc Cert.AdamFfUpIdeal.main_v4_1) = v1 c
          ∧ r.2.mem ((c.tc : Thread Cert.AdamFfUpIdeal.nD Cert.AdamFfUpIdeal.τ).loc Cert.AdamFfUpIdeal.main_v4_2) = v2 c
          ∧ r.2.mem ((c.tc : Thread Cert.AdamFfUpIdeal.nD Cert.AdamFfUpIdeal.τ).loc Cert.AdamFfUpIdeal.main_arg0) = m ((c.tc : Thread Cert.AdamFfUpIdeal.nD Cert.AdamFfUpIdeal.τ).loc Cert.AdamFfUpIdeal.main_arg0)
          ∧ r.2.mem ((c.tc : Thread Cert.AdamFfUpIdeal.nD Cert.AdamFfUpIdeal.τ).loc Cert.AdamFfUpIdeal.main_arg1) = m ((c.tc : Thread Cert.AdamFfUpIdeal.nD Cert.AdamFfUpIdeal.τ).loc Cert.AdamFfUpIdeal.main_arg1)
          ∧ r.2.mem ((c.tc : Thread Cert.AdamFfUpIdeal.nD Cert.AdamFfUpIdeal.τ).loc Cert.AdamFfUpIdeal.main_arg2) = m ((c.tc : Thread Cert.AdamFfUpIdeal.nD Cert.AdamFfUpIdeal.τ).loc Cert.AdamFfUpIdeal.main_arg2)
          ∧ r.2.mem ((c.tc : Thread Cert.AdamFfUpIdeal.nD Cert.AdamFfUpIdeal.τ).loc Cert.AdamFfUpIdeal.main_arg3) = m ((c.tc : Thread Cert.AdamFfUpIdeal.nD Cert.AdamFfUpIdeal.τ).loc Cert.AdamFfUpIdeal.main_arg3))
      ∧ θ_run (Cert.AdamFfUpRefIdeal.defs (F := Ideal)) (onTc (τ := Cert.AdamFfUpRefIdeal.τ) (Cert.AdamFfUpRefIdeal.main (F := Ideal))) ⟨m', fun _ => 0, g'⟩ (fun r => ∀ c : Dev Cert.AdamFfUpRefIdeal.nD,
          r.2.mem ((c.tc : Thread Cert.AdamFfUpRefIdeal.nD Cert.AdamFfUpRefIdeal.τ).loc Cert.AdamFfUpRefIdeal.main_v24) = v0 c
          ∧ r.2.mem ((c.tc : Thread Cert.AdamFfUpRefIdeal.nD Cert.AdamFfUpRefIdeal.τ).loc Cert.AdamFfUpRefIdeal.main_v25) = v1 c
          ∧ r.2.mem ((c.tc : Thread Cert.AdamFfUpRefIdeal.nD Cert.AdamFfUpRefIdeal.τ).loc Cert.AdamFfUpRefIdeal.main_v26) = v2 c
          ∧ r.2.mem ((c.tc : Thread Cert.AdamFfUpRefIdeal.nD Cert.AdamFfUpRefIdeal.τ).loc Cert.AdamFfUpRefIdeal.main_arg0) = m' ((c.tc : Thread Cert.AdamFfUpRefIdeal.nD Cert.AdamFfUpRefIdeal.τ).loc Cert.AdamFfUpRefIdeal.main_arg0)
          ∧ r.2.mem ((c.tc : Thread Cert.AdamFfUpRefIdeal.nD Cert.AdamFfUpRefIdeal.τ).loc Cert.AdamFfUpRefIdeal.main_arg1) = m' ((c.tc : Thread Cert.AdamFfUpRefIdeal.nD Cert.AdamFfUpRefIdeal.τ).loc Cert.AdamFfUpRefIdeal.main_arg1)
          ∧ r.2.mem ((c.tc : Thread Cert.AdamFfUpRefIdeal.nD Cert.AdamFfUpRefIdeal.τ).loc Cert.AdamFfUpRefIdeal.main_arg2) = m' ((c.tc : Thread Cert.AdamFfUpRefIdeal.nD Cert.AdamFfUpRefIdeal.τ).loc Cert.AdamFfUpRefIdeal.main_arg2)
          ∧ r.2.mem ((c.tc : Thread Cert.AdamFfUpRefIdeal.nD Cert.AdamFfUpRefIdeal.τ).loc Cert.AdamFfUpRefIdeal.main_arg3) = m' ((c.tc : Thread Cert.AdamFfUpRefIdeal.nD Cert.AdamFfUpRefIdeal.τ).loc Cert.AdamFfUpRefIdeal.main_arg3))

def preserves_AdamFfDown_AdamFfDownIdeal : Prop :=
  True

def algebraic_AdamFfDownIdeal_AdamFfDownRefIdeal [hAdamFfDownIdeal : Cert.AdamFfDownIdeal.Facts] [hAdamFfDownRefIdeal : Cert.AdamFfDownRefIdeal.Facts] : Prop :=
  ∀ (m : (ℓ : Loc Cert.AdamFfDownIdeal.nD Cert.AdamFfDownIdeal.τ Cert.AdamFfDownIdeal.sig) → Buf (Elt Ideal) ℓ) (g : Dev Cert.AdamFfDownIdeal.nD → PrngReg)
    (m' : (ℓ : Loc Cert.AdamFfDownRefIdeal.nD Cert.AdamFfDownRefIdeal.τ Cert.AdamFfDownRefIdeal.sig) → Buf (Elt Ideal) ℓ) (g' : Dev Cert.AdamFfDownRefIdeal.nD → PrngReg), Pre_AdamFfDownIdeal m →
    (∀ c : Dev Cert.AdamFfDownIdeal.nD,
      m' ((c.tc : Thread Cert.AdamFfDownRefIdeal.nD Cert.AdamFfDownRefIdeal.τ).loc Cert.AdamFfDownRefIdeal.main_arg0) = m ((c.tc : Thread Cert.AdamFfDownIdeal.nD Cert.AdamFfDownIdeal.τ).loc Cert.AdamFfDownIdeal.main_arg0)
      ∧ m' ((c.tc : Thread Cert.AdamFfDownRefIdeal.nD Cert.AdamFfDownRefIdeal.τ).loc Cert.AdamFfDownRefIdeal.main_arg1) = m ((c.tc : Thread Cert.AdamFfDownIdeal.nD Cert.AdamFfDownIdeal.τ).loc Cert.AdamFfDownIdeal.main_arg1)
      ∧ m' ((c.tc : Thread Cert.AdamFfDownRefIdeal.nD Cert.AdamFfDownRefIdeal.τ).loc Cert.AdamFfDownRefIdeal.main_arg2) = m ((c.tc : Thread Cert.AdamFfDownIdeal.nD Cert.AdamFfDownIdeal.τ).loc Cert.AdamFfDownIdeal.main_arg2)
      ∧ m' ((c.tc : Thread Cert.AdamFfDownRefIdeal.nD Cert.AdamFfDownRefIdeal.τ).loc Cert.AdamFfDownRefIdeal.main_arg3) = m ((c.tc : Thread Cert.AdamFfDownIdeal.nD Cert.AdamFfDownIdeal.τ).loc Cert.AdamFfDownIdeal.main_arg3)) →
    ∃ (v0 : (c : Dev Cert.AdamFfDownIdeal.nD) → Buf (Elt Ideal) ((c.tc : Thread Cert.AdamFfDownIdeal.nD Cert.AdamFfDownIdeal.τ).loc Cert.AdamFfDownIdeal.main_v4_0)) (v1 : (c : Dev Cert.AdamFfDownIdeal.nD) → Buf (Elt Ideal) ((c.tc : Thread Cert.AdamFfDownIdeal.nD Cert.AdamFfDownIdeal.τ).loc Cert.AdamFfDownIdeal.main_v4_1)) (v2 : (c : Dev Cert.AdamFfDownIdeal.nD) → Buf (Elt Ideal) ((c.tc : Thread Cert.AdamFfDownIdeal.nD Cert.AdamFfDownIdeal.τ).loc Cert.AdamFfDownIdeal.main_v4_2)),
      θ_run (Cert.AdamFfDownIdeal.defs (F := Ideal)) (onTc (τ := Cert.AdamFfDownIdeal.τ) (Cert.AdamFfDownIdeal.main (F := Ideal))) ⟨m, fun _ => 0, g⟩ (fun r => ∀ c : Dev Cert.AdamFfDownIdeal.nD,
          r.2.mem ((c.tc : Thread Cert.AdamFfDownIdeal.nD Cert.AdamFfDownIdeal.τ).loc Cert.AdamFfDownIdeal.main_v4_0) = v0 c
          ∧ r.2.mem ((c.tc : Thread Cert.AdamFfDownIdeal.nD Cert.AdamFfDownIdeal.τ).loc Cert.AdamFfDownIdeal.main_v4_1) = v1 c
          ∧ r.2.mem ((c.tc : Thread Cert.AdamFfDownIdeal.nD Cert.AdamFfDownIdeal.τ).loc Cert.AdamFfDownIdeal.main_v4_2) = v2 c
          ∧ r.2.mem ((c.tc : Thread Cert.AdamFfDownIdeal.nD Cert.AdamFfDownIdeal.τ).loc Cert.AdamFfDownIdeal.main_arg0) = m ((c.tc : Thread Cert.AdamFfDownIdeal.nD Cert.AdamFfDownIdeal.τ).loc Cert.AdamFfDownIdeal.main_arg0)
          ∧ r.2.mem ((c.tc : Thread Cert.AdamFfDownIdeal.nD Cert.AdamFfDownIdeal.τ).loc Cert.AdamFfDownIdeal.main_arg1) = m ((c.tc : Thread Cert.AdamFfDownIdeal.nD Cert.AdamFfDownIdeal.τ).loc Cert.AdamFfDownIdeal.main_arg1)
          ∧ r.2.mem ((c.tc : Thread Cert.AdamFfDownIdeal.nD Cert.AdamFfDownIdeal.τ).loc Cert.AdamFfDownIdeal.main_arg2) = m ((c.tc : Thread Cert.AdamFfDownIdeal.nD Cert.AdamFfDownIdeal.τ).loc Cert.AdamFfDownIdeal.main_arg2)
          ∧ r.2.mem ((c.tc : Thread Cert.AdamFfDownIdeal.nD Cert.AdamFfDownIdeal.τ).loc Cert.AdamFfDownIdeal.main_arg3) = m ((c.tc : Thread Cert.AdamFfDownIdeal.nD Cert.AdamFfDownIdeal.τ).loc Cert.AdamFfDownIdeal.main_arg3))
      ∧ θ_run (Cert.AdamFfDownRefIdeal.defs (F := Ideal)) (onTc (τ := Cert.AdamFfDownRefIdeal.τ) (Cert.AdamFfDownRefIdeal.main (F := Ideal))) ⟨m', fun _ => 0, g'⟩ (fun r => ∀ c : Dev Cert.AdamFfDownRefIdeal.nD,
          r.2.mem ((c.tc : Thread Cert.AdamFfDownRefIdeal.nD Cert.AdamFfDownRefIdeal.τ).loc Cert.AdamFfDownRefIdeal.main_v24) = v0 c
          ∧ r.2.mem ((c.tc : Thread Cert.AdamFfDownRefIdeal.nD Cert.AdamFfDownRefIdeal.τ).loc Cert.AdamFfDownRefIdeal.main_v25) = v1 c
          ∧ r.2.mem ((c.tc : Thread Cert.AdamFfDownRefIdeal.nD Cert.AdamFfDownRefIdeal.τ).loc Cert.AdamFfDownRefIdeal.main_v26) = v2 c
          ∧ r.2.mem ((c.tc : Thread Cert.AdamFfDownRefIdeal.nD Cert.AdamFfDownRefIdeal.τ).loc Cert.AdamFfDownRefIdeal.main_arg0) = m' ((c.tc : Thread Cert.AdamFfDownRefIdeal.nD Cert.AdamFfDownRefIdeal.τ).loc Cert.AdamFfDownRefIdeal.main_arg0)
          ∧ r.2.mem ((c.tc : Thread Cert.AdamFfDownRefIdeal.nD Cert.AdamFfDownRefIdeal.τ).loc Cert.AdamFfDownRefIdeal.main_arg1) = m' ((c.tc : Thread Cert.AdamFfDownRefIdeal.nD Cert.AdamFfDownRefIdeal.τ).loc Cert.AdamFfDownRefIdeal.main_arg1)
          ∧ r.2.mem ((c.tc : Thread Cert.AdamFfDownRefIdeal.nD Cert.AdamFfDownRefIdeal.τ).loc Cert.AdamFfDownRefIdeal.main_arg2) = m' ((c.tc : Thread Cert.AdamFfDownRefIdeal.nD Cert.AdamFfDownRefIdeal.τ).loc Cert.AdamFfDownRefIdeal.main_arg2)
          ∧ r.2.mem ((c.tc : Thread Cert.AdamFfDownRefIdeal.nD Cert.AdamFfDownRefIdeal.τ).loc Cert.AdamFfDownRefIdeal.main_arg3) = m' ((c.tc : Thread Cert.AdamFfDownRefIdeal.nD Cert.AdamFfDownRefIdeal.τ).loc Cert.AdamFfDownRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v48) = v0 c
          ∧ r.2.mem ((c.tc : Thread Cert.AdaBwdRefIdeal.nD Cert.AdaBwdRefIdeal.τ).loc Cert.AdaBwdRefIdeal.main_v52) = v1 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v42) = v0 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)
      ∧ m' ((c.tc : Thread Cert.SmallSumRefIdeal.nD Cert.SmallSumRefIdeal.τ).loc Cert.SmallSumRefIdeal.main_arg1) = m ((c.tc : Thread Cert.SmallSumIdeal.nD Cert.SmallSumIdeal.τ).loc Cert.SmallSumIdeal.main_arg1)
      ∧ m' ((c.tc : Thread Cert.SmallSumRefIdeal.nD Cert.SmallSumRefIdeal.τ).loc Cert.SmallSumRefIdeal.main_arg2) = m ((c.tc : Thread Cert.SmallSumIdeal.nD Cert.SmallSumIdeal.τ).loc Cert.SmallSumIdeal.main_arg2)
      ∧ m' ((c.tc : Thread Cert.SmallSumRefIdeal.nD Cert.SmallSumRefIdeal.τ).loc Cert.SmallSumRefIdeal.main_arg3) = m ((c.tc : Thread Cert.SmallSumIdeal.nD Cert.SmallSumIdeal.τ).loc Cert.SmallSumIdeal.main_arg3)
      ∧ m' ((c.tc : Thread Cert.SmallSumRefIdeal.nD Cert.SmallSumRefIdeal.τ).loc Cert.SmallSumRefIdeal.main_arg4) = m ((c.tc : Thread Cert.SmallSumIdeal.nD Cert.SmallSumIdeal.τ).loc Cert.SmallSumIdeal.main_arg4)
      ∧ m' ((c.tc : Thread Cert.SmallSumRefIdeal.nD Cert.SmallSumRefIdeal.τ).loc Cert.SmallSumRefIdeal.main_arg5) = m ((c.tc : Thread Cert.SmallSumIdeal.nD Cert.SmallSumIdeal.τ).loc Cert.SmallSumIdeal.main_arg5)
      ∧ m' ((c.tc : Thread Cert.SmallSumRefIdeal.nD Cert.SmallSumRefIdeal.τ).loc Cert.SmallSumRefIdeal.main_arg6) = m ((c.tc : Thread Cert.SmallSumIdeal.nD Cert.SmallSumIdeal.τ).loc Cert.SmallSumIdeal.main_arg6)
      ∧ m' ((c.tc : Thread Cert.SmallSumRefIdeal.nD Cert.SmallSumRefIdeal.τ).loc Cert.SmallSumRefIdeal.main_arg7) = m ((c.tc : Thread Cert.SmallSumIdeal.nD Cert.SmallSumIdeal.τ).loc Cert.SmallSumIdeal.main_arg7)
      ∧ m' ((c.tc : Thread Cert.SmallSumRefIdeal.nD Cert.SmallSumRefIdeal.τ).loc Cert.SmallSumRefIdeal.main_arg8) = m ((c.tc : Thread Cert.SmallSumIdeal.nD Cert.SmallSumIdeal.τ).loc Cert.SmallSumIdeal.main_arg8)
      ∧ m' ((c.tc : Thread Cert.SmallSumRefIdeal.nD Cert.SmallSumRefIdeal.τ).loc Cert.SmallSumRefIdeal.main_arg9) = m ((c.tc : Thread Cert.SmallSumIdeal.nD Cert.SmallSumIdeal.τ).loc Cert.SmallSumIdeal.main_arg9)
      ∧ m' ((c.tc : Thread Cert.SmallSumRefIdeal.nD Cert.SmallSumRefIdeal.τ).loc Cert.SmallSumRefIdeal.main_arg10) = m ((c.tc : Thread Cert.SmallSumIdeal.nD Cert.SmallSumIdeal.τ).loc Cert.SmallSumIdeal.main_arg10)
      ∧ m' ((c.tc : Thread Cert.SmallSumRefIdeal.nD Cert.SmallSumRefIdeal.τ).loc Cert.SmallSumRefIdeal.main_arg11) = m ((c.tc : Thread Cert.SmallSumIdeal.nD Cert.SmallSumIdeal.τ).loc Cert.SmallSumIdeal.main_arg11)
      ∧ m' ((c.tc : Thread Cert.SmallSumRefIdeal.nD Cert.SmallSumRefIdeal.τ).loc Cert.SmallSumRefIdeal.main_arg12) = m ((c.tc : Thread Cert.SmallSumIdeal.nD Cert.SmallSumIdeal.τ).loc Cert.SmallSumIdeal.main_arg12)
      ∧ m' ((c.tc : Thread Cert.SmallSumRefIdeal.nD Cert.SmallSumRefIdeal.τ).loc Cert.SmallSumRefIdeal.main_arg13) = m ((c.tc : Thread Cert.SmallSumIdeal.nD Cert.SmallSumIdeal.τ).loc Cert.SmallSumIdeal.main_arg13)
      ∧ m' ((c.tc : Thread Cert.SmallSumRefIdeal.nD Cert.SmallSumRefIdeal.τ).loc Cert.SmallSumRefIdeal.main_arg14) = m ((c.tc : Thread Cert.SmallSumIdeal.nD Cert.SmallSumIdeal.τ).loc Cert.SmallSumIdeal.main_arg14)) →
    ∃ (v0 : (c : Dev Cert.SmallSumIdeal.nD) → Buf (Elt Ideal) ((c.tc : Thread Cert.SmallSumIdeal.nD Cert.SmallSumIdeal.τ).loc Cert.SmallSumIdeal.main_v0_0)) (v1 : (c : Dev Cert.SmallSumIdeal.nD) → Buf (Elt Ideal) ((c.tc : Thread Cert.SmallSumIdeal.nD Cert.SmallSumIdeal.τ).loc Cert.SmallSumIdeal.main_v0_1)) (v2 : (c : Dev Cert.SmallSumIdeal.nD) → Buf (Elt Ideal) ((c.tc : Thread Cert.SmallSumIdeal.nD Cert.SmallSumIdeal.τ).loc Cert.SmallSumIdeal.main_v0_2)) (v3 : (c : Dev Cert.SmallSumIdeal.nD) → Buf (Elt Ideal) ((c.tc : Thread Cert.SmallSumIdeal.nD Cert.SmallSumIdeal.τ).loc Cert.SmallSumIdeal.main_v0_3)) (v4 : (c : Dev Cert.SmallSumIdeal.nD) → Buf (Elt Ideal) ((c.tc : Thread Cert.SmallSumIdeal.nD Cert.SmallSumIdeal.τ).loc Cert.SmallSumIdeal.main_v0_4)) (v5 : (c : Dev Cert.SmallSumIdeal.nD) → Buf (Elt Ideal) ((c.tc : Thread Cert.SmallSumIdeal.nD Cert.SmallSumIdeal.τ).loc Cert.SmallSumIdeal.main_v0_5)) (v6 : (c : Dev Cert.SmallSumIdeal.nD) → Buf (Elt Ideal) ((c.tc : Thread Cert.SmallSumIdeal.nD Cert.SmallSumIdeal.τ).loc Cert.SmallSumIdeal.main_v0_6)) (v7 : (c : Dev Cert.SmallSumIdeal.nD) → Buf (Elt Ideal) ((c.tc : Thread Cert.SmallSumIdeal.nD Cert.SmallSumIdeal.τ).loc Cert.SmallSumIdeal.main_v0_7)) (v8 : (c : Dev Cert.SmallSumIdeal.nD) → Buf (Elt Ideal) ((c.tc : Thread Cert.SmallSumIdeal.nD Cert.SmallSumIdeal.τ).loc Cert.SmallSumIdeal.main_v0_8)) (v9 : (c : Dev Cert.SmallSumIdeal.nD) → Buf (Elt Ideal) ((c.tc : Thread Cert.SmallSumIdeal.nD Cert.SmallSumIdeal.τ).loc Cert.SmallSumIdeal.main_v0_9)) (v10 : (c : Dev Cert.SmallSumIdeal.nD) → Buf (Elt Ideal) ((c.tc : Thread Cert.SmallSumIdeal.nD Cert.SmallSumIdeal.τ).loc Cert.SmallSumIdeal.main_v0_10)) (v11 : (c : Dev Cert.SmallSumIdeal.nD) → Buf (Elt Ideal) ((c.tc : Thread Cert.SmallSumIdeal.nD Cert.SmallSumIdeal.τ).loc Cert.SmallSumIdeal.main_v0_11)) (v12 : (c : Dev Cert.SmallSumIdeal.nD) → Buf (Elt Ideal) ((c.tc : Thread Cert.SmallSumIdeal.nD Cert.SmallSumIdeal.τ).loc Cert.SmallSumIdeal.main_v0_12)) (v13 : (c : Dev Cert.SmallSumIdeal.nD) → Buf (Elt Ideal) ((c.tc : Thread Cert.SmallSumIdeal.nD Cert.SmallSumIdeal.τ).loc Cert.SmallSumIdeal.main_v0_13)) (v14 : (c : Dev Cert.SmallSumIdeal.nD) → Buf (Elt Ideal) ((c.tc : Thread Cert.SmallSumIdeal.nD Cert.SmallSumIdeal.τ).loc Cert.SmallSumIdeal.main_v0_14)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0_0) = v0 c
          ∧ r.2.mem ((c.tc : Thread Cert.SmallSumIdeal.nD Cert.SmallSumIdeal.τ).loc Cert.SmallSumIdeal.main_v0_1) = v1 c
          ∧ r.2.mem ((c.tc : Thread Cert.SmallSumIdeal.nD Cert.SmallSumIdeal.τ).loc Cert.SmallSumIdeal.main_v0_2) = v2 c
          ∧ r.2.mem ((c.tc : Thread Cert.SmallSumIdeal.nD Cert.SmallSumIdeal.τ).loc Cert.SmallSumIdeal.main_v0_3) = v3 c
          ∧ r.2.mem ((c.tc : Thread Cert.SmallSumIdeal.nD Cert.SmallSumIdeal.τ).loc Cert.SmallSumIdeal.main_v0_4) = v4 c
          ∧ r.2.mem ((c.tc : Thread Cert.SmallSumIdeal.nD Cert.SmallSumIdeal.τ).loc Cert.SmallSumIdeal.main_v0_5) = v5 c
          ∧ r.2.mem ((c.tc : Thread Cert.SmallSumIdeal.nD Cert.SmallSumIdeal.τ).loc Cert.SmallSumIdeal.main_v0_6) = v6 c
          ∧ r.2.mem ((c.tc : Thread Cert.SmallSumIdeal.nD Cert.SmallSumIdeal.τ).loc Cert.SmallSumIdeal.main_v0_7) = v7 c
          ∧ r.2.mem ((c.tc : Thread Cert.SmallSumIdeal.nD Cert.SmallSumIdeal.τ).loc Cert.SmallSumIdeal.main_v0_8) = v8 c
          ∧ r.2.mem ((c.tc : Thread Cert.SmallSumIdeal.nD Cert.SmallSumIdeal.τ).loc Cert.SmallSumIdeal.main_v0_9) = v9 c
          ∧ r.2.mem ((c.tc : Thread Cert.SmallSumIdeal.nD Cert.SmallSumIdeal.τ).loc Cert.SmallSumIdeal.main_v0_10) = v10 c
          ∧ r.2.mem ((c.tc : Thread Cert.SmallSumIdeal.nD Cert.SmallSumIdeal.τ).loc Cert.SmallSumIdeal.main_v0_11) = v11 c
          ∧ r.2.mem ((c.tc : Thread Cert.SmallSumIdeal.nD Cert.SmallSumIdeal.τ).loc Cert.SmallSumIdeal.main_v0_12) = v12 c
          ∧ r.2.mem ((c.tc : Thread Cert.SmallSumIdeal.nD Cert.SmallSumIdeal.τ).loc Cert.SmallSumIdeal.main_v0_13) = v13 c
          ∧ r.2.mem ((c.tc : Thread Cert.SmallSumIdeal.nD Cert.SmallSumIdeal.τ).loc Cert.SmallSumIdeal.main_v0_14) = v14 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
          ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1)
          ∧ r.2.mem ((c.tc : Thread Cert.SmallSumIdeal.nD Cert.SmallSumIdeal.τ).loc Cert.SmallSumIdeal.main_arg2) = m ((c.tc : Thread Cert.SmallSumIdeal.nD Cert.SmallSumIdeal.τ).loc Cert.SmallSumIdeal.main_arg2)
          ∧ r.2.mem ((c.tc : Thread Cert.SmallSumIdeal.nD Cert.SmallSumIdeal.τ).loc Cert.SmallSumIdeal.main_arg3) = m ((c.tc : Thread Cert.SmallSumIdeal.nD Cert.SmallSumIdeal.τ).loc Cert.SmallSumIdeal.main_arg3)
          ∧ r.2.mem ((c.tc : Thread Cert.SmallSumIdeal.nD Cert.SmallSumIdeal.τ).loc Cert.SmallSumIdeal.main_arg4) = m ((c.tc : Thread Cert.SmallSumIdeal.nD Cert.SmallSumIdeal.τ).loc Cert.SmallSumIdeal.main_arg4)
          ∧ r.2.mem ((c.tc : Thread Cert.SmallSumIdeal.nD Cert.SmallSumIdeal.τ).loc Cert.SmallSumIdeal.main_arg5) = m ((c.tc : Thread Cert.SmallSumIdeal.nD Cert.SmallSumIdeal.τ).loc Cert.SmallSumIdeal.main_arg5)
          ∧ r.2.mem ((c.tc : Thread Cert.SmallSumIdeal.nD Cert.SmallSumIdeal.τ).loc Cert.SmallSumIdeal.main_arg6) = m ((c.tc : Thread Cert.SmallSumIdeal.nD Cert.SmallSumIdeal.τ).loc Cert.SmallSumIdeal.main_arg6)
          ∧ r.2.mem ((c.tc : Thread Cert.SmallSumIdeal.nD Cert.SmallSumIdeal.τ).loc Cert.SmallSumIdeal.main_arg7) = m ((c.tc : Thread Cert.SmallSumIdeal.nD Cert.SmallSumIdeal.τ).loc Cert.SmallSumIdeal.main_arg7)
          ∧ r.2.mem ((c.tc : Thread Cert.SmallSumIdeal.nD Cert.SmallSumIdeal.τ).loc Cert.SmallSumIdeal.main_arg8) = m ((c.tc : Thread Cert.SmallSumIdeal.nD Cert.SmallSumIdeal.τ).loc Cert.SmallSumIdeal.main_arg8)
          ∧ r.2.mem ((c.tc : Thread Cert.SmallSumIdeal.nD Cert.SmallSumIdeal.τ).loc Cert.SmallSumIdeal.main_arg9) = m ((c.tc : Thread Cert.SmallSumIdeal.nD Cert.SmallSumIdeal.τ).loc Cert.SmallSumIdeal.main_arg9)
          ∧ r.2.mem ((c.tc : Thread Cert.SmallSumIdeal.nD Cert.SmallSumIdeal.τ).loc Cert.SmallSumIdeal.main_arg10) = m ((c.tc : Thread Cert.SmallSumIdeal.nD Cert.SmallSumIdeal.τ).loc Cert.SmallSumIdeal.main_arg10)
          ∧ r.2.mem ((c.tc : Thread Cert.SmallSumIdeal.nD Cert.SmallSumIdeal.τ).loc Cert.SmallSumIdeal.main_arg11) = m ((c.tc : Thread Cert.SmallSumIdeal.nD Cert.SmallSumIdeal.τ).loc Cert.SmallSumIdeal.main_arg11)
          ∧ r.2.mem ((c.tc : Thread Cert.SmallSumIdeal.nD Cert.SmallSumIdeal.τ).loc Cert.SmallSumIdeal.main_arg12) = m ((c.tc : Thread Cert.SmallSumIdeal.nD Cert.SmallSumIdeal.τ).loc Cert.SmallSumIdeal.main_arg12)
          ∧ r.2.mem ((c.tc : Thread Cert.SmallSumIdeal.nD Cert.SmallSumIdeal.τ).loc Cert.SmallSumIdeal.main_arg13) = m ((c.tc : Thread Cert.SmallSumIdeal.nD Cert.SmallSumIdeal.τ).loc Cert.SmallSumIdeal.main_arg13)
          ∧ r.2.mem ((c.tc : Thread Cert.SmallSumIdeal.nD Cert.SmallSumIdeal.τ).loc Cert.SmallSumIdeal.main_arg14) = m ((c.tc : Thread Cert.SmallSumIdeal.nD Cert.SmallSumIdeal.τ).loc Cert.SmallSumIdeal.main_arg14))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_v1) = v1 c
          ∧ r.2.mem ((c.tc : Thread Cert.SmallSumRefIdeal.nD Cert.SmallSumRefIdeal.τ).loc Cert.SmallSumRefIdeal.main_v2) = v2 c
          ∧ r.2.mem ((c.tc : Thread Cert.SmallSumRefIdeal.nD Cert.SmallSumRefIdeal.τ).loc Cert.SmallSumRefIdeal.main_v3) = v3 c
          ∧ r.2.mem ((c.tc : Thread Cert.SmallSumRefIdeal.nD Cert.SmallSumRefIdeal.τ).loc Cert.SmallSumRefIdeal.main_v4) = v4 c
          ∧ r.2.mem ((c.tc : Thread Cert.SmallSumRefIdeal.nD Cert.SmallSumRefIdeal.τ).loc Cert.SmallSumRefIdeal.main_v5) = v5 c
          ∧ r.2.mem ((c.tc : Thread Cert.SmallSumRefIdeal.nD Cert.SmallSumRefIdeal.τ).loc Cert.SmallSumRefIdeal.main_v6) = v6 c
          ∧ r.2.mem ((c.tc : Thread Cert.SmallSumRefIdeal.nD Cert.SmallSumRefIdeal.τ).loc Cert.SmallSumRefIdeal.main_v7) = v7 c
          ∧ r.2.mem ((c.tc : Thread Cert.SmallSumRefIdeal.nD Cert.SmallSumRefIdeal.τ).loc Cert.SmallSumRefIdeal.main_v9) = v8 c
          ∧ r.2.mem ((c.tc : Thread Cert.SmallSumRefIdeal.nD Cert.SmallSumRefIdeal.τ).loc Cert.SmallSumRefIdeal.main_v10) = v9 c
          ∧ r.2.mem ((c.tc : Thread Cert.SmallSumRefIdeal.nD Cert.SmallSumRefIdeal.τ).loc Cert.SmallSumRefIdeal.main_v11) = v10 c
          ∧ r.2.mem ((c.tc : Thread Cert.SmallSumRefIdeal.nD Cert.SmallSumRefIdeal.τ).loc Cert.SmallSumRefIdeal.main_v12) = v11 c
          ∧ r.2.mem ((c.tc : Thread Cert.SmallSumRefIdeal.nD Cert.SmallSumRefIdeal.τ).loc Cert.SmallSumRefIdeal.main_v13) = v12 c
          ∧ r.2.mem ((c.tc : Thread Cert.SmallSumRefIdeal.nD Cert.SmallSumRefIdeal.τ).loc Cert.SmallSumRefIdeal.main_v14) = v13 c
          ∧ r.2.mem ((c.tc : Thread Cert.SmallSumRefIdeal.nD Cert.SmallSumRefIdeal.τ).loc Cert.SmallSumRefIdeal.main_v15) = v14 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0)
          ∧ r.2.mem ((c.tc : Thread Cert.SmallSumRefIdeal.nD Cert.SmallSumRefIdeal.τ).loc Cert.SmallSumRefIdeal.main_arg1) = m' ((c.tc : Thread Cert.SmallSumRefIdeal.nD Cert.SmallSumRefIdeal.τ).loc Cert.SmallSumRefIdeal.main_arg1)
          ∧ r.2.mem ((c.tc : Thread Cert.SmallSumRefIdeal.nD Cert.SmallSumRefIdeal.τ).loc Cert.SmallSumRefIdeal.main_arg2) = m' ((c.tc : Thread Cert.SmallSumRefIdeal.nD Cert.SmallSumRefIdeal.τ).loc Cert.SmallSumRefIdeal.main_arg2)
          ∧ r.2.mem ((c.tc : Thread Cert.SmallSumRefIdeal.nD Cert.SmallSumRefIdeal.τ).loc Cert.SmallSumRefIdeal.main_arg3) = m' ((c.tc : Thread Cert.SmallSumRefIdeal.nD Cert.SmallSumRefIdeal.τ).loc Cert.SmallSumRefIdeal.main_arg3)
          ∧ r.2.mem ((c.tc : Thread Cert.SmallSumRefIdeal.nD Cert.SmallSumRefIdeal.τ).loc Cert.SmallSumRefIdeal.main_arg4) = m' ((c.tc : Thread Cert.SmallSumRefIdeal.nD Cert.SmallSumRefIdeal.τ).loc Cert.SmallSumRefIdeal.main_arg4)
          ∧ r.2.mem ((c.tc : Thread Cert.SmallSumRefIdeal.nD Cert.SmallSumRefIdeal.τ).loc Cert.SmallSumRefIdeal.main_arg5) = m' ((c.tc : Thread Cert.SmallSumRefIdeal.nD Cert.SmallSumRefIdeal.τ).loc Cert.SmallSumRefIdeal.main_arg5)
          ∧ r.2.mem ((c.tc : Thread Cert.SmallSumRefIdeal.nD Cert.SmallSumRefIdeal.τ).loc Cert.SmallSumRefIdeal.main_arg6) = m' ((c.tc : Thread Cert.SmallSumRefIdeal.nD Cert.SmallSumRefIdeal.τ).loc Cert.SmallSumRefIdeal.main_arg6)
          ∧ r.2.mem ((c.tc : Thread Cert.SmallSumRefIdeal.nD Cert.SmallSumRefIdeal.τ).loc Cert.SmallSumRefIdeal.main_arg7) = m' ((c.tc : Thread Cert.SmallSumRefIdeal.nD Cert.SmallSumRefIdeal.τ).loc Cert.SmallSumRefIdeal.main_arg7)
          ∧ r.2.mem ((c.tc : Thread Cert.SmallSumRefIdeal.nD Cert.SmallSumRefIdeal.τ).loc Cert.SmallSumRefIdeal.main_arg8) = m' ((c.tc : Thread Cert.SmallSumRefIdeal.nD Cert.SmallSumRefIdeal.τ).loc Cert.SmallSumRefIdeal.main_arg8)
          ∧ r.2.mem ((c.tc : Thread Cert.SmallSumRefIdeal.nD Cert.SmallSumRefIdeal.τ).loc Cert.SmallSumRefIdeal.main_arg9) = m' ((c.tc : Thread Cert.SmallSumRefIdeal.nD Cert.SmallSumRefIdeal.τ).loc Cert.SmallSumRefIdeal.main_arg9)
          ∧ r.2.mem ((c.tc : Thread Cert.SmallSumRefIdeal.nD Cert.SmallSumRefIdeal.τ).loc Cert.SmallSumRefIdeal.main_arg10) = m' ((c.tc : Thread Cert.SmallSumRefIdeal.nD Cert.SmallSumRefIdeal.τ).loc Cert.SmallSumRefIdeal.main_arg10)
          ∧ r.2.mem ((c.tc : Thread Cert.SmallSumRefIdeal.nD Cert.SmallSumRefIdeal.τ).loc Cert.SmallSumRefIdeal.main_arg11) = m' ((c.tc : Thread Cert.SmallSumRefIdeal.nD Cert.SmallSumRefIdeal.τ).loc Cert.SmallSumRefIdeal.main_arg11)
          ∧ r.2.mem ((c.tc : Thread Cert.SmallSumRefIdeal.nD Cert.SmallSumRefIdeal.τ).loc Cert.SmallSumRefIdeal.main_arg12) = m' ((c.tc : Thread Cert.SmallSumRefIdeal.nD Cert.SmallSumRefIdeal.τ).loc Cert.SmallSumRefIdeal.main_arg12)
          ∧ r.2.mem ((c.tc : Thread Cert.SmallSumRefIdeal.nD Cert.SmallSumRefIdeal.τ).loc Cert.SmallSumRefIdeal.main_arg13) = m' ((c.tc : Thread Cert.SmallSumRefIdeal.nD Cert.SmallSumRefIdeal.τ).loc Cert.SmallSumRefIdeal.main_arg13)
          ∧ r.2.mem ((c.tc : Thread Cert.SmallSumRefIdeal.nD Cert.SmallSumRefIdeal.τ).loc Cert.SmallSumRefIdeal.main_arg14) = m' ((c.tc : Thread Cert.SmallSumRefIdeal.nD Cert.SmallSumRefIdeal.τ).loc Cert.SmallSumRefIdeal.main_arg14))

def Claim : Prop :=
  ∃ (hGatingBwd : Cert.GatingBwd.Facts) (hGatingBwdIdeal : Cert.GatingBwdIdeal.Facts) (hGatingRefIdeal : Cert.GatingRefIdeal.Facts) (hWInFwd : Cert.WInFwd.Facts) (hWInFwdIdeal : Cert.WInFwdIdeal.Facts) (hWInFwdRefIdeal : Cert.WInFwdRefIdeal.Facts) (hWInDx : Cert.WInDx.Facts) (hWInDxIdeal : Cert.WInDxIdeal.Facts) (hWInDxRefIdeal : Cert.WInDxRefIdeal.Facts) (hWInDw : Cert.WInDw.Facts) (hWInDwIdeal : Cert.WInDwIdeal.Facts) (hWInDwRefIdeal : Cert.WInDwRefIdeal.Facts) (hWOutFwd : Cert.WOutFwd.Facts) (hWOutFwdIdeal : Cert.WOutFwdIdeal.Facts) (hWOutFwdRefIdeal : Cert.WOutFwdRefIdeal.Facts) (hWOutDx : Cert.WOutDx.Facts) (hWOutDxIdeal : Cert.WOutDxIdeal.Facts) (hWOutDxRefIdeal : Cert.WOutDxRefIdeal.Facts) (hWOutDw : Cert.WOutDw.Facts) (hWOutDwIdeal : Cert.WOutDwIdeal.Facts) (hWOutDwRefIdeal : Cert.WOutDwRefIdeal.Facts) (hFfUpFwd : Cert.FfUpFwd.Facts) (hFfUpFwdIdeal : Cert.FfUpFwdIdeal.Facts) (hFfUpFwdRefIdeal : Cert.FfUpFwdRefIdeal.Facts) (hFfUpDx : Cert.FfUpDx.Facts) (hFfUpDxIdeal : Cert.FfUpDxIdeal.Facts) (hFfUpDxRefIdeal : Cert.FfUpDxRefIdeal.Facts) (hFfUpDw : Cert.FfUpDw.Facts) (hFfUpDwIdeal : Cert.FfUpDwIdeal.Facts) (hFfUpDwRefIdeal : Cert.FfUpDwRefIdeal.Facts) (hFfDownFwd : Cert.FfDownFwd.Facts) (hFfDownFwdIdeal : Cert.FfDownFwdIdeal.Facts) (hFfDownFwdRefIdeal : Cert.FfDownFwdRefIdeal.Facts) (hFfDownDx : Cert.FfDownDx.Facts) (hFfDownDxIdeal : Cert.FfDownDxIdeal.Facts) (hFfDownDxRefIdeal : Cert.FfDownDxRefIdeal.Facts) (hFfDownDw : Cert.FfDownDw.Facts) (hFfDownDwIdeal : Cert.FfDownDwIdeal.Facts) (hFfDownDwRefIdeal : Cert.FfDownDwRefIdeal.Facts) (hAdamAdaW : Cert.AdamAdaW.Facts) (hAdamAdaWIdeal : Cert.AdamAdaWIdeal.Facts) (hAdamAdaWRefIdeal : Cert.AdamAdaWRefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamFfUp : Cert.AdamFfUp.Facts) (hAdamFfUpIdeal : Cert.AdamFfUpIdeal.Facts) (hAdamFfUpRefIdeal : Cert.AdamFfUpRefIdeal.Facts) (hAdamFfDown : Cert.AdamFfDown.Facts) (hAdamFfDownIdeal : Cert.AdamFfDownIdeal.Facts) (hAdamFfDownRefIdeal : Cert.AdamFfDownRefIdeal.Facts) (hAdaBwd : Cert.AdaBwd.Facts) (hAdaBwdIdeal : Cert.AdaBwdIdeal.Facts) (hAdaBwdRefIdeal : Cert.AdaBwdRefIdeal.Facts) (hNormBwd : Cert.NormBwd.Facts) (hNormBwdIdeal : Cert.NormBwdIdeal.Facts) (hNormBwdRefIdeal : Cert.NormBwdRefIdeal.Facts) (hSmallSum : Cert.SmallSum.Facts) (hSmallSumIdeal : Cert.SmallSumIdeal.Facts) (hSmallSumRefIdeal : Cert.SmallSumRefIdeal.Facts),
    quiescent_GatingBwd (hGatingBwd := hGatingBwd)
    ∧ quiescent_GatingBwdIdeal (hGatingBwdIdeal := hGatingBwdIdeal)
    ∧ quiescent_GatingRefIdeal (hGatingRefIdeal := hGatingRefIdeal)
    ∧ quiescent_WInFwd (hWInFwd := hWInFwd)
    ∧ quiescent_WInFwdIdeal (hWInFwdIdeal := hWInFwdIdeal)
    ∧ quiescent_WInFwdRefIdeal (hWInFwdRefIdeal := hWInFwdRefIdeal)
    ∧ quiescent_WInDx (hWInDx := hWInDx)
    ∧ quiescent_WInDxIdeal (hWInDxIdeal := hWInDxIdeal)
    ∧ quiescent_WInDxRefIdeal (hWInDxRefIdeal := hWInDxRefIdeal)
    ∧ quiescent_WInDw (hWInDw := hWInDw)
    ∧ quiescent_WInDwIdeal (hWInDwIdeal := hWInDwIdeal)
    ∧ quiescent_WInDwRefIdeal (hWInDwRefIdeal := hWInDwRefIdeal)
    ∧ quiescent_WOutFwd (hWOutFwd := hWOutFwd)
    ∧ quiescent_WOutFwdIdeal (hWOutFwdIdeal := hWOutFwdIdeal)
    ∧ quiescent_WOutFwdRefIdeal (hWOutFwdRefIdeal := hWOutFwdRefIdeal)
    ∧ quiescent_WOutDx (hWOutDx := hWOutDx)
    ∧ quiescent_WOutDxIdeal (hWOutDxIdeal := hWOutDxIdeal)
    ∧ quiescent_WOutDxRefIdeal (hWOutDxRefIdeal := hWOutDxRefIdeal)
    ∧ quiescent_WOutDw (hWOutDw := hWOutDw)
    ∧ quiescent_WOutDwIdeal (hWOutDwIdeal := hWOutDwIdeal)
    ∧ quiescent_WOutDwRefIdeal (hWOutDwRefIdeal := hWOutDwRefIdeal)
    ∧ quiescent_FfUpFwd (hFfUpFwd := hFfUpFwd)
    ∧ quiescent_FfUpFwdIdeal (hFfUpFwdIdeal := hFfUpFwdIdeal)
    ∧ quiescent_FfUpFwdRefIdeal (hFfUpFwdRefIdeal := hFfUpFwdRefIdeal)
    ∧ quiescent_FfUpDx (hFfUpDx := hFfUpDx)
    ∧ quiescent_FfUpDxIdeal (hFfUpDxIdeal := hFfUpDxIdeal)
    ∧ quiescent_FfUpDxRefIdeal (hFfUpDxRefIdeal := hFfUpDxRefIdeal)
    ∧ quiescent_FfUpDw (hFfUpDw := hFfUpDw)
    ∧ quiescent_FfUpDwIdeal (hFfUpDwIdeal := hFfUpDwIdeal)
    ∧ quiescent_FfUpDwRefIdeal (hFfUpDwRefIdeal := hFfUpDwRefIdeal)
    ∧ quiescent_FfDownFwd (hFfDownFwd := hFfDownFwd)
    ∧ quiescent_FfDownFwdIdeal (hFfDownFwdIdeal := hFfDownFwdIdeal)
    ∧ quiescent_FfDownFwdRefIdeal (hFfDownFwdRefIdeal := hFfDownFwdRefIdeal)
    ∧ quiescent_FfDownDx (hFfDownDx := hFfDownDx)
    ∧ quiescent_FfDownDxIdeal (hFfDownDxIdeal := hFfDownDxIdeal)
    ∧ quiescent_FfDownDxRefIdeal (hFfDownDxRefIdeal := hFfDownDxRefIdeal)
    ∧ quiescent_FfDownDw (hFfDownDw := hFfDownDw)
    ∧ quiescent_FfDownDwIdeal (hFfDownDwIdeal := hFfDownDwIdeal)
    ∧ quiescent_FfDownDwRefIdeal (hFfDownDwRefIdeal := hFfDownDwRefIdeal)
    ∧ quiescent_AdamAdaW (hAdamAdaW := hAdamAdaW)
    ∧ quiescent_AdamAdaWIdeal (hAdamAdaWIdeal := hAdamAdaWIdeal)
    ∧ quiescent_AdamAdaWRefIdeal (hAdamAdaWRefIdeal := hAdamAdaWRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamFfUp (hAdamFfUp := hAdamFfUp)
    ∧ quiescent_AdamFfUpIdeal (hAdamFfUpIdeal := hAdamFfUpIdeal)
    ∧ quiescent_AdamFfUpRefIdeal (hAdamFfUpRefIdeal := hAdamFfUpRefIdeal)
    ∧ quiescent_AdamFfDown (hAdamFfDown := hAdamFfDown)
    ∧ quiescent_AdamFfDownIdeal (hAdamFfDownIdeal := hAdamFfDownIdeal)
    ∧ quiescent_AdamFfDownRefIdeal (hAdamFfDownRefIdeal := hAdamFfDownRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ preserves_GatingBwd_GatingBwdIdeal
    ∧ algebraic_GatingBwdIdeal_GatingRefIdeal (hGatingBwdIdeal := hGatingBwdIdeal) (hGatingRefIdeal := hGatingRefIdeal)
    ∧ preserves_WInFwd_WInFwdIdeal
    ∧ algebraic_WInFwdIdeal_WInFwdRefIdeal (hWInFwdIdeal := hWInFwdIdeal) (hWInFwdRefIdeal := hWInFwdRefIdeal)
    ∧ preserves_WInDx_WInDxIdeal
    ∧ algebraic_WInDxIdeal_WInDxRefIdeal (hWInDxIdeal := hWInDxIdeal) (hWInDxRefIdeal := hWInDxRefIdeal)
    ∧ preserves_WInDw_WInDwIdeal
    ∧ algebraic_WInDwIdeal_WInDwRefIdeal (hWInDwIdeal := hWInDwIdeal) (hWInDwRefIdeal := hWInDwRefIdeal)
    ∧ preserves_WOutFwd_WOutFwdIdeal
    ∧ algebraic_WOutFwdIdeal_WOutFwdRefIdeal (hWOutFwdIdeal := hWOutFwdIdeal) (hWOutFwdRefIdeal := hWOutFwdRefIdeal)
    ∧ preserves_WOutDx_WOutDxIdeal
    ∧ algebraic_WOutDxIdeal_WOutDxRefIdeal (hWOutDxIdeal := hWOutDxIdeal) (hWOutDxRefIdeal := hWOutDxRefIdeal)
    ∧ preserves_WOutDw_WOutDwIdeal
    ∧ algebraic_WOutDwIdeal_WOutDwRefIdeal (hWOutDwIdeal := hWOutDwIdeal) (hWOutDwRefIdeal := hWOutDwRefIdeal)
    ∧ preserves_FfUpFwd_FfUpFwdIdeal
    ∧ algebraic_FfUpFwdIdeal_FfUpFwdRefIdeal (hFfUpFwdIdeal := hFfUpFwdIdeal) (hFfUpFwdRefIdeal := hFfUpFwdRefIdeal)
    ∧ preserves_FfUpDx_FfUpDxIdeal
    ∧ algebraic_FfUpDxIdeal_FfUpDxRefIdeal (hFfUpDxIdeal := hFfUpDxIdeal) (hFfUpDxRefIdeal := hFfUpDxRefIdeal)
    ∧ preserves_FfUpDw_FfUpDwIdeal
    ∧ algebraic_FfUpDwIdeal_FfUpDwRefIdeal (hFfUpDwIdeal := hFfUpDwIdeal) (hFfUpDwRefIdeal := hFfUpDwRefIdeal)
    ∧ preserves_FfDownFwd_FfDownFwdIdeal
    ∧ algebraic_FfDownFwdIdeal_FfDownFwdRefIdeal (hFfDownFwdIdeal := hFfDownFwdIdeal) (hFfDownFwdRefIdeal := hFfDownFwdRefIdeal)
    ∧ preserves_FfDownDx_FfDownDxIdeal
    ∧ algebraic_FfDownDxIdeal_FfDownDxRefIdeal (hFfDownDxIdeal := hFfDownDxIdeal) (hFfDownDxRefIdeal := hFfDownDxRefIdeal)
    ∧ preserves_FfDownDw_FfDownDwIdeal
    ∧ algebraic_FfDownDwIdeal_FfDownDwRefIdeal (hFfDownDwIdeal := hFfDownDwIdeal) (hFfDownDwRefIdeal := hFfDownDwRefIdeal)
    ∧ preserves_AdamAdaW_AdamAdaWIdeal
    ∧ algebraic_AdamAdaWIdeal_AdamAdaWRefIdeal (hAdamAdaWIdeal := hAdamAdaWIdeal) (hAdamAdaWRefIdeal := hAdamAdaWRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamFfUp_AdamFfUpIdeal
    ∧ algebraic_AdamFfUpIdeal_AdamFfUpRefIdeal (hAdamFfUpIdeal := hAdamFfUpIdeal) (hAdamFfUpRefIdeal := hAdamFfUpRefIdeal)
    ∧ preserves_AdamFfDown_AdamFfDownIdeal
    ∧ algebraic_AdamFfDownIdeal_AdamFfDownRefIdeal (hAdamFfDownIdeal := hAdamFfDownIdeal) (hAdamFfDownRefIdeal := hAdamFfDownRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_SmallSum_SmallSumIdeal
    ∧ algebraic_SmallSumIdeal_SmallSumRefIdeal (hSmallSumIdeal := hSmallSumIdeal) (hSmallSumRefIdeal := hSmallSumRefIdeal)
-- ==== GatingBwd.lean ====
abbrev S2x2048x4864 : Shape := ⟨3, ![2, 2048, 4864]⟩
abbrev S1024 : Shape := ⟨1, ![1024]⟩
abbrev S8x128x128 : Shape := ⟨3, ![8, 128, 128]⟩
abbrev S8x128 : Shape := ⟨2, ![8, 128]⟩
abbrev S2x2048x2048 : Shape := ⟨3, ![2, 2048, 2048]⟩
abbrev S1x1024 : Shape := ⟨2, ![1, 1024]⟩
abbrev S128x8 : Shape := ⟨2, ![128, 8]⟩
abbrev S_ : Shape := ⟨0, ![]⟩
abbrev S128x128 : Shape := ⟨2, ![128, 128]⟩
abbrev S2x2048x1024 : Shape := ⟨3, ![2, 2048, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S128x896 : Shape := ⟨2, ![128, 896]⟩
abbrev S7x128x128 : Shape := ⟨3, ![7, 128, 128]⟩
abbrev S128x768 : Shape := ⟨2, ![128, 768]⟩
abbrev S6x128x128 : Shape := ⟨3, ![6, 128, 128]⟩
abbrev S128x640 : Shape := ⟨2, ![128, 640]⟩
abbrev S128x256 : Shape := ⟨2, ![128, 256]⟩
abbrev S5x128x128 : Shape := ⟨3, ![5, 128, 128]⟩
abbrev S2x128x128 : Shape := ⟨3, ![2, 128, 128]⟩
abbrev S128x512 : Shape := ⟨2, ![128, 512]⟩
abbrev S128x384 : Shape := ⟨2, ![128, 384]⟩
abbrev S4x128x128 : Shape := ⟨3, ![4, 128, 128]⟩
abbrev S3x128x128 : Shape := ⟨3, ![3, 128, 128]⟩

abbrev nBuf : Space → Nat
  | .hbm => 19
  | .vmem => 18
  | .smem => 0
  | _ => 0

abbrev bufTy : (tb : Table) → Fin (tcTables nBuf tb) → BufTy
  | .hbm, ⟨0, _⟩ => ⟨S2x2048x4864, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1024, .f32⟩
  | .hbm, ⟨5, _⟩ => ⟨S2x2048x2048, .bf16⟩
  | .hbm, ⟨6, _⟩ => ⟨S1x1024, .f32⟩
  | .hbm, ⟨7, _⟩ => ⟨S1x1024, .f32⟩
  | .hbm, ⟨8, _⟩ => ⟨S128x8, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S2x2048x1024, .bf16⟩
  | .hbm, ⟨13, _⟩ => ⟨S2x2048x1024, .bf16⟩
  | .hbm, ⟨14, _⟩ => ⟨S2x2048x1024, .bf16⟩
  | .hbm, ⟨15, _⟩ => ⟨S1x1024, .f32⟩
  | .hbm, ⟨16, _⟩ => ⟨S8x128x128, .f32⟩
  | .hbm, ⟨17, _⟩ => ⟨S128x128, .f32⟩
  | .hbm, ⟨18, _⟩ => ⟨S1x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1024, .f32⟩
  | .local _ .vmem, ⟨5, _⟩ => ⟨S8x128x128, .f32⟩
  | .local _ .vmem, ⟨6, _⟩ => ⟨S128x128, .f32⟩
  | .local _ .vmem, ⟨7, _⟩ => ⟨S1x1024, .f32⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x1024, .f32⟩
  | .local _ .vmem, ⟨15, _⟩ => ⟨S8x128x128, .f32⟩
  | .local _ .vmem, ⟨16, _⟩ => ⟨S128x128, .f32⟩
  | .local _ .vmem, ⟨17, _⟩ => ⟨S1x1024, .f32⟩
  | _, _ => ⟨S2x2048x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32_132 : BitVec 32 := 0#32
  let v499 : BitVec 1 := Scalar.cmpi .eq arg0 c0_i32_132
  let arg1 : BitVec 32 := BitVec.ofNat 32 (i 1).val
  let c0_i32_133 : BitVec 32 := 0#32
  let v500 : BitVec 1 := Scalar.cmpi .eq arg1 c0_i32_133
  let v501 : BitVec 1 := Scalar.andi v499 v500
  let v502 : BitVec 32 := Scalar.extui v501
  let c0_i32_134 : BitVec 32 := 0#32
  let v503 : BitVec 1 := Scalar.cmpi .ne v502 c0_i32_134
  v503

def k0_cond2 (i : grid0.Coords) : BitVec 1 :=
  let arg0 : BitVec 32 := BitVec.ofNat 32 (i 0).val
  let c0_i32_132 : BitVec 32 := 0#32
  let v499 : BitVec 1 := Scalar.cmpi .eq arg0 c0_i32_132
  let arg1 : BitVec 32 := BitVec.ofNat 32 (i 1).val
  let c0_i32_133 : BitVec 32 := 0#32
  let v500 : BitVec 1 := Scalar.cmpi .eq arg1 c0_i32_133
  let v501 : BitVec 1 := Scalar.andi v499 v500
  let v_true : BitVec 1 := 1#1
  let v504 : BitVec 1 := Scalar.xori v501 v_true
  let v505 : BitVec 32 := Scalar.extui v504
  let c0_i32_135 : BitVec 32 := 0#32
  let v506 : BitVec 1 := Scalar.cmpi .ne v505 c0_i32_135
  v506

def k0_cond3 (i : grid0.Coords) : BitVec 1 :=
  let arg0 : BitVec 32 := BitVec.ofNat 32 (i 0).val
  let c0_i32_132 : BitVec 32 := 0#32
  let v499 : BitVec 1 := Scalar.cmpi .eq arg0 c0_i32_132
  let arg1 : BitVec 32 := BitVec.ofNat 32 (i 1).val
  let c0_i32_133 : BitVec 32 := 0#32
  let v500 : BitVec 1 := Scalar.cmpi .eq arg1 c0_i32_133
  let v501 : BitVec 1 := Scalar.andi v499 v500
  let v507 : BitVec 32 := Scalar.extui v501
  let c0_i32_136 : BitVec 32 := 0#32
  let v508 : BitVec 1 := Scalar.cmpi .ne v507 c0_i32_136
  v508

def k0_cond4 (i : grid0.Coords) : BitVec 1 :=
  let arg0 : BitVec 32 := BitVec.ofNat 32 (i 0).val
  let c0_i32_132 : BitVec 32 := 0#32
  let v499 : BitVec 1 := Scalar.cmpi .eq arg0 c0_i32_132
  let arg1 : BitVec 32 := BitVec.ofNat 32 (i 1).val
  let c0_i32_133 : BitVec 32 := 0#32
  let v500 : BitVec 1 := Scalar.cmpi .eq arg1 c0_i32_133
  let v501 : BitVec 1 := Scalar.andi v499 v500
  let true_137 : BitVec 1 := 1#1
  let v509 : BitVec 1 := Scalar.xori v501 true_137
  let v510 : BitVec 32 := Scalar.extui v509
  let c0_i32_138 : BitVec 32 := 0#32
  let v511 : BitVec 1 := Scalar.cmpi .ne v510 c0_i32_138
  v511

def k0_cond5 (i : grid0.Coords) : BitVec 1 :=
  let arg0 : BitVec 32 := BitVec.ofNat 32 (i 0).val
  let c0_i32_132 : BitVec 32 := 0#32
  let v499 : BitVec 1 := Scalar.cmpi .eq arg0 c0_i32_132
  let arg1 : BitVec 32 := BitVec.ofNat 32 (i 1).val
  let c0_i32_133 : BitVec 32 := 0#32
  let v500 : BitVec 1 := Scalar.cmpi .eq arg1 c0_i32_133
  let v501 : BitVec 1 := Scalar.andi v499 v500
  let v512 : BitVec 32 := Scalar.extui v501
  let c0_i32_139 : BitVec 32 := 0#32
  let v513 : BitVec 1 := Scalar.cmpi .ne v512 c0_i32_139
  v513

def k0_cond6 (i : grid0.Coords) : BitVec 1 :=
  let arg0 : BitVec 32 := BitVec.ofNat 32 (i 0).val
  let c0_i32_132 : BitVec 32 := 0#32
  let v499 : BitVec 1 := Scalar.cmpi .eq arg0 c0_i32_132
  let arg1 : BitVec 32 := BitVec.ofNat 32 (i 1).val
  let c0_i32_133 : BitVec 32 := 0#32
  let v500 : BitVec 1 := Scalar.cmpi .eq arg1 c0_i32_133
  let v501 : BitVec 1 := Scalar.andi v499 v500
  let true_140 : BitVec 1 := 1#1
  let v514 : BitVec 1 := Scalar.xori v501 true_140
  let v515 : BitVec 32 := Scalar.extui v514
  let c0_i32_141 : BitVec 32 := 0#32
  let v516 : BitVec 1 := Scalar.cmpi .ne v515 c0_i32_141
  v516

def k0_cond7 (i : grid0.Coords) : BitVec 1 :=
  let arg0 : BitVec 32 := BitVec.ofNat 32 (i 0).val
  let c0_i32_132 : BitVec 32 := 0#32
  let v499 : BitVec 1 := Scalar.cmpi .eq arg0 c0_i32_132
  let arg1 : BitVec 32 := BitVec.ofNat 32 (i 1).val
  let c0_i32_133 : BitVec 32 := 0#32
  let v500 : BitVec 1 := Scalar.cmpi .eq arg1 c0_i32_133
  let v501 : BitVec 1 := Scalar.andi v499 v500
  let v517 : BitVec 32 := Scalar.extui v501
  let c0_i32_142 : BitVec 32 := 0#32
  let v518 : BitVec 1 := Scalar.cmpi .ne v517 c0_i32_142
  v518

def k0_cond8 (i : grid0.Coords) : BitVec 1 :=
  let arg0 : BitVec 32 := BitVec.ofNat 32 (i 0).val
  let c0_i32_132 : BitVec 32 := 0#32
  let v499 : BitVec 1 := Scalar.cmpi .eq arg0 c0_i32_132
  let arg1 : BitVec 32 := BitVec.ofNat 32 (i 1).val
  let c0_i32_133 : BitVec 32 := 0#32
  let v500 : BitVec 1 := Scalar.cmpi .eq arg1 c0_i32_133
  let v501 : BitVec 1 := Scalar.andi v499 v500
  let true_143 : BitVec 1 := 1#1
  let v519 : BitVec 1 := Scalar.xori v501 true_143
  let v520 : BitVec 32 := Scalar.extui v519
  let c0_i32_144 : BitVec 32 := 0#32
  let v521 : BitVec 1 := Scalar.cmpi .ne v520 c0_i32_144
  v521

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== GatingRefIdeal.lean ====
abbrev S2x2048x4864 : Shape := ⟨3, ![2, 2048, 4864]⟩
abbrev S1024 : Shape := ⟨1, ![1024]⟩
abbrev S8x128x128 : Shape := ⟨3, ![8, 128, 128]⟩
abbrev S8x128 : Shape := ⟨2, ![8, 128]⟩
abbrev S2x2048x2048 : Shape := ⟨3, ![2, 2048, 2048]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x16x128x8x128 : Shape := ⟨5, ![2, 16, 128, 8, 128]⟩
abbrev S128x128 : Shape := ⟨2, ![128, 128]⟩
abbrev S8x2x16x128x128 : Shape := ⟨5, ![8, 2, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x1024 : Shape := ⟨2, ![1, 1024]⟩

abbrev nBuf : Space → Nat
  | .hbm => 184
  | .vmem => 0
  | .smem => 0
  | _ => 0

abbrev hbmTy0_0 (i : Nat) : BufTy := match i % 128 with
  | 0 => ⟨S2x2048x4864, .f32⟩
  | 1 => ⟨S1024, .f32⟩
  | 2 => ⟨S8x128x128, .f32⟩
  | 3 => ⟨S8x128, .f32⟩
  | 4 => ⟨S1024, .f32⟩
  | 5 => ⟨S2x2048x2048, .bf16⟩
  | 6 => ⟨S2x2048x2048, .f32⟩
  | 7 => ⟨S2x2048x1024, .bf16⟩
  | 8 => ⟨S2x2048x1024, .f32⟩
  | 9 => ⟨S_, .f32⟩
  | 10 => ⟨S2x2048x2048, .f32⟩
  | 11 => ⟨S2x2048x2048, .f32⟩
  | 12 => ⟨S2x2048x2048, .f32⟩
  | 13 => ⟨S_, .f32⟩
  | 14 => ⟨S2x2048x2048, .f32⟩
  | 15 => ⟨S2x2048x2048, .f32⟩
  | 16 => ⟨S2x2048x2048, .f32⟩
  | 17 => ⟨S2x2048x2048, .f32⟩
  | 18 => ⟨S2x2048x2048, .f32⟩
  | 19 => ⟨S2x2048x2048, .f32⟩
  | 20 => ⟨S2x2048x2048, .f32⟩
  | 21 => ⟨S2x2048x1024, .f32⟩
  | 22 => ⟨S2x2048x1024, .f32⟩
  | 23 => ⟨S2x2048x1024, .f32⟩
  | 24 => ⟨S_, .f32⟩
  | 25 => ⟨S2x2048, .f32⟩
  | 26 => ⟨S2x2048x1, .f32⟩
  | 27 => ⟨S_, .f32⟩
  | 28 => ⟨S2x2048x1, .f32⟩
  | 29 => ⟨S2x2048x1, .f32⟩
  | 30 => ⟨S_, .f32⟩
  | 31 => ⟨S2x2048x1, .f32⟩
  | 32 => ⟨S2x2048x1, .f32⟩
  | 33 => ⟨S2x2048x1, .f32⟩
  | 34 => ⟨S2x2048x1, .f32⟩
  | 35 => ⟨S_, .f32⟩
  | 36 => ⟨S2x2048x1, .f32⟩
  | 37 => ⟨S2x2048x1, .f32⟩
  | 38 => ⟨S2x2048x1024, .f32⟩
  | 39 => ⟨S2x2048x1024, .f32⟩
  | 40 => ⟨S1x1x1024, .f32⟩
  | 41 => ⟨S2x2048x1024, .f32⟩
  | 42 => ⟨S2x2048x1024, .f32⟩
  | 43 => ⟨S2x16x128x8x128, .f32⟩
  | 44 => ⟨S_, .i1⟩
  | 45 => ⟨S128x128, .i1⟩
  | 46 => ⟨S128x128, .i32⟩
  | 47 => ⟨S_, .i32⟩
  | 48 => ⟨S128x128, .i32⟩
  | 49 => ⟨S128x128, .i32⟩
  | 50 => ⟨S128x128, .i32⟩
  | 51 => ⟨S128x128, .i1⟩
  | 52 => ⟨S_, .i1⟩
  | 53 => ⟨S128x128, .i1⟩
  | 54 => ⟨S128x128, .i1⟩
  | 55 => ⟨S_, .f32⟩
  | 56 => ⟨S8x128x128, .f32⟩
  | 57 => ⟨S8x128x128, .i1⟩
  | 58 => ⟨S8x128x128, .f32⟩
  | 59 => ⟨S_, .f32⟩
  | 60 => ⟨S8x128x128, .f32⟩
  | 61 => ⟨S8x2x16x128x128, .f32⟩
  | 62 => ⟨S2x16x128x8x128, .f32⟩
  | 63 => ⟨S128x8, .f32⟩
  | 64 => ⟨S128x8x1, .f32⟩
  | 65 => ⟨S1x1x128x8x1, .f32⟩
  | 66 => ⟨S2x16x128x8x128, .f32⟩
  | 67 => ⟨S2x16x128x8x128, .f32⟩
  | 68 => ⟨S2x2048x1024, .f32⟩
  | 69 => ⟨S2x2048x1024, .f32⟩
  | 70 => ⟨S2x2048x1024, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S_, .f32⟩
  | 78 => ⟨S2x2048x1, .f32⟩
  | 79 => ⟨S2x2048x1, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S2x2048x1024, .f32⟩
  | 91 => ⟨S_, .f32⟩
  | 92 => ⟨S1024, .f32⟩
  | 93 => ⟨S1x1x1024, .f32⟩
  | 94 => ⟨S2x2048x1024, .f32⟩
  | 95 => ⟨S2x2048x1024, .f32⟩
  | 96 => ⟨S_, .f32⟩
  | 97 => ⟨S1024, .f32⟩
  | 98 => ⟨S2x2048x1024, .f32⟩
  | 99 => ⟨S_, .f32⟩
  | 100 => ⟨S2x2048, .f32⟩
  | 101 => ⟨S2x2048x1, .f32⟩
  | 102 => ⟨S2x2048x1024, .f32⟩
  | 103 => ⟨S2x2048x1024, .f32⟩
  | 104 => ⟨S2x2048x1, .f32⟩
  | 105 => ⟨S_, .f32⟩
  | 106 => ⟨S2x2048x1, .f32⟩
  | 107 => ⟨S2x2048x1, .f32⟩
  | 108 => ⟨S_, .f32⟩
  | 109 => ⟨S2x2048, .f32⟩
  | 110 => ⟨S2x2048x1024, .f32⟩
  | 111 => ⟨S2x2048x1024, .f32⟩
  | 112 => ⟨S2x2048x1024, .f32⟩
  | 113 => ⟨S2x2048x1024, .f32⟩
  | 114 => ⟨S2x2048x1024, .f32⟩
  | 115 => ⟨S2x2048x1024, .f32⟩
  | 116 => ⟨S2x2048x1024, .f32⟩
  | 117 => ⟨S2x16x128x8x128, .f32⟩
  | 118 => ⟨S_, .f32⟩
  | 119 => ⟨S128x8, .f32⟩
  | 120 => ⟨S1x1x128x8x1, .f32⟩
  | 121 => ⟨S_, .f32⟩
  | 122 => ⟨S128x8, .f32⟩
  | 123 => ⟨S128x8x1, .f32⟩
  | 124 => ⟨S_, .f32⟩
  | 125 => ⟨S128x8, .f32⟩
  | 126 => ⟨S8x128, .f32⟩
  | 127 => ⟨S8x2x16x128x128, .f32⟩
  | _ => ⟨S2x2048x4864, .f32⟩

abbrev hbmTy0_1 (i : Nat) : BufTy := match i % 128 with
  | 0 => ⟨S8x128x128, .f32⟩
  | 1 => ⟨S8x2x16x128x128, .f32⟩
  | 2 => ⟨S2x16x128x8x128, .f32⟩
  | 3 => ⟨S_, .f32⟩
  | 4 => ⟨S8x128x128, .f32⟩
  | 5 => ⟨S8x128x128, .f32⟩
  | 6 => ⟨S2x2048x1024, .f32⟩
  | 7 => ⟨S2x2048x1024, .f32⟩
  | 8 => ⟨S_, .f32⟩
  | 9 => ⟨S1024, .f32⟩
  | 10 => ⟨S1x1x1024, .f32⟩
  | 11 => ⟨S2x2048x1024, .f32⟩
  | 12 => ⟨S2x2048x1024, .f32⟩
  | 13 => ⟨S_, .f32⟩
  | 14 => ⟨S1024, .f32⟩
  | 15 => ⟨S2x2048x1024, .f32⟩
  | 16 => ⟨S_, .f32⟩
  | 17 => ⟨S2x2048, .f32⟩
  | 18 => ⟨S2x2048x1, .f32⟩
  | 19 => ⟨S2x2048x1024, .f32⟩
  | 20 => ⟨S2x2048x1024, .f32⟩
  | 21 => ⟨S2x2048x1, .f32⟩
  | 22 => ⟨S_, .f32⟩
  | 23 => ⟨S2x2048x1, .f32⟩
  | 24 => ⟨S2x2048x1, .f32⟩
  | 25 => ⟨S_, .f32⟩
  | 26 => ⟨S2x2048, .f32⟩
  | 27 => ⟨S2x2048x1024, .f32⟩
  | 28 => ⟨S2x2048x1024, .f32⟩
  | 29 => ⟨S2x2048x1024, .f32⟩
  | 30 => ⟨S2x2048x1024, .f32⟩
  | 31 => ⟨S2x2048x1024, .f32⟩
  | 32 => ⟨S2x2048x2048, .f32⟩
  | 33 => ⟨S2x2048x2048, .f32⟩
  | 34 => ⟨S2x2048x2048, .f32⟩
  | 35 => ⟨S_, .f32⟩
  | 36 => ⟨S2x2048x2048, .f32⟩
  | 37 => ⟨S2x2048x2048, .f32⟩
  | 38 => ⟨S2x2048x2048, .f32⟩
  | 39 => ⟨S_, .f32⟩
  | 40 => ⟨S2x2048x2048, .f32⟩
  | 41 => ⟨S2x2048x2048, .f32⟩
  | 42 => ⟨S2x2048x2048, .f32⟩
  | 43 => ⟨S_, .f32⟩
  | 44 => ⟨S2x2048x2048, .f32⟩
  | 45 => ⟨S2x2048x2048, .f32⟩
  | 46 => ⟨S2x2048x2048, .f32⟩
  | 47 => ⟨S2x2048x2048, .bf16⟩
  | 48 => ⟨S2x2048x1024, .bf16⟩
  | 49 => ⟨S2x2048x1024, .bf16⟩
  | 50 => ⟨S1x1024, .f32⟩
  | 51 => ⟨S128x8, .f32⟩
  | 52 => ⟨S_, .i32⟩
  | 53 => ⟨S_, .f32⟩
  | 54 => ⟨S128x128, .f32⟩
  | 55 => ⟨S1x1024, .f32⟩
  | _ => ⟨S2x2048x4864, .f32⟩

abbrev hbmTy (i : Nat) : BufTy := match i / 128 with
  | 0 => hbmTy0_0 i
  | 1 => hbmTy0_1 i
  | _ => ⟨S2x2048x4864, .f32⟩

abbrev bufTy : (tb : Table) → Fin (tcTables nBuf tb) → BufTy
  | .hbm, ⟨i, _⟩ => hbmTy i
  | _, _ => ⟨S2x2048x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_0 : Ref sig .tc := ⟨.hbm, 52, rfl⟩
abbrev main_call0_v5 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35_1 : Ref sig .tc := ⟨.hbm, 57, rfl⟩
abbrev main_v35_0 : Ref sig .tc := ⟨.hbm, 58, rfl⟩
abbrev main_call1_cst : Ref sig .tc := ⟨.hbm, 59, rfl⟩
abbrev main_v35_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_call2_cst : Ref sig .tc := ⟨.hbm, 131, rfl⟩
abbrev main_call2_v0 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_19 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_21 : Ref sig .tc := ⟨.hbm, 150, rfl⟩
abbrev main_v108 : Ref sig .tc := ⟨.hbm, 151, rfl⟩
abbrev main_v109 : Ref sig .tc := ⟨.hbm, 152, rfl⟩
abbrev main_cst_22 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_23 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_24 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_25 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_26 : Ref sig .tc := ⟨.hbm, 180, rfl⟩
abbrev main_call3_v0 : Ref sig .tc := ⟨.hbm, 181, rfl⟩
abbrev main_v133 : Ref sig .tc := ⟨.hbm, 182, rfl⟩
abbrev main_v134 : Ref sig .tc := ⟨.hbm, 183, rfl⟩

abbrev nD : Nat := 1
abbrev τ : Topo := Topo.v7x

variable {F : FTy → Type} [FloatOps F]
-- ==== WInFwd.lean ====
abbrev S2x2048x1024 : Shape := ⟨3, ![2, 2048, 1024]⟩
abbrev S1024x4864 : Shape := ⟨2, ![1024, 4864]⟩
abbrev S4096x1024 : Shape := ⟨2, ![4096, 1024]⟩
abbrev S4096x4864 : Shape := ⟨2, ![4096, 4864]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S1024x4864, .bf16⟩
  | .hbm, ⟨2, _⟩ => ⟨S4096x1024, .bf16⟩
  | .hbm, ⟨3, _⟩ => ⟨S4096x4864, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInFwdIdeal.lean ====
abbrev S2x2048x1024 : Shape := ⟨3, ![2, 2048, 1024]⟩
abbrev S1024x4864 : Shape := ⟨2, ![1024, 4864]⟩
abbrev S4096x1024 : Shape := ⟨2, ![4096, 1024]⟩
abbrev S4096x4864 : Shape := ⟨2, ![4096, 4864]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S1024x4864, .bf16⟩
  | .hbm, ⟨2, _⟩ => ⟨S4096x1024, .bf16⟩
  | .hbm, ⟨3, _⟩ => ⟨S4096x4864, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInFwdRefIdeal.lean ====
abbrev S2x2048x1024 : Shape := ⟨3, ![2, 2048, 1024]⟩
abbrev S1024x4864 : Shape := ⟨2, ![1024, 4864]⟩
abbrev S2x2048x4864 : Shape := ⟨3, ![2, 2048, 4864]⟩
abbrev S4096x4864 : Shape := ⟨2, ![4096, 4864]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x4864, .bf16⟩
  | .hbm, ⟨2, _⟩ => ⟨S2x2048x1024, .f32⟩
  | .hbm, ⟨3, _⟩ => ⟨S1024x4864, .f32⟩
  | .hbm, ⟨4, _⟩ => ⟨S2x2048x4864, .f32⟩
  | .hbm, ⟨5, _⟩ => ⟨S4096x4864, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WInDx.lean ====
abbrev S1024x4864 : Shape := ⟨2, ![1024, 4864]⟩
abbrev S2x2048x4864 : Shape := ⟨3, ![2, 2048, 4864]⟩
abbrev S4096x4864 : Shape := ⟨2, ![4096, 4864]⟩
abbrev S4096x1024 : Shape := ⟨2, ![4096, 1024]⟩
abbrev S512x2432 : Shape := ⟨2, ![512, 2432]⟩
abbrev S1024x2432 : Shape := ⟨2, ![1024, 2432]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x4864, .bf16⟩
  | .hbm, ⟨1, _⟩ => ⟨S2x2048x4864, .bf16⟩
  | .hbm, ⟨2, _⟩ => ⟨S4096x4864, .bf16⟩
  | .hbm, ⟨3, _⟩ => ⟨S4096x1024, .bf16⟩
  | .local _ .vmem, ⟨0, _⟩ => ⟨S512x2432, .bf16⟩
  | .local _ .vmem, ⟨1, _⟩ => ⟨S512x2432, .bf16⟩
  | .local _ .vmem, ⟨2, _⟩ => ⟨S1024x2432, .bf16⟩
  | .local _ .vmem, ⟨3, _⟩ => ⟨S1024x2432, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S1024x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDxIdeal.lean ====
abbrev S1024x4864 : Shape := ⟨2, ![1024, 4864]⟩
abbrev S2x2048x4864 : Shape := ⟨3, ![2, 2048, 4864]⟩
abbrev S4096x4864 : Shape := ⟨2, ![4096, 4864]⟩
abbrev S4096x1024 : Shape := ⟨2, ![4096, 1024]⟩
abbrev S512x2432 : Shape := ⟨2, ![512, 2432]⟩
abbrev S1024x2432 : Shape := ⟨2, ![1024, 2432]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x4864, .bf16⟩
  | .hbm, ⟨1, _⟩ => ⟨S2x2048x4864, .bf16⟩
  | .hbm, ⟨2, _⟩ => ⟨S4096x4864, .bf16⟩
  | .hbm, ⟨3, _⟩ => ⟨S4096x1024, .bf16⟩
  | .local _ .vmem, ⟨0, _⟩ => ⟨S512x2432, .bf16⟩
  | .local _ .vmem, ⟨1, _⟩ => ⟨S512x2432, .bf16⟩
  | .local _ .vmem, ⟨2, _⟩ => ⟨S1024x2432, .bf16⟩
  | .local _ .vmem, ⟨3, _⟩ => ⟨S1024x2432, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S1024x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDxRefIdeal.lean ====
abbrev S1024x4864 : Shape := ⟨2, ![1024, 4864]⟩
abbrev S2x2048x4864 : Shape := ⟨3, ![2, 2048, 4864]⟩
abbrev S_ : Shape := ⟨0, ![]⟩
abbrev S2x2048x1024 : Shape := ⟨3, ![2, 2048, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x4864, .bf16⟩
  | .hbm, ⟨1, _⟩ => ⟨S2x2048x4864, .bf16⟩
  | .hbm, ⟨2, _⟩ => ⟨S1024x4864, .f32⟩
  | .hbm, ⟨3, _⟩ => ⟨S2x2048x4864, .f32⟩
  | .hbm, ⟨4, _⟩ => ⟨S_, .f32⟩
  | .hbm, ⟨5, _⟩ => ⟨S2x2048x1024, .f32⟩
  | .hbm, ⟨6, _⟩ => ⟨S2x2048x4864, .f32⟩
  | .hbm, ⟨7, _⟩ => ⟨S2x2048x1024, .f32⟩
  | .hbm, ⟨8, _⟩ => ⟨S2x2048x1024, .bf16⟩
  | .hbm, ⟨9, _⟩ => ⟨S4096x1024, .bf16⟩
  | _, _ => ⟨S1024x4864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WInDw.lean ====
abbrev S2x2048x1024 : Shape := ⟨3, ![2, 2048, 1024]⟩
abbrev S2x2048x4864 : Shape := ⟨3, ![2, 2048, 4864]⟩
abbrev S4096x1024 : Shape := ⟨2, ![4096, 1024]⟩
abbrev S4096x4864 : Shape := ⟨2, ![4096, 4864]⟩
abbrev S1024x4864 : Shape := ⟨2, ![1024, 4864]⟩
abbrev S1024x512 : Shape := ⟨2, ![1024, 512]⟩
abbrev S1024x2432 : Shape := ⟨2, ![1024, 2432]⟩
abbrev S512x2432 : Shape := ⟨2, ![512, 2432]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x4864, .bf16⟩
  | .hbm, ⟨2, _⟩ => ⟨S4096x1024, .bf16⟩
  | .hbm, ⟨3, _⟩ => ⟨S4096x4864, .bf16⟩
  | .hbm, ⟨4, _⟩ => ⟨S1024x4864, .bf16⟩
  | .local _ .vmem, ⟨0, _⟩ => ⟨S1024x512, .bf16⟩
  | .local _ .vmem, ⟨1, _⟩ => ⟨S1024x512, .bf16⟩
  | .local _ .vmem, ⟨2, _⟩ => ⟨S1024x2432, .bf16⟩
  | .local _ .vmem, ⟨3, _⟩ => ⟨S1024x2432, .bf16⟩
  | .local _ .vmem, ⟨4, _⟩ => ⟨S512x2432, .bf16⟩
  | .local _ .vmem, ⟨5, _⟩ => ⟨S512x2432, .bf16⟩
  | .local _ .vmem, ⟨6, _⟩ => ⟨S512x2432, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDwIdeal.lean ====
abbrev S2x2048x1024 : Shape := ⟨3, ![2, 2048, 1024]⟩
abbrev S2x2048x4864 : Shape := ⟨3, ![2, 2048, 4864]⟩
abbrev S4096x1024 : Shape := ⟨2, ![4096, 1024]⟩
abbrev S4096x4864 : Shape := ⟨2, ![4096, 4864]⟩
abbrev S1024x4864 : Shape := ⟨2, ![1024, 4864]⟩
abbrev S1024x512 : Shape := ⟨2, ![1024, 512]⟩
abbrev S1024x2432 : Shape := ⟨2, ![1024, 2432]⟩
abbrev S512x2432 : Shape := ⟨2, ![512, 2432]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x4864, .bf16⟩
  | .hbm, ⟨2, _⟩ => ⟨S4096x1024, .bf16⟩
  | .hbm, ⟨3, _⟩ => ⟨S4096x4864, .bf16⟩
  | .hbm, ⟨4, _⟩ => ⟨S1024x4864, .bf16⟩
  | .local _ .vmem, ⟨0, _⟩ => ⟨S1024x512, .bf16⟩
  | .local _ .vmem, ⟨1, _⟩ => ⟨S1024x512, .bf16⟩
  | .local _ .vmem, ⟨2, _⟩ => ⟨S1024x2432, .bf16⟩
  | .local _ .vmem, ⟨3, _⟩ => ⟨S1024x2432, .bf16⟩
  | .local _ .vmem, ⟨4, _⟩ => ⟨S512x2432, .bf16⟩
  | .local _ .vmem, ⟨5, _⟩ => ⟨S512x2432, .bf16⟩
  | .local _ .vmem, ⟨6, _⟩ => ⟨S512x2432, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDwRefIdeal.lean ====
abbrev S2x2048x1024 : Shape := ⟨3, ![2, 2048, 1024]⟩
abbrev S2x2048x4864 : Shape := ⟨3, ![2, 2048, 4864]⟩
abbrev S_ : Shape := ⟨0, ![]⟩
abbrev S1024x4864 : Shape := ⟨2, ![1024, 4864]⟩
abbrev S4864x1024 : Shape := ⟨2, ![4864, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x4864, .bf16⟩
  | .hbm, ⟨2, _⟩ => ⟨S2x2048x1024, .f32⟩
  | .hbm, ⟨3, _⟩ => ⟨S2x2048x4864, .f32⟩
  | .hbm, ⟨4, _⟩ => ⟨S_, .f32⟩
  | .hbm, ⟨5, _⟩ => ⟨S1024x4864, .f32⟩
  | .hbm, ⟨6, _⟩ => ⟨S2x2048x4864, .f32⟩
  | .hbm, ⟨7, _⟩ => ⟨S4864x1024, .f32⟩
  | .hbm, ⟨8, _⟩ => ⟨S1024x4864, .f32⟩
  | .hbm, ⟨9, _⟩ => ⟨S1024x4864, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WOutFwd.lean ====
abbrev S2x2048x2048 : Shape := ⟨3, ![2, 2048, 2048]⟩
abbrev S2048x1024 : Shape := ⟨2, ![2048, 1024]⟩
abbrev S4096x2048 : Shape := ⟨2, ![4096, 2048]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S4096x2048, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutFwdIdeal.lean ====
abbrev S2x2048x2048 : Shape := ⟨3, ![2, 2048, 2048]⟩
abbrev S2048x1024 : Shape := ⟨2, ![2048, 1024]⟩
abbrev S4096x2048 : Shape := ⟨2, ![4096, 2048]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S4096x2048, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutFwdRefIdeal.lean ====
abbrev S2x2048x2048 : Shape := ⟨3, ![2, 2048, 2048]⟩
abbrev S2048x1024 : Shape := ⟨2, ![2048, 1024]⟩
abbrev S2x2048x1024 : Shape := ⟨3, ![2, 2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S2x2048x2048, .f32⟩
  | .hbm, ⟨3, _⟩ => ⟨S2048x1024, .f32⟩
  | .hbm, ⟨4, _⟩ => ⟨S2x2048x1024, .f32⟩
  | .hbm, ⟨5, _⟩ => ⟨S4096x1024, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WOutDx.lean ====
abbrev S2048x1024 : Shape := ⟨2, ![2048, 1024]⟩
abbrev S2x2048x1024 : Shape := ⟨3, ![2, 2048, 1024]⟩
abbrev S4096x1024 : Shape := ⟨2, ![4096, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2x2048x1024, .bf16⟩
  | .hbm, ⟨2, _⟩ => ⟨S4096x1024, .bf16⟩
  | .hbm, ⟨3, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDxIdeal.lean ====
abbrev S2048x1024 : Shape := ⟨2, ![2048, 1024]⟩
abbrev S2x2048x1024 : Shape := ⟨3, ![2, 2048, 1024]⟩
abbrev S4096x1024 : Shape := ⟨2, ![4096, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2x2048x1024, .bf16⟩
  | .hbm, ⟨2, _⟩ => ⟨S4096x1024, .bf16⟩
  | .hbm, ⟨3, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDxRefIdeal.lean ====
abbrev S2048x1024 : Shape := ⟨2, ![2048, 1024]⟩
abbrev S2x2048x1024 : Shape := ⟨3, ![2, 2048, 1024]⟩
abbrev S_ : Shape := ⟨0, ![]⟩
abbrev S2x2048x2048 : Shape := ⟨3, ![2, 2048, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x1024, .bf16⟩
  | .hbm, ⟨2, _⟩ => ⟨S2048x1024, .f32⟩
  | .hbm, ⟨3, _⟩ => ⟨S2x2048x1024, .f32⟩
  | .hbm, ⟨4, _⟩ => ⟨S_, .f32⟩
  | .hbm, ⟨5, _⟩ => ⟨S2x2048x2048, .f32⟩
  | .hbm, ⟨6, _⟩ => ⟨S2x2048x1024, .f32⟩
  | .hbm, ⟨7, _⟩ => ⟨S2x2048x2048, .f32⟩
  | .hbm, ⟨8, _⟩ => ⟨S2x2048x2048, .bf16⟩
  | .hbm, ⟨9, _⟩ => ⟨S4096x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WOutDw.lean ====
abbrev S2x2048x2048 : Shape := ⟨3, ![2, 2048, 2048]⟩
abbrev S2x2048x1024 : Shape := ⟨3, ![2, 2048, 1024]⟩
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x1024, .bf16⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDwIdeal.lean ====
abbrev S2x2048x2048 : Shape := ⟨3, ![2, 2048, 2048]⟩
abbrev S2x2048x1024 : Shape := ⟨3, ![2, 2048, 1024]⟩
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x1024, .bf16⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDwRefIdeal.lean ====
abbrev S2x2048x2048 : Shape := ⟨3, ![2, 2048, 2048]⟩
abbrev S2x2048x1024 : Shape := ⟨3, ![2, 2048, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x1024, .bf16⟩
  | .hbm, ⟨2, _⟩ => ⟨S2x2048x2048, .f32⟩
  | .hbm, ⟨3, _⟩ => ⟨S2x2048x1024, .f32⟩
  | .hbm, ⟨4, _⟩ => ⟨S_, .f32⟩
  | .hbm, ⟨5, _⟩ => ⟨S2048x1024, .f32⟩
  | .hbm, ⟨6, _⟩ => ⟨S2x2048x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfUpFwd.lean ====
abbrev S2x2048x1024 : Shape := ⟨3, ![2, 2048, 1024]⟩
abbrev S1024x5632 : Shape := ⟨2, ![1024, 5632]⟩
abbrev S4096x1024 : Shape := ⟨2, ![4096, 1024]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S1024x5632, .bf16⟩
  | .hbm, ⟨2, _⟩ => ⟨S4096x1024, .bf16⟩
  | .hbm, ⟨3, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUpFwdIdeal.lean ====
abbrev S2x2048x1024 : Shape := ⟨3, ![2, 2048, 1024]⟩
abbrev S1024x5632 : Shape := ⟨2, ![1024, 5632]⟩
abbrev S4096x1024 : Shape := ⟨2, ![4096, 1024]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S1024x5632, .bf16⟩
  | .hbm, ⟨2, _⟩ => ⟨S4096x1024, .bf16⟩
  | .hbm, ⟨3, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUpFwdRefIdeal.lean ====
abbrev S2x2048x1024 : Shape := ⟨3, ![2, 2048, 1024]⟩
abbrev S1024x5632 : Shape := ⟨2, ![1024, 5632]⟩
abbrev S2x2048x5632 : Shape := ⟨3, ![2, 2048, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x5632, .bf16⟩
  | .hbm, ⟨2, _⟩ => ⟨S2x2048x1024, .f32⟩
  | .hbm, ⟨3, _⟩ => ⟨S1024x5632, .f32⟩
  | .hbm, ⟨4, _⟩ => ⟨S2x2048x5632, .f32⟩
  | .hbm, ⟨5, _⟩ => ⟨S4096x5632, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfUpDx.lean ====
abbrev S1024x5632 : Shape := ⟨2, ![1024, 5632]⟩
abbrev S2x2048x5632 : Shape := ⟨3, ![2, 2048, 5632]⟩
abbrev S4096x5632 : Shape := ⟨2, ![4096, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S2x2048x5632, .bf16⟩
  | .hbm, ⟨2, _⟩ => ⟨S4096x5632, .bf16⟩
  | .hbm, ⟨3, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUpDxIdeal.lean ====
abbrev S1024x5632 : Shape := ⟨2, ![1024, 5632]⟩
abbrev S2x2048x5632 : Shape := ⟨3, ![2, 2048, 5632]⟩
abbrev S4096x5632 : Shape := ⟨2, ![4096, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S2x2048x5632, .bf16⟩
  | .hbm, ⟨2, _⟩ => ⟨S4096x5632, .bf16⟩
  | .hbm, ⟨3, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUpDxRefIdeal.lean ====
abbrev S1024x5632 : Shape := ⟨2, ![1024, 5632]⟩
abbrev S2x2048x5632 : Shape := ⟨3, ![2, 2048, 5632]⟩
abbrev S_ : Shape := ⟨0, ![]⟩
abbrev S2x2048x1024 : Shape := ⟨3, ![2, 2048, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S2x2048x5632, .bf16⟩
  | .hbm, ⟨2, _⟩ => ⟨S1024x5632, .f32⟩
  | .hbm, ⟨3, _⟩ => ⟨S2x2048x5632, .f32⟩
  | .hbm, ⟨4, _⟩ => ⟨S_, .f32⟩
  | .hbm, ⟨5, _⟩ => ⟨S2x2048x1024, .f32⟩
  | .hbm, ⟨6, _⟩ => ⟨S2x2048x5632, .f32⟩
  | .hbm, ⟨7, _⟩ => ⟨S2x2048x1024, .f32⟩
  | .hbm, ⟨8, _⟩ => ⟨S2x2048x1024, .bf16⟩
  | .hbm, ⟨9, _⟩ => ⟨S4096x1024, .bf16⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfUpDw.lean ====
abbrev S2x2048x1024 : Shape := ⟨3, ![2, 2048, 1024]⟩
abbrev S2x2048x5632 : Shape := ⟨3, ![2, 2048, 5632]⟩
abbrev S4096x1024 : Shape := ⟨2, ![4096, 1024]⟩
abbrev S4096x5632 : Shape := ⟨2, ![4096, 5632]⟩
abbrev S1024x5632 : Shape := ⟨2, ![1024, 5632]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x5632, .bf16⟩
  | .hbm, ⟨2, _⟩ => ⟨S4096x1024, .bf16⟩
  | .hbm, ⟨3, _⟩ => ⟨S4096x5632, .bf16⟩
  | .hbm, ⟨4, _⟩ => ⟨S1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUpDwIdeal.lean ====
abbrev S2x2048x1024 : Shape := ⟨3, ![2, 2048, 1024]⟩
abbrev S2x2048x5632 : Shape := ⟨3, ![2, 2048, 5632]⟩
abbrev S4096x1024 : Shape := ⟨2, ![4096, 1024]⟩
abbrev S4096x5632 : Shape := ⟨2, ![4096, 5632]⟩
abbrev S1024x5632 : Shape := ⟨2, ![1024, 5632]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x5632, .bf16⟩
  | .hbm, ⟨2, _⟩ => ⟨S4096x1024, .bf16⟩
  | .hbm, ⟨3, _⟩ => ⟨S4096x5632, .bf16⟩
  | .hbm, ⟨4, _⟩ => ⟨S1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUpDwRefIdeal.lean ====
abbrev S2x2048x1024 : Shape := ⟨3, ![2, 2048, 1024]⟩
abbrev S2x2048x5632 : Shape := ⟨3, ![2, 2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x5632, .bf16⟩
  | .hbm, ⟨2, _⟩ => ⟨S2x2048x1024, .f32⟩
  | .hbm, ⟨3, _⟩ => ⟨S2x2048x5632, .f32⟩
  | .hbm, ⟨4, _⟩ => ⟨S_, .f32⟩
  | .hbm, ⟨5, _⟩ => ⟨S1024x5632, .f32⟩
  | .hbm, ⟨6, _⟩ => ⟨S2x2048x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfDownFwd.lean ====
abbrev S2x2048x2816 : Shape := ⟨3, ![2, 2048, 2816]⟩
abbrev S2816x1024 : Shape := ⟨2, ![2816, 1024]⟩
abbrev S4096x2816 : Shape := ⟨2, ![4096, 2816]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x2816, .bf16⟩
  | .hbm, ⟨1, _⟩ => ⟨S2816x1024, .bf16⟩
  | .hbm, ⟨2, _⟩ => ⟨S4096x2816, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDownFwdIdeal.lean ====
abbrev S2x2048x2816 : Shape := ⟨3, ![2, 2048, 2816]⟩
abbrev S2816x1024 : Shape := ⟨2, ![2816, 1024]⟩
abbrev S4096x2816 : Shape := ⟨2, ![4096, 2816]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x2816, .bf16⟩
  | .hbm, ⟨1, _⟩ => ⟨S2816x1024, .bf16⟩
  | .hbm, ⟨2, _⟩ => ⟨S4096x2816, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDownFwdRefIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2816x1024, .bf16⟩
  | .hbm, ⟨2, _⟩ => ⟨S2x2048x2816, .f32⟩
  | .hbm, ⟨3, _⟩ => ⟨S2816x1024, .f32⟩
  | .hbm, ⟨4, _⟩ => ⟨S2x2048x1024, .f32⟩
  | .hbm, ⟨5, _⟩ => ⟨S4096x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfDownDx.lean ====
abbrev S2816x1024 : Shape := ⟨2, ![2816, 1024]⟩
abbrev S2x2048x1024 : Shape := ⟨3, ![2, 2048, 1024]⟩
abbrev S4096x1024 : Shape := ⟨2, ![4096, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2816x1024, .bf16⟩
  | .hbm, ⟨1, _⟩ => ⟨S2x2048x1024, .bf16⟩
  | .hbm, ⟨2, _⟩ => ⟨S4096x1024, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDownDxIdeal.lean ====
abbrev S2816x1024 : Shape := ⟨2, ![2816, 1024]⟩
abbrev S2x2048x1024 : Shape := ⟨3, ![2, 2048, 1024]⟩
abbrev S4096x1024 : Shape := ⟨2, ![4096, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2816x1024, .bf16⟩
  | .hbm, ⟨1, _⟩ => ⟨S2x2048x1024, .bf16⟩
  | .hbm, ⟨2, _⟩ => ⟨S4096x1024, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDownDxRefIdeal.lean ====
abbrev S2816x1024 : Shape := ⟨2, ![2816, 1024]⟩
abbrev S2x2048x1024 : Shape := ⟨3, ![2, 2048, 1024]⟩
abbrev S_ : Shape := ⟨0, ![]⟩
abbrev S2x2048x2816 : Shape := ⟨3, ![2, 2048, 2816]⟩
abbrev S4096x2816 : Shape := ⟨2, ![4096, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S2x2048x1024, .bf16⟩
  | .hbm, ⟨2, _⟩ => ⟨S2816x1024, .f32⟩
  | .hbm, ⟨3, _⟩ => ⟨S2x2048x1024, .f32⟩
  | .hbm, ⟨4, _⟩ => ⟨S_, .f32⟩
  | .hbm, ⟨5, _⟩ => ⟨S2x2048x2816, .f32⟩
  | .hbm, ⟨6, _⟩ => ⟨S2x2048x1024, .f32⟩
  | .hbm, ⟨7, _⟩ => ⟨S2x2048x2816, .f32⟩
  | .hbm, ⟨8, _⟩ => ⟨S2x2048x2816, .bf16⟩
  | .hbm, ⟨9, _⟩ => ⟨S4096x2816, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfDownDw.lean ====
abbrev S2x2048x2816 : Shape := ⟨3, ![2, 2048, 2816]⟩
abbrev S2x2048x1024 : Shape := ⟨3, ![2, 2048, 1024]⟩
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x2816, .bf16⟩
  | .hbm, ⟨1, _⟩ => ⟨S2x2048x1024, .bf16⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDownDwIdeal.lean ====
abbrev S2x2048x2816 : Shape := ⟨3, ![2, 2048, 2816]⟩
abbrev S2x2048x1024 : Shape := ⟨3, ![2, 2048, 1024]⟩
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x2816, .bf16⟩
  | .hbm, ⟨1, _⟩ => ⟨S2x2048x1024, .bf16⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfDownDwRefIdeal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2x2048x1024, .bf16⟩
  | .hbm, ⟨2, _⟩ => ⟨S2x2048x2816, .f32⟩
  | .hbm, ⟨3, _⟩ => ⟨S2x2048x1024, .f32⟩
  | .hbm, ⟨4, _⟩ => ⟨S_, .f32⟩
  | .hbm, ⟨5, _⟩ => ⟨S2816x1024, .f32⟩
  | .hbm, ⟨6, _⟩ => ⟨S2x2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamAdaW.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWIdeal.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWRefIdeal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWIn.lean ====
abbrev S2x1024x1156 : Shape := ⟨3, ![2, 1024, 1156]⟩
abbrev S2048x1156 : Shape := ⟨2, ![2048, 1156]⟩
abbrev S256x1156 : Shape := ⟨2, ![256, 1156]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1156, .f32⟩
  | .hbm, ⟨1, _⟩ => ⟨S2x1024x1156, .f32⟩
  | .hbm, ⟨2, _⟩ => ⟨S2x1024x1156, .f32⟩
  | .hbm, ⟨3, _⟩ => ⟨S2x1024x1156, .f32⟩
  | .hbm, ⟨4, _⟩ => ⟨S2048x1156, .f32⟩
  | .hbm, ⟨5, _⟩ => ⟨S2048x1156, .f32⟩
  | .hbm, ⟨6, _⟩ => ⟨S2048x1156, .f32⟩
  | .hbm, ⟨7, _⟩ => ⟨S2048x1156, .f32⟩
  | .hbm, ⟨8, _⟩ => ⟨S2048x1156, .f32⟩
  | .hbm, ⟨9, _⟩ => ⟨S2048x1156, .f32⟩
  | .hbm, ⟨10, _⟩ => ⟨S2048x1156, .f32⟩
  | .local _ .vmem, ⟨0, _⟩ => ⟨S256x1156, .f32⟩
  | .local _ .vmem, ⟨1, _⟩ => ⟨S256x1156, .f32⟩
  | .local _ .vmem, ⟨2, _⟩ => ⟨S256x1156, .f32⟩
  | .local _ .vmem, ⟨3, _⟩ => ⟨S256x1156, .f32⟩
  | .local _ .vmem, ⟨4, _⟩ => ⟨S256x1156, .f32⟩
  | .local _ .vmem, ⟨5, _⟩ => ⟨S256x1156, .f32⟩
  | .local _ .vmem, ⟨6, _⟩ => ⟨S256x1156, .f32⟩
  | .local _ .vmem, ⟨7, _⟩ => ⟨S256x1156, .f32⟩
  | .local _ .vmem, ⟨8, _⟩ => ⟨S256x1156, .f32⟩
  | .local _ .vmem, ⟨9, _⟩ => ⟨S256x1156, .f32⟩
  | .local _ .vmem, ⟨10, _⟩ => ⟨S256x1156, .f32⟩
  | .local _ .vmem, ⟨11, _⟩ => ⟨S256x1156, .f32⟩
  | .local _ .vmem, ⟨12, _⟩ => ⟨S256x1156, .f32⟩
  | .local _ .vmem, ⟨13, _⟩ => ⟨S256x1156, .f32⟩
  | _, _ => ⟨S2x1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1156 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1156 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1156 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1156 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1156 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S2x1024x1156 : Shape := ⟨3, ![2, 1024, 1156]⟩
abbrev S2048x1156 : Shape := ⟨2, ![2048, 1156]⟩
abbrev S256x1156 : Shape := ⟨2, ![256, 1156]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1156, .f32⟩
  | .hbm, ⟨1, _⟩ => ⟨S2x1024x1156, .f32⟩
  | .hbm, ⟨2, _⟩ => ⟨S2x1024x1156, .f32⟩
  | .hbm, ⟨3, _⟩ => ⟨S2x1024x1156, .f32⟩
  | .hbm, ⟨4, _⟩ => ⟨S2048x1156, .f32⟩
  | .hbm, ⟨5, _⟩ => ⟨S2048x1156, .f32⟩
  | .hbm, ⟨6, _⟩ => ⟨S2048x1156, .f32⟩
  | .hbm, ⟨7, _⟩ => ⟨S2048x1156, .f32⟩
  | .hbm, ⟨8, _⟩ => ⟨S2048x1156, .f32⟩
  | .hbm, ⟨9, _⟩ => ⟨S2048x1156, .f32⟩
  | .hbm, ⟨10, _⟩ => ⟨S2048x1156, .f32⟩
  | .local _ .vmem, ⟨0, _⟩ => ⟨S256x1156, .f32⟩
  | .local _ .vmem, ⟨1, _⟩ => ⟨S256x1156, .f32⟩
  | .local _ .vmem, ⟨2, _⟩ => ⟨S256x1156, .f32⟩
  | .local _ .vmem, ⟨3, _⟩ => ⟨S256x1156, .f32⟩
  | .local _ .vmem, ⟨4, _⟩ => ⟨S256x1156, .f32⟩
  | .local _ .vmem, ⟨5, _⟩ => ⟨S256x1156, .f32⟩
  | .local _ .vmem, ⟨6, _⟩ => ⟨S256x1156, .f32⟩
  | .local _ .vmem, ⟨7, _⟩ => ⟨S256x1156, .f32⟩
  | .local _ .vmem, ⟨8, _⟩ => ⟨S256x1156, .f32⟩
  | .local _ .vmem, ⟨9, _⟩ => ⟨S256x1156, .f32⟩
  | .local _ .vmem, ⟨10, _⟩ => ⟨S256x1156, .f32⟩
  | .local _ .vmem, ⟨11, _⟩ => ⟨S256x1156, .f32⟩
  | .local _ .vmem, ⟨12, _⟩ => ⟨S256x1156, .f32⟩
  | .local _ .vmem, ⟨13, _⟩ => ⟨S256x1156, .f32⟩
  | _, _ => ⟨S2x1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1156 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1156 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1156 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1156 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1156 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S2x1024x1156 : Shape := ⟨3, ![2, 1024, 1156]⟩
abbrev S_ : Shape := ⟨0, ![]⟩
abbrev S2048x1156 : Shape := ⟨2, ![2048, 1156]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1156, .f32⟩
  | .hbm, ⟨1, _⟩ => ⟨S2x1024x1156, .f32⟩
  | .hbm, ⟨2, _⟩ => ⟨S2x1024x1156, .f32⟩
  | .hbm, ⟨3, _⟩ => ⟨S2x1024x1156, .f32⟩
  | .hbm, ⟨4, _⟩ => ⟨S_, .f32⟩
  | .hbm, ⟨5, _⟩ => ⟨S2x1024x1156, .f32⟩
  | .hbm, ⟨6, _⟩ => ⟨S2x1024x1156, .f32⟩
  | .hbm, ⟨7, _⟩ => ⟨S_, .f32⟩
  | .hbm, ⟨8, _⟩ => ⟨S2x1024x1156, .f32⟩
  | .hbm, ⟨9, _⟩ => ⟨S2x1024x1156, .f32⟩
  | .hbm, ⟨10, _⟩ => ⟨S2x1024x1156, .f32⟩
  | .hbm, ⟨11, _⟩ => ⟨S_, .f32⟩
  | .hbm, ⟨12, _⟩ => ⟨S2x1024x1156, .f32⟩
  | .hbm, ⟨13, _⟩ => ⟨S2x1024x1156, .f32⟩
  | .hbm, ⟨14, _⟩ => ⟨S2x1024x1156, .f32⟩
  | .hbm, ⟨15, _⟩ => ⟨S_, .f32⟩
  | .hbm, ⟨16, _⟩ => ⟨S2x1024x1156, .f32⟩
  | .hbm, ⟨17, _⟩ => ⟨S2x1024x1156, .f32⟩
  | .hbm, ⟨18, _⟩ => ⟨S2x1024x1156, .f32⟩
  | .hbm, ⟨19, _⟩ => ⟨S_, .f32⟩
  | .hbm, ⟨20, _⟩ => ⟨S2x1024x1156, .f32⟩
  | .hbm, ⟨21, _⟩ => ⟨S2x1024x1156, .f32⟩
  | .hbm, ⟨22, _⟩ => ⟨S_, .f32⟩
  | .hbm, ⟨23, _⟩ => ⟨S2x1024x1156, .f32⟩
  | .hbm, ⟨24, _⟩ => ⟨S2x1024x1156, .f32⟩
  | .hbm, ⟨25, _⟩ => ⟨S2x1024x1156, .f32⟩
  | .hbm, ⟨26, _⟩ => ⟨S_, .f32⟩
  | .hbm, ⟨27, _⟩ => ⟨S2x1024x1156, .f32⟩
  | .hbm, ⟨28, _⟩ => ⟨S2x1024x1156, .f32⟩
  | .hbm, ⟨29, _⟩ => ⟨S2x1024x1156, .f32⟩
  | .hbm, ⟨30, _⟩ => ⟨S_, .f32⟩
  | .hbm, ⟨31, _⟩ => ⟨S2x1024x1156, .f32⟩
  | .hbm, ⟨32, _⟩ => ⟨S2x1024x1156, .f32⟩
  | .hbm, ⟨33, _⟩ => ⟨S2x1024x1156, .f32⟩
  | .hbm, ⟨34, _⟩ => ⟨S_, .f32⟩
  | .hbm, ⟨35, _⟩ => ⟨S2x1024x1156, .f32⟩
  | .hbm, ⟨36, _⟩ => ⟨S2x1024x1156, .f32⟩
  | .hbm, ⟨37, _⟩ => ⟨S2048x1156, .f32⟩
  | .hbm, ⟨38, _⟩ => ⟨S2048x1156, .f32⟩
  | .hbm, ⟨39, _⟩ => ⟨S2048x1156, .f32⟩
  | _, _ => ⟨S2x1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWOut.lean ====
abbrev S2x512x1024 : Shape := ⟨3, ![2, 512, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutIdeal.lean ====
abbrev S2x512x1024 : Shape := ⟨3, ![2, 512, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S2x512x1024 : Shape := ⟨3, ![2, 512, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfUp.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfUpIdeal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfUpRefIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfDown.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdaBwd.lean ====
abbrev S16x1024 : Shape := ⟨2, ![16, 1024]⟩
abbrev S2x16x1536 : Shape := ⟨3, ![2, 16, 1536]⟩
abbrev S2x16x6144 : Shape := ⟨3, ![2, 16, 6144]⟩
abbrev S2x1024x1536 : Shape := ⟨3, ![2, 1024, 1536]⟩
abbrev S2x1x6144 : Shape := ⟨3, ![2, 1, 6144]⟩
abbrev S1x16x1536 : Shape := ⟨3, ![1, 16, 1536]⟩
abbrev S1x16x6144 : Shape := ⟨3, ![1, 16, 6144]⟩
abbrev S1x1024x1536 : Shape := ⟨3, ![1, 1024, 1536]⟩
abbrev S1x1x6144 : Shape := ⟨3, ![1, 1, 6144]⟩
abbrev S16x1536 : Shape := ⟨2, ![16, 1536]⟩
abbrev S1024x1536 : Shape := ⟨2, ![1024, 1536]⟩
abbrev S16x6144 : Shape := ⟨2, ![16, 6144]⟩
abbrev S6144 : Shape := ⟨1, ![6144]⟩
abbrev S1x6144 : Shape := ⟨2, ![1, 6144]⟩

abbrev nBuf : Space → Nat
  | .hbm => 5
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S2x16x1536, .f32⟩
  | .hbm, ⟨2, _⟩ => ⟨S2x16x6144, .f32⟩
  | .hbm, ⟨3, _⟩ => ⟨S2x1024x1536, .f32⟩
  | .hbm, ⟨4, _⟩ => ⟨S2x1x6144, .f32⟩
  | .local _ .vmem, ⟨0, _⟩ => ⟨S16x1024, .f32⟩
  | .local _ .vmem, ⟨1, _⟩ => ⟨S1x16x1536, .f32⟩
  | .local _ .vmem, ⟨2, _⟩ => ⟨S1x16x1536, .f32⟩
  | .local _ .vmem, ⟨3, _⟩ => ⟨S1x16x6144, .f32⟩
  | .local _ .vmem, ⟨4, _⟩ => ⟨S1x16x6144, .f32⟩
  | .local _ .vmem, ⟨5, _⟩ => ⟨S1x1024x1536, .f32⟩
  | .local _ .vmem, ⟨6, _⟩ => ⟨S1x1024x1536, .f32⟩
  | .local _ .vmem, ⟨7, _⟩ => ⟨S1x1x6144, .f32⟩
  | .local _ .vmem, ⟨8, _⟩ => ⟨S1x1x6144, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AdaBwdRefIdeal.lean ====
abbrev S16x1024 : Shape := ⟨2, ![16, 1024]⟩
abbrev S2x16x1536 : Shape := ⟨3, ![2, 16, 1536]⟩
abbrev S2x16x6144 : Shape := ⟨3, ![2, 16, 6144]⟩
abbrev S_ : Shape := ⟨0, ![]⟩
abbrev S1024x1536 : Shape := ⟨2, ![1024, 1536]⟩
abbrev S6144 : Shape := ⟨1, ![6144]⟩
abbrev S1536 : Shape := ⟨1, ![1536]⟩
abbrev S16x1536 : Shape := ⟨2, ![16, 1536]⟩
abbrev S1x1536 : Shape := ⟨2, ![1, 1536]⟩
abbrev S1x16x1536 : Shape := ⟨3, ![1, 16, 1536]⟩
abbrev S1536x1024 : Shape := ⟨2, ![1536, 1024]⟩
abbrev S1024x6144 : Shape := ⟨2, ![1024, 6144]⟩
abbrev S16x6144 : Shape := ⟨2, ![16, 6144]⟩
abbrev S1x6144 : Shape := ⟨2, ![1, 6144]⟩
abbrev S1x16x6144 : Shape := ⟨3, ![1, 16, 6144]⟩
abbrev S1x1024x1536 : Shape := ⟨3, ![1, 1024, 1536]⟩
abbrev S2x1024x1536 : Shape := ⟨3, ![2, 1024, 1536]⟩
abbrev S2x6144 : Shape := ⟨2, ![2, 6144]⟩
abbrev S2x1x6144 : Shape := ⟨3, ![2, 1, 6144]⟩

abbrev nBuf : Space → Nat
  | .hbm => 98
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x1536, .f32⟩
  | .hbm, ⟨2, _⟩ => ⟨S2x16x6144, .f32⟩
  | .hbm, ⟨3, _⟩ => ⟨S_, .f32⟩
  | .hbm, ⟨4, _⟩ => ⟨S1024x1536, .f32⟩
  | .hbm, ⟨5, _⟩ => ⟨S_, .f32⟩
  | .hbm, ⟨6, _⟩ => ⟨S6144, .f32⟩
  | .hbm, ⟨7, _⟩ => ⟨S1536, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1536, .f32⟩
  | .hbm, ⟨18, _⟩ => ⟨S1x1536, .f32⟩
  | .hbm, ⟨19, _⟩ => ⟨S16x1536, .f32⟩
  | .hbm, ⟨20, _⟩ => ⟨S16x1536, .f32⟩
  | .hbm, ⟨21, _⟩ => ⟨S1x16x1536, .f32⟩
  | .hbm, ⟨22, _⟩ => ⟨S16x1536, .f32⟩
  | .hbm, ⟨23, _⟩ => ⟨S1536x1024, .f32⟩
  | .hbm, ⟨24, _⟩ => ⟨S1024x1536, .f32⟩
  | .hbm, ⟨25, _⟩ => ⟨S_, .f32⟩
  | .hbm, ⟨26, _⟩ => ⟨S1024x6144, .f32⟩
  | .hbm, ⟨27, _⟩ => ⟨S16x1024, .f32⟩
  | .hbm, ⟨28, _⟩ => ⟨S16x1024, .f32⟩
  | .hbm, ⟨29, _⟩ => ⟨S_, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S16x6144, .f32⟩
  | .hbm, ⟨37, _⟩ => ⟨S1x6144, .f32⟩
  | .hbm, ⟨38, _⟩ => ⟨S16x6144, .f32⟩
  | .hbm, ⟨39, _⟩ => ⟨S16x6144, .f32⟩
  | .hbm, ⟨40, _⟩ => ⟨S1x16x6144, .f32⟩
  | .hbm, ⟨41, _⟩ => ⟨S16x6144, .f32⟩
  | .hbm, ⟨42, _⟩ => ⟨S_, .f32⟩
  | .hbm, ⟨43, _⟩ => ⟨S6144, .f32⟩
  | .hbm, ⟨44, _⟩ => ⟨S1x6144, .f32⟩
  | .hbm, ⟨45, _⟩ => ⟨S_, .f32⟩
  | .hbm, ⟨46, _⟩ => ⟨S6144, .f32⟩
  | .hbm, ⟨47, _⟩ => ⟨S_, .f32⟩
  | .hbm, ⟨48, _⟩ => ⟨S1024x1536, .f32⟩
  | .hbm, ⟨49, _⟩ => ⟨S_, .f32⟩
  | .hbm, ⟨50, _⟩ => ⟨S6144, .f32⟩
  | .hbm, ⟨51, _⟩ => ⟨S1536, .f32⟩
  | .hbm, ⟨52, _⟩ => ⟨S16x1024, .f32⟩
  | .hbm, ⟨53, _⟩ => ⟨S16x1024, .f32⟩
  | .hbm, ⟨54, _⟩ => ⟨S_, .f32⟩
  | .hbm, ⟨55, _⟩ => ⟨S16x1024, .f32⟩
  | .hbm, ⟨56, _⟩ => ⟨S16x1024, .f32⟩
  | .hbm, ⟨57, _⟩ => ⟨S_, .f32⟩
  | .hbm, ⟨58, _⟩ => ⟨S16x1024, .f32⟩
  | .hbm, ⟨59, _⟩ => ⟨S16x1024, .f32⟩
  | .hbm, ⟨60, _⟩ => ⟨S16x1024, .f32⟩
  | .hbm, ⟨61, _⟩ => ⟨S16x1536, .f32⟩
  | .hbm, ⟨62, _⟩ => ⟨S1x1536, .f32⟩
  | .hbm, ⟨63, _⟩ => ⟨S16x1536, .f32⟩
  | .hbm, ⟨64, _⟩ => ⟨S16x1536, .f32⟩
  | .hbm, ⟨65, _⟩ => ⟨S1x16x1536, .f32⟩
  | .hbm, ⟨66, _⟩ => ⟨S16x1536, .f32⟩
  | .hbm, ⟨67, _⟩ => ⟨S1536x1024, .f32⟩
  | .hbm, ⟨68, _⟩ => ⟨S1024x1536, .f32⟩
  | .hbm, ⟨69, _⟩ => ⟨S_, .f32⟩
  | .hbm, ⟨70, _⟩ => ⟨S1024x6144, .f32⟩
  | .hbm, ⟨71, _⟩ => ⟨S16x1024, .f32⟩
  | .hbm, ⟨72, _⟩ => ⟨S16x1024, .f32⟩
  | .hbm, ⟨73, _⟩ => ⟨S_, .f32⟩
  | .hbm, ⟨74, _⟩ => ⟨S16x1024, .f32⟩
  | .hbm, ⟨75, _⟩ => ⟨S16x1024, .f32⟩
  | .hbm, ⟨76, _⟩ => ⟨S_, .f32⟩
  | .hbm, ⟨77, _⟩ => ⟨S16x1024, .f32⟩
  | .hbm, ⟨78, _⟩ => ⟨S16x1024, .f32⟩
  | .hbm, ⟨79, _⟩ => ⟨S16x1024, .f32⟩
  | .hbm, ⟨80, _⟩ => ⟨S16x6144, .f32⟩
  | .hbm, ⟨81, _⟩ => ⟨S1x6144, .f32⟩
  | .hbm, ⟨82, _⟩ => ⟨S16x6144, .f32⟩
  | .hbm, ⟨83, _⟩ => ⟨S16x6144, .f32⟩
  | .hbm, ⟨84, _⟩ => ⟨S1x16x6144, .f32⟩
  | .hbm, ⟨85, _⟩ => ⟨S16x6144, .f32⟩
  | .hbm, ⟨86, _⟩ => ⟨S_, .f32⟩
  | .hbm, ⟨87, _⟩ => ⟨S6144, .f32⟩
  | .hbm, ⟨88, _⟩ => ⟨S1x6144, .f32⟩
  | .hbm, ⟨89, _⟩ => ⟨S_, .f32⟩
  | .hbm, ⟨90, _⟩ => ⟨S6144, .f32⟩
  | .hbm, ⟨91, _⟩ => ⟨S1x1024x1536, .f32⟩
  | .hbm, ⟨92, _⟩ => ⟨S1x1024x1536, .f32⟩
  | .hbm, ⟨93, _⟩ => ⟨S2x1024x1536, .f32⟩
  | .hbm, ⟨94, _⟩ => ⟨S1x6144, .f32⟩
  | .hbm, ⟨95, _⟩ => ⟨S1x6144, .f32⟩
  | .hbm, ⟨96, _⟩ => ⟨S2x6144, .f32⟩
  | .hbm, ⟨97, _⟩ => ⟨S2x1x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_call3_v0 : Ref sig .tc := ⟨.hbm, 71, rfl⟩
abbrev main_call3_v1 : Ref sig .tc := ⟨.hbm, 72, rfl⟩
abbrev main_call3_cst : Ref sig .tc := ⟨.hbm, 73, rfl⟩
abbrev main_call3_v2 : Ref sig .tc := ⟨.hbm, 74, rfl⟩
abbrev main_call3_v3 : Ref sig .tc := ⟨.hbm, 75, rfl⟩
abbrev main_call3_cst_0 : Ref sig .tc := ⟨.hbm, 76, rfl⟩
abbrev main_call3_v4 : Ref sig .tc := ⟨.hbm, 77, rfl⟩
abbrev main_call3_v5 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_7 : Ref sig .tc := ⟨.hbm, 86, rfl⟩
abbrev main_v43 : Ref sig .tc := ⟨.hbm, 87, rfl⟩
abbrev main_v44 : Ref sig .tc := ⟨.hbm, 88, rfl⟩
abbrev main_cst_8 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩

abbrev nD : Nat := 1
abbrev τ : Topo := Topo.v7x

variable {F : FTy → Type} [FloatOps F]
-- ==== NormBwd.lean ====
abbrev S2x2048x1024 : Shape := ⟨3, ![2, 2048, 1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S2x2048x1024, .f32⟩
  | .hbm, ⟨5, _⟩ => ⟨S2x2048x1024, .bf16⟩
  | .hbm, ⟨6, _⟩ => ⟨S2x2048x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v58 : BitVec 1 := Scalar.cmpi .eq arg1 c0_i32
  let v59 : BitVec 32 := Scalar.extui v58
  let c0_i32_26 : BitVec 32 := 0#32
  let v60 : BitVec 1 := Scalar.cmpi .ne v59 c0_i32_26
  v60

def k0_cond2 (i : grid0.Coords) : BitVec 1 :=
  let arg1 : BitVec 32 := BitVec.ofNat 32 (i 1).val
  let c0_i32_27 : BitVec 32 := 0#32
  let v61 : BitVec 1 := Scalar.cmpi .sgt arg1 c0_i32_27
  let v62 : BitVec 32 := Scalar.extui v61
  let c0_i32_28 : BitVec 32 := 0#32
  let v63 : BitVec 1 := Scalar.cmpi .ne v62 c0_i32_28
  v63

def k0_cond3 (i : grid0.Coords) : BitVec 1 :=
  let arg1 : BitVec 32 := BitVec.ofNat 32 (i 1).val
  let c0_i32_29 : BitVec 32 := 0#32
  let v64 : BitVec 1 := Scalar.cmpi .eq arg1 c0_i32_29
  let v65 : BitVec 32 := Scalar.extui v64
  let c0_i32_30 : BitVec 32 := 0#32
  let v66 : BitVec 1 := Scalar.cmpi .ne v65 c0_i32_30
  v66

def k0_cond4 (i : grid0.Coords) : BitVec 1 :=
  let arg1 : BitVec 32 := BitVec.ofNat 32 (i 1).val
  let c0_i32_31 : BitVec 32 := 0#32
  let v67 : BitVec 1 := Scalar.cmpi .sgt arg1 c0_i32_31
  let v68 : BitVec 32 := Scalar.extui v67
  let c0_i32_32 : BitVec 32 := 0#32
  let v69 : BitVec 1 := Scalar.cmpi .ne v68 c0_i32_32
  v69

def k0_cond5 (i : grid0.Coords) : BitVec 1 :=
  let arg0 : BitVec 32 := BitVec.ofNat 32 (i 0).val
  let c0_i32_33 : BitVec 32 := 0#32
  let v70 : BitVec 1 := Scalar.cmpi .eq arg0 c0_i32_33
  let arg1 : BitVec 32 := BitVec.ofNat 32 (i 1).val
  let c0_i32_34 : BitVec 32 := 0#32
  let v71 : BitVec 1 := Scalar.cmpi .eq arg1 c0_i32_34
  let v72 : BitVec 1 := Scalar.andi v70 v71
  let v73 : BitVec 32 := Scalar.extui v72
  let c0_i32_35 : BitVec 32 := 0#32
  let v74 : BitVec 1 := Scalar.cmpi .ne v73 c0_i32_35
  v74

def k0_cond6 (i : grid0.Coords) : BitVec 1 :=
  let arg0 : BitVec 32 := BitVec.ofNat 32 (i 0).val
  let c0_i32_33 : BitVec 32 := 0#32
  let v70 : BitVec 1 := Scalar.cmpi .eq arg0 c0_i32_33
  let arg1 : BitVec 32 := BitVec.ofNat 32 (i 1).val
  let c0_i32_34 : BitVec 32 := 0#32
  let v71 : BitVec 1 := Scalar.cmpi .eq arg1 c0_i32_34
  let v72 : BitVec 1 := Scalar.andi v70 v71
  let v_true : BitVec 1 := 1#1
  let v75 : BitVec 1 := Scalar.xori v72 v_true
  let v76 : BitVec 32 := Scalar.extui v75
  let c0_i32_36 : BitVec 32 := 0#32
  let v77 : BitVec 1 := Scalar.cmpi .ne v76 c0_i32_36
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== NormBwdRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S2x2048x1024, .f32⟩
  | .hbm, ⟨5, _⟩ => ⟨S2x2048x1024, .bf16⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048, .f32⟩
  | .hbm, ⟨42, _⟩ => ⟨S2x2048x1, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S_, .f32⟩
  | .hbm, ⟨51, _⟩ => ⟨S2x2048, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== SmallSum.lean ====
abbrev S8x2x1024 : Shape := ⟨3, ![8, 2, 1024]⟩
abbrev S8x2x1536 : Shape := ⟨3, ![8, 2, 1536]⟩
abbrev S8x2x16 : Shape := ⟨3, ![8, 2, 16]⟩
abbrev S8x2x8x128x128 : Shape := ⟨5, ![8, 2, 8, 128, 128]⟩
abbrev S8x2x8x128 : Shape := ⟨4, ![8, 2, 8, 128]⟩
abbrev S8x2x2816 : Shape := ⟨3, ![8, 2, 2816]⟩
abbrev S8x2x4x1536 : Shape := ⟨4, ![8, 2, 4, 1536]⟩
abbrev S8x2x3x2816 : Shape := ⟨4, ![8, 2, 3, 2816]⟩
abbrev S8x1x1024 : Shape := ⟨3, ![8, 1, 1024]⟩
abbrev S2x1024 : Shape := ⟨2, ![2, 1024]⟩
abbrev S2x1536 : Shape := ⟨2, ![2, 1536]⟩
abbrev S2x16 : Shape := ⟨2, ![2, 16]⟩
abbrev S2x8x128x128 : Shape := ⟨4, ![2, 8, 128, 128]⟩
abbrev S2x8x128 : Shape := ⟨3, ![2, 8, 128]⟩
abbrev S2x2816 : Shape := ⟨2, ![2, 2816]⟩
abbrev S2x4x1536 : Shape := ⟨3, ![2, 4, 1536]⟩
abbrev S2x3x2816 : Shape := ⟨3, ![2, 3, 2816]⟩
abbrev S1x1024 : Shape := ⟨2, ![1, 1024]⟩
abbrev S1x2x1024 : Shape := ⟨3, ![1, 2, 1024]⟩
abbrev S1x2x1536 : Shape := ⟨3, ![1, 2, 1536]⟩
abbrev S1x2x16 : Shape := ⟨3, ![1, 2, 16]⟩
abbrev S1x2x8x128x128 : Shape := ⟨5, ![1, 2, 8, 128, 128]⟩
abbrev S1x2x8x128 : Shape := ⟨4, ![1, 2, 8, 128]⟩
abbrev S1x2x2816 : Shape := ⟨3, ![1, 2, 2816]⟩
abbrev S1x2x4x1536 : Shape := ⟨4, ![1, 2, 4, 1536]⟩
abbrev S1x2x3x2816 : Shape := ⟨4, ![1, 2, 3, 2816]⟩
abbrev S1x1x1024 : Shape := ⟨3, ![1, 1, 1024]⟩

abbrev nBuf : Space → Nat
  | .hbm => 30
  | .vmem => 30
  | .smem => 0
  | _ => 0

abbrev bufTy : (tb : Table) → Fin (tcTables nBuf tb) → BufTy
  | .hbm, ⟨0, _⟩ => ⟨S8x2x1024, .f32⟩
  | .hbm, ⟨1, _⟩ => ⟨S8x2x1024, .f32⟩
  | .hbm, ⟨2, _⟩ => ⟨S8x2x1536, .f32⟩
  | .hbm, ⟨3, _⟩ => ⟨S8x2x16, .f32⟩
  | .hbm, ⟨4, _⟩ => ⟨S8x2x16, .f32⟩
  | .hbm, ⟨5, _⟩ => ⟨S8x2x16, .f32⟩
  | .hbm, ⟨6, _⟩ => ⟨S8x2x1024, .f32⟩
  | .hbm, ⟨7, _⟩ => ⟨S8x2x1024, .f32⟩
  | .hbm, ⟨8, _⟩ => ⟨S8x2x8x128x128, .bf16⟩
  | .hbm, ⟨9, _⟩ => ⟨S8x2x8x128, .f32⟩
  | .hbm, ⟨10, _⟩ => ⟨S8x2x1024, .f32⟩
  | .hbm, ⟨11, _⟩ => ⟨S8x2x2816, .f32⟩
  | .hbm, ⟨12, _⟩ => ⟨S8x2x4x1536, .f32⟩
  | .hbm, ⟨13, _⟩ => ⟨S8x2x3x2816, .f32⟩
  | .hbm, ⟨14, _⟩ => ⟨S8x1x1024, .f32⟩
  | .hbm, ⟨15, _⟩ => ⟨S2x1024, .f32⟩
  | .hbm, ⟨16, _⟩ => ⟨S2x1024, .f32⟩
  | .hbm, ⟨17, _⟩ => ⟨S2x1536, .f32⟩
  | .hbm, ⟨18, _⟩ => ⟨S2x16, .f32⟩
  | .hbm, ⟨19, _⟩ => ⟨S2x16, .f32⟩
  | .hbm, ⟨20, _⟩ => ⟨S2x16, .f32⟩
  | .hbm, ⟨21, _⟩ => ⟨S2x1024, .f32⟩
  | .hbm, ⟨22, _⟩ => ⟨S2x1024, .f32⟩
  | .hbm, ⟨23, _⟩ => ⟨S2x8x128x128, .f32⟩
  | .hbm, ⟨24, _⟩ => ⟨S2x8x128, .f32⟩
  | .hbm, ⟨25, _⟩ => ⟨S2x1024, .f32⟩
  | .hbm, ⟨26, _⟩ => ⟨S2x2816, .f32⟩
  | .hbm, ⟨27, _⟩ => ⟨S2x4x1536, .f32⟩
  | .hbm, ⟨28, _⟩ => ⟨S2x3x2816, .f32⟩
  | .hbm, ⟨29, _⟩ => ⟨S1x1024, .f32⟩
  | .local _ .vmem, ⟨0, _⟩ => ⟨S8x2x1024, .f32⟩
  | .local _ .vmem, ⟨1, _⟩ => ⟨S8x2x1024, .f32⟩
  | .local _ .vmem, ⟨2, _⟩ => ⟨S8x2x1536, .f32⟩
  | .local _ .vmem, ⟨3, _⟩ => ⟨S8x2x16, .f32⟩
  | .local _ .vmem, ⟨4, _⟩ => ⟨S8x2x16, .f32⟩
  | .local _ .vmem, ⟨5, _⟩ => ⟨S8x2x16, .f32⟩
  | .local _ .vmem, ⟨6, _⟩ => ⟨S8x2x1024, .f32⟩
  | .local _ .vmem, ⟨7, _⟩ => ⟨S8x2x1024, .f32⟩
  | .local _ .vmem, ⟨8, _⟩ => ⟨S8x2x8x128x128, .bf16⟩
  | .local _ .vmem, ⟨9, _⟩ => ⟨S8x2x8x128, .f32⟩
  | .local _ .vmem, ⟨10, _⟩ => ⟨S8x2x1024, .f32⟩
  | .local _ .vmem, ⟨11, _⟩ => ⟨S8x2x2816, .f32⟩
  | .local _ .vmem, ⟨12, _⟩ => ⟨S8x2x4x1536, .f32⟩
  | .local _ .vmem, ⟨13, _⟩ => ⟨S8x2x3x2816, .f32⟩
  | .local _ .vmem, ⟨14, _⟩ => ⟨S8x1x1024, .f32⟩
  | .local _ .vmem, ⟨15, _⟩ => ⟨S2x1024, .f32⟩
  | .local _ .vmem, ⟨16, _⟩ => ⟨S2x1024, .f32⟩
  | .local _ .vmem, ⟨17, _⟩ => ⟨S2x1536, .f32⟩
  | .local _ .vmem, ⟨18, _⟩ => ⟨S2x16, .f32⟩
  | .local _ .vmem, ⟨19, _⟩ => ⟨S2x16, .f32⟩
  | .local _ .vmem, ⟨20, _⟩ => ⟨S2x16, .f32⟩
  | .local _ .vmem, ⟨21, _⟩ => ⟨S2x1024, .f32⟩
  | .local _ .vmem, ⟨22, _⟩ => ⟨S2x1024, .f32⟩
  | .local _ .vmem, ⟨23, _⟩ => ⟨S2x8x128x128, .f32⟩
  | .local _ .vmem, ⟨24, _⟩ => ⟨S2x8x128, .f32⟩
  | .local _ .vmem, ⟨25, _⟩ => ⟨S2x1024, .f32⟩
  | .local _ .vmem, ⟨26, _⟩ => ⟨S2x2816, .f32⟩
  | .local _ .vmem, ⟨27, _⟩ => ⟨S2x4x1536, .f32⟩
  | .local _ .vmem, ⟨28, _⟩ => ⟨S2x3x2816, .f32⟩
  | .local _ .vmem, ⟨29, _⟩ => ⟨S1x1024, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev main_v0_12 : Ref sig .tc := ⟨.hbm, 27, rfl⟩
abbrev main_v0_13 : Ref sig .tc := ⟨.hbm, 28, rfl⟩
abbrev main_v0_14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29

abbrev nD : Nat := 1
abbrev τ : Topo := Topo.v7x

variable {F : FTy → Type} [FloatOps F]

abbrev grid0 : Pipeline.Grid := .none

abbrev stage0_0 : Fin 1 → Memref sig .tc .vmem S8x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2x8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x2x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x2x4x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x2x3x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x8x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x8x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x2816 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x4x1536 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x3x2816 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
-- ==== SmallSumRefIdeal.lean ====
abbrev S8x2x1024 : Shape := ⟨3, ![8, 2, 1024]⟩
abbrev S8x2x1536 : Shape := ⟨3, ![8, 2, 1536]⟩
abbrev S8x2x16 : Shape := ⟨3, ![8, 2, 16]⟩
abbrev S8x2x8x128x128 : Shape := ⟨5, ![8, 2, 8, 128, 128]⟩
abbrev S8x2x8x128 : Shape := ⟨4, ![8, 2, 8, 128]⟩
abbrev S8x2x2816 : Shape := ⟨3, ![8, 2, 2816]⟩
abbrev S8x2x4x1536 : Shape := ⟨4, ![8, 2, 4, 1536]⟩
abbrev S8x2x3x2816 : Shape := ⟨4, ![8, 2, 3, 2816]⟩
abbrev S8x1x1024 : Shape := ⟨3, ![8, 1, 1024]⟩
abbrev S_ : Shape := ⟨0, ![]⟩
abbrev S2x1024 : Shape := ⟨2, ![2, 1024]⟩
abbrev S2x1536 : Shape := ⟨2, ![2, 1536]⟩
abbrev S2x16 : Shape := ⟨2, ![2, 16]⟩
abbrev S2x8x128x128 : Shape := ⟨4, ![2, 8, 128, 128]⟩
abbrev S2x8x128 : Shape := ⟨3, ![2, 8, 128]⟩
abbrev S2x2816 : Shape := ⟨2, ![2, 2816]⟩
abbrev S2x4x1536 : Shape := ⟨3, ![2, 4, 1536]⟩
abbrev S2x3x2816 : Shape := ⟨3, ![2, 3, 2816]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S8x2x1024, .f32⟩
  | .hbm, ⟨2, _⟩ => ⟨S8x2x1536, .f32⟩
  | .hbm, ⟨3, _⟩ => ⟨S8x2x16, .f32⟩
  | .hbm, ⟨4, _⟩ => ⟨S8x2x16, .f32⟩
  | .hbm, ⟨5, _⟩ => ⟨S8x2x16, .f32⟩
  | .hbm, ⟨6, _⟩ => ⟨S8x2x1024, .f32⟩
  | .hbm, ⟨7, _⟩ => ⟨S8x2x1024, .f32⟩
  | .hbm, ⟨8, _⟩ => ⟨S8x2x8x128x128, .bf16⟩
  | .hbm, ⟨9, _⟩ => ⟨S8x2x8x128, .f32⟩
  | .hbm, ⟨10, _⟩ => ⟨S8x2x1024, .f32⟩
  | .hbm, ⟨11, _⟩ => ⟨S8x2x2816, .f32⟩
  | .hbm, ⟨12, _⟩ => ⟨S8x2x4x1536, .f32⟩
  | .hbm, ⟨13, _⟩ => ⟨S8x2x3x2816, .f32⟩
  | .hbm, ⟨14, _⟩ => ⟨S8x1x1024, .f32⟩
  | .hbm, ⟨15, _⟩ => ⟨S_, .f32⟩
  | .hbm, ⟨16, _⟩ => ⟨S2x1024, .f32⟩
  | .hbm, ⟨17, _⟩ => ⟨S_, .f32⟩
  | .hbm, ⟨18, _⟩ => ⟨S2x1024, .f32⟩
  | .hbm, ⟨19, _⟩ => ⟨S_, .f32⟩
  | .hbm, ⟨20, _⟩ => ⟨S2x1536, .f32⟩
  | .hbm, ⟨21, _⟩ => ⟨S_, .f32⟩
  | .hbm, ⟨22, _⟩ => ⟨S2x16, .f32⟩
  | .hbm, ⟨23, _⟩ => ⟨S_, .f32⟩
  | .hbm, ⟨24, _⟩ => ⟨S2x16, .f32⟩
  | .hbm, ⟨25, _⟩ => ⟨S_, .f32⟩
  | .hbm, ⟨26, _⟩ => ⟨S2x16, .f32⟩
  | .hbm, ⟨27, _⟩ => ⟨S_, .f32⟩
  | .hbm, ⟨28, _⟩ => ⟨S2x1024, .f32⟩
  | .hbm, ⟨29, _⟩ => ⟨S_, .f32⟩
  | .hbm, ⟨30, _⟩ => ⟨S2x1024, .f32⟩
  | .hbm, ⟨31, _⟩ => ⟨S8x2x8x128x128, .f32⟩
  | .hbm, ⟨32, _⟩ => ⟨S_, .f32⟩
  | .hbm, ⟨33, _⟩ => ⟨S2x8x128x128, .f32⟩
  | .hbm, ⟨34, _⟩ => ⟨S_, .f32⟩
  | .hbm, ⟨35, _⟩ => ⟨S2x8x128, .f32⟩
  | .hbm, ⟨36, _⟩ => ⟨S_, .f32⟩
  | .hbm, ⟨37, _⟩ => ⟨S2x1024, .f32⟩
  | .hbm, ⟨38, _⟩ => ⟨S_, .f32⟩
  | .hbm, ⟨39, _⟩ => ⟨S2x2816, .f32⟩
  | .hbm, ⟨40, _⟩ => ⟨S_, .f32⟩
  | .hbm, ⟨41, _⟩ => ⟨S2x4x1536, .f32⟩
  | .hbm, ⟨42, _⟩ => ⟨S_, .f32⟩
  | .hbm, ⟨43, _⟩ => ⟨S2x3x2816, .f32⟩
  | .hbm, ⟨44, _⟩ => ⟨S_, .f32⟩
  | .hbm, ⟨45, _⟩ => ⟨S1x1024, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_cst_1 : Ref sig .tc := ⟨.hbm, 19, rfl⟩
abbrev main_v2 : Ref sig .tc := ⟨.hbm, 20, rfl⟩
abbrev main_cst_2 : Ref sig .tc := ⟨.hbm, 21, rfl⟩
abbrev main_v3 : Ref sig .tc := ⟨.hbm, 22, rfl⟩
abbrev main_cst_3 : Ref sig .tc := ⟨.hbm, 23, rfl⟩
abbrev main_v4 : Ref sig .tc := ⟨.hbm, 24, rfl⟩
abbrev main_cst_4 : Ref sig .tc := ⟨.hbm, 25, rfl⟩
abbrev main_v5 : Ref sig .tc := ⟨.hbm, 26, rfl⟩
abbrev main_cst_5 : Ref sig .tc := ⟨.hbm, 27, rfl⟩
abbrev main_v6 : Ref sig .tc := ⟨.hbm, 28, rfl⟩
abbrev main_cst_6 : Ref sig .tc := ⟨.hbm, 29, rfl⟩
abbrev main_v7 : Ref sig .tc := ⟨.hbm, 30, rfl⟩
abbrev main_v8 : Ref sig .tc := ⟨.hbm, 31, rfl⟩
abbrev main_cst_7 : Ref sig .tc := ⟨.hbm, 32, rfl⟩
abbrev main_v9 : Ref sig .tc := ⟨.hbm, 33, rfl⟩
abbrev main_cst_8 : Ref sig .tc := ⟨.hbm, 34, rfl⟩
abbrev main_v10 : Ref sig .tc := ⟨.hbm, 35, rfl⟩
abbrev main_cst_9 : Ref sig .tc := ⟨.hbm, 36, rfl⟩
abbrev main_v11 : Ref sig .tc := ⟨.hbm, 37, rfl⟩
abbrev main_cst_10 : Ref sig .tc := ⟨.hbm, 38, rfl⟩
abbrev main_v12 : Ref sig .tc := ⟨.hbm, 39, rfl⟩
abbrev main_cst_11 : Ref sig .tc := ⟨.hbm, 40, rfl⟩
abbrev main_v13 : Ref sig .tc := ⟨.hbm, 41, rfl⟩
abbrev main_cst_12 : Ref sig .tc := ⟨.hbm, 42, rfl⟩
abbrev main_v14 : Ref sig .tc := ⟨.hbm, 43, rfl⟩
abbrev main_cst_13 : Ref sig .tc := ⟨.hbm, 44, rfl⟩
abbrev main_v15 : Ref sig .tc := ⟨.hbm, 45, rfl⟩

abbrev nD : Nat := 1
abbrev τ : Topo := Topo.v7x

variable {F : FTy → Type} [FloatOps F]
-- ==== Proof.Product.lean ====
module

public import Idealize.ShloMosaic.Lib.Pointwise
public import Idealize.ShloMosaic.Lib.Pipeline.ValueKit.Point

/-!
Products of matrices computed tile by tile: a matrix read at natural numbers, and the running sum over the tiles of the
contracted axis.
-/

@[expose] public section

noncomputable section

namespace Cert.Product

open Idealize.ShloMosaic

/-- The entry of a matrix at natural numbers: nought outside it. -/
def ent {M N : ℕ} (A : (⟨2, ![M, N]⟩ : Shape).Idx → EReal) (i j : ℕ) : EReal :=
  if h : i < M ∧ j < N then A (ix2 ⟨i, h.1⟩ ⟨j, h.2⟩) else 0

/-- Inside the matrix it is the entry. -/
theorem ent_eq {M N : ℕ} (A : (⟨2, ![M, N]⟩ : Shape).Idx → EReal) (i : Fin M) (j : Fin N) :
    ent A i.val j.val = A (ix2 i j) := by
  unfold ent
  rw [dif_pos ⟨i.isLt, j.isLt⟩]

/-- A sum kept from point to point, started afresh every `nk` points, is the sum over all the tiles seen since. -/
theorem running {N nk tk : ℕ} (hk : 0 < nk) (acc : (n : ℕ) → n < N → EReal) (p : ℕ → ℕ → EReal)
    (first : ∀ n h, n % nk = 0 → acc n h = ∑ k ∈ Finset.range tk, p (n / nk) k)
    (next : ∀ n h, n % nk ≠ 0 → acc n h = acc (n - 1) (by omega) + ∑ k ∈ Finset.range tk, p (n / nk) (n % nk * tk + k)) :
    ∀ n h, acc n h = ∑ k ∈ Finset.range ((n % nk + 1) * tk), p (n / nk) k := by
  intro n
  induction n with
  | zero => intro h; rw [first 0 h (by simp)]; simp
  | succ n ih =>
    intro h
    by_cases hn : (n + 1) % nk = 0
    · rw [first _ h hn, hn]; simp
    · have e1 : (n + 1) / nk = n / nk := by
        have := Nat.succ_div (a := n) (b := nk)
        rw [this, if_neg (fun hd => hn (Nat.mod_eq_zero_of_dvd hd))]; rfl
      have e2 : (n + 1) % nk = n % nk + 1 := by
        have a1 := Nat.div_add_mod (n + 1) nk
        have a2 := Nat.div_add_mod n nk
        rw [e1] at a1
        omega
      rw [next _ h hn, e1, e2]
      have := ih (by omega)
      simp only [Nat.add_sub_cancel]
      rw [this, Nat.add_mul (n % nk + 1) 1 tk, Nat.one_mul, Finset.sum_range_add]

/-- The offset of a whole tile. -/
theorem off2 : (![0, 0] : Fin 2 → ℕ) = fun _ => 0 := by funext a; fin_cases a <;> rfl

/-- An index of a matrix is its row and its column. -/
theorem split2 {a b : ℕ} (y : (⟨2, ![a, b]⟩ : Shape).Idx) : ∃ (i : Fin a) (j : Fin b), y = ix2 i j :=
  ⟨y 0, y 1, by funext a; fin_cases a <;> rfl⟩

/-- The activations of two sequences of 2048 tokens, the two leading axes read as one. -/
def flat {N : ℕ} (x : (⟨3, ![2, 2048, N]⟩ : Shape).Idx → EReal) : (⟨2, ![4096, N]⟩ : Shape).Idx → EReal := fun i =>
  have h : (i 0).val < 4096 := (i 0).isLt
  x (ix3 ⟨(i 0).val / 2048, by omega⟩ ⟨(i 0).val % 2048, by omega⟩ (i 1))

/-- The product of two matrices. -/
def prodNN {M K N : ℕ} (A : (⟨2, ![M, K]⟩ : Shape).Idx → EReal) (B : (⟨2, ![K, N]⟩ : Shape).Idx → EReal) :
    (⟨2, ![M, N]⟩ : Shape).Idx → EReal := fun i => ∑ k : Fin K, A (ix2 (i 0) k) * B (ix2 k (i 1))

/-- The product with the transposed second matrix. -/
def prodNT {M K N : ℕ} (A : (⟨2, ![M, K]⟩ : Shape).Idx → EReal) (B : (⟨2, ![N, K]⟩ : Shape).Idx → EReal) :
    (⟨2, ![M, N]⟩ : Shape).Idx → EReal := fun i => ∑ k : Fin K, A (ix2 (i 0) k) * B (ix2 (i 1) k)

/-- The product of the transposed first matrix with the second. -/
def prodTN {M K N : ℕ} (A : (⟨2, ![K, M]⟩ : Shape).Idx → EReal) (B : (⟨2, ![K, N]⟩ : Shape).Idx → EReal) :
    (⟨2, ![M, N]⟩ : Shape).Idx → EReal := fun i => ∑ k : Fin K, A (ix2 k (i 0)) * B (ix2 k (i 1))

/-- The sums of entries at natural numbers that a tiled product ends with are the product. -/
theorem range_nn {M K N : ℕ} (A : (⟨2, ![M, K]⟩ : Shape).Idx → EReal) (B : (⟨2, ![K, N]⟩ : Shape).Idx → EReal) :
    (fun i => ∑ k ∈ Finset.range K, ent A (i 0).val k * ent B k (i 1).val) = prodNN A B := by
  funext i
  exact (Finset.sum_range _).trans (Finset.sum_congr rfl fun k _ => congr (congrArg _ (ent_eq A (i 0) k)) (ent_eq B k (i 1)))

/-- The same of the product with the transposed second matrix. -/
theorem range_nt {M K N : ℕ} (A : (⟨2, ![M, K]⟩ : Shape).Idx → EReal) (B : (⟨2, ![N, K]⟩ : Shape).Idx → EReal) :
    (fun i => ∑ k ∈ Finset.range K, ent A (i 0).val k * ent B (i 1).val k) = prodNT A B := by
  funext i
  exact (Finset.sum_range _).trans (Finset.sum_congr rfl fun k _ => congr (congrArg _ (ent_eq A (i 0) k)) (ent_eq B (i 1) k))

/-- The same of the product of the transposed first matrix. -/
theorem range_tn {M K N : ℕ} (A : (⟨2, ![K, M]⟩ : Shape).Idx → EReal) (B : (⟨2, ![K, N]⟩ : Shape).Idx → EReal) :
    (fun i => ∑ k ∈ Finset.range K, ent A k (i 0).val * ent B k (i 1).val) = prodTN A B := by
  funext i
  exact (Finset.sum_range _).trans (Finset.sum_congr rfl fun k _ => congr (congrArg _ (ent_eq A k (i 0))) (ent_eq B k (i 1)))

/-- A sum over the sequences and their tokens is a sum over all tokens. -/
theorem token_sum (f : Fin 2 → Fin 2048 → EReal) :
    ∑ s : Fin 2, ∑ t : Fin 2048, f s t = ∑ r : Fin 4096, f ⟨r.val / 2048, by omega⟩ ⟨r.val % 2048, by omega⟩ := by
  rw [← Fintype.sum_prod_type']
  refine Fintype.sum_equiv (finProdFinEquiv (m := 2) (n := 2048)) _ _ fun p => ?_
  have e := finProdFinEquiv.symm_apply_apply p
  exact congr (congrArg f (congrArg Prod.fst e).symm) (congrArg Prod.snd e).symm

end Cert.Product
-- ==== Proof.Adam.lean ====
module

public import proofs.«01_k».proof.Proof.Product

/-!
One step of the optimiser on one entry, with the constants as the programs write them, and on arrays.
-/

@[expose] public section

noncomputable section

namespace Cert.Adam

open Idealize.ShloMosaic Cert.Product

/-- The new first moment of an entry with gradient `g`. -/
def first (g m : EReal) : EReal := Ideal.ofBits .f32 0x3F666666#32 * m + Ideal.ofBits .f32 0x3DCCCCCD#32 * g

/-- The new second moment of an entry with gradient `g`. -/
def second (g v : EReal) : EReal := Ideal.ofBits .f32 0x3F7FBE77#32 * v + Ideal.ofBits .f32 0x3A83126F#32 * (g * g)

/-- The change of an entry `w`. -/
def change (w g m v : EReal) : EReal := Ideal.ofBits .f32 0xBA83126F#32 *
  (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

/-- Two layers of a matrix, one above the other. -/
def rows {R C T : ℕ} (h : T ≤ 2 * R) (x : (⟨3, ![2, R, C]⟩ : Shape).Idx → EReal) : (⟨2, ![T, C]⟩ : Shape).Idx → EReal := fun i =>
  have hi : (i 0).val < T := (i 0).isLt
  have hR : 0 < R := by omega
  x (ix3 ⟨(i 0).val / R, by rw [Nat.div_lt_iff_lt_mul hR]; omega⟩ ⟨(i 0).val % R, Nat.mod_lt _ hR⟩ (i 1))

/-- Inside the matrix the entry at natural numbers is the entry. -/
theorem ent_self {M N : ℕ} (A : (⟨2, ![M, N]⟩ : Shape).Idx → EReal) (i : (⟨2, ![M, N]⟩ : Shape).Idx) :
    ent A (i 0).val (i 1).val = A i := by
  obtain ⟨a, b, rfl⟩ := split2 i
  exact ent_eq A a b

/-- The changes of a whole matrix, read at natural numbers, are those read at its indices. -/
theorem change_ent {M N : ℕ} (w g m v : (⟨2, ![M, N]⟩ : Shape).Idx → EReal) :
    (fun i => change (ent w (i 0).val (i 1).val) (ent g (i 0).val (i 1).val) (ent m (i 0).val (i 1).val) (ent v (i 0).val (i 1).val))
      = fun i => change (w i) (g i) (m i) (v i) := by
  funext i
  simp only [ent_self]

/-- The same of the first moments. -/
theorem first_ent {M N : ℕ} (g m : (⟨2, ![M, N]⟩ : Shape).Idx → EReal) :
    (fun i => first (ent g (i 0).val (i 1).val) (ent m (i 0).val (i 1).val)) = fun i => first (g i) (m i) := by
  funext i
  simp only [ent_self]

/-- The same of the second moments. -/
theorem second_ent {M N : ℕ} (g v : (⟨2, ![M, N]⟩ : Shape).Idx → EReal) :
    (fun i => second (ent g (i 0).val (i 1).val) (ent v (i 0).val (i 1).val)) = fun i => second (g i) (v i) := by
  funext i
  simp only [ent_self]

end Cert.Adam
-- ==== Proof.AdamAdaW.lean ====
module

public import proofs.«01_k».proof.Proof.Gen.AdamAdaWIdeal.Value
public import proofs.«01_k».proof.Proof.Gen.AdamAdaWRefIdeal.Run
public import proofs.«01_k».proof.Proof.Gen.AdamAdaWRefIdeal.Read
public import proofs.«01_k».proof.Proof.Adam
public import proofs.«01_k».proof.Defs

@[expose] public section

set_option maxRecDepth 16384

noncomputable section

namespace Cert.AdamAdaWIdeal.Tiles

open Cert.AdamAdaWIdeal Cert.AdamAdaWIdeal.Gen Cert.AdamAdaWIdeal.Value Cert.Product Cert.Adam
open Idealize.ShloMosaic Idealize.ShloMosaic.TcCoe Idealize.SL.Sem

variable (m : (ℓ : Loc nD τ sig) → Buf (Elt Ideal) ℓ)

/-- What a point leaves of the changes. -/
theorem out4 (w g a b : FVec Ideal S256x1536 .f32) (l : Fin 256) (j : Fin 1536) :
    (out0_4 (F := Ideal) w g a b (ix2 l j) : EReal) = change (w (ix2 l j)) (g (ix2 l j)) (a (ix2 l j)) (b (ix2 l j)) := by
  unfold out0_4 r0_0
  simp only [View.ld_unit_zero (S := S256x1536) off2]
  rw [View.canon_unit_zero off2]
  pointwise [k0_pay4, k0_pay3, k0_pay2, k0_pay1]
  rfl

/-- What a point leaves of the first moments. -/
theorem out5 (w g a b : FVec Ideal S256x1536 .f32) (l : Fin 256) (j : Fin 1536) :
    (out0_5 (F := Ideal) w g a b (ix2 l j) : EReal) = first (g (ix2 l j)) (a (ix2 l j)) := by
  unfold out0_5 r0_0
  simp only [View.ld_unit_zero (S := S256x1536) off2]
  rw [View.canon_unit_zero off2]
  pointwise [k0_pay2, k0_pay1]
  rfl

/-- What a point leaves of the second moments. -/
theorem out6 (w g a b : FVec Ideal S256x1536 .f32) (l : Fin 256) (j : Fin 1536) :
    (out0_6 (F := Ideal) w g a b (ix2 l j) : EReal) = second (g (ix2 l j)) (b (ix2 l j)) := by
  unfold out0_6 r0_0
  simp only [View.ld_unit_zero (S := S256x1536) off2]
  rw [View.canon_unit_zero off2]
  pointwise [k0_pay3, k0_pay1]
  rfl

/-- Which tile window 0 is on at a point. -/
theorem idx0 : ∀ t : Fin cfg0.N, win0_0.index t = ![t.val, 0] := (by decide +kernel : ∀ t : Fin grid0.N, _)
/-- Which tile window 1 is on at a point. -/
theorem idx1 : ∀ t : Fin cfg0.N, win0_1.index t = ![t.val, 0] := (by decide +kernel : ∀ t : Fin grid0.N, _)
/-- Which tile window 2 is on at a point. -/
theorem idx2 : ∀ t : Fin cfg0.N, win0_2.index t = ![t.val, 0] := (by decide +kernel : ∀ t : Fin grid0.N, _)
/-- Which tile window 3 is on at a point. -/
theorem idx3 : ∀ t : Fin cfg0.N, win0_3.index t = ![t.val, 0] := (by decide +kernel : ∀ t : Fin grid0.N, _)
/-- Which tile window 4 is on at a point. -/
theorem idx4 : ∀ t : Fin cfg0.N, win0_4.index t = ![t.val, 0] := (by decide +kernel : ∀ t : Fin grid0.N, _)
/-- Which tile window 5 is on at a point. -/
theorem idx5 : ∀ t : Fin cfg0.N, win0_5.index t = ![t.val, 0] := (by decide +kernel : ∀ t : Fin grid0.N, _)
/-- Which tile window 6 is on at a point. -/
theorem idx6 : ∀ t : Fin cfg0.N, win0_6.index t = ![t.val, 0] := (by decide +kernel : ∀ t : Fin grid0.N, _)

/-- The rows of an argument at a point. -/
theorem blk0 (c : Dev nD) (t : Fin cfg0.N) (l : Fin 256) (j : Fin 1536) :
    iblk m c 0 t (ix2 l j) = ent (V m c main_v0) (t.val * 256 + l.val) j.val := by
  have ht := lt_of_lt_of_eq t.isLt N_0
  unfold ent
  rw [dif_pos ⟨by omega, by omega⟩]
  blk_ext! [iblk, idx0 t]

/-- The rows of an argument at a point. -/
theorem blk1 (c : Dev nD) (t : Fin cfg0.N) (l : Fin 256) (j : Fin 1536) :
    iblk m c 1 t (ix2 l j) = ent (V m c main_v1) (t.val * 256 + l.val) j.val := by
  have ht := lt_of_lt_of_eq t.isLt N_0
  unfold ent
  rw [dif_pos ⟨by omega, by omega⟩]
  blk_ext! [iblk, idx1 t]

/-- The rows of an argument at a point. -/
theorem blk2 (c : Dev nD) (t : Fin cfg0.N) (l : Fin 256) (j : Fin 1536) :
    iblk m c 2 t (ix2 l j) = ent (V m c main_v2) (t.val * 256 + l.val) j.val := by
  have ht := lt_of_lt_of_eq t.isLt N_0
  unfold ent
  rw [dif_pos ⟨by omega, by omega⟩]
  blk_ext! [iblk, idx2 t]

/-- The rows of an argument at a point. -/
theorem blk3 (c : Dev nD) (t : Fin cfg0.N) (l : Fin 256) (j : Fin 1536) :
    iblk m c 3 t (ix2 l j) = ent (V m c main_v3) (t.val * 256 + l.val) j.val := by
  have ht := lt_of_lt_of_eq t.isLt N_0
  unfold ent
  rw [dif_pos ⟨by omega, by omega⟩]
  blk_ext! [iblk, idx3 t]

/-- The array of the changes that the kernel leaves. -/
theorem left4 (c : Dev nD) : (dats m 0 c).arrAt 4 cfg0.N = fun i => change (V m c main_v0 i) (V m c main_v1 i) (V m c main_v2 i) (V m c main_v3 i) := by
  refine Eq.trans ?_ (change_ent (V m c main_v0) (V m c main_v1) (V m c main_v2) (V m c main_v3))
  refine (dats m 0 c).arrAt_eq_of_covers 4 _ (by decide +kernel) fun t hf y => ?_
  blk_simp
  rw [after0_4]
  obtain ⟨l, j, rfl⟩ := split2 y
  have e0 : win0_4.index t 0 * 256 + (ix2 l j 0).val = t.val * 256 + l.val := by rw [idx4 t]; rfl
  have e1 : win0_4.index t 1 * 1536 + (ix2 l j 1).val = j.val := by rw [idx4 t]; exact Nat.zero_add _
  rw [e0, e1]
  refine (out4 _ _ _ _ l j).trans ?_
  simp only [blk0, blk1, blk2, blk3]

/-- The array of the first moments that the kernel leaves. -/
theorem left5 (c : Dev nD) : (dats m 0 c).arrAt 5 cfg0.N = fun i => first (V m c main_v1 i) (V m c main_v2 i) := by
  refine Eq.trans ?_ (first_ent (V m c main_v1) (V m c main_v2))
  refine (dats m 0 c).arrAt_eq_of_covers 5 _ (by decide +kernel) fun t hf y => ?_
  blk_simp
  rw [after0_5]
  obtain ⟨l, j, rfl⟩ := split2 y
  have e0 : win0_5.index t 0 * 256 + (ix2 l j 0).val = t.val * 256 + l.val := by rw [idx5 t]; rfl
  have e1 : win0_5.index t 1 * 1536 + (ix2 l j 1).val = j.val := by rw [idx5 t]; exact Nat.zero_add _
  rw [e0, e1]
  refine (out5 _ _ _ _ l j).trans ?_
  simp only [blk1, blk2]

/-- The array of the second moments that the kernel leaves. -/
theorem left6 (c : Dev nD) : (dats m 0 c).arrAt 6 cfg0.N = fun i => second (V m c main_v1 i) (V m c main_v3 i) := by
  refine Eq.trans ?_ (second_ent (V m c main_v1) (V m c main_v3))
  refine (dats m 0 c).arrAt_eq_of_covers 6 _ (by decide +kernel) fun t hf y => ?_
  blk_simp
  rw [after0_6]
  obtain ⟨l, j, rfl⟩ := split2 y
  have e0 : win0_6.index t 0 * 256 + (ix2 l j 0).val = t.val * 256 + l.val := by rw [idx6 t]; rfl
  have e1 : win0_6.index t 1 * 1536 + (ix2 l j 1).val = j.val := by rw [idx6 t]; exact Nat.zero_add _
  rw [e0, e1]
  refine (out6 _ _ _ _ l j).trans ?_
  simp only [blk1, blk3]

/-- An argument's layers are read one above the other. -/
theorem v0_rows (c : Dev nD) : V m c main_v0 = rows (by decide) (m ((c : Thread nD τ).loc main_arg0)) := by
  funext y
  obtain ⟨i, k, rfl⟩ := split2 y
  unfold V
  simp only [hostOps0]
  after_results
  pointwise
  rfl

/-- An argument's layers are read one above the other. -/
theorem v1_rows (c : Dev nD) : V m c main_v1 = rows (by decide) (m ((c : Thread nD τ).loc main_arg1)) := by
  funext y
  obtain ⟨i, k, rfl⟩ := split2 y
  unfold V
  simp only [hostOps0]
  after_results
  pointwise
  rfl

/-- An argument's layers are read one above the other. -/
theorem v2_rows (c : Dev nD) : V m c main_v2 = rows (by decide) (m ((c : Thread nD τ).loc main_arg2)) := by
  funext y
  obtain ⟨i, k, rfl⟩ := split2 y
  unfold V
  simp only [hostOps0]
  after_results
  pointwise
  rfl

/-- An argument's layers are read one above the other. -/
theorem v3_rows (c : Dev nD) : V m c main_v3 = rows (by decide) (m ((c : Thread nD τ).loc main_arg3)) := by
  funext y
  obtain ⟨i, k, rfl⟩ := split2 y
  unfold V
  simp only [hostOps0]
  after_results
  pointwise
  rfl

end Cert.AdamAdaWIdeal.Tiles

namespace Cert.AdamAdaWRefIdeal.Whole

open Cert.AdamAdaWRefIdeal Cert.AdamAdaWRefIdeal.Read Cert.Product Cert.Adam
open Idealize.ShloMosaic Idealize.ShloMosaic.TcCoe Idealize.SL.Sem

/-- The reference's changes. -/
theorem changes (w g a b : FVec Ideal S2x1024x1536 .f32) : val_main_v24 (F := Ideal) w g a b
    = fun i => change (rows (T := 2048) (by decide) w i) (rows (T := 2048) (by decide) g i) (rows (T := 2048) (by decide) a i) (rows (T := 2048) (by decide) b i) := by
  funext i
  obtain ⟨i, j, rfl⟩ := split2 i
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1, val_main_v0]
  rfl

/-- The reference's first moments. -/
theorem firsts (g a : FVec Ideal S2x1024x1536 .f32) : val_main_v25 (F := Ideal) g a = fun i => first (rows (T := 2048) (by decide) g i) (rows (T := 2048) (by decide) a i) := by
  funext i
  obtain ⟨i, j, rfl⟩ := split2 i
  pointwise [val_main_v25, val_main_v4, val_main_v3, val_main_v2, val_main_v1, val_main_v0]
  rfl

/-- The reference's second moments. -/
theorem seconds (g b : FVec Ideal S2x1024x1536 .f32) : val_main_v26 (F := Ideal) g b = fun i => second (rows (T := 2048) (by decide) g i) (rows (T := 2048) (by decide) b i) := by
  funext i
  obtain ⟨i, j, rfl⟩ := split2 i
  pointwise [val_main_v26, val_main_v10, val_main_v9, val_main_v8, val_main_v7, val_main_v6, val_main_v5]
  rfl

end Cert.AdamAdaWRefIdeal.Whole

namespace Cert.AdamAdaW

open Idealize.ShloMosaic Idealize.ShloMosaic.TcCoe Idealize.SL.Sem Cert.AdamAdaWIdeal.Tiles

/-- On arguments that agree, the kernel and the reference both run and end with equal results. -/
theorem equal : Cert.algebraic_AdamAdaWIdeal_AdamAdaWRefIdeal := by
  intro m g m' g' _ agree
  refine ⟨fun c => (AdamAdaWIdeal.Gen.dats m 0 c).arrAt 4 AdamAdaWIdeal.cfg0.N, fun c => (AdamAdaWIdeal.Gen.dats m 0 c).arrAt 5 AdamAdaWIdeal.cfg0.N,
    fun c => (AdamAdaWIdeal.Gen.dats m 0 c).arrAt 6 AdamAdaWIdeal.cfg0.N, AdamAdaWIdeal.Value.run_blocks m g, ?_⟩
  refine (θ_run _ _ _).mono (fun r h c => ⟨(h c).1.trans ?_, (h c).2.1.trans ?_, (h c).2.2.1.trans ?_, (h c).2.2.2⟩)
    (AdamAdaWRefIdeal.Value.run m' g')
  all_goals obtain ⟨h0, h1, h2, h3⟩ := agree c
  · rw [AdamAdaWRefIdeal.Read.val_main_v24_eq, h0, h1, h2, h3, AdamAdaWRefIdeal.Whole.changes]
    exact ((left4 m c).trans (by rw [v0_rows, v1_rows, v2_rows, v3_rows]; rfl)).symm
  · rw [AdamAdaWRefIdeal.Read.val_main_v25_eq, h1, h2, AdamAdaWRefIdeal.Whole.firsts]
    exact ((left5 m c).trans (by rw [v1_rows, v2_rows]; rfl)).symm
  · rw [AdamAdaWRefIdeal.Read.val_main_v26_eq, h1, h3, AdamAdaWRefIdeal.Whole.seconds]
    exact ((left6 m c).trans (by rw [v1_rows, v3_rows]; rfl)).symm

/-- The reference runs and leaves its arguments as they were. -/
theorem ref_frame : Cert.quiescent_AdamAdaWRefIdeal := fun m ρ _ =>
  (θ_run Cert.AdamAdaWRefIdeal.defs _ _).mono (fun r h => ⟨fun c => (h c).2.2.2, sem_eq_zero_of_no_sems (by decide) r.2⟩)
    (Cert.AdamAdaWRefIdeal.Value.run (F := Ideal) m ρ)

end Cert.AdamAdaW
-- ==== Proof.AdamWIn.lean ====
module

public import proofs.«01_k».proof.Proof.Gen.AdamWInIdeal.Value
public import proofs.«01_k».proof.Proof.Gen.AdamWInRefIdeal.Run
public import proofs.«01_k».proof.Proof.Gen.AdamWInRefIdeal.Read
public import proofs.«01_k».proof.Proof.Adam
public import proofs.«01_k».proof.Defs

@[expose] public section

set_option maxRecDepth 16384

noncomputable section

namespace Cert.AdamWInIdeal.Tiles

open Cert.AdamWInIdeal Cert.AdamWInIdeal.Gen Cert.AdamWInIdeal.Value Cert.Product Cert.Adam
open Idealize.ShloMosaic Idealize.ShloMosaic.TcCoe Idealize.SL.Sem

variable (m : (ℓ : Loc nD τ sig) → Buf (Elt Ideal) ℓ)

/-- What a point leaves of the changes. -/
theorem out4 (w g a b : FVec Ideal S256x1156 .f32) (l : Fin 256) (j : Fin 1156) :
    (out0_4 (F := Ideal) w g a b (ix2 l j) : EReal) = change (w (ix2 l j)) (g (ix2 l j)) (a (ix2 l j)) (b (ix2 l j)) := by
  unfold out0_4 r0_0
  simp only [View.ld_unit_zero (S := S256x1156) off2]
  rw [View.canon_unit_zero off2]
  pointwise [k0_pay4, k0_pay3, k0_pay2, k0_pay1]
  rfl

/-- What a point leaves of the first moments. -/
theorem out5 (w g a b : FVec Ideal S256x1156 .f32) (l : Fin 256) (j : Fin 1156) :
    (out0_5 (F := Ideal) w g a b (ix2 l j) : EReal) = first (g (ix2 l j)) (a (ix2 l j)) := by
  unfold out0_5 r0_0
  simp only [View.ld_unit_zero (S := S256x1156) off2]
  rw [View.canon_unit_zero off2]
  pointwise [k0_pay2, k0_pay1]
  rfl

/-- What a point leaves of the second moments. -/
theorem out6 (w g a b : FVec Ideal S256x1156 .f32) (l : Fin 256) (j : Fin 1156) :
    (out0_6 (F := Ideal) w g a b (ix2 l j) : EReal) = second (g (ix2 l j)) (b (ix2 l j)) := by
  unfold out0_6 r0_0
  simp only [View.ld_unit_zero (S := S256x1156) off2]
  rw [View.canon_unit_zero off2]
  pointwise [k0_pay3, k0_pay1]
  rfl

/-- Which tile window 0 is on at a point. -/
theorem idx0 : ∀ t : Fin cfg0.N, win0_0.index t = ![t.val, 0] := (by decide +kernel : ∀ t : Fin grid0.N, _)
/-- Which tile window 1 is on at a point. -/
theorem idx1 : ∀ t : Fin cfg0.N, win0_1.index t = ![t.val, 0] := (by decide +kernel : ∀ t : Fin grid0.N, _)
/-- Which tile window 2 is on at a point. -/
theorem idx2 : ∀ t : Fin cfg0.N, win0_2.index t = ![t.val, 0] := (by decide +kernel : ∀ t : Fin grid0.N, _)
/-- Which tile window 3 is on at a point. -/
theorem idx3 : ∀ t : Fin cfg0.N, win0_3.index t = ![t.val, 0] := (by decide +kernel : ∀ t : Fin grid0.N, _)
/-- Which tile window 4 is on at a point. -/
theorem idx4 : ∀ t : Fin cfg0.N, win0_4.index t = ![t.val, 0] := (by decide +kernel : ∀ t : Fin grid0.N, _)
/-- Which tile window 5 is on at a point. -/
theorem idx5 : ∀ t : Fin cfg0.N, win0_5.index t = ![t.val, 0] := (by decide +kernel : ∀ t : Fin grid0.N, _)
/-- Which tile window 6 is on at a point. -/
theorem idx6 : ∀ t : Fin cfg0.N, win0_6.index t = ![t.val, 0] := (by decide +kernel : ∀ t : Fin grid0.N, _)

/-- The rows of an argument at a point. -/
theorem blk0 (c : Dev nD) (t : Fin cfg0.N) (l : Fin 256) (j : Fin 1156) :
    iblk m c 0 t (ix2 l j) = ent (V m c main_v0) (t.val * 256 + l.val) j.val := by
  have ht := lt_of_lt_of_eq t.isLt N_0
  unfold ent
  rw [dif_pos ⟨by omega, by omega⟩]
  blk_ext! [iblk, idx0 t]

/-- The rows of an argument at a point. -/
theorem blk1 (c : Dev nD) (t : Fin cfg0.N) (l : Fin 256) (j : Fin 1156) :
    iblk m c 1 t (ix2 l j) = ent (V m c main_v1) (t.val * 256 + l.val) j.val := by
  have ht := lt_of_lt_of_eq t.isLt N_0
  unfold ent
  rw [dif_pos ⟨by omega, by omega⟩]
  blk_ext! [iblk, idx1 t]

/-- The rows of an argument at a point. -/
theorem blk2 (c : Dev nD) (t : Fin cfg0.N) (l : Fin 256) (j : Fin 1156) :
    iblk m c 2 t (ix2 l j) = ent (V m c main_v2) (t.val * 256 + l.val) j.val := by
  have ht := lt_of_lt_of_eq t.isLt N_0
  unfold ent
  rw [dif_pos ⟨by omega, by omega⟩]
  blk_ext! [iblk, idx2 t]

/-- The rows of an argument at a point. -/
theorem blk3 (c : Dev nD) (t : Fin cfg0.N) (l : Fin 256) (j : Fin 1156) :
    iblk m c 3 t (ix2 l j) = ent (V m c main_v3) (t.val * 256 + l.val) j.val := by
  have ht := lt_of_lt_of_eq t.isLt N_0
  unfold ent
  rw [dif_pos ⟨by omega, by omega⟩]
  blk_ext! [iblk, idx3 t]

/-- The array of the changes that the kernel leaves. -/
theorem left4 (c : Dev nD) : (dats m 0 c).arrAt 4 cfg0.N = fun i => change (V m c main_v0 i) (V m c main_v1 i) (V m c main_v2 i) (V m c main_v3 i) := by
  refine Eq.trans ?_ (change_ent (V m c main_v0) (V m c main_v1) (V m c main_v2) (V m c main_v3))
  refine (dats m 0 c).arrAt_eq_of_covers 4 _ (by decide +kernel) fun t hf y => ?_
  blk_simp
  rw [after0_4]
  obtain ⟨l, j, rfl⟩ := split2 y
  have e0 : win0_4.index t 0 * 256 + (ix2 l j 0).val = t.val * 256 + l.val := by rw [idx4 t]; rfl
  have e1 : win0_4.index t 1 * 1156 + (ix2 l j 1).val = j.val := by rw [idx4 t]; exact Nat.zero_add _
  rw [e0, e1]
  refine (out4 _ _ _ _ l j).trans ?_
  simp only [blk0, blk1, blk2, blk3]

/-- The array of the first moments that the kernel leaves. -/
theorem left5 (c : Dev nD) : (dats m 0 c).arrAt 5 cfg0.N = fun i => first (V m c main_v1 i) (V m c main_v2 i) := by
  refine Eq.trans ?_ (first_ent (V m c main_v1) (V m c main_v2))
  refine (dats m 0 c).arrAt_eq_of_covers 5 _ (by decide +kernel) fun t hf y => ?_
  blk_simp
  rw [after0_5]
  obtain ⟨l, j, rfl⟩ := split2 y
  have e0 : win0_5.index t 0 * 256 + (ix2 l j 0).val = t.val * 256 + l.val := by rw [idx5 t]; rfl
  have e1 : win0_5.index t 1 * 1156 + (ix2 l j 1).val = j.val := by rw [idx5 t]; exact Nat.zero_add _
  rw [e0, e1]
  refine (out5 _ _ _ _ l j).trans ?_
  simp only [blk1, blk2]

/-- The array of the second moments that the kernel leaves. -/
theorem left6 (c : Dev nD) : (dats m 0 c).arrAt 6 cfg0.N = fun i => second (V m c main_v1 i) (V m c main_v3 i) := by
  refine Eq.trans ?_ (second_ent (V m c main_v1) (V m c main_v3))
  refine (dats m 0 c).arrAt_eq_of_covers 6 _ (by decide +kernel) fun t hf y => ?_
  blk_simp
  rw [after0_6]
  obtain ⟨l, j, rfl⟩ := split2 y
  have e0 : win0_6.index t 0 * 256 + (ix2 l j 0).val = t.val * 256 + l.val := by rw [idx6 t]; rfl
  have e1 : win0_6.index t 1 * 1156 + (ix2 l j 1).val = j.val := by rw [idx6 t]; exact Nat.zero_add _
  rw [e0, e1]
  refine (out6 _ _ _ _ l j).trans ?_
  simp only [blk1, blk3]

/-- An argument's layers are read one above the other. -/
theorem v0_rows (c : Dev nD) : V m c main_v0 = rows (by decide) (m ((c : Thread nD τ).loc main_arg0)) := by
  funext y
  obtain ⟨i, k, rfl⟩ := split2 y
  unfold V
  simp only [hostOps0]
  after_results
  pointwise
  rfl

/-- An argument's layers are read one above the other. -/
theorem v1_rows (c : Dev nD) : V m c main_v1 = rows (by decide) (m ((c : Thread nD τ).loc main_arg1)) := by
  funext y
  obtain ⟨i, k, rfl⟩ := split2 y
  unfold V
  simp only [hostOps0]
  after_results
  pointwise
  rfl

/-- An argument's layers are read one above the other. -/
theorem v2_rows (c : Dev nD) : V m c main_v2 = rows (by decide) (m ((c : Thread nD τ).loc main_arg2)) := by
  funext y
  obtain ⟨i, k, rfl⟩ := split2 y
  unfold V
  simp only [hostOps0]
  after_results
  pointwise
  rfl

/-- An argument's layers are read one above the other. -/
theorem v3_rows (c : Dev nD) : V m c main_v3 = rows (by decide) (m ((c : Thread nD τ).loc main_arg3)) := by
  funext y
  obtain ⟨i, k, rfl⟩ := split2 y
  unfold V
  simp only [hostOps0]
  after_results
  pointwise
  rfl

end Cert.AdamWInIdeal.Tiles

namespace Cert.AdamWInRefIdeal.Whole

open Cert.AdamWInRefIdeal Cert.AdamWInRefIdeal.Read Cert.Product Cert.Adam
open Idealize.ShloMosaic Idealize.ShloMosaic.TcCoe Idealize.SL.Sem

/-- The reference's changes. -/
theorem changes (w g a b : FVec Ideal S2x1024x1156 .f32) : val_main_v24 (F := Ideal) w g a b
    = fun i => change (rows (T := 2048) (by decide) w i) (rows (T := 2048) (by decide) g i) (rows (T := 2048) (by decide) a i) (rows (T := 2048) (by decide) b i) := by
  funext i
  obtain ⟨i, j, rfl⟩ := split2 i
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1, val_main_v0]
  rfl

/-- The reference's first moments. -/
theorem firsts (g a : FVec Ideal S2x1024x1156 .f32) : val_main_v25 (F := Ideal) g a = fun i => first (rows (T := 2048) (by decide) g i) (rows (T := 2048) (by decide) a i) := by
  funext i
  obtain ⟨i, j, rfl⟩ := split2 i
  pointwise [val_main_v25, val_main_v4, val_main_v3, val_main_v2, val_main_v1, val_main_v0]
  rfl

/-- The reference's second moments. -/
theorem seconds (g b : FVec Ideal S2x1024x1156 .f32) : val_main_v26 (F := Ideal) g b = fun i => second (rows (T := 2048) (by decide) g i) (rows (T := 2048) (by decide) b i) := by
  funext i
  obtain ⟨i, j, rfl⟩ := split2 i
  pointwise [val_main_v26, val_main_v10, val_main_v9, val_main_v8, val_main_v7, val_main_v6, val_main_v5]
  rfl

end Cert.AdamWInRefIdeal.Whole

namespace Cert.AdamWIn

open Idealize.ShloMosaic Idealize.ShloMosaic.TcCoe Idealize.SL.Sem Cert.AdamWInIdeal.Tiles

/-- On arguments that agree, the kernel and the reference both run and end with equal results. -/
theorem equal : Cert.algebraic_AdamWInIdeal_AdamWInRefIdeal := by
  intro m g m' g' _ agree
  refine ⟨fun c => (AdamWInIdeal.Gen.dats m 0 c).arrAt 4 AdamWInIdeal.cfg0.N, fun c => (AdamWInIdeal.Gen.dats m 0 c).arrAt 5 AdamWInIdeal.cfg0.N,
    fun c => (AdamWInIdeal.Gen.dats m 0 c).arrAt 6 AdamWInIdeal.cfg0.N, AdamWInIdeal.Value.run_blocks m g, ?_⟩
  refine (θ_run _ _ _).mono (fun r h c => ⟨(h c).1.trans ?_, (h c).2.1.trans ?_, (h c).2.2.1.trans ?_, (h c).2.2.2⟩)
    (AdamWInRefIdeal.Value.run m' g')
  all_goals obtain ⟨h0, h1, h2, h3⟩ := agree c
  · rw [AdamWInRefIdeal.Read.val_main_v24_eq, h0, h1, h2, h3, AdamWInRefIdeal.Whole.changes]
    exact ((left4 m c).trans (by rw [v0_rows, v1_rows, v2_rows, v3_rows]; rfl)).symm
  · rw [AdamWInRefIdeal.Read.val_main_v25_eq, h1, h2, AdamWInRefIdeal.Whole.firsts]
    exact ((left5 m c).trans (by rw [v1_rows, v2_rows]; rfl)).symm
  · rw [AdamWInRefIdeal.Read.val_main_v26_eq, h1, h3, AdamWInRefIdeal.Whole.seconds]
    exact ((left6 m c).trans (by rw [v1_rows, v3_rows]; rfl)).symm

/-- The reference runs and leaves its arguments as they were. -/
theorem ref_frame : Cert.quiescent_AdamWInRefIdeal := fun m ρ _ =>
  (θ_run Cert.AdamWInRefIdeal.defs _ _).mono (fun r h => ⟨fun c => (h c).2.2.2, sem_eq_zero_of_no_sems (by decide) r.2⟩)
    (Cert.AdamWInRefIdeal.Value.run (F := Ideal) m ρ)

end Cert.AdamWIn
-- ==== Proof.AdamWOut.lean ====
module

public import proofs.«01_k».proof.Proof.Gen.AdamWOutIdeal.Value
public import proofs.«01_k».proof.Proof.Gen.AdamWOutRefIdeal.Run
public import proofs.«01_k».proof.Proof.Gen.AdamWOutRefIdeal.Read
public import proofs.«01_k».proof.Proof.Adam
public import proofs.«01_k».proof.Defs

@[expose] public section

set_option maxRecDepth 16384

noncomputable section

namespace Cert.AdamWOutIdeal.Tiles

open Cert.AdamWOutIdeal Cert.AdamWOutIdeal.Gen Cert.AdamWOutIdeal.Value Cert.Product Cert.Adam
open Idealize.ShloMosaic Idealize.ShloMosaic.TcCoe Idealize.SL.Sem

variable (m : (ℓ : Loc nD τ sig) → Buf (Elt Ideal) ℓ)

/-- What a point leaves of the changes. -/
theorem out4 (w g a b : FVec Ideal S512x1024 .f32) (l : Fin 512) (j : Fin 1024) :
    (out0_4 (F := Ideal) w g a b (ix2 l j) : EReal) = change (w (ix2 l j)) (g (ix2 l j)) (a (ix2 l j)) (b (ix2 l j)) := by
  unfold out0_4 r0_0
  simp only [View.ld_unit_zero (S := S512x1024) off2]
  rw [View.canon_unit_zero off2]
  pointwise [k0_pay4, k0_pay3, k0_pay2, k0_pay1]
  rfl

/-- What a point leaves of the first moments. -/
theorem out5 (w g a b : FVec Ideal S512x1024 .f32) (l : Fin 512) (j : Fin 1024) :
    (out0_5 (F := Ideal) w g a b (ix2 l j) : EReal) = first (g (ix2 l j)) (a (ix2 l j)) := by
  unfold out0_5 r0_0
  simp only [View.ld_unit_zero (S := S512x1024) off2]
  rw [View.canon_unit_zero off2]
  pointwise [k0_pay2, k0_pay1]
  rfl

/-- What a point leaves of the second moments. -/
theorem out6 (w g a b : FVec Ideal S512x1024 .f32) (l : Fin 512) (j : Fin 1024) :
    (out0_6 (F := Ideal) w g a b (ix2 l j) : EReal) = second (g (ix2 l j)) (b (ix2 l j)) := by
  unfold out0_6 r0_0
  simp only [View.ld_unit_zero (S := S512x1024) off2]
  rw [View.canon_unit_zero off2]
  pointwise [k0_pay3, k0_pay1]
  rfl

/-- Which tile window 0 is on at a point. -/
theorem idx0 : ∀ t : Fin cfg0.N, win0_0.index t = ![t.val, 0] := (by decide +kernel : ∀ t : Fin grid0.N, _)
/-- Which tile window 1 is on at a point. -/
theorem idx1 : ∀ t : Fin cfg0.N, win0_1.index t = ![t.val, 0] := (by decide +kernel : ∀ t : Fin grid0.N, _)
/-- Which tile window 2 is on at a point. -/
theorem idx2 : ∀ t : Fin cfg0.N, win0_2.index t = ![t.val, 0] := (by decide +kernel : ∀ t : Fin grid0.N, _)
/-- Which tile window 3 is on at a point. -/
theorem idx3 : ∀ t : Fin cfg0.N, win0_3.index t = ![t.val, 0] := (by decide +kernel : ∀ t : Fin grid0.N, _)
/-- Which tile window 4 is on at a point. -/
theorem idx4 : ∀ t : Fin cfg0.N, win0_4.index t = ![t.val, 0] := (by decide +kernel : ∀ t : Fin grid0.N, _)
/-- Which tile window 5 is on at a point. -/
theorem idx5 : ∀ t : Fin cfg0.N, win0_5.index t = ![t.val, 0] := (by decide +kernel : ∀ t : Fin grid0.N, _)
/-- Which tile window 6 is on at a point. -/
theorem idx6 : ∀ t : Fin cfg0.N, win0_6.index t = ![t.val, 0] := (by decide +kernel : ∀ t : Fin grid0.N, _)

/-- The rows of an argument at a point. -/
theorem blk0 (c : Dev nD) (t : Fin cfg0.N) (l : Fin 512) (j : Fin 1024) :
    iblk m c 0 t (ix2 l j) = ent (V m c main_v0) (t.val * 512 + l.val) j.val := by
  have ht := lt_of_lt_of_eq t.isLt N_0
  unfold ent
  rw [dif_pos ⟨by omega, by omega⟩]
  blk_ext! [iblk, idx0 t]

/-- The rows of an argument at a point. -/
theorem blk1 (c : Dev nD) (t : Fin cfg0.N) (l : Fin 512) (j : Fin 1024) :
    iblk m c 1 t (ix2 l j) = ent (V m c main_v1) (t.val * 512 + l.val) j.val := by
  have ht := lt_of_lt_of_eq t.isLt N_0
  unfold ent
  rw [dif_pos ⟨by omega, by omega⟩]
  blk_ext! [iblk, idx1 t]

/-- The rows of an argument at a point. -/
theorem blk2 (c : Dev nD) (t : Fin cfg0.N) (l : Fin 512) (j : Fin 1024) :
    iblk m c 2 t (ix2 l j) = ent (V m c main_v2) (t.val * 512 + l.val) j.val := by
  have ht := lt_of_lt_of_eq t.isLt N_0
  unfold ent
  rw [dif_pos ⟨by omega, by omega⟩]
  blk_ext! [iblk, idx2 t]

/-- The rows of an argument at a point. -/
theorem blk3 (c : Dev nD) (t : Fin cfg0.N) (l : Fin 512) (j : Fin 1024) :
    iblk m c 3 t (ix2 l j) = ent (V m c main_v3) (t.val * 512 + l.val) j.val := by
  have ht := lt_of_lt_of_eq t.isLt N_0
  unfold ent
  rw [dif_pos ⟨by omega, by omega⟩]
  blk_ext! [iblk, idx3 t]

/-- The array of the changes that the kernel leaves. -/
theorem left4 (c : Dev nD) : (dats m 0 c).arrAt 4 cfg0.N = fun i => change (V m c main_v0 i) (V m c main_v1 i) (V m c main_v2 i) (V m c main_v3 i) := by
  refine Eq.trans ?_ (change_ent (V m c main_v0) (V m c main_v1) (V m c main_v2) (V m c main_v3))
  refine (dats m 0 c).arrAt_eq_of_covers 4 _ (by decide +kernel) fun t hf y => ?_
  blk_simp
  rw [after0_4]
  obtain ⟨l, j, rfl⟩ := split2 y
  have e0 : win0_4.index t 0 * 512 + (ix2 l j 0).val = t.val * 512 + l.val := by rw [idx4 t]; rfl
  have e1 : win0_4.index t 1 * 1024 + (ix2 l j 1).val = j.val := by rw [idx4 t]; exact Nat.zero_add _
  rw [e0, e1]
  refine (out4 _ _ _ _ l j).trans ?_
  simp only [blk0, blk1, blk2, blk3]

/-- The array of the first moments that the kernel leaves. -/
theorem left5 (c : Dev nD) : (dats m 0 c).arrAt 5 cfg0.N = fun i => first (V m c main_v1 i) (V m c main_v2 i) := by
  refine Eq.trans ?_ (first_ent (V m c main_v1) (V m c main_v2))
  refine (dats m 0 c).arrAt_eq_of_covers 5 _ (by decide +kernel) fun t hf y => ?_
  blk_simp
  rw [after0_5]
  obtain ⟨l, j, rfl⟩ := split2 y
  have e0 : win0_5.index t 0 * 512 + (ix2 l j 0).val = t.val * 512 + l.val := by rw [idx5 t]; rfl
  have e1 : win0_5.index t 1 * 1024 + (ix2 l j 1).val = j.val := by rw [idx5 t]; exact Nat.zero_add _
  rw [e0, e1]
  refine (out5 _ _ _ _ l j).trans ?_
  simp only [blk1, blk2]

/-- The array of the second moments that the kernel leaves. -/
theorem left6 (c : Dev nD) : (dats m 0 c).arrAt 6 cfg0.N = fun i => second (V m c main_v1 i) (V m c main_v3 i) := by
  refine Eq.trans ?_ (second_ent (V m c main_v1) (V m c main_v3))
  refine (dats m 0 c).arrAt_eq_of_covers 6 _ (by decide +kernel) fun t hf y => ?_
  blk_simp
  rw [after0_6]
  obtain ⟨l, j, rfl⟩ := split2 y
  have e0 : win0_6.index t 0 * 512 + (ix2 l j 0).val = t.val * 512 + l.val := by rw [idx6 t]; rfl
  have e1 : win0_6.index t 1 * 1024 + (ix2 l j 1).val = j.val := by rw [idx6 t]; exact Nat.zero_add _
  rw [e0, e1]
  refine (out6 _ _ _ _ l j).trans ?_
  simp only [blk1, blk3]

/-- An argument's layers are read one above the other. -/
theorem v0_rows (c : Dev nD) : V m c main_v0 = rows (by decide) (m ((c : Thread nD τ).loc main_arg0)) := by
  funext y
  obtain ⟨i, k, rfl⟩ := split2 y
  unfold V
  simp only [hostOps0]
  after_results
  pointwise
  rfl

/-- An argument's layers are read one above the other. -/
theorem v1_rows (c : Dev nD) : V m c main_v1 = rows (by decide) (m ((c : Thread nD τ).loc main_arg1)) := by
  funext y
  obtain ⟨i, k, rfl⟩ := split2 y
  unfold V
  simp only [hostOps0]
  after_results
  pointwise
  rfl

/-- An argument's layers are read one above the other. -/
theorem v2_rows (c : Dev nD) : V m c main_v2 = rows (by decide) (m ((c : Thread nD τ).loc main_arg2)) := by
  funext y
  obtain ⟨i, k, rfl⟩ := split2 y
  unfold V
  simp only [hostOps0]
  after_results
  pointwise
  rfl

/-- An argument's layers are read one above the other. -/
theorem v3_rows (c : Dev nD) : V m c main_v3 = rows (by decide) (m ((c : Thread nD τ).loc main_arg3)) := by
  funext y
  obtain ⟨i, k, rfl⟩ := split2 y
  unfold V
  simp only [hostOps0]
  after_results
  pointwise
  rfl

end Cert.AdamWOutIdeal.Tiles

namespace Cert.AdamWOutRefIdeal.Whole

open Cert.AdamWOutRefIdeal Cert.AdamWOutRefIdeal.Read Cert.Product Cert.Adam
open Idealize.ShloMosaic Idealize.ShloMosaic.TcCoe Idealize.SL.Sem

/-- The reference's changes. -/
theorem changes (w g a b : FVec Ideal S2x512x1024 .f32) : val_main_v24 (F := Ideal) w g a b
    = fun i => change (rows (T := 1024) (by decide) w i) (rows (T := 1024) (by decide) g i) (rows (T := 1024) (by decide) a i) (rows (T := 1024) (by decide) b i) := by
  funext i
  obtain ⟨i, j, rfl⟩ := split2 i
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1, val_main_v0]
  rfl

/-- The reference's first moments. -/
theorem firsts (g a : FVec Ideal S2x512x1024 .f32) : val_main_v25 (F := Ideal) g a = fun i => first (rows (T := 1024) (by decide) g i) (rows (T := 1024) (by decide) a i) := by
  funext i
  obtain ⟨i, j, rfl⟩ := split2 i
  pointwise [val_main_v25, val_main_v4, val_main_v3, val_main_v2, val_main_v1, val_main_v0]
  rfl

/-- The reference's second moments. -/
theorem seconds (g b : FVec Ideal S2x512x1024 .f32) : val_main_v26 (F := Ideal) g b = fun i => second (rows (T := 1024) (by decide) g i) (rows (T := 1024) (by decide) b i) := by
  funext i
  obtain ⟨i, j, rfl⟩ := split2 i
  pointwise [val_main_v26, val_main_v10, val_main_v9, val_main_v8, val_main_v7, val_main_v6, val_main_v5]
  rfl

end Cert.AdamWOutRefIdeal.Whole

namespace Cert.AdamWOut

open Idealize.ShloMosaic Idealize.ShloMosaic.TcCoe Idealize.SL.Sem Cert.AdamWOutIdeal.Tiles

/-- On arguments that agree, the kernel and the reference both run and end with equal results. -/
theorem equal : Cert.algebraic_AdamWOutIdeal_AdamWOutRefIdeal := by
  intro m g m' g' _ agree
  refine ⟨fun c => (AdamWOutIdeal.Gen.dats m 0 c).arrAt 4 AdamWOutIdeal.cfg0.N, fun c => (AdamWOutIdeal.Gen.dats m 0 c).arrAt 5 AdamWOutIdeal.cfg0.N,
    fun c => (AdamWOutIdeal.Gen.dats m 0 c).arrAt 6 AdamWOutIdeal.cfg0.N, AdamWOutIdeal.Value.run_blocks m g, ?_⟩
  refine (θ_run _ _ _).mono (fun r h c => ⟨(h c).1.trans ?_, (h c).2.1.trans ?_, (h c).2.2.1.trans ?_, (h c).2.2.2⟩)
    (AdamWOutRefIdeal.Value.run m' g')
  all_goals obtain ⟨h0, h1, h2, h3⟩ := agree c
  · rw [AdamWOutRefIdeal.Read.val_main_v24_eq, h0, h1, h2, h3, AdamWOutRefIdeal.Whole.changes]
    exact ((left4 m c).trans (by rw [v0_rows, v1_rows, v2_rows, v3_rows]; rfl)).symm
  · rw [AdamWOutRefIdeal.Read.val_main_v25_eq, h1, h2, AdamWOutRefIdeal.Whole.firsts]
    exact ((left5 m c).trans (by rw [v1_rows, v2_rows]; rfl)).symm
  · rw [AdamWOutRefIdeal.Read.val_main_v26_eq, h1, h3, AdamWOutRefIdeal.Whole.seconds]
    exact ((left6 m c).trans (by rw [v1_rows, v3_rows]; rfl)).symm

/-- The reference runs and leaves its arguments as they were. -/
theorem ref_frame : Cert.quiescent_AdamWOutRefIdeal := fun m ρ _ =>
  (θ_run Cert.AdamWOutRefIdeal.defs _ _).mono (fun r h => ⟨fun c => (h c).2.2.2, sem_eq_zero_of_no_sems (by decide) r.2⟩)
    (Cert.AdamWOutRefIdeal.Value.run (F := Ideal) m ρ)

end Cert.AdamWOut
-- ==== Proof.AdamFfUp.lean ====
module

public import proofs.«01_k».proof.Proof.Gen.AdamFfUpIdeal.Value
public import proofs.«01_k».proof.Proof.Gen.AdamFfUpRefIdeal.Run
public import proofs.«01_k».proof.Proof.Gen.AdamFfUpRefIdeal.Read
public import proofs.«01_k».proof.Proof.Adam
public import proofs.«01_k».proof.Defs

@[expose] public section

set_option maxRecDepth 16384

noncomputable section

namespace Cert.AdamFfUpIdeal.Tiles

open Cert.AdamFfUpIdeal Cert.AdamFfUpIdeal.Gen Cert.AdamFfUpIdeal.Value Cert.Product Cert.Adam
open Idealize.ShloMosaic Idealize.ShloMosaic.TcCoe Idealize.SL.Sem

variable (m : (ℓ : Loc nD τ sig) → Buf (Elt Ideal) ℓ)

/-- What a point leaves of the changes. -/
theorem out4 (w g a b : FVec Ideal S256x1408 .f32) (l : Fin 256) (j : Fin 1408) :
    (out0_4 (F := Ideal) w g a b (ix2 l j) : EReal) = change (w (ix2 l j)) (g (ix2 l j)) (a (ix2 l j)) (b (ix2 l j)) := by
  unfold out0_4 r0_0
  simp only [View.ld_unit_zero (S := S256x1408) off2]
  rw [View.canon_unit_zero off2]
  pointwise [k0_pay4, k0_pay3, k0_pay2, k0_pay1]
  rfl

/-- What a point leaves of the first moments. -/
theorem out5 (w g a b : FVec Ideal S256x1408 .f32) (l : Fin 256) (j : Fin 1408) :
    (out0_5 (F := Ideal) w g a b (ix2 l j) : EReal) = first (g (ix2 l j)) (a (ix2 l j)) := by
  unfold out0_5 r0_0
  simp only [View.ld_unit_zero (S := S256x1408) off2]
  rw [View.canon_unit_zero off2]
  pointwise [k0_pay2, k0_pay1]
  rfl

/-- What a point leaves of the second moments. -/
theorem out6 (w g a b : FVec Ideal S256x1408 .f32) (l : Fin 256) (j : Fin 1408) :
    (out0_6 (F := Ideal) w g a b (ix2 l j) : EReal) = second (g (ix2 l j)) (b (ix2 l j)) := by
  unfold out0_6 r0_0
  simp only [View.ld_unit_zero (S := S256x1408) off2]
  rw [View.canon_unit_zero off2]
  pointwise [k0_pay3, k0_pay1]
  rfl

/-- Which tile window 0 is on at a point. -/
theorem idx0 : ∀ t : Fin cfg0.N, win0_0.index t = ![t.val, 0] := (by decide +kernel : ∀ t : Fin grid0.N, _)
/-- Which tile window 1 is on at a point. -/
theorem idx1 : ∀ t : Fin cfg0.N, win0_1.index t = ![t.val, 0] := (by decide +kernel : ∀ t : Fin grid0.N, _)
/-- Which tile window 2 is on at a point. -/
theorem idx2 : ∀ t : Fin cfg0.N, win0_2.index t = ![t.val, 0] := (by decide +kernel : ∀ t : Fin grid0.N, _)
/-- Which tile window 3 is on at a point. -/
theorem idx3 : ∀ t : Fin cfg0.N, win0_3.index t = ![t.val, 0] := (by decide +kernel : ∀ t : Fin grid0.N, _)
/-- Which tile window 4 is on at a point. -/
theorem idx4 : ∀ t : Fin cfg0.N, win0_4.index t = ![t.val, 0] := (by decide +kernel : ∀ t : Fin grid0.N, _)
/-- Which tile window 5 is on at a point. -/
theorem idx5 : ∀ t : Fin cfg0.N, win0_5.index t = ![t.val, 0] := (by decide +kernel : ∀ t : Fin grid0.N, _)
/-- Which tile window 6 is on at a point. -/
theorem idx6 : ∀ t : Fin cfg0.N, win0_6.index t = ![t.val, 0] := (by decide +kernel : ∀ t : Fin grid0.N, _)

/-- The rows of an argument at a point. -/
theorem blk0 (c : Dev nD) (t : Fin cfg0.N) (l : Fin 256) (j : Fin 1408) :
    iblk m c 0 t (ix2 l j) = ent (V m c main_v0) (t.val * 256 + l.val) j.val := by
  have ht := lt_of_lt_of_eq t.isLt N_0
  unfold ent
  rw [dif_pos ⟨by omega, by omega⟩]
  blk_ext! [iblk, idx0 t]

/-- The rows of an argument at a point. -/
theorem blk1 (c : Dev nD) (t : Fin cfg0.N) (l : Fin 256) (j : Fin 1408) :
    iblk m c 1 t (ix2 l j) = ent (V m c main_v1) (t.val * 256 + l.val) j.val := by
  have ht := lt_of_lt_of_eq t.isLt N_0
  unfold ent
  rw [dif_pos ⟨by omega, by omega⟩]
  blk_ext! [iblk, idx1 t]

/-- The rows of an argument at a point. -/
theorem blk2 (c : Dev nD) (t : Fin cfg0.N) (l : Fin 256) (j : Fin 1408) :
    iblk m c 2 t (ix2 l j) = ent (V m c main_v2) (t.val * 256 + l.val) j.val := by
  have ht := lt_of_lt_of_eq t.isLt N_0
  unfold ent
  rw [dif_pos ⟨by omega, by omega⟩]
  blk_ext! [iblk, idx2 t]

/-- The rows of an argument at a point. -/
theorem blk3 (c : Dev nD) (t : Fin cfg0.N) (l : Fin 256) (j : Fin 1408) :
    iblk m c 3 t (ix2 l j) = ent (V m c main_v3) (t.val * 256 + l.val) j.val := by
  have ht := lt_of_lt_of_eq t.isLt N_0
  unfold ent
  rw [dif_pos ⟨by omega, by omega⟩]
  blk_ext! [iblk, idx3 t]

/-- The array of the changes that the kernel leaves. -/
theorem left4 (c : Dev nD) : (dats m 0 c).arrAt 4 cfg0.N = fun i => change (V m c main_v0 i) (V m c main_v1 i) (V m c main_v2 i) (V m c main_v3 i) := by
  refine Eq.trans ?_ (change_ent (V m c main_v0) (V m c main_v1) (V m c main_v2) (V m c main_v3))
  refine (dats m 0 c).arrAt_eq_of_covers 4 _ (by decide +kernel) fun t hf y => ?_
  blk_simp
  rw [after0_4]
  obtain ⟨l, j, rfl⟩ := split2 y
  have e0 : win0_4.index t 0 * 256 + (ix2 l j 0).val = t.val * 256 + l.val := by rw [idx4 t]; rfl
  have e1 : win0_4.index t 1 * 1408 + (ix2 l j 1).val = j.val := by rw [idx4 t]; exact Nat.zero_add _
  rw [e0, e1]
  refine (out4 _ _ _ _ l j).trans ?_
  simp only [blk0, blk1, blk2, blk3]

/-- The array of the first moments that the kernel leaves. -/
theorem left5 (c : Dev nD) : (dats m 0 c).arrAt 5 cfg0.N = fun i => first (V m c main_v1 i) (V m c main_v2 i) := by
  refine Eq.trans ?_ (first_ent (V m c main_v1) (V m c main_v2))
  refine (dats m 0 c).arrAt_eq_of_covers 5 _ (by decide +kernel) fun t hf y => ?_
  blk_simp
  rw [after0_5]
  obtain ⟨l, j, rfl⟩ := split2 y
  have e0 : win0_5.index t 0 * 256 + (ix2 l j 0).val = t.val * 256 + l.val := by rw [idx5 t]; rfl
  have e1 : win0_5.index t 1 * 1408 + (ix2 l j 1).val = j.val := by rw [idx5 t]; exact Nat.zero_add _
  rw [e0, e1]
  refine (out5 _ _ _ _ l j).trans ?_
  simp only [blk1, blk2]

/-- The array of the second moments that the kernel leaves. -/
theorem left6 (c : Dev nD) : (dats m 0 c).arrAt 6 cfg0.N = fun i => second (V m c main_v1 i) (V m c main_v3 i) := by
  refine Eq.trans ?_ (second_ent (V m c main_v1) (V m c main_v3))
  refine (dats m 0 c).arrAt_eq_of_covers 6 _ (by decide +kernel) fun t hf y => ?_
  blk_simp
  rw [after0_6]
  obtain ⟨l, j, rfl⟩ := split2 y
  have e0 : win0_6.index t 0 * 256 + (ix2 l j 0).val = t.val * 256 + l.val := by rw [idx6 t]; rfl
  have e1 : win0_6.index t 1 * 1408 + (ix2 l j 1).val = j.val := by rw [idx6 t]; exact Nat.zero_add _
  rw [e0, e1]
  refine (out6 _ _ _ _ l j).trans ?_
  simp only [blk1, blk3]

/-- An argument's layers are read one above the other. -/
theorem v0_rows (c : Dev nD) : V m c main_v0 = rows (by decide) (m ((c : Thread nD τ).loc main_arg0)) := by
  funext y
  obtain ⟨i, k, rfl⟩ := split2 y
  unfold V
  simp only [hostOps0]
  after_results
  pointwise
  rfl

/-- An argument's layers are read one above the other. -/
theorem v1_rows (c : Dev nD) : V m c main_v1 = rows (by decide) (m ((c : Thread nD τ).loc main_arg1)) := by
  funext y
  obtain ⟨i, k, rfl⟩ := split2 y
  unfold V
  simp only [hostOps0]
  after_results
  pointwise
  rfl

/-- An argument's layers are read one above the other. -/
theorem v2_rows (c : Dev nD) : V m c main_v2 = rows (by decide) (m ((c : Thread nD τ).loc main_arg2)) := by
  funext y
  obtain ⟨i, k, rfl⟩ := split2 y
  unfold V
  simp only [hostOps0]
  after_results
  pointwise
  rfl

/-- An argument's layers are read one above the other. -/
theorem v3_rows (c : Dev nD) : V m c main_v3 = rows (by decide) (m ((c : Thread nD τ).loc main_arg3)) := by
  funext y
  obtain ⟨i, k, rfl⟩ := split2 y
  unfold V
  simp only [hostOps0]
  after_results
  pointwise
  rfl

end Cert.AdamFfUpIdeal.Tiles

namespace Cert.AdamFfUpRefIdeal.Whole

open Cert.AdamFfUpRefIdeal Cert.AdamFfUpRefIdeal.Read Cert.Product Cert.Adam
open Idealize.ShloMosaic Idealize.ShloMosaic.TcCoe Idealize.SL.Sem

/-- The reference's changes. -/
theorem changes (w g a b : FVec Ideal S2x1024x1408 .f32) : val_main_v24 (F := Ideal) w g a b
    = fun i => change (rows (T := 2048) (by decide) w i) (rows (T := 2048) (by decide) g i) (rows (T := 2048) (by decide) a i) (rows (T := 2048) (by decide) b i) := by
  funext i
  obtain ⟨i, j, rfl⟩ := split2 i
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1, val_main_v0]
  rfl

/-- The reference's first moments. -/
theorem firsts (g a : FVec Ideal S2x1024x1408 .f32) : val_main_v25 (F := Ideal) g a = fun i => first (rows (T := 2048) (by decide) g i) (rows (T := 2048) (by decide) a i) := by
  funext i
  obtain ⟨i, j, rfl⟩ := split2 i
  pointwise [val_main_v25, val_main_v4, val_main_v3, val_main_v2, val_main_v1, val_main_v0]
  rfl

/-- The reference's second moments. -/
theorem seconds (g b : FVec Ideal S2x1024x1408 .f32) : val_main_v26 (F := Ideal) g b = fun i => second (rows (T := 2048) (by decide) g i) (rows (T := 2048) (by decide) b i) := by
  funext i
  obtain ⟨i, j, rfl⟩ := split2 i
  pointwise [val_main_v26, val_main_v10, val_main_v9, val_main_v8, val_main_v7, val_main_v6, val_main_v5]
  rfl

end Cert.AdamFfUpRefIdeal.Whole

namespace Cert.AdamFfUp

open Idealize.ShloMosaic Idealize.ShloMosaic.TcCoe Idealize.SL.Sem Cert.AdamFfUpIdeal.Tiles

/-- On arguments that agree, the kernel and the reference both run and end with equal results. -/
theorem equal : Cert.algebraic_AdamFfUpIdeal_AdamFfUpRefIdeal := by
  intro m g m' g' _ agree
  refine ⟨fun c => (AdamFfUpIdeal.Gen.dats m 0 c).arrAt 4 AdamFfUpIdeal.cfg0.N, fun c => (AdamFfUpIdeal.Gen.dats m 0 c).arrAt 5 AdamFfUpIdeal.cfg0.N,
    fun c => (AdamFfUpIdeal.Gen.dats m 0 c).arrAt 6 AdamFfUpIdeal.cfg0.N, AdamFfUpIdeal.Value.run_blocks m g, ?_⟩
  refine (θ_run _ _ _).mono (fun r h c => ⟨(h c).1.trans ?_, (h c).2.1.trans ?_, (h c).2.2.1.trans ?_, (h c).2.2.2⟩)
    (AdamFfUpRefIdeal.Value.run m' g')
  all_goals obtain ⟨h0, h1, h2, h3⟩ := agree c
  · rw [AdamFfUpRefIdeal.Read.val_main_v24_eq, h0, h1, h2, h3, AdamFfUpRefIdeal.Whole.changes]
    exact ((left4 m c).trans (by rw [v0_rows, v1_rows, v2_rows, v3_rows]; rfl)).symm
  · rw [AdamFfUpRefIdeal.Read.val_main_v25_eq, h1, h2, AdamFfUpRefIdeal.Whole.firsts]
    exact ((left5 m c).trans (by rw [v1_rows, v2_rows]; rfl)).symm
  · rw [AdamFfUpRefIdeal.Read.val_main_v26_eq, h1, h3, AdamFfUpRefIdeal.Whole.seconds]
    exact ((left6 m c).trans (by rw [v1_rows, v3_rows]; rfl)).symm

/-- The reference runs and leaves its arguments as they were. -/
theorem ref_frame : Cert.quiescent_AdamFfUpRefIdeal := fun m ρ _ =>
  (θ_run Cert.AdamFfUpRefIdeal.defs _ _).mono (fun r h => ⟨fun c => (h c).2.2.2, sem_eq_zero_of_no_sems (by decide) r.2⟩)
    (Cert.AdamFfUpRefIdeal.Value.run (F := Ideal) m ρ)

end Cert.AdamFfUp
-- ==== Proof.AdamFfDown.lean ====
module

public import proofs.«01_k».proof.Proof.Gen.AdamFfDownIdeal.Value
public import proofs.«01_k».proof.Proof.Gen.AdamFfDownRefIdeal.Run
public import proofs.«01_k».proof.Proof.Gen.AdamFfDownRefIdeal.Read
public import proofs.«01_k».proof.Proof.Adam
public import proofs.«01_k».proof.Defs

@[expose] public section

set_option maxRecDepth 16384

noncomputable section

namespace Cert.AdamFfDownIdeal.Tiles

open Cert.AdamFfDownIdeal Cert.AdamFfDownIdeal.Gen Cert.AdamFfDownIdeal.Value Cert.Product Cert.Adam
open Idealize.ShloMosaic Idealize.ShloMosaic.TcCoe Idealize.SL.Sem

variable (m : (ℓ : Loc nD τ sig) → Buf (Elt Ideal) ℓ)

/-- What a point leaves of the changes. -/
theorem out4 (w g a b : FVec Ideal S352x1024 .f32) (l : Fin 352) (j : Fin 1024) :
    (out0_4 (F := Ideal) w g a b (ix2 l j) : EReal) = change (w (ix2 l j)) (g (ix2 l j)) (a (ix2 l j)) (b (ix2 l j)) := by
  unfold out0_4 r0_0
  simp only [View.ld_unit_zero (S := S352x1024) off2]
  rw [View.canon_unit_zero off2]
  pointwise [k0_pay4, k0_pay3, k0_pay2, k0_pay1]
  rfl

/-- What a point leaves of the first moments. -/
theorem out5 (w g a b : FVec Ideal S352x1024 .f32) (l : Fin 352) (j : Fin 1024) :
    (out0_5 (F := Ideal) w g a b (ix2 l j) : EReal) = first (g (ix2 l j)) (a (ix2 l j)) := by
  unfold out0_5 r0_0
  simp only [View.ld_unit_zero (S := S352x1024) off2]
  rw [View.canon_unit_zero off2]
  pointwise [k0_pay2, k0_pay1]
  rfl

/-- What a point leaves of the second moments. -/
theorem out6 (w g a b : FVec Ideal S352x1024 .f32) (l : Fin 352) (j : Fin 1024) :
    (out0_6 (F := Ideal) w g a b (ix2 l j) : EReal) = second (g (ix2 l j)) (b (ix2 l j)) := by
  unfold out0_6 r0_0
  simp only [View.ld_unit_zero (S := S352x1024) off2]
  rw [View.canon_unit_zero off2]
  pointwise [k0_pay3, k0_pay1]
  rfl

/-- Which tile window 0 is on at a point. -/
theorem idx0 : ∀ t : Fin cfg0.N, win0_0.index t = ![t.val, 0] := (by decide +kernel : ∀ t : Fin grid0.N, _)
/-- Which tile window 1 is on at a point. -/
theorem idx1 : ∀ t : Fin cfg0.N, win0_1.index t = ![t.val, 0] := (by decide +kernel : ∀ t : Fin grid0.N, _)
/-- Which tile window 2 is on at a point. -/
theorem idx2 : ∀ t : Fin cfg0.N, win0_2.index t = ![t.val, 0] := (by decide +kernel : ∀ t : Fin grid0.N, _)
/-- Which tile window 3 is on at a point. -/
theorem idx3 : ∀ t : Fin cfg0.N, win0_3.index t = ![t.val, 0] := (by decide +kernel : ∀ t : Fin grid0.N, _)
/-- Which tile window 4 is on at a point. -/
theorem idx4 : ∀ t : Fin cfg0.N, win0_4.index t = ![t.val, 0] := (by decide +kernel : ∀ t : Fin grid0.N, _)
/-- Which tile window 5 is on at a point. -/
theorem idx5 : ∀ t : Fin cfg0.N, win0_5.index t = ![t.val, 0] := (by decide +kernel : ∀ t : Fin grid0.N, _)
/-- Which tile window 6 is on at a point. -/
theorem idx6 : ∀ t : Fin cfg0.N, win0_6.index t = ![t.val, 0] := (by decide +kernel : ∀ t : Fin grid0.N, _)

/-- The rows of an argument at a point. -/
theorem blk0 (c : Dev nD) (t : Fin cfg0.N) (l : Fin 352) (j : Fin 1024) :
    iblk m c 0 t (ix2 l j) = ent (V m c main_v0) (t.val * 352 + l.val) j.val := by
  have ht := lt_of_lt_of_eq t.isLt N_0
  unfold ent
  rw [dif_pos ⟨by omega, by omega⟩]
  blk_ext! [iblk, idx0 t]

/-- The rows of an argument at a point. -/
theorem blk1 (c : Dev nD) (t : Fin cfg0.N) (l : Fin 352) (j : Fin 1024) :
    iblk m c 1 t (ix2 l j) = ent (V m c main_v1) (t.val * 352 + l.val) j.val := by
  have ht := lt_of_lt_of_eq t.isLt N_0
  unfold ent
  rw [dif_pos ⟨by omega, by omega⟩]
  blk_ext! [iblk, idx1 t]

/-- The rows of an argument at a point. -/
theorem blk2 (c : Dev nD) (t : Fin cfg0.N) (l : Fin 352) (j : Fin 1024) :
    iblk m c 2 t (ix2 l j) = ent (V m c main_v2) (t.val * 352 + l.val) j.val := by
  have ht := lt_of_lt_of_eq t.isLt N_0
  unfold ent
  rw [dif_pos ⟨by omega, by omega⟩]
  blk_ext! [iblk, idx2 t]

/-- The rows of an argument at a point. -/
theorem blk3 (c : Dev nD) (t : Fin cfg0.N) (l : Fin 352) (j : Fin 1024) :
    iblk m c 3 t (ix2 l j) = ent (V m c main_v3) (t.val * 352 + l.val) j.val := by
  have ht := lt_of_lt_of_eq t.isLt N_0
  unfold ent
  rw [dif_pos ⟨by omega, by omega⟩]
  blk_ext! [iblk, idx3 t]

/-- The array of the changes that the kernel leaves. -/
theorem left4 (c : Dev nD) : (dats m 0 c).arrAt 4 cfg0.N = fun i => change (V m c main_v0 i) (V m c main_v1 i) (V m c main_v2 i) (V m c main_v3 i) := by
  refine Eq.trans ?_ (change_ent (V m c main_v0) (V m c main_v1) (V m c main_v2) (V m c main_v3))
  refine (dats m 0 c).arrAt_eq_of_covers 4 _ (by decide +kernel) fun t hf y => ?_
  blk_simp
  rw [after0_4]
  obtain ⟨l, j, rfl⟩ := split2 y
  have e0 : win0_4.index t 0 * 352 + (ix2 l j 0).val = t.val * 352 + l.val := by rw [idx4 t]; rfl
  have e1 : win0_4.index t 1 * 1024 + (ix2 l j 1).val = j.val := by rw [idx4 t]; exact Nat.zero_add _
  rw [e0, e1]
  refine (out4 _ _ _ _ l j).trans ?_
  simp only [blk0, blk1, blk2, blk3]

/-- The array of the first moments that the kernel leaves. -/
theorem left5 (c : Dev nD) : (dats m 0 c).arrAt 5 cfg0.N = fun i => first (V m c main_v1 i) (V m c main_v2 i) := by
  refine Eq.trans ?_ (first_ent (V m c main_v1) (V m c main_v2))
  refine (dats m 0 c).arrAt_eq_of_covers 5 _ (by decide +kernel) fun t hf y => ?_
  blk_simp
  rw [after0_5]
  obtain ⟨l, j, rfl⟩ := split2 y
  have e0 : win0_5.index t 0 * 352 + (ix2 l j 0).val = t.val * 352 + l.val := by rw [idx5 t]; rfl
  have e1 : win0_5.index t 1 * 1024 + (ix2 l j 1).val = j.val := by rw [idx5 t]; exact Nat.zero_add _
  rw [e0, e1]
  refine (out5 _ _ _ _ l j).trans ?_
  simp only [blk1, blk2]

/-- The array of the second moments that the kernel leaves. -/
theorem left6 (c : Dev nD) : (dats m 0 c).arrAt 6 cfg0.N = fun i => second (V m c main_v1 i) (V m c main_v3 i) := by
  refine Eq.trans ?_ (second_ent (V m c main_v1) (V m c main_v3))
  refine (dats m 0 c).arrAt_eq_of_covers 6 _ (by decide +kernel) fun t hf y => ?_
  blk_simp
  rw [after0_6]
  obtain ⟨l, j, rfl⟩ := split2 y
  have e0 : win0_6.index t 0 * 352 + (ix2 l j 0).val = t.val * 352 + l.val := by rw [idx6 t]; rfl
  have e1 : win0_6.index t 1 * 1024 + (ix2 l j 1).val = j.val := by rw [idx6 t]; exact Nat.zero_add _
  rw [e0, e1]
  refine (out6 _ _ _ _ l j).trans ?_
  simp only [blk1, blk3]

/-- An argument's layers are read one above the other. -/
theorem v0_rows (c : Dev nD) : V m c main_v0 = rows (by decide) (m ((c : Thread nD τ).loc main_arg0)) := by
  funext y
  obtain ⟨i, k, rfl⟩ := split2 y
  unfold V
  simp only [hostOps0]
  after_results
  pointwise
  rfl

/-- An argument's layers are read one above the other. -/
theorem v1_rows (c : Dev nD) : V m c main_v1 = rows (by decide) (m ((c : Thread nD τ).loc main_arg1)) := by
  funext y
  obtain ⟨i, k, rfl⟩ := split2 y
  unfold V
  simp only [hostOps0]
  after_results
  pointwise
  rfl

/-- An argument's layers are read one above the other. -/
theorem v2_rows (c : Dev nD) : V m c main_v2 = rows (by decide) (m ((c : Thread nD τ).loc main_arg2)) := by
  funext y
  obtain ⟨i, k, rfl⟩ := split2 y
  unfold V
  simp only [hostOps0]
  after_results
  pointwise
  rfl

/-- An argument's layers are read one above the other. -/
theorem v3_rows (c : Dev nD) : V m c main_v3 = rows (by decide) (m ((c : Thread nD τ).loc main_arg3)) := by
  funext y
  obtain ⟨i, k, rfl⟩ := split2 y
  unfold V
  simp only [hostOps0]
  after_results
  pointwise
  rfl

end Cert.AdamFfDownIdeal.Tiles

namespace Cert.AdamFfDownRefIdeal.Whole

open Cert.AdamFfDownRefIdeal Cert.AdamFfDownRefIdeal.Read Cert.Product Cert.Adam
open Idealize.ShloMosaic Idealize.ShloMosaic.TcCoe Idealize.SL.Sem

/-- The reference's changes. -/
theorem changes (w g a b : FVec Ideal S2x704x1024 .f32) : val_main_v24 (F := Ideal) w g a b
    = fun i => change (rows (T := 1408) (by decide) w i) (rows (T := 1408) (by decide) g i) (rows (T := 1408) (by decide) a i) (rows (T := 1408) (by decide) b i) := by
  funext i
  obtain ⟨i, j, rfl⟩ := split2 i
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1, val_main_v0]
  rfl

/-- The reference's first moments. -/
theorem firsts (g a : FVec Ideal S2x704x1024 .f32) : val_main_v25 (F := Ideal) g a = fun i => first (rows (T := 1408) (by decide) g i) (rows (T := 1408) (by decide) a i) := by
  funext i
  obtain ⟨i, j, rfl⟩ := split2 i
  pointwise [val_main_v25, val_main_v4, val_main_v3, val_main_v2, val_main_v1, val_main_v0]
  rfl

/-- The reference's second moments. -/
theorem seconds (g b : FVec Ideal S2x704x1024 .f32) : val_main_v26 (F := Ideal) g b = fun i => second (rows (T := 1408) (by decide) g i) (rows (T := 1408) (by decide) b i) := by
  funext i
  obtain ⟨i, j, rfl⟩ := split2 i
  pointwise [val_main_v26, val_main_v10, val_main_v9, val_main_v8, val_main_v7, val_main_v6, val_main_v5]
  rfl

end Cert.AdamFfDownRefIdeal.Whole

namespace Cert.AdamFfDown

open Idealize.ShloMosaic Idealize.ShloMosaic.TcCoe Idealize.SL.Sem Cert.AdamFfDownIdeal.Tiles

/-- On arguments that agree, the kernel and the reference both run and end with equal results. -/
theorem equal : Cert.algebraic_AdamFfDownIdeal_AdamFfDownRefIdeal := by
  intro m g m' g' _ agree
  refine ⟨fun c => (AdamFfDownIdeal.Gen.dats m 0 c).arrAt 4 AdamFfDownIdeal.cfg0.N, fun c => (AdamFfDownIdeal.Gen.dats m 0 c).arrAt 5 AdamFfDownIdeal.cfg0.N,
    fun c => (AdamFfDownIdeal.Gen.dats m 0 c).arrAt 6 AdamFfDownIdeal.cfg0.N, AdamFfDownIdeal.Value.run_blocks m g, ?_⟩
  refine (θ_run _ _ _).mono (fun r h c => ⟨(h c).1.trans ?_, (h c).2.1.trans ?_, (h c).2.2.1.trans ?_, (h c).2.2.2⟩)
    (AdamFfDownRefIdeal.Value.run m' g')
  all_goals obtain ⟨h0, h1, h2, h3⟩ := agree c
  · rw [AdamFfDownRefIdeal.Read.val_main_v24_eq, h0, h1, h2, h3, AdamFfDownRefIdeal.Whole.changes]
    exact ((left4 m c).trans (by rw [v0_rows, v1_rows, v2_rows, v3_rows]; rfl)).symm
  · rw [AdamFfDownRefIdeal.Read.val_main_v25_eq, h1, h2, AdamFfDownRefIdeal.Whole.firsts]
    exact ((left5 m c).trans (by rw [v1_rows, v2_rows]; rfl)).symm
  · rw [AdamFfDownRefIdeal.Read.val_main_v26_eq, h1, h3, AdamFfDownRefIdeal.Whole.seconds]
    exact ((left6 m c).trans (by rw [v1_rows, v3_rows]; rfl)).symm

/-- The reference runs and leaves its arguments as they were. -/
theorem ref_frame : Cert.quiescent_AdamFfDownRefIdeal := fun m ρ _ =>
  (θ_run Cert.AdamFfDownRefIdeal.defs _ _).mono (fun r h => ⟨fun c => (h c).2.2.2, sem_eq_zero_of_no_sems (by decide) r.2⟩)
    (Cert.AdamFfDownRefIdeal.Value.run (F := Ideal) m ρ)

end Cert.AdamFfDown
-- ==== Proof.AdaBwd.lean ====
module

public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.Product
public import proofs.«01_k».proof.Defs

@[expose] public section

set_option maxRecDepth 16384

noncomputable section

namespace Cert.AdaBwd

open Idealize.ShloMosaic

/-- Offsets of zero, three of them. -/
theorem off3 : (![0, 0, 0] : Fin 3 → ℕ) = fun _ => 0 := by funext a; fin_cases a <;> rfl

/-- An index of three axes, by its coordinates. -/
theorem split3 {a b c : ℕ} (y : (⟨3, ![a, b, c]⟩ : Shape).Idx) : ∃ i j k, y = ix3 i j k :=
  ⟨y 0, y 1, y 2, by funext a; fin_cases a <;> rfl⟩

/-- The activation as the kernel computes it, by the hyperbolic tangent. -/
def act (c : EReal) : EReal :=
  c * (Ideal.ofBits .f32 0x3F000000#32 * Ideal.tanh (Ideal.ofBits .f32 0x3F000000#32 * c) + Ideal.ofBits .f32 0x3F000000#32)

/-- The gradients of the biases: the sums over the rows. -/
def biasGrad (e : (⟨3, ![2, 16, 6144]⟩ : Shape).Idx → EReal) : (⟨3, ![2, 1, 6144]⟩ : Shape).Idx → EReal :=
  fun i => ∑ k : Fin 16, e (ix3 (i 0) k (i 2))

/-- The constant of both halves is a half. -/
theorem half_eq : Ideal.ofBits .f32 0x3F000000#32 = (((1 : ℝ) / 2 : ℝ) : EReal) := by
  simp [Ideal.ofBits, Ideal.ieee, -EReal.coe_mul]
  norm_num

/-- The logistic function of a real is half a hyperbolic tangent of the half and a half. -/
theorem logistic_eq (r : ℝ) : 1 / 2 * Real.tanh (1 / 2 * r) + 1 / 2 = (1 : ℝ) / (1 + Real.exp (-r)) := by
  have ha := Real.exp_pos (1 / 2 * r)
  have hb := Real.exp_pos (-(1 / 2 * r))
  have hab : Real.exp (1 / 2 * r) * Real.exp (-(1 / 2 * r)) = 1 := by rw [← Real.exp_add]; simp
  have hr : Real.exp (-r) = Real.exp (-(1 / 2 * r)) * Real.exp (-(1 / 2 * r)) := by rw [← Real.exp_add]; congr 1; ring
  rw [Real.tanh_eq_sinh_div_cosh, Real.sinh_eq, Real.cosh_eq, hr]
  generalize Real.exp (1 / 2 * r) = a at *
  generalize Real.exp (-(1 / 2 * r)) = b at *
  have h1 : a + b ≠ 0 := by positivity
  have h2 : 1 + b * b ≠ 0 := by positivity
  field_simp
  linear_combination (2 * b) * hab

/-- The two forms of the activation are equal, at the infinities too. -/
theorem act_eq (c : EReal) : act c = c * Ideal.div 1 (1 + Ideal.exp (-c)) := by
  unfold act
  rw [half_eq]
  induction c with
  | bot =>
    rw [EReal.coe_mul_bot_of_pos (by norm_num)]
    have e : ((1 / 2 : ℝ) : EReal) * -1 + ((1 / 2 : ℝ) : EReal) = 0 := by
      rw [← EReal.coe_one, ← EReal.coe_neg, ← EReal.coe_mul, ← EReal.coe_add]; norm_num
    refine (congrArg (⊥ * ·) e).trans ?_
    rw [EReal.neg_bot, show Ideal.exp ⊤ = ⊤ from rfl, show (1 : EReal) + ⊤ = ⊤ from rfl]
    simp [Ideal.div]
  | top =>
    rw [EReal.coe_mul_top_of_pos (by norm_num)]
    have e : ((1 / 2 : ℝ) : EReal) * 1 + ((1 / 2 : ℝ) : EReal) = 1 := by
      rw [← EReal.coe_one, ← EReal.coe_mul, ← EReal.coe_add]; norm_num
    refine (congrArg (⊤ * ·) e).trans ?_
    rw [EReal.neg_top, show Ideal.exp ⊥ = 0 from rfl]
    simp [Ideal.div]
  | coe r =>
    congr 1
    have h : 1 + Real.exp (-r) ≠ 0 := by positivity
    rw [← EReal.coe_mul, Ideal.tanh_coe, ← EReal.coe_neg, Ideal.exp_coe, ← EReal.coe_one, ← EReal.coe_add, Ideal.div_coe h, ← EReal.coe_mul,
      ← EReal.coe_mul, ← EReal.coe_add, logistic_eq, one_mul]

end Cert.AdaBwd

namespace Cert.AdaBwdIdeal.Tiles

open Cert.AdaBwdIdeal Cert.AdaBwdIdeal.Gen Cert.AdaBwdIdeal.Value Cert.Product Cert.AdaBwd
open Idealize.ShloMosaic Idealize.ShloMosaic.TcCoe Idealize.SL.Sem

variable (m : (ℓ : Loc nD τ sig) → Buf (Elt Ideal) ℓ)

/-- What a point leaves of the weight's gradient. -/
theorem out3 (c : FVec Ideal S16x1024 .f32) (d : FVec Ideal S1x16x1536 .f32) (e : FVec Ideal S1x16x6144 .f32) (i : Fin 1024) (j : Fin 1536) :
    (out0_3 (F := Ideal) c d e (ix3 0 i j) : EReal) = ∑ k : Fin 16, act (c (ix2 k i)) * d (ix3 0 k j) := by
  unfold out0_3 r0_0 r0_1 r0_2
  simp only [View.ld_unit_zero (S := S16x1024) off2, View.ld_unit_zero (S := S1x16x1536) off3]
  rw [View.canon_unit_zero off3]
  pointwise [k0_pay1]
  rfl

/-- What a point leaves of the bias's gradient. -/
theorem out4 (c : FVec Ideal S16x1024 .f32) (d : FVec Ideal S1x16x1536 .f32) (e : FVec Ideal S1x16x6144 .f32) (j : Fin 6144) :
    (out0_4 (F := Ideal) c d e (ix3 0 0 j) : EReal) = ∑ k : Fin 16, e (ix3 0 k j) := by
  unfold out0_4 r0_3 r0_4
  simp only [View.ld_unit_zero (S := S1x16x6144) off3]
  rw [View.canon_unit_zero off3]
  pointwise [k0_pay2]

/-- Which tile window 0 is on at a point. -/
theorem idx0 : ∀ t : Fin cfg0.N, win0_0.index t = ![0, 0] := (by decide +kernel : ∀ t : Fin grid0.N, _)
/-- Which tile window 1 is on at a point. -/
theorem idx1 : ∀ t : Fin cfg0.N, win0_1.index t = ![t.val, 0, 0] := (by decide +kernel : ∀ t : Fin grid0.N, _)
/-- Which tile window 2 is on at a point. -/
theorem idx2 : ∀ t : Fin cfg0.N, win0_2.index t = ![t.val, 0, 0] := (by decide +kernel : ∀ t : Fin grid0.N, _)
/-- Which tile window 3 is on at a point. -/
theorem idx3 : ∀ t : Fin cfg0.N, win0_3.index t = ![t.val, 0, 0] := (by decide +kernel : ∀ t : Fin grid0.N, _)
/-- Which tile window 4 is on at a point. -/
theorem idx4 : ∀ t : Fin cfg0.N, win0_4.index t = ![t.val, 0, 0] := (by decide +kernel : ∀ t : Fin grid0.N, _)

/-- The activations at a point. -/
theorem blk0 (c : Dev nD) (t : Fin cfg0.N) (k : Fin 16) (i : Fin 1024) : iblk m c 0 t (ix2 k i) = V m c main_arg0 (ix2 k i) := by
  blk_ext! [iblk, idx0 t]

/-- A layer's gradients of the shard's columns at a point. -/
theorem blk1 (c : Dev nD) (t : Fin cfg0.N) (k : Fin 16) (j : Fin 1536) :
    iblk m c 1 t (ix3 0 k j) = V m c main_arg1 (ix3 ⟨t.val, lt_of_lt_of_eq t.isLt N_0⟩ k j) := by
  blk_ext! [iblk, idx1 t]

/-- A layer's gradients of all columns at a point. -/
theorem blk2 (c : Dev nD) (t : Fin cfg0.N) (k : Fin 16) (j : Fin 6144) :
    iblk m c 2 t (ix3 0 k j) = V m c main_arg2 (ix3 ⟨t.val, lt_of_lt_of_eq t.isLt N_0⟩ k j) := by
  blk_ext! [iblk, idx2 t]

/-- The weight's gradient that the kernel leaves. -/
theorem left3 (c : Dev nD) : (dats m 0 c).arrAt 3 cfg0.N
    = fun i => ∑ k : Fin 16, act (V m c main_arg0 (ix2 k (i 1))) * V m c main_arg1 (ix3 (i 0) k (i 2)) := by
  refine (dats m 0 c).arrAt_eq_of_covers 3 _ (by decide +kernel) fun t hf y => ?_
  blk_simp
  rw [after0_3]
  obtain ⟨z, i, j, rfl⟩ := split3 y
  obtain rfl := Subsingleton.elim z 0
  refine (out3 _ _ _ i j).trans ?_
  simp only [blk0, blk1]
  exact congrArg (fun p : S2x1024x1536.Idx => ∑ k : Fin 16, act (V m c main_arg0 (ix2 k (p 1))) * V m c main_arg1 (ix3 (p 0) k (p 2)))
    (show ix3 ⟨t.val, lt_of_lt_of_eq t.isLt N_0⟩ i j = ((View.whole main_v0_0).slice (win0_3.rect t)).emb (ix3 0 i j) by blk_ext! [idx3 t])

/-- The bias's gradient that the kernel leaves. -/
theorem left4 (c : Dev nD) : (dats m 0 c).arrAt 4 cfg0.N = biasGrad (V m c main_arg2) := by
  refine (dats m 0 c).arrAt_eq_of_covers 4 _ (by decide +kernel) fun t hf y => ?_
  blk_simp
  rw [after0_4]
  obtain ⟨z, w, j, rfl⟩ := split3 y
  obtain rfl := Subsingleton.elim z 0
  obtain rfl := Subsingleton.elim w 0
  refine (out4 _ _ _ j).trans ?_
  simp only [blk2]
  exact congrArg (biasGrad (V m c main_arg2))
    (show ix3 ⟨t.val, lt_of_lt_of_eq t.isLt N_0⟩ 0 j = ((View.whole main_v0_1).slice (win0_4.rect t)).emb (ix3 0 0 j) by blk_ext! [idx4 t])

end Cert.AdaBwdIdeal.Tiles

namespace Cert.AdaBwdRefIdeal.Whole

open Cert.AdaBwdRefIdeal Cert.AdaBwdRefIdeal.Read Cert.Product Cert.AdaBwd
open Idealize.ShloMosaic Idealize.ShloMosaic.TcCoe Idealize.SL.Sem

/-- The reference's gradients of both layers' weights. -/
theorem weights (c : FVec Ideal S16x1024 .f32) (d : FVec Ideal S2x16x1536 .f32) :
    val_main_v48 (F := Ideal) c d = fun i => ∑ k : Fin 16, act (c (ix2 k (i 1))) * d (ix3 (i 0) k (i 2)) := by
  funext y
  obtain ⟨l, i, j, rfl⟩ := split3 y
  refine Eq.trans ?_ (Finset.sum_congr rfl fun k _ => (mul_comm (d (ix3 l k j)) (c (ix2 k i) * Ideal.div 1 (1 + Ideal.exp (-c (ix2 k i))))).trans
    (congrArg (· * d (ix3 l k j)) (act_eq (c (ix2 k i))).symm))
  obtain rfl | rfl : l = 0 ∨ l = 1 := by omega
  · pointwise [val_main_v48, val_main_v46, val_main_v11, val_main_v10, val_main_v9, val_main_v8, val_main_v3, val_main_call0_v5,
      val_main_call0_v4, val_main_call0_v3, val_main_call0_v2, val_main_call0_v1, val_main_call0_v0, val_main_call0_cst, val_main_call0_cst_0]
  · pointwise [val_main_v48, val_main_v47, val_main_v34, val_main_v33, val_main_v32, val_main_v31, val_main_v26, val_main_call2_v5,
      val_main_call2_v4, val_main_call2_v3, val_main_call2_v2, val_main_call2_v1, val_main_call2_v0, val_main_call2_cst, val_main_call2_cst_0]

/-- The reference's gradients of both layers' biases. -/
theorem biases (e : FVec Ideal S2x16x6144 .f32) :
    val_main_v52 (F := Ideal) e = biasGrad e := by
  funext y
  obtain ⟨l, z, j, rfl⟩ := split3 y
  obtain rfl := Subsingleton.elim z 0
  obtain rfl | rfl : l = 0 ∨ l = 1 := by omega
  · pointwise [val_main_v52, val_main_v51, val_main_v49, val_main_v22, val_main_v21, val_main_v20, val_main_v19, val_main_v18,
      val_main_cst_2, val_main_cst_3]
    exact Fin.sum_univ_one _
  · pointwise [val_main_v52, val_main_v51, val_main_v50, val_main_v45, val_main_v44, val_main_v43, val_main_v42, val_main_v41,
      val_main_cst_7, val_main_cst_8]
    exact Fin.sum_univ_one _

end Cert.AdaBwdRefIdeal.Whole

namespace Cert.AdaBwd

open Idealize.ShloMosaic Idealize.ShloMosaic.TcCoe Idealize.SL.Sem Cert.AdaBwdIdeal.Tiles

/-- On arguments that agree, the kernel and the reference both run and end with equal gradients. -/
theorem equal : Cert.algebraic_AdaBwdIdeal_AdaBwdRefIdeal := by
  intro m g m' g' _ agree
  refine ⟨fun c => (AdaBwdIdeal.Gen.dats m 0 c).arrAt 3 AdaBwdIdeal.cfg0.N, fun c => (AdaBwdIdeal.Gen.dats m 0 c).arrAt 4 AdaBwdIdeal.cfg0.N,
    AdaBwdIdeal.Value.run_blocks m g, ?_⟩
  refine (θ_run _ _ _).mono (fun r h c => ⟨(h c).1.trans ?_, (h c).2.1.trans ?_, (h c).2.2⟩) (AdaBwdRefIdeal.Value.run m' g')
  all_goals obtain ⟨h0, h1, h2⟩ := agree c
  · rw [AdaBwdRefIdeal.Read.val_main_v48_eq, h0, h1, AdaBwdRefIdeal.Whole.weights]
    exact (left3 m c).symm
  · rw [AdaBwdRefIdeal.Read.val_main_v52_eq, h2, AdaBwdRefIdeal.Whole.biases]
    exact (left4 m c).symm

/-- The reference runs and leaves its arguments as they were. -/
theorem ref_frame : Cert.quiescent_AdaBwdRefIdeal := fun m ρ _ =>
  (θ_run Cert.AdaBwdRefIdeal.defs _ _).mono (fun r h => ⟨fun c => (h c).2.2, sem_eq_zero_of_no_sems (by decide) r.2⟩)
    (Cert.AdaBwdRefIdeal.Value.run (F := Ideal) m ρ)

end Cert.AdaBwd
-- ==== Proof.NormBwd.lean ====
module

public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Product
public import proofs.«01_k».proof.Defs

@[expose] public section

set_option maxRecDepth 16384

noncomputable section

namespace Cert.NormBwd

open Idealize.ShloMosaic

/-- Offsets of zero, three of them. -/
theorem off3 : (![0, 0, 0] : Fin 3 → ℕ) = fun _ => 0 := by funext a; fin_cases a <;> rfl

/-- An index of three axes, by its coordinates. -/
theorem split3 {a b c : ℕ} (y : (⟨3, ![a, b, c]⟩ : Shape).Idx) : ∃ i j k, y = ix3 i j k :=
  ⟨y 0, y 1, y 2, by funext a; fin_cases a <;> rfl⟩

/-- The mean of the squares of a row, with the constant that keeps it from zero. -/
def square (x : Fin 1024 → EReal) : EReal :=
  Ideal.div (∑ k, x k * x k) (Ideal.ofBits .f32 0x44800000#32) + Ideal.ofBits .f32 0x358637BD#32

/-- What comes back to the normed row before its gain: the gradient of the modulated row, scaled. -/
def back (s g dh : Fin 1024 → EReal) (j : Fin 1024) : EReal := dh j * (1 + s j) * g j

/-- What comes back to the mean of the squares, for one entry. -/
def share (x s g dh : Fin 1024 → EReal) : EReal := ∑ _k : Fin 1, Ideal.div
  ((∑ k, x k * back s g dh k) * (Ideal.ofBits .f32 0xBF000000#32 * Ideal.div (Ideal.rsqrt (square x)) (square x)))
  (Ideal.ofBits .f32 0x44800000#32)

/-- The gradient of a row `x` that goes on as it is, with gradient `dx`, and normed, modulated, with gradient `dh`. -/
def grad (x s g dx dh : Fin 1024 → EReal) (j : Fin 1024) : EReal :=
  dx j + back s g dh j * Ideal.rsqrt (square x) + x j * share x s g dh + share x s g dh * x j

/-- The gradients of all rows of both sequences. -/
def rowGrads (x : (⟨3, ![2, 2048, 1024]⟩ : Shape).Idx → EReal) (s : (⟨3, ![2, 1, 1024]⟩ : Shape).Idx → EReal)
    (g : (⟨2, ![1, 1024]⟩ : Shape).Idx → EReal) (dx dh : (⟨3, ![2, 2048, 1024]⟩ : Shape).Idx → EReal) :
    (⟨3, ![2, 2048, 1024]⟩ : Shape).Idx → EReal := fun i =>
  grad (fun k => x (ix3 (i 0) (i 1) k)) (fun k => s (ix3 (i 0) 0 k)) (fun k => g (ix2 0 k)) (fun k => dx (ix3 (i 0) (i 1) k))
    (fun k => dh (ix3 (i 0) (i 1) k)) (i 2)

end Cert.NormBwd

namespace Cert.NormBwdIdeal.Tiles

open Cert.NormBwdIdeal Cert.NormBwdIdeal.Gen Cert.NormBwdIdeal.Value Cert.Product Cert.NormBwd
open Idealize.ShloMosaic Idealize.ShloMosaic.TcCoe Idealize.SL.Sem

variable (m : (ℓ : Loc nD τ sig) → Buf (Elt Ideal) ℓ)

/-- The value that a point stores, for one row of its tile. -/
theorem pay (x : FVec Ideal S1x512x1024 .f32) (s : FVec Ideal S1x1x1024 .f32) (g : FVec Ideal S1x1024 .f32) (dx : FVec Ideal S1x512x1024 .f32)
    (dh : FVec Ideal S1x512x1024 .bf16) (l : Fin 512) (j : Fin 1024) :
    (k0_pay14 (F := Ideal) (k0_pay2 x) g (k0_pay3 dx) (k0_pay6 x) (k0_pay7 x) (k0_pay11 s dh) (ix3 0 l j) : EReal)
    = grad (fun k => x (ix3 0 l k)) (fun k => s (ix3 0 0 k)) (fun k => g (ix2 0 k)) (fun k => dx (ix3 0 l k)) (fun k => dh (ix3 0 l k)) j := by
  pointwise [k0_pay14, k0_pay2, k0_pay3, k0_pay6, k0_pay7, k0_pay11, k0_pay5, k0_pay4]
  rfl

/-- Every point stores that value, whichever of the sums it starts. -/
theorem out_all (c : Dev nD) (t : Fin cfg0.N) : (outsAt0 m c t.val t.isLt).1
    = k0_pay14 (k0_pay2 (iblk m c 0 t)) (iblk m c 3 t) (k0_pay3 (iblk m c 4 t)) (k0_pay6 (iblk m c 0 t)) (k0_pay7 (iblk m c 0 t))
      (k0_pay11 (iblk m c 1 t) (iblk m c 5 t)) := by
  have ht := lt_of_lt_of_eq t.isLt N_0
  by_cases h0 : t.val % 4 = 0
  · by_cases h4 : t.val % 8 = 0
    · rw [outsAt0_A m c t h0 (by omega) h0 (by omega) h4 (by omega)]
      dsimp only
      unfold out0_A_6
      refine (View.read_writes_eq_canon _ _ _ (by intro y; exact cover0_A_6 (y := y) c ..)).trans ?_
      unfold kernelRun0_A; dsimp only; sl_unfold_words
      simp only [View.readAt_eq_ld, (hs0_0 _).read_unread, (hs0_1 _).read_unread, (hs0_3 _).read_unread, (hs0_4 _).read_unread, (hs0_5 _).read_unread,
        View.ld_unit_zero (S := S1x1024) off2, View.ld_unit_zero (S := S1x512x1024) off3, View.ld_unit_zero (S := S1x1x1024) off3]
      rw [View.canon_unit_zero off3]
    · rw [outsAt0_C m c t h0 (by omega) h0 (by omega) h4 (by omega)]
      dsimp only
      unfold out0_C_6
      refine (View.read_writes_eq_canon _ _ _ (by intro y; exact cover0_C_6 (y := y) c ..)).trans ?_
      unfold kernelRun0_C; dsimp only; sl_unfold_words
      simp only [View.readAt_eq_ld, (hs0_0 _).read_unread, (hs0_1 _).read_unread, (hs0_3 _).read_unread, (hs0_4 _).read_unread, (hs0_5 _).read_unread,
        View.ld_unit_zero (S := S1x1024) off2, View.ld_unit_zero (S := S1x512x1024) off3, View.ld_unit_zero (S := S1x1x1024) off3]
      rw [View.canon_unit_zero off3]
  · rw [outsAt0_B m c t h0 (by omega) h0 (by omega) (by omega) (by omega)]
    dsimp only
    unfold out0_B_6
    refine (View.read_writes_eq_canon _ _ _ (by intro y; exact cover0_B_6 (y := y) c ..)).trans ?_
    unfold kernelRun0_B; dsimp only; sl_unfold_words
    simp only [View.readAt_eq_ld, (hs0_0 _).read_unread, (hs0_1 _).read_unread, (hs0_3 _).read_unread, (hs0_4 _).read_unread, (hs0_5 _).read_unread,
      View.ld_unit_zero (S := S1x1024) off2, View.ld_unit_zero (S := S1x512x1024) off3, View.ld_unit_zero (S := S1x1x1024) off3]
    rw [View.canon_unit_zero off3]

/-- Which tile window 0 is on at a point. -/
theorem idx0 : ∀ t : Fin cfg0.N, win0_0.index t = ![t.val / 4, t.val % 4, 0] := (by decide +kernel : ∀ t : Fin grid0.N, _)
/-- Which tile window 1 is on at a point. -/
theorem idx1 : ∀ t : Fin cfg0.N, win0_1.index t = ![t.val / 4, 0, 0] := (by decide +kernel : ∀ t : Fin grid0.N, _)
/-- Which tile window 3 is on at a point. -/
theorem idx3 : ∀ t : Fin cfg0.N, win0_3.index t = ![0, 0] := (by decide +kernel : ∀ t : Fin grid0.N, _)
/-- Which tile window 4 is on at a point. -/
theorem idx4 : ∀ t : Fin cfg0.N, win0_4.index t = ![t.val / 4, t.val % 4, 0] := (by decide +kernel : ∀ t : Fin grid0.N, _)
/-- Which tile window 5 is on at a point. -/
theorem idx5 : ∀ t : Fin cfg0.N, win0_5.index t = ![t.val / 4, t.val % 4, 0] := (by decide +kernel : ∀ t : Fin grid0.N, _)
/-- Which tile window 6 is on at a point. -/
theorem idx6 : ∀ t : Fin cfg0.N, win0_6.index t = ![t.val / 4, t.val % 4, 0] := (by decide +kernel : ∀ t : Fin grid0.N, _)

/-- Where a point's rows are in the whole array. -/
def row (t : Fin cfg0.N) (l : Fin 512) (k : Fin 1024) : S2x2048x1024.Idx :=
  ix3 ⟨t.val / 4, by have := lt_of_lt_of_eq t.isLt N_0; omega⟩ ⟨t.val % 4 * 512 + l.val, by omega⟩ k

/-- The rows of the array at a point. -/
theorem blk0 (c : Dev nD) (t : Fin cfg0.N) (l : Fin 512) (k : Fin 1024) :
    iblk m c 0 t (ix3 0 l k) = V m c main_arg0 (row t l k) := by
  blk_ext! [iblk, idx0 t, row]

/-- The rows of the gradient of the array at a point. -/
theorem blk4 (c : Dev nD) (t : Fin cfg0.N) (l : Fin 512) (k : Fin 1024) :
    iblk m c 4 t (ix3 0 l k) = V m c main_arg4 (row t l k) := by
  blk_ext! [iblk, idx4 t, row]

/-- The rows of the gradient of the modulated array at a point. -/
theorem blk5 (c : Dev nD) (t : Fin cfg0.N) (l : Fin 512) (k : Fin 1024) :
    iblk m c 5 t (ix3 0 l k) = V m c main_arg5 (row t l k) := by
  blk_ext! [iblk, idx5 t, row]

/-- The scale of the sequence at a point. -/
theorem blk1 (c : Dev nD) (t : Fin cfg0.N) (k : Fin 1024) :
    iblk m c 1 t (ix3 0 0 k) = V m c main_arg1 (ix3 ⟨t.val / 4, by have := lt_of_lt_of_eq t.isLt N_0; omega⟩ 0 k) := by
  blk_ext! [iblk, idx1 t]

/-- The gain at a point. -/
theorem blk3 (c : Dev nD) (t : Fin cfg0.N) (k : Fin 1024) : iblk m c 3 t (ix2 0 k) = V m c main_arg3 (ix2 0 k) := by
  blk_ext! [iblk, idx3 t]

/-- The array that the kernel leaves. -/
theorem left (c : Dev nD) : (dats m 0 c).arrAt 6 cfg0.N
    = rowGrads (V m c main_arg0) (V m c main_arg1) (V m c main_arg3) (V m c main_arg4) (V m c main_arg5) := by
  refine (dats m 0 c).arrAt_eq_of_covers 6 _ (by decide +kernel) fun t hf y => ?_
  blk_simp
  rw [after0_6, out_all]
  obtain ⟨z, l, j, rfl⟩ := split3 y
  obtain rfl := Subsingleton.elim z 0
  refine (pay _ _ _ _ _ l j).trans ?_
  simp only [blk0, blk1, blk3, blk4, blk5]
  exact congrArg (rowGrads (V m c main_arg0) (V m c main_arg1) (V m c main_arg3) (V m c main_arg4) (V m c main_arg5))
    (show row t l j = ((View.whole main_v0_0).slice (win0_6.rect t)).emb (ix3 0 l j) by blk_ext! [idx6 t, row])

end Cert.NormBwdIdeal.Tiles

namespace Cert.NormBwdRefIdeal.Whole

open Cert.NormBwdRefIdeal Cert.NormBwdRefIdeal.Read Cert.Product Cert.NormBwd
open Idealize.ShloMosaic Idealize.ShloMosaic.TcCoe Idealize.SL.Sem

/-- The reference's gradients. -/
theorem val (x : FVec Ideal S2x2048x1024 .f32) (s : FVec Ideal S2x1x1024 .f32) (g : FVec Ideal S1x1024 .f32) (dx : FVec Ideal S2x2048x1024 .f32)
    (dh : FVec Ideal S2x2048x1024 .bf16) : val_main_v42 (F := Ideal) x s g dx dh = rowGrads x s g dx dh := by
  funext y
  obtain ⟨b, l, j, rfl⟩ := split3 y
  pointwise [val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23, val_main_v18,
    val_main_v17, val_main_v14, val_main_v11, val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6]
  rfl

end Cert.NormBwdRefIdeal.Whole

namespace Cert.NormBwd

open Idealize.ShloMosaic Idealize.ShloMosaic.TcCoe Idealize.SL.Sem Cert.NormBwdIdeal.Tiles

/-- On arguments that agree, the kernel and the reference both run and end with equal gradients. -/
theorem equal : Cert.algebraic_NormBwdIdeal_NormBwdRefIdeal := by
  intro m g m' g' _ agree
  refine ⟨fun c => (NormBwdIdeal.Gen.dats m 0 c).arrAt 6 NormBwdIdeal.cfg0.N,
    (θ_run _ _ _).mono (fun r h c => ⟨(h c).1, (h c).2.2.2.2⟩) (NormBwdIdeal.Value.run_blocks m g), ?_⟩
  refine (θ_run _ _ _).mono (fun r h c => ⟨(h c).1.trans ?_, (h c).2⟩) (NormBwdRefIdeal.Value.run m' g')
  obtain ⟨h0, h1, h2, h3, h4, h5⟩ := agree c
  rw [NormBwdRefIdeal.Read.val_main_v42_eq, h0, h1, h3, h4, h5, NormBwdRefIdeal.Whole.val]
  exact (left m c).symm

/-- The reference runs and leaves its arguments as they were. -/
theorem ref_frame : Cert.quiescent_NormBwdRefIdeal := fun m ρ _ =>
  (θ_run Cert.NormBwdRefIdeal.defs _ _).mono (fun r h => ⟨fun c => (h c).2, sem_eq_zero_of_no_sems (by decide) r.2⟩)
    (Cert.NormBwdRefIdeal.Value.run (F := Ideal) m ρ)

end Cert.NormBwd
-- ==== Proof.SmallSumBody.lean ====
module

public import proofs.«01_k».proof.Proof.Gen.SmallSumIdeal.Launch
public import proofs.«01_k».proof.Proof.Gen.SmallSumIdeal.Skeleton
public import proofs.«01_k».proof.Proof.Gen.SmallSumIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

/-!
The call that adds up the eight devices' gradients of the fifteen small weights, run: what its body leaves in each of the
fifteen results' blocks, and that its arguments end as they began. The number of blocks is thirty, and the two statements
about all of them are given the room they take.
-/

@[expose] public section

set_option maxRecDepth 16384

noncomputable section

namespace Cert.SmallSumIdeal.Sums

open Cert.SmallSumIdeal Cert.SmallSumIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the statements about the machine are over. -/
abbrev Mach (F : FTy → Type) := MT nD τ sig Unit (Elt F) ℕ (UR sig nD τ) ℕ

variable (m : (ℓ : Loc nD τ sig) → Buf (Elt F) ℓ) (ρ : Dev nD → PrngReg)

/-- A core's own buffers as the call finds them. -/
abbrev start (c : Dev nD) (b : Ref sig .tc) : Buf (Elt F) ((c : Thread nD τ).loc b) := m ((c : Thread nD τ).loc b)

/-- Up to the call the program does nothing. -/
theorem enters (𝒱₀ : Variants) :
    Pipeline.HMain (Ix := Unit) (Name := ℕ) (U := UR sig nD τ) (Lvl := ℕ) cfgs 0 defs₀ 𝒱₀ m (main (F := F)) (start m) :=
  Pipeline.hmain_region cfgs 0 defs₀ 𝒱₀ m main fun c => (main_chain c).trans rfl

/-- A window's block at a point, as the array stands when the call is entered. -/
def part (c : Dev nD) (w : Fin cfg0.W) (t : Fin cfg0.N) :
    ((cfg0.win w).xblock (cfg0.grid.coords t)).Idx → Elt F (cfg0.win w).elt :=
  ((cfg0.win w).blk t).view.read (Elt F) (start m c (Pipeline.arrRef spec0 w))

/-! ## The fifteen sums -/

/-- Gradient 0 added over its eight slots. -/
def total0 (x : Vec F S8x2x1024 .f32) : Vec F S2x1024 .f32 :=
  View.canon [⟨Rect.unit ![0, 0] S2x1024.size inb_S2x1024_S2x1024_0_0, k0_pay2 (View.ld x (Rect.unit ![0, 0, 0] S1x2x1024.size inb_S8x2x1024_S1x2x1024_0_0_0)) (View.ld x (Rect.unit ![1, 0, 0] S1x2x1024.size inb_S8x2x1024_S1x2x1024_1_0_0)) (View.ld x (Rect.unit ![2, 0, 0] S1x2x1024.size inb_S8x2x1024_S1x2x1024_2_0_0)) (View.ld x (Rect.unit ![3, 0, 0] S1x2x1024.size inb_S8x2x1024_S1x2x1024_3_0_0)) (View.ld x (Rect.unit ![4, 0, 0] S1x2x1024.size inb_S8x2x1024_S1x2x1024_4_0_0)) (View.ld x (Rect.unit ![5, 0, 0] S1x2x1024.size inb_S8x2x1024_S1x2x1024_5_0_0)) (View.ld x (Rect.unit ![6, 0, 0] S1x2x1024.size inb_S8x2x1024_S1x2x1024_6_0_0)) (View.ld x (Rect.unit ![7, 0, 0] S1x2x1024.size inb_S8x2x1024_S1x2x1024_7_0_0))⟩]

/-- Gradient 1 added over its eight slots. -/
def total1 (x : Vec F S8x2x1024 .f32) : Vec F S2x1024 .f32 :=
  View.canon [⟨Rect.unit ![0, 0] S2x1024.size inb_S2x1024_S2x1024_0_0, k0_pay4 (k0_pay3 (View.ld x (Rect.unit ![0, 0, 0] S1x2x1024.size inb_S8x2x1024_S1x2x1024_0_0_0))) (View.ld x (Rect.unit ![1, 0, 0] S1x2x1024.size inb_S8x2x1024_S1x2x1024_1_0_0)) (View.ld x (Rect.unit ![2, 0, 0] S1x2x1024.size inb_S8x2x1024_S1x2x1024_2_0_0)) (View.ld x (Rect.unit ![3, 0, 0] S1x2x1024.size inb_S8x2x1024_S1x2x1024_3_0_0)) (View.ld x (Rect.unit ![4, 0, 0] S1x2x1024.size inb_S8x2x1024_S1x2x1024_4_0_0)) (View.ld x (Rect.unit ![5, 0, 0] S1x2x1024.size inb_S8x2x1024_S1x2x1024_5_0_0)) (View.ld x (Rect.unit ![6, 0, 0] S1x2x1024.size inb_S8x2x1024_S1x2x1024_6_0_0)) (View.ld x (Rect.unit ![7, 0, 0] S1x2x1024.size inb_S8x2x1024_S1x2x1024_7_0_0))⟩]

/-- Gradient 2 added over its eight slots. -/
def total2 (x : Vec F S8x2x1536 .f32) : Vec F S2x1536 .f32 :=
  View.canon [⟨Rect.unit ![0, 0] S2x1536.size inb_S2x1536_S2x1536_0_0, k0_pay6 (k0_pay5 (View.ld x (Rect.unit ![0, 0, 0] S1x2x1536.size inb_S8x2x1536_S1x2x1536_0_0_0)) (View.ld x (Rect.unit ![1, 0, 0] S1x2x1536.size inb_S8x2x1536_S1x2x1536_1_0_0)) (View.ld x (Rect.unit ![2, 0, 0] S1x2x1536.size inb_S8x2x1536_S1x2x1536_2_0_0))) (View.ld x (Rect.unit ![3, 0, 0] S1x2x1536.size inb_S8x2x1536_S1x2x1536_3_0_0)) (View.ld x (Rect.unit ![4, 0, 0] S1x2x1536.size inb_S8x2x1536_S1x2x1536_4_0_0)) (View.ld x (Rect.unit ![5, 0, 0] S1x2x1536.size inb_S8x2x1536_S1x2x1536_5_0_0)) (View.ld x (Rect.unit ![6, 0, 0] S1x2x1536.size inb_S8x2x1536_S1x2x1536_6_0_0)) (View.ld x (Rect.unit ![7, 0, 0] S1x2x1536.size inb_S8x2x1536_S1x2x1536_7_0_0))⟩]

/-- Gradient 3 added over its eight slots. -/
def total3 (x : Vec F S8x2x16 .f32) : Vec F S2x16 .f32 :=
  View.canon [⟨Rect.unit ![0, 0] S2x16.size inb_S2x16_S2x16_0_0, k0_pay8 (k0_pay7 (View.ld x (Rect.unit ![0, 0, 0] S1x2x16.size inb_S8x2x16_S1x2x16_0_0_0)) (View.ld x (Rect.unit ![1, 0, 0] S1x2x16.size inb_S8x2x16_S1x2x16_1_0_0)) (View.ld x (Rect.unit ![2, 0, 0] S1x2x16.size inb_S8x2x16_S1x2x16_2_0_0)) (View.ld x (Rect.unit ![3, 0, 0] S1x2x16.size inb_S8x2x16_S1x2x16_3_0_0))) (View.ld x (Rect.unit ![4, 0, 0] S1x2x16.size inb_S8x2x16_S1x2x16_4_0_0)) (View.ld x (Rect.unit ![5, 0, 0] S1x2x16.size inb_S8x2x16_S1x2x16_5_0_0)) (View.ld x (Rect.unit ![6, 0, 0] S1x2x16.size inb_S8x2x16_S1x2x16_6_0_0)) (View.ld x (Rect.unit ![7, 0, 0] S1x2x16.size inb_S8x2x16_S1x2x16_7_0_0))⟩]

/-- Gradient 4 added over its eight slots. -/
def total4 (x : Vec F S8x2x16 .f32) : Vec F S2x16 .f32 :=
  View.canon [⟨Rect.unit ![0, 0] S2x16.size inb_S2x16_S2x16_0_0, k0_pay10 (k0_pay9 (View.ld x (Rect.unit ![0, 0, 0] S1x2x16.size inb_S8x2x16_S1x2x16_0_0_0)) (View.ld x (Rect.unit ![1, 0, 0] S1x2x16.size inb_S8x2x16_S1x2x16_1_0_0)) (View.ld x (Rect.unit ![2, 0, 0] S1x2x16.size inb_S8x2x16_S1x2x16_2_0_0)) (View.ld x (Rect.unit ![3, 0, 0] S1x2x16.size inb_S8x2x16_S1x2x16_3_0_0)) (View.ld x (Rect.unit ![4, 0, 0] S1x2x16.size inb_S8x2x16_S1x2x16_4_0_0)) (View.ld x (Rect.unit ![5, 0, 0] S1x2x16.size inb_S8x2x16_S1x2x16_5_0_0))) (View.ld x (Rect.unit ![6, 0, 0] S1x2x16.size inb_S8x2x16_S1x2x16_6_0_0)) (View.ld x (Rect.unit ![7, 0, 0] S1x2x16.size inb_S8x2x16_S1x2x16_7_0_0))⟩]

/-- Gradient 5 added over its eight slots. -/
def total5 (x : Vec F S8x2x16 .f32) : Vec F S2x16 .f32 :=
  View.canon [⟨Rect.unit ![0, 0] S2x16.size inb_S2x16_S2x16_0_0, k0_pay12 (k0_pay11 (View.ld x (Rect.unit ![0, 0, 0] S1x2x16.size inb_S8x2x16_S1x2x16_0_0_0)) (View.ld x (Rect.unit ![1, 0, 0] S1x2x16.size inb_S8x2x16_S1x2x16_1_0_0)) (View.ld x (Rect.unit ![2, 0, 0] S1x2x16.size inb_S8x2x16_S1x2x16_2_0_0)) (View.ld x (Rect.unit ![3, 0, 0] S1x2x16.size inb_S8x2x16_S1x2x16_3_0_0)) (View.ld x (Rect.unit ![4, 0, 0] S1x2x16.size inb_S8x2x16_S1x2x16_4_0_0)) (View.ld x (Rect.unit ![5, 0, 0] S1x2x16.size inb_S8x2x16_S1x2x16_5_0_0)) (View.ld x (Rect.unit ![6, 0, 0] S1x2x16.size inb_S8x2x16_S1x2x16_6_0_0))) (View.ld x (Rect.unit ![7, 0, 0] S1x2x16.size inb_S8x2x16_S1x2x16_7_0_0))⟩]

/-- Gradient 6 added over its eight slots. -/
def total6 (x : Vec F S8x2x1024 .f32) : Vec F S2x1024 .f32 :=
  View.canon [⟨Rect.unit ![0, 0] S2x1024.size inb_S2x1024_S2x1024_0_0, k0_pay13 (View.ld x (Rect.unit ![0, 0, 0] S1x2x1024.size inb_S8x2x1024_S1x2x1024_0_0_0)) (View.ld x (Rect.unit ![1, 0, 0] S1x2x1024.size inb_S8x2x1024_S1x2x1024_1_0_0)) (View.ld x (Rect.unit ![2, 0, 0] S1x2x1024.size inb_S8x2x1024_S1x2x1024_2_0_0)) (View.ld x (Rect.unit ![3, 0, 0] S1x2x1024.size inb_S8x2x1024_S1x2x1024_3_0_0)) (View.ld x (Rect.unit ![4, 0, 0] S1x2x1024.size inb_S8x2x1024_S1x2x1024_4_0_0)) (View.ld x (Rect.unit ![5, 0, 0] S1x2x1024.size inb_S8x2x1024_S1x2x1024_5_0_0)) (View.ld x (Rect.unit ![6, 0, 0] S1x2x1024.size inb_S8x2x1024_S1x2x1024_6_0_0)) (View.ld x (Rect.unit ![7, 0, 0] S1x2x1024.size inb_S8x2x1024_S1x2x1024_7_0_0))⟩]

/-- Gradient 7 added over its eight slots. -/
def total7 (x : Vec F S8x2x1024 .f32) : Vec F S2x1024 .f32 :=
  View.canon [⟨Rect.unit ![0, 0] S2x1024.size inb_S2x1024_S2x1024_0_0, k0_pay14 (View.ld x (Rect.unit ![0, 0, 0] S1x2x1024.size inb_S8x2x1024_S1x2x1024_0_0_0)) (View.ld x (Rect.unit ![1, 0, 0] S1x2x1024.size inb_S8x2x1024_S1x2x1024_1_0_0)) (View.ld x (Rect.unit ![2, 0, 0] S1x2x1024.size inb_S8x2x1024_S1x2x1024_2_0_0)) (View.ld x (Rect.unit ![3, 0, 0] S1x2x1024.size inb_S8x2x1024_S1x2x1024_3_0_0)) (View.ld x (Rect.unit ![4, 0, 0] S1x2x1024.size inb_S8x2x1024_S1x2x1024_4_0_0)) (View.ld x (Rect.unit ![5, 0, 0] S1x2x1024.size inb_S8x2x1024_S1x2x1024_5_0_0)) (View.ld x (Rect.unit ![6, 0, 0] S1x2x1024.size inb_S8x2x1024_S1x2x1024_6_0_0)) (View.ld x (Rect.unit ![7, 0, 0] S1x2x1024.size inb_S8x2x1024_S1x2x1024_7_0_0))⟩]

/-- Gradient 8 added over its eight slots. -/
def total8 (x : Vec F S8x2x8x128x128 .bf16) : Vec F S2x8x128x128 .f32 :=
  View.canon [⟨Rect.unit ![0, 0, 0, 0] S2x8x128x128.size inb_S2x8x128x128_S2x8x128x128_0_0_0_0, k0_pay16 (k0_pay15 (View.ld x (Rect.unit ![0, 0, 0, 0, 0] S1x2x8x128x128.size inb_S8x2x8x128x128_S1x2x8x128x128_0_0_0_0_0))) (View.ld x (Rect.unit ![1, 0, 0, 0, 0] S1x2x8x128x128.size inb_S8x2x8x128x128_S1x2x8x128x128_1_0_0_0_0)) (View.ld x (Rect.unit ![2, 0, 0, 0, 0] S1x2x8x128x128.size inb_S8x2x8x128x128_S1x2x8x128x128_2_0_0_0_0)) (View.ld x (Rect.unit ![3, 0, 0, 0, 0] S1x2x8x128x128.size inb_S8x2x8x128x128_S1x2x8x128x128_3_0_0_0_0)) (View.ld x (Rect.unit ![4, 0, 0, 0, 0] S1x2x8x128x128.size inb_S8x2x8x128x128_S1x2x8x128x128_4_0_0_0_0)) (View.ld x (Rect.unit ![5, 0, 0, 0, 0] S1x2x8x128x128.size inb_S8x2x8x128x128_S1x2x8x128x128_5_0_0_0_0)) (View.ld x (Rect.unit ![6, 0, 0, 0, 0] S1x2x8x128x128.size inb_S8x2x8x128x128_S1x2x8x128x128_6_0_0_0_0)) (View.ld x (Rect.unit ![7, 0, 0, 0, 0] S1x2x8x128x128.size inb_S8x2x8x128x128_S1x2x8x128x128_7_0_0_0_0))⟩]

/-- Gradient 9 added over its eight slots. -/
def total9 (x : Vec F S8x2x8x128 .f32) : Vec F S2x8x128 .f32 :=
  View.canon [⟨Rect.unit ![0, 0, 0] S2x8x128.size inb_S2x8x128_S2x8x128_0_0_0, k0_pay17 (View.ld x (Rect.unit ![0, 0, 0, 0] S1x2x8x128.size inb_S8x2x8x128_S1x2x8x128_0_0_0_0)) (View.ld x (Rect.unit ![1, 0, 0, 0] S1x2x8x128.size inb_S8x2x8x128_S1x2x8x128_1_0_0_0)) (View.ld x (Rect.unit ![2, 0, 0, 0] S1x2x8x128.size inb_S8x2x8x128_S1x2x8x128_2_0_0_0)) (View.ld x (Rect.unit ![3, 0, 0, 0] S1x2x8x128.size inb_S8x2x8x128_S1x2x8x128_3_0_0_0)) (View.ld x (Rect.unit ![4, 0, 0, 0] S1x2x8x128.size inb_S8x2x8x128_S1x2x8x128_4_0_0_0)) (View.ld x (Rect.unit ![5, 0, 0, 0] S1x2x8x128.size inb_S8x2x8x128_S1x2x8x128_5_0_0_0)) (View.ld x (Rect.unit ![6, 0, 0, 0] S1x2x8x128.size inb_S8x2x8x128_S1x2x8x128_6_0_0_0)) (View.ld x (Rect.unit ![7, 0, 0, 0] S1x2x8x128.size inb_S8x2x8x128_S1x2x8x128_7_0_0_0))⟩]

/-- Gradient 10 added over its eight slots. -/
def total10 (x : Vec F S8x2x1024 .f32) : Vec F S2x1024 .f32 :=
  View.canon [⟨Rect.unit ![0, 0] S2x1024.size inb_S2x1024_S2x1024_0_0, k0_pay18 (View.ld x (Rect.unit ![0, 0, 0] S1x2x1024.size inb_S8x2x1024_S1x2x1024_0_0_0)) (View.ld x (Rect.unit ![1, 0, 0] S1x2x1024.size inb_S8x2x1024_S1x2x1024_1_0_0)) (View.ld x (Rect.unit ![2, 0, 0] S1x2x1024.size inb_S8x2x1024_S1x2x1024_2_0_0)) (View.ld x (Rect.unit ![3, 0, 0] S1x2x1024.size inb_S8x2x1024_S1x2x1024_3_0_0)) (View.ld x (Rect.unit ![4, 0, 0] S1x2x1024.size inb_S8x2x1024_S1x2x1024_4_0_0)) (View.ld x (Rect.unit ![5, 0, 0] S1x2x1024.size inb_S8x2x1024_S1x2x1024_5_0_0)) (View.ld x (Rect.unit ![6, 0, 0] S1x2x1024.size inb_S8x2x1024_S1x2x1024_6_0_0)) (View.ld x (Rect.unit ![7, 0, 0] S1x2x1024.size inb_S8x2x1024_S1x2x1024_7_0_0))⟩]

/-- Gradient 11 added over its eight slots. -/
def total11 (x : Vec F S8x2x2816 .f32) : Vec F S2x2816 .f32 :=
  View.canon [⟨Rect.unit ![0, 0] S2x2816.size inb_S2x2816_S2x2816_0_0, k0_pay19 (View.ld x (Rect.unit ![0, 0, 0] S1x2x2816.size inb_S8x2x2816_S1x2x2816_0_0_0)) (View.ld x (Rect.unit ![1, 0, 0] S1x2x2816.size inb_S8x2x2816_S1x2x2816_1_0_0)) (View.ld x (Rect.unit ![2, 0, 0] S1x2x2816.size inb_S8x2x2816_S1x2x2816_2_0_0)) (View.ld x (Rect.unit ![3, 0, 0] S1x2x2816.size inb_S8x2x2816_S1x2x2816_3_0_0)) (View.ld x (Rect.unit ![4, 0, 0] S1x2x2816.size inb_S8x2x2816_S1x2x2816_4_0_0)) (View.ld x (Rect.unit ![5, 0, 0] S1x2x2816.size inb_S8x2x2816_S1x2x2816_5_0_0)) (View.ld x (Rect.unit ![6, 0, 0] S1x2x2816.size inb_S8x2x2816_S1x2x2816_6_0_0)) (View.ld x (Rect.unit ![7, 0, 0] S1x2x2816.size inb_S8x2x2816_S1x2x2816_7_0_0))⟩]

/-- Gradient 12 added over its eight slots. -/
def total12 (x : Vec F S8x2x4x1536 .f32) : Vec F S2x4x1536 .f32 :=
  View.canon [⟨Rect.unit ![0, 0, 0] S2x4x1536.size inb_S2x4x1536_S2x4x1536_0_0_0, k0_pay21 (k0_pay20 (View.ld x (Rect.unit ![0, 0, 0, 0] S1x2x4x1536.size inb_S8x2x4x1536_S1x2x4x1536_0_0_0_0)) (View.ld x (Rect.unit ![1, 0, 0, 0] S1x2x4x1536.size inb_S8x2x4x1536_S1x2x4x1536_1_0_0_0))) (View.ld x (Rect.unit ![2, 0, 0, 0] S1x2x4x1536.size inb_S8x2x4x1536_S1x2x4x1536_2_0_0_0)) (View.ld x (Rect.unit ![3, 0, 0, 0] S1x2x4x1536.size inb_S8x2x4x1536_S1x2x4x1536_3_0_0_0)) (View.ld x (Rect.unit ![4, 0, 0, 0] S1x2x4x1536.size inb_S8x2x4x1536_S1x2x4x1536_4_0_0_0)) (View.ld x (Rect.unit ![5, 0, 0, 0] S1x2x4x1536.size inb_S8x2x4x1536_S1x2x4x1536_5_0_0_0)) (View.ld x (Rect.unit ![6, 0, 0, 0] S1x2x4x1536.size inb_S8x2x4x1536_S1x2x4x1536_6_0_0_0)) (View.ld x (Rect.unit ![7, 0, 0, 0] S1x2x4x1536.size inb_S8x2x4x1536_S1x2x4x1536_7_0_0_0))⟩]

/-- Gradient 13 added over its eight slots. -/
def total13 (x : Vec F S8x2x3x2816 .f32) : Vec F S2x3x2816 .f32 :=
  View.canon [⟨Rect.unit ![0, 0, 0] S2x3x2816.size inb_S2x3x2816_S2x3x2816_0_0_0, k0_pay23 (k0_pay22 (View.ld x (Rect.unit ![0, 0, 0, 0] S1x2x3x2816.size inb_S8x2x3x2816_S1x2x3x2816_0_0_0_0)) (View.ld x (Rect.unit ![1, 0, 0, 0] S1x2x3x2816.size inb_S8x2x3x2816_S1x2x3x2816_1_0_0_0))) (View.ld x (Rect.unit ![2, 0, 0, 0] S1x2x3x2816.size inb_S8x2x3x2816_S1x2x3x2816_2_0_0_0)) (View.ld x (Rect.unit ![3, 0, 0, 0] S1x2x3x2816.size inb_S8x2x3x2816_S1x2x3x2816_3_0_0_0)) (View.ld x (Rect.unit ![4, 0, 0, 0] S1x2x3x2816.size inb_S8x2x3x2816_S1x2x3x2816_4_0_0_0)) (View.ld x (Rect.unit ![5, 0, 0, 0] S1x2x3x2816.size inb_S8x2x3x2816_S1x2x3x2816_5_0_0_0)) (View.ld x (Rect.unit ![6, 0, 0, 0] S1x2x3x2816.size inb_S8x2x3x2816_S1x2x3x2816_6_0_0_0)) (View.ld x (Rect.unit ![7, 0, 0, 0] S1x2x3x2816.size inb_S8x2x3x2816_S1x2x3x2816_7_0_0_0))⟩]

/-- Gradient 14 added over its eight slots. -/
def total14 (x : Vec F S8x1x1024 .f32) : Vec F S1x1024 .f32 :=
  View.canon [⟨Rect.unit ![0, 0] S1x1024.size inb_S1x1024_S1x1024_0_0, k0_pay1 (k0_pay24 (View.ld x (Rect.unit ![0, 0, 0] S1x1x1024.size inb_S8x1x1024_S1x1x1024_0_0_0)) (View.ld x (Rect.unit ![1, 0, 0] S1x1x1024.size inb_S8x1x1024_S1x1x1024_1_0_0))) (View.ld x (Rect.unit ![2, 0, 0] S1x1x1024.size inb_S8x1x1024_S1x1x1024_2_0_0)) (View.ld x (Rect.unit ![3, 0, 0] S1x1x1024.size inb_S8x1x1024_S1x1x1024_3_0_0)) (View.ld x (Rect.unit ![4, 0, 0] S1x1x1024.size inb_S8x1x1024_S1x1x1024_4_0_0)) (View.ld x (Rect.unit ![5, 0, 0] S1x1x1024.size inb_S8x1x1024_S1x1x1024_5_0_0)) (View.ld x (Rect.unit ![6, 0, 0] S1x1x1024.size inb_S8x1x1024_S1x1x1024_6_0_0)) (View.ld x (Rect.unit ![7, 0, 0] S1x1x1024.size inb_S8x1x1024_S1x1x1024_7_0_0))⟩]

/-- One store that fills a buffer leaves nothing of what was there. -/
theorem fills {s : Shape} {e : EltTy} (off : Fin s.rank → ℕ) (h : ∀ a, off a + s.size a ≤ s.size a) (p : Vec F s e)
    (y : s.Idx) :
    ∃ pc ∈ ([⟨Rect.unit off s.size h, p⟩] : List (View.Piece (Elt F) s e)), y ∈ pc.1.set :=
  ⟨_, List.mem_singleton_self _, by
    have hy : (Rect.unit off s.size h).emb y ∈ (Rect.unit off s.size h).set := (Rect.unit off s.size h).idx_mem y
    rw [Rect.emb_unit_full] at hy
    exact hy⟩

set_option maxHeartbeats 1600000 in
/-- The body, from the fifteen gradients' blocks and anything in the results', leaves the gradients as they were and
    every result its sum. -/
theorem body_adds (c : Dev nD) (E : Set ℕ) (a0 : Memref sig .tc .vmem S8x2x1024 .f32) (ha0 : a0.IsWhole) (a1 : Memref sig .tc .vmem S8x2x1024 .f32) (ha1 : a1.IsWhole) (a2 : Memref sig .tc .vmem S8x2x1536 .f32) (ha2 : a2.IsWhole) (a3 : Memref sig .tc .vmem S8x2x16 .f32) (ha3 : a3.IsWhole) (a4 : Memref sig .tc .vmem S8x2x16 .f32) (ha4 : a4.IsWhole) (a5 : Memref sig .tc .vmem S8x2x16 .f32) (ha5 : a5.IsWhole) (a6 : Memref sig .tc .vmem S8x2x1024 .f32) (ha6 : a6.IsWhole) (a7 : Memref sig .tc .vmem S8x2x1024 .f32) (ha7 : a7.IsWhole) (a8 : Memref sig .tc .vmem S8x2x8x128x128 .bf16) (ha8 : a8.IsWhole) (a9 : Memref sig .tc .vmem S8x2x8x128 .f32) (ha9 : a9.IsWhole) (a10 : Memref sig .tc .vmem S8x2x1024 .f32) (ha10 : a10.IsWhole) (a11 : Memref sig .tc .vmem S8x2x2816 .f32) (ha11 : a11.IsWhole) (a12 : Memref sig .tc .vmem S8x2x4x1536 .f32) (ha12 : a12.IsWhole) (a13 : Memref sig .tc .vmem S8x2x3x2816 .f32) (ha13 : a13.IsWhole) (a14 : Memref sig .tc .vmem S8x1x1024 .f32) (ha14 : a14.IsWhole) (b0 : Memref sig .tc .vmem S2x1024 .f32) (hb0 : b0.IsWhole) (b1 : Memref sig .tc .vmem S2x1024 .f32) (hb1 : b1.IsWhole) (b2 : Memref sig .tc .vmem S2x1536 .f32) (hb2 : b2.IsWhole) (b3 : Memref sig .tc .vmem S2x16 .f32) (hb3 : b3.IsWhole) (b4 : Memref sig .tc .vmem S2x16 .f32) (hb4 : b4.IsWhole) (b5 : Memref sig .tc .vmem S2x16 .f32) (hb5 : b5.IsWhole) (b6 : Memref sig .tc .vmem S2x1024 .f32) (hb6 : b6.IsWhole) (b7 : Memref sig .tc .vmem S2x1024 .f32) (hb7 : b7.IsWhole) (b8 : Memref sig .tc .vmem S2x8x128x128 .f32) (hb8 : b8.IsWhole) (b9 : Memref sig .tc .vmem S2x8x128 .f32) (hb9 : b9.IsWhole) (b10 : Memref sig .tc .vmem S2x1024 .f32) (hb10 : b10.IsWhole) (b11 : Memref sig .tc .vmem S2x2816 .f32) (hb11 : b11.IsWhole) (b12 : Memref sig .tc .vmem S2x4x1536 .f32) (hb12 : b12.IsWhole) (b13 : Memref sig .tc .vmem S2x3x2816 .f32) (hb13 : b13.IsWhole) (b14 : Memref sig .tc .vmem S1x1024 .f32) (hb14 : b14.IsWhole)
    (x0 : Vec F S8x2x1024 .f32) (x1 : Vec F S8x2x1024 .f32) (x2 : Vec F S8x2x1536 .f32) (x3 : Vec F S8x2x16 .f32) (x4 : Vec F S8x2x16 .f32) (x5 : Vec F S8x2x16 .f32) (x6 : Vec F S8x2x1024 .f32) (x7 : Vec F S8x2x1024 .f32) (x8 : Vec F S8x2x8x128x128 .bf16) (x9 : Vec F S8x2x8x128 .f32) (x10 : Vec F S8x2x1024 .f32) (x11 : Vec F S8x2x2816 .f32) (x12 : Vec F S8x2x4x1536 .f32) (x13 : Vec F S8x2x3x2816 .f32) (x14 : Vec F S8x1x1024 .f32) (K : sProp (Mach F)) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) b0 fullShare d) ∗ (∃ d, owns (c : Thread nD τ) b1 fullShare d) ∗ (∃ d, owns (c : Thread nD τ) b2 fullShare d) ∗ (∃ d, owns (c : Thread nD τ) b3 fullShare d) ∗ (∃ d, owns (c : Thread nD τ) b4 fullShare d) ∗ (∃ d, owns (c : Thread nD τ) b5 fullShare d) ∗ (∃ d, owns (c : Thread nD τ) b6 fullShare d) ∗ (∃ d, owns (c : Thread nD τ) b7 fullShare d) ∗ (∃ d, owns (c : Thread nD τ) b8 fullShare d) ∗ (∃ d, owns (c : Thread nD τ) b9 fullShare d) ∗ (∃ d, owns (c : Thread nD τ) b10 fullShare d) ∗ (∃ d, owns (c : Thread nD τ) b11 fullShare d) ∗ (∃ d, owns (c : Thread nD τ) b12 fullShare d) ∗ (∃ d, owns (c : Thread nD τ) b13 fullShare d) ∗ (∃ d, owns (c : Thread nD τ) b14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) b0 fullShare (total0 x0) ∗ owns (c : Thread nD τ) b1 fullShare (total1 x1) ∗ owns (c : Thread nD τ) b2 fullShare (total2 x2) ∗ owns (c : Thread nD τ) b3 fullShare (total3 x3) ∗ owns (c : Thread nD τ) b4 fullShare (total4 x4) ∗ owns (c : Thread nD τ) b5 fullShare (total5 x5) ∗ owns (c : Thread nD τ) b6 fullShare (total6 x6) ∗ owns (c : Thread nD τ) b7 fullShare (total7 x7) ∗ owns (c : Thread nD τ) b8 fullShare (total8 x8) ∗ owns (c : Thread nD τ) b9 fullShare (total9 x9) ∗ owns (c : Thread nD τ) b10 fullShare (total10 x10) ∗ owns (c : Thread nD τ) b11 fullShare (total11 x11) ∗ owns (c : Thread nD τ) b12 fullShare (total12 x12) ∗ owns (c : Thread nD τ) b13 fullShare (total13 x13) ∗ owns (c : Thread nD τ) b14 fullShare (total14 x14)) -∗ K))
      ⊢ wp frame (wpE (defs₀ (F := F)) Variants.none c none) E (cc0_small_sum a0 ha0 a1 ha1 a2 ha2 a3 ha3 a4 ha4 a5 ha5 a6 ha6 a7 ha7 a8 ha8 a9 ha9 a10 ha10 a11 ha11 a12 ha12 a13 ha13 a14 ha14 b0 hb0 b1 hb1 b2 hb2 b3 hb3 b4 hb4 b5 hb5 b6 hb6 b7 hb7 b8 hb8 b9 hb9 b10 hb10 b11 hb11 b12 hb12 b13 hb13 b14 hb14) (fun _ => K) := by
  simp only [cc0_small_sum_eq_skeleton]; unfold cc0_small_sum_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst e0 e1 e2 e3 e4 e5 e6 e7 e8 e9 e10 e11 e12 e13 e14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr; swap; · iexact H15
    ipureintro; exact View.read_writes_eq_canon _ _ _ (fills _ _ _)
  isplitl [H16]
  · iexists _; isplitr; swap; · iexact H16
    ipureintro; exact View.read_writes_eq_canon _ _ _ (fills _ _ _)
  isplitl [H17]
  · iexists _; isplitr; swap; · iexact H17
    ipureintro; exact View.read_writes_eq_canon _ _ _ (fills _ _ _)
  isplitl [H18]
  · iexists _; isplitr; swap; · iexact H18
    ipureintro; exact View.read_writes_eq_canon _ _ _ (fills _ _ _)
  isplitl [H19]
  · iexists _; isplitr; swap; · iexact H19
    ipureintro; exact View.read_writes_eq_canon _ _ _ (fills _ _ _)
  isplitl [H20]
  · iexists _; isplitr; swap; · iexact H20
    ipureintro; exact View.read_writes_eq_canon _ _ _ (fills _ _ _)
  isplitl [H21]
  · iexists _; isplitr; swap; · iexact H21
    ipureintro; exact View.read_writes_eq_canon _ _ _ (fills _ _ _)
  isplitl [H22]
  · iexists _; isplitr; swap; · iexact H22
    ipureintro; exact View.read_writes_eq_canon _ _ _ (fills _ _ _)
  isplitl [H23]
  · iexists _; isplitr; swap; · iexact H23
    ipureintro; exact View.read_writes_eq_canon _ _ _ (fills _ _ _)
  isplitl [H24]
  · iexists _; isplitr; swap; · iexact H24
    ipureintro; exact View.read_writes_eq_canon _ _ _ (fills _ _ _)
  isplitl [H25]
  · iexists _; isplitr; swap; · iexact H25
    ipureintro; exact View.read_writes_eq_canon _ _ _ (fills _ _ _)
  isplitl [H26]
  · iexists _; isplitr; swap; · iexact H26
    ipureintro; exact View.read_writes_eq_canon _ _ _ (fills _ _ _)
  isplitl [H27]
  · iexists _; isplitr; swap; · iexact H27
    ipureintro; exact View.read_writes_eq_canon _ _ _ (fills _ _ _)
  isplitl [H28]
  · iexists _; isplitr; swap; · iexact H28
    ipureintro; exact View.read_writes_eq_canon _ _ _ (fills _ _ _)
  iexists _; isplitr; swap; · iexact H29
  ipureintro; exact View.read_writes_eq_canon _ _ _ (fills _ _ _)

/-- The call's data: a gradient's block stays, a result's becomes its sum. -/
def data (_ : Fin 1) (c : Dev nD) : Dat τ (Elt F) Unit ℕ (UR sig nD τ) ℕ cfg0 c where
  A w := start m c (Pipeline.arrRef spec0 w)
  after w t := match w with
    | ⟨0, _⟩ => part m c 0 t
    | ⟨1, _⟩ => part m c 1 t
    | ⟨2, _⟩ => part m c 2 t
    | ⟨3, _⟩ => part m c 3 t
    | ⟨4, _⟩ => part m c 4 t
    | ⟨5, _⟩ => part m c 5 t
    | ⟨6, _⟩ => part m c 6 t
    | ⟨7, _⟩ => part m c 7 t
    | ⟨8, _⟩ => part m c 8 t
    | ⟨9, _⟩ => part m c 9 t
    | ⟨10, _⟩ => part m c 10 t
    | ⟨11, _⟩ => part m c 11 t
    | ⟨12, _⟩ => part m c 12 t
    | ⟨13, _⟩ => part m c 13 t
    | ⟨14, _⟩ => part m c 14 t
    | ⟨15, _⟩ => total0 (part m c 0 t)
    | ⟨16, _⟩ => total1 (part m c 1 t)
    | ⟨17, _⟩ => total2 (part m c 2 t)
    | ⟨18, _⟩ => total3 (part m c 3 t)
    | ⟨19, _⟩ => total4 (part m c 4 t)
    | ⟨20, _⟩ => total5 (part m c 5 t)
    | ⟨21, _⟩ => total6 (part m c 6 t)
    | ⟨22, _⟩ => total7 (part m c 7 t)
    | ⟨23, _⟩ => total8 (part m c 8 t)
    | ⟨24, _⟩ => total9 (part m c 9 t)
    | ⟨25, _⟩ => total10 (part m c 10 t)
    | ⟨26, _⟩ => total11 (part m c 11 t)
    | ⟨27, _⟩ => total12 (part m c 12 t)
    | ⟨28, _⟩ => total13 (part m c 13 t)
    | ⟨29, _⟩ => total14 (part m c 14 t)
    | ⟨_ + 30, h⟩ => absurd h (Nat.not_lt.2 (Nat.le_add_left _ _))
  Φ _ := Pipeline.ΦA spec0 c
  q _ := fullShare
  owed _ := 0

/-- The arrays of the data are those the call finds. -/
theorem data_A (c : Dev nD) (w : Fin cfg0.W) : (data m 0 c).A w = start m c (Pipeline.arrRef spec0 w) := by
  dsimp only [data]

/-- A gradient's buffer holds its block whenever the body starts. -/
theorem found (c : Dev nD) (w : Fin cfg0.W) (t : Fin cfg0.N) (hw : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((data m 0 c).after w t) = (data m 0 c).blockOf w t)
    {x : (cfg0.win w).block.Idx → Elt F (cfg0.win w).elt} (hx : ∀ d, (data m 0 c).fetched w t d = x) (d) :
    (data m 0 c).before w t d = x := by
  rw [(data m 0 c).before_in_eq_fetched w hw hlive hclip hkeep, hx]

/-- A buffer owned at equal contents. -/
theorem owns_eq {s : Shape} {e : EltTy} {c : Dev nD} {a : Memref sig .tc .vmem s e} {x y : Vec F s e} (h : x = y) :
    (owns (c : Thread nD τ) a fullShare x : sProp (Mach F)) ⊢ owns (c : Thread nD τ) a fullShare y := by rw [h]

set_option maxHeartbeats 8000000 in
/-- The body at a point, on the call's own buffers. -/
theorem at_point (c : Dev nD) (t : Fin cfg0.N) :
    iprop((data m 0 c).Φ t.castSucc ∗ (data m 0 c).owesAt () t.castSucc ∗ (∃ d, owns (c : Thread nD τ) (st0_0 t) fullShare ((data m 0 c).before 0 t d)) ∗ (∃ d, owns (c : Thread nD τ) (st0_1 t) fullShare ((data m 0 c).before 1 t d)) ∗ (∃ d, owns (c : Thread nD τ) (st0_2 t) fullShare ((data m 0 c).before 2 t d)) ∗ (∃ d, owns (c : Thread nD τ) (st0_3 t) fullShare ((data m 0 c).before 3 t d)) ∗ (∃ d, owns (c : Thread nD τ) (st0_4 t) fullShare ((data m 0 c).before 4 t d)) ∗ (∃ d, owns (c : Thread nD τ) (st0_5 t) fullShare ((data m 0 c).before 5 t d)) ∗ (∃ d, owns (c : Thread nD τ) (st0_6 t) fullShare ((data m 0 c).before 6 t d)) ∗ (∃ d, owns (c : Thread nD τ) (st0_7 t) fullShare ((data m 0 c).before 7 t d)) ∗ (∃ d, owns (c : Thread nD τ) (st0_8 t) fullShare ((data m 0 c).before 8 t d)) ∗ (∃ d, owns (c : Thread nD τ) (st0_9 t) fullShare ((data m 0 c).before 9 t d)) ∗ (∃ d, owns (c : Thread nD τ) (st0_10 t) fullShare ((data m 0 c).before 10 t d)) ∗ (∃ d, owns (c : Thread nD τ) (st0_11 t) fullShare ((data m 0 c).before 11 t d)) ∗ (∃ d, owns (c : Thread nD τ) (st0_12 t) fullShare ((data m 0 c).before 12 t d)) ∗ (∃ d, owns (c : Thread nD τ) (st0_13 t) fullShare ((data m 0 c).before 13 t d)) ∗ (∃ d, owns (c : Thread nD τ) (st0_14 t) fullShare ((data m 0 c).before 14 t d)) ∗ (∃ d, owns (c : Thread nD τ) (st0_15 t) fullShare ((data m 0 c).before 15 t d)) ∗ (∃ d, owns (c : Thread nD τ) (st0_16 t) fullShare ((data m 0 c).before 16 t d)) ∗ (∃ d, owns (c : Thread nD τ) (st0_17 t) fullShare ((data m 0 c).before 17 t d)) ∗ (∃ d, owns (c : Thread nD τ) (st0_18 t) fullShare ((data m 0 c).before 18 t d)) ∗ (∃ d, owns (c : Thread nD τ) (st0_19 t) fullShare ((data m 0 c).before 19 t d)) ∗ (∃ d, owns (c : Thread nD τ) (st0_20 t) fullShare ((data m 0 c).before 20 t d)) ∗ (∃ d, owns (c : Thread nD τ) (st0_21 t) fullShare ((data m 0 c).before 21 t d)) ∗ (∃ d, owns (c : Thread nD τ) (st0_22 t) fullShare ((data m 0 c).before 22 t d)) ∗ (∃ d, owns (c : Thread nD τ) (st0_23 t) fullShare ((data m 0 c).before 23 t d)) ∗ (∃ d, owns (c : Thread nD τ) (st0_24 t) fullShare ((data m 0 c).before 24 t d)) ∗ (∃ d, owns (c : Thread nD τ) (st0_25 t) fullShare ((data m 0 c).before 25 t d)) ∗ (∃ d, owns (c : Thread nD τ) (st0_26 t) fullShare ((data m 0 c).before 26 t d)) ∗ (∃ d, owns (c : Thread nD τ) (st0_27 t) fullShare ((data m 0 c).before 27 t d)) ∗ (∃ d, owns (c : Thread nD τ) (st0_28 t) fullShare ((data m 0 c).before 28 t d)) ∗ (∃ d, owns (c : Thread nD τ) (st0_29 t) fullShare ((data m 0 c).before 29 t d)))
      ⊢ wp frame (wpE (defs₀ (F := F)) Variants.none c none) Set.univ (bodyAt0 t)
          (fun _ => iprop((data m 0 c).Φ t.succ ∗ (data m 0 c).owesAt () t.succ ∗ owns (c : Thread nD τ) (st0_0 t) fullShare ((data m 0 c).after 0 t) ∗ owns (c : Thread nD τ) (st0_1 t) fullShare ((data m 0 c).after 1 t) ∗ owns (c : Thread nD τ) (st0_2 t) fullShare ((data m 0 c).after 2 t) ∗ owns (c : Thread nD τ) (st0_3 t) fullShare ((data m 0 c).after 3 t) ∗ owns (c : Thread nD τ) (st0_4 t) fullShare ((data m 0 c).after 4 t) ∗ owns (c : Thread nD τ) (st0_5 t) fullShare ((data m 0 c).after 5 t) ∗ owns (c : Thread nD τ) (st0_6 t) fullShare ((data m 0 c).after 6 t) ∗ owns (c : Thread nD τ) (st0_7 t) fullShare ((data m 0 c).after 7 t) ∗ owns (c : Thread nD τ) (st0_8 t) fullShare ((data m 0 c).after 8 t) ∗ owns (c : Thread nD τ) (st0_9 t) fullShare ((data m 0 c).after 9 t) ∗ owns (c : Thread nD τ) (st0_10 t) fullShare ((data m 0 c).after 10 t) ∗ owns (c : Thread nD τ) (st0_11 t) fullShare ((data m 0 c).after 11 t) ∗ owns (c : Thread nD τ) (st0_12 t) fullShare ((data m 0 c).after 12 t) ∗ owns (c : Thread nD τ) (st0_13 t) fullShare ((data m 0 c).after 13 t) ∗ owns (c : Thread nD τ) (st0_14 t) fullShare ((data m 0 c).after 14 t) ∗ owns (c : Thread nD τ) (st0_15 t) fullShare ((data m 0 c).after 15 t) ∗ owns (c : Thread nD τ) (st0_16 t) fullShare ((data m 0 c).after 16 t) ∗ owns (c : Thread nD τ) (st0_17 t) fullShare ((data m 0 c).after 17 t) ∗ owns (c : Thread nD τ) (st0_18 t) fullShare ((data m 0 c).after 18 t) ∗ owns (c : Thread nD τ) (st0_19 t) fullShare ((data m 0 c).after 19 t) ∗ owns (c : Thread nD τ) (st0_20 t) fullShare ((data m 0 c).after 20 t) ∗ owns (c : Thread nD τ) (st0_21 t) fullShare ((data m 0 c).after 21 t) ∗ owns (c : Thread nD τ) (st0_22 t) fullShare ((data m 0 c).after 22 t) ∗ owns (c : Thread nD τ) (st0_23 t) fullShare ((data m 0 c).after 23 t) ∗ owns (c : Thread nD τ) (st0_24 t) fullShare ((data m 0 c).after 24 t) ∗ owns (c : Thread nD τ) (st0_25 t) fullShare ((data m 0 c).after 25 t) ∗ owns (c : Thread nD τ) (st0_26 t) fullShare ((data m 0 c).after 26 t) ∗ owns (c : Thread nD τ) (st0_27 t) fullShare ((data m 0 c).after 27 t) ∗ owns (c : Thread nD τ) (st0_28 t) fullShare ((data m 0 c).after 28 t) ∗ owns (c : Thread nD τ) (st0_29 t) fullShare ((data m 0 c).after 29 t))) := by
  unfold bodyAt0
  rw [show (data m 0 c).Φ t.succ = (data m 0 c).Φ t.castSucc from rfl,
    show (data m 0 c).owesAt () t.succ = (data m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_adds c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ (part m c 0 t) (part m c 1 t) (part m c 2 t) (part m c 3 t) (part m c 4 t) (part m c 5 t) (part m c 6 t) (part m c 7 t) (part m c 8 t) (part m c 9 t) (part m c 10 t) (part m c 11 t) (part m c 12 t) (part m c 13 t) (part m c 14 t))
  isplitl [H0]; · iapply owns_eq (found m c 0 t rfl (fun _ => rfl) (fun _ _ _ => rfl) (fun _ => rfl) (fun _ => rfl) d0); iexact H0
  isplitl [H1]; · iapply owns_eq (found m c 1 t rfl (fun _ => rfl) (fun _ _ _ => rfl) (fun _ => rfl) (fun _ => rfl) d1); iexact H1
  isplitl [H2]; · iapply owns_eq (found m c 2 t rfl (fun _ => rfl) (fun _ _ _ => rfl) (fun _ => rfl) (fun _ => rfl) d2); iexact H2
  isplitl [H3]; · iapply owns_eq (found m c 3 t rfl (fun _ => rfl) (fun _ _ _ => rfl) (fun _ => rfl) (fun _ => rfl) d3); iexact H3
  isplitl [H4]; · iapply owns_eq (found m c 4 t rfl (fun _ => rfl) (fun _ _ _ => rfl) (fun _ => rfl) (fun _ => rfl) d4); iexact H4
  isplitl [H5]; · iapply owns_eq (found m c 5 t rfl (fun _ => rfl) (fun _ _ _ => rfl) (fun _ => rfl) (fun _ => rfl) d5); iexact H5
  isplitl [H6]; · iapply owns_eq (found m c 6 t rfl (fun _ => rfl) (fun _ _ _ => rfl) (fun _ => rfl) (fun _ => rfl) d6); iexact H6
  isplitl [H7]; · iapply owns_eq (found m c 7 t rfl (fun _ => rfl) (fun _ _ _ => rfl) (fun _ => rfl) (fun _ => rfl) d7); iexact H7
  isplitl [H8]; · iapply owns_eq (found m c 8 t rfl (fun _ => rfl) (fun _ _ _ => rfl) (fun _ => rfl) (fun _ => rfl) d8); iexact H8
  isplitl [H9]; · iapply owns_eq (found m c 9 t rfl (fun _ => rfl) (fun _ _ _ => rfl) (fun _ => rfl) (fun _ => rfl) d9); iexact H9
  isplitl [H10]; · iapply owns_eq (found m c 10 t rfl (fun _ => rfl) (fun _ _ _ => rfl) (fun _ => rfl) (fun _ => rfl) d10); iexact H10
  isplitl [H11]; · iapply owns_eq (found m c 11 t rfl (fun _ => rfl) (fun _ _ _ => rfl) (fun _ => rfl) (fun _ => rfl) d11); iexact H11
  isplitl [H12]; · iapply owns_eq (found m c 12 t rfl (fun _ => rfl) (fun _ _ _ => rfl) (fun _ => rfl) (fun _ => rfl) d12); iexact H12
  isplitl [H13]; · iapply owns_eq (found m c 13 t rfl (fun _ => rfl) (fun _ _ _ => rfl) (fun _ => rfl) (fun _ => rfl) d13); iexact H13
  isplitl [H14]; · iapply owns_eq (found m c 14 t rfl (fun _ => rfl) (fun _ _ _ => rfl) (fun _ => rfl) (fun _ => rfl) d14); iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iapply owns_eq (show part m c 0 t = (data m 0 c).after 0 t by dsimp only [data]); iexact H0
  isplitl [H1]; · iapply owns_eq (show part m c 1 t = (data m 0 c).after 1 t by dsimp only [data]); iexact H1
  isplitl [H2]; · iapply owns_eq (show part m c 2 t = (data m 0 c).after 2 t by dsimp only [data]); iexact H2
  isplitl [H3]; · iapply owns_eq (show part m c 3 t = (data m 0 c).after 3 t by dsimp only [data]); iexact H3
  isplitl [H4]; · iapply owns_eq (show part m c 4 t = (data m 0 c).after 4 t by dsimp only [data]); iexact H4
  isplitl [H5]; · iapply owns_eq (show part m c 5 t = (data m 0 c).after 5 t by dsimp only [data]); iexact H5
  isplitl [H6]; · iapply owns_eq (show part m c 6 t = (data m 0 c).after 6 t by dsimp only [data]); iexact H6
  isplitl [H7]; · iapply owns_eq (show part m c 7 t = (data m 0 c).after 7 t by dsimp only [data]); iexact H7
  isplitl [H8]; · iapply owns_eq (show part m c 8 t = (data m 0 c).after 8 t by dsimp only [data]); iexact H8
  isplitl [H9]; · iapply owns_eq (show part m c 9 t = (data m 0 c).after 9 t by dsimp only [data]); iexact H9
  isplitl [H10]; · iapply owns_eq (show part m c 10 t = (data m 0 c).after 10 t by dsimp only [data]); iexact H10
  isplitl [H11]; · iapply owns_eq (show part m c 11 t = (data m 0 c).after 11 t by dsimp only [data]); iexact H11
  isplitl [H12]; · iapply owns_eq (show part m c 12 t = (data m 0 c).after 12 t by dsimp only [data]); iexact H12
  isplitl [H13]; · iapply owns_eq (show part m c 13 t = (data m 0 c).after 13 t by dsimp only [data]); iexact H13
  isplitl [H14]; · iapply owns_eq (show part m c 14 t = (data m 0 c).after 14 t by dsimp only [data]); iexact H14
  isplitl [H15]; · iapply owns_eq (show total0 (part m c 0 t) = (data m 0 c).after 15 t by dsimp only [data]); iexact H15
  isplitl [H16]; · iapply owns_eq (show total1 (part m c 1 t) = (data m 0 c).after 16 t by dsimp only [data]); iexact H16
  isplitl [H17]; · iapply owns_eq (show total2 (part m c 2 t) = (data m 0 c).after 17 t by dsimp only [data]); iexact H17
  isplitl [H18]; · iapply owns_eq (show total3 (part m c 3 t) = (data m 0 c).after 18 t by dsimp only [data]); iexact H18
  isplitl [H19]; · iapply owns_eq (show total4 (part m c 4 t) = (data m 0 c).after 19 t by dsimp only [data]); iexact H19
  isplitl [H20]; · iapply owns_eq (show total5 (part m c 5 t) = (data m 0 c).after 20 t by dsimp only [data]); iexact H20
  isplitl [H21]; · iapply owns_eq (show total6 (part m c 6 t) = (data m 0 c).after 21 t by dsimp only [data]); iexact H21
  isplitl [H22]; · iapply owns_eq (show total7 (part m c 7 t) = (data m 0 c).after 22 t by dsimp only [data]); iexact H22
  isplitl [H23]; · iapply owns_eq (show total8 (part m c 8 t) = (data m 0 c).after 23 t by dsimp only [data]); iexact H23
  isplitl [H24]; · iapply owns_eq (show total9 (part m c 9 t) = (data m 0 c).after 24 t by dsimp only [data]); iexact H24
  isplitl [H25]; · iapply owns_eq (show total10 (part m c 10 t) = (data m 0 c).after 25 t by dsimp only [data]); iexact H25
  isplitl [H26]; · iapply owns_eq (show total11 (part m c 11 t) = (data m 0 c).after 26 t by dsimp only [data]); iexact H26
  isplitl [H27]; · iapply owns_eq (show total12 (part m c 12 t) = (data m 0 c).after 27 t by dsimp only [data]); iexact H27
  isplitl [H28]; · iapply owns_eq (show total13 (part m c 13 t) = (data m 0 c).after 28 t by dsimp only [data]); iexact H28
  iapply owns_eq (show total14 (part m c 14 t) = (data m 0 c).after 29 t by dsimp only [data]); iexact H29

/-- The body's row of the table is the body on the call's own buffers. -/
theorem row (t : Fin cfg0.N) : defs₀ (F := F) .tc cfg0.body (cfg0.bodyArgs t (cfg0.slots t)) = bodyAt0 t := by
  unfold defs₀; rw [Defs.onTc_tc]

set_option maxHeartbeats 8000000 in
/-- What the pipeline asks of the body, at every point. -/
theorem obliged (c : Dev nD) : BodyObligation (data (F := F) m 0 c) (defs₀ (F := F)) Variants.none () Set.univ := fun t => by
  rw [bigSep_W0, bigSep_W0, row]
  exact triple_restated (at_point m c t) rfl .rfl fun _ => .rfl

set_option backward.isDefEq.respectTransparency.types false in
set_option maxHeartbeats 800000 in
/-- The program run: every array of the call ends as its data say, every other buffer as found, every counter at nought. -/
theorem runs : θ_run defs (onTc (τ := τ) (main (F := F))) (s₀ m ρ)
    (fun r => (Pipeline.FramePost cfgs (data m) 0 (start m)) r ∧ r.2.sem = fun _ => 0) :=
  Pipeline.θ_run_frame (Q' := _) cfgs (data m) (0 : Fin 1) launch0 defs₀ Variants.none m ρ main
    (hbody := fun c => (obliged m c).loose) (hshare := fun c => (data m 0 c).share_full fun _ => rfl)
    (howed := fun _ _ => rfl) (V := start m) (hmain := enters m Variants.none) (hA := data_A m) (hΦ := fun _ _ => rfl)

/-- A gradient's array ends as it began. -/
theorem kept {r : PUnit × MemSt nD τ sig (Elt F)} (h : Pipeline.FramePost cfgs (data m) 0 (start m) r) (c : Dev nD) (w : Fin cfg0.W)
    (hw : (cfg0.win w).isOut = false) :
    r.2.mem ((c.tc : Thread nD τ).loc (Pipeline.arrRef spec0 w)) = m ((c.tc : Thread nD τ).loc (Pipeline.arrRef spec0 w)) :=
  ((h c).1 w).trans (((data m 0 c).arrAt_in w hw _).trans (data_A m c w))

/-- The arguments end as they began, and every counter at nought. -/
theorem frame : θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14))
      ∧ r.2.sem = fun _ => 0) :=
  (θ_run defs _ _).mono (fun _ h => ⟨fun c => ⟨kept m h.1 c 0 rfl, kept m h.1 c 1 rfl, kept m h.1 c 2 rfl, kept m h.1 c 3 rfl, kept m h.1 c 4 rfl, kept m h.1 c 5 rfl, kept m h.1 c 6 rfl, kept m h.1 c 7 rfl, kept m h.1 c 8 rfl, kept m h.1 c 9 rfl, kept m h.1 c 10 rfl, kept m h.1 c 11 rfl, kept m h.1 c 12 rfl, kept m h.1 c 13 rfl, kept m h.1 c 14 rfl⟩, h.2⟩) (runs m ρ)

end Cert.SmallSumIdeal.Sums
-- ==== Proof.SmallSumLeft.lean ====
module

public import proofs.«01_k».proof.Proof.SmallSumBody
public import proofs.«01_k».proof.Proof.Gen.SmallSumRefIdeal.Run
public import proofs.«01_k».proof.Proof.Gen.SmallSumRefIdeal.Read
public import proofs.«01_k».proof.Proof.Product
public import Idealize.ShloMosaic.Lib.Pipeline.ValueKit.Point
public import proofs.«01_k».proof.Defs

/-!
The gradients of the fifteen small weights, added over the eight devices by the call and by reference.py: the same numbers.
-/

@[expose] public section

set_option maxRecDepth 16384

noncomputable section

namespace Cert.SmallSumIdeal.Sums

open Cert.SmallSumIdeal Cert.SmallSumIdeal.Gen Cert.Product Cert.SmallSumRefIdeal.Read
open Idealize.ShloMosaic Idealize.ShloMosaic.TcCoe Idealize.ShloMosaic.Tactic Idealize.SL.Sem
open Idealize.ShloMosaic.Pipeline (Dat)

/-- Every window is on its array's one block. -/
theorem at_origin : ∀ (w : Fin cfg0.W) (t : Fin cfg0.N), (cfg0.win w).index t = fun _ => 0 := by decide +kernel

/-- Eight terms added in order, each equal to its fellow. -/
theorem adds {f g : Fin 8 → EReal} (h : ∀ j, f j = g j) :
    f 0 + f 1 + f 2 + f 3 + f 4 + f 5 + f 6 + f 7 = g 0 + g 1 + g 2 + g 3 + g 4 + g 5 + g 6 + g 7 := by
  rw [h, h, h, h, h, h, h, h]

/-! ## A sum over the slots is the reference's -/

/-- Gradient 0. -/
theorem total0_eq (x : FVec Ideal S8x2x1024 .f32) : total0 (F := Ideal) x = val_main_v0 (F := Ideal) x := by
  funext y
  have e : ∀ j : Fin 8, ix3 j (y 0) (y 1) = idx_main_v0 y j := fun j => by funext a; fin_cases a <;> rfl
  rw [val_main_v0_apply, val_main_cst_apply, Fin.sum_univ_eight]
  unfold total0
  rw [View.canon_unit_zero (by funext a; fin_cases a <;> rfl)]
  pointwise [k0_pay2]
  exact adds (f := fun j => x (ix3 j (y 0) (y 1))) (g := fun j => x (idx_main_v0 y j)) fun j => congrArg x (e j)

/-- Gradient 1. -/
theorem total1_eq (x : FVec Ideal S8x2x1024 .f32) : total1 (F := Ideal) x = val_main_v1 (F := Ideal) x := by
  funext y
  have e : ∀ j : Fin 8, ix3 j (y 0) (y 1) = idx_main_v1 y j := fun j => by funext a; fin_cases a <;> rfl
  rw [val_main_v1_apply, val_main_cst_0_apply, Fin.sum_univ_eight]
  unfold total1
  rw [View.canon_unit_zero (by funext a; fin_cases a <;> rfl)]
  pointwise [k0_pay3, k0_pay4]
  exact adds (f := fun j => x (ix3 j (y 0) (y 1))) (g := fun j => x (idx_main_v1 y j)) fun j => congrArg x (e j)

/-- Gradient 2. -/
theorem total2_eq (x : FVec Ideal S8x2x1536 .f32) : total2 (F := Ideal) x = val_main_v2 (F := Ideal) x := by
  funext y
  have e : ∀ j : Fin 8, ix3 j (y 0) (y 1) = idx_main_v2 y j := fun j => by funext a; fin_cases a <;> rfl
  rw [val_main_v2_apply, val_main_cst_1_apply, Fin.sum_univ_eight]
  unfold total2
  rw [View.canon_unit_zero (by funext a; fin_cases a <;> rfl)]
  pointwise [k0_pay5, k0_pay6]
  exact adds (f := fun j => x (ix3 j (y 0) (y 1))) (g := fun j => x (idx_main_v2 y j)) fun j => congrArg x (e j)

/-- Gradient 3. -/
theorem total3_eq (x : FVec Ideal S8x2x16 .f32) : total3 (F := Ideal) x = val_main_v3 (F := Ideal) x := by
  funext y
  have e : ∀ j : Fin 8, ix3 j (y 0) (y 1) = idx_main_v3 y j := fun j => by funext a; fin_cases a <;> rfl
  rw [val_main_v3_apply, val_main_cst_2_apply, Fin.sum_univ_eight]
  unfold total3
  rw [View.canon_unit_zero (by funext a; fin_cases a <;> rfl)]
  pointwise [k0_pay7, k0_pay8]
  exact adds (f := fun j => x (ix3 j (y 0) (y 1))) (g := fun j => x (idx_main_v3 y j)) fun j => congrArg x (e j)

/-- Gradient 4. -/
theorem total4_eq (x : FVec Ideal S8x2x16 .f32) : total4 (F := Ideal) x = val_main_v4 (F := Ideal) x := by
  funext y
  have e : ∀ j : Fin 8, ix3 j (y 0) (y 1) = idx_main_v4 y j := fun j => by funext a; fin_cases a <;> rfl
  rw [val_main_v4_apply, val_main_cst_3_apply, Fin.sum_univ_eight]
  unfold total4
  rw [View.canon_unit_zero (by funext a; fin_cases a <;> rfl)]
  pointwise [k0_pay9, k0_pay10]
  exact adds (f := fun j => x (ix3 j (y 0) (y 1))) (g := fun j => x (idx_main_v4 y j)) fun j => congrArg x (e j)

/-- Gradient 5. -/
theorem total5_eq (x : FVec Ideal S8x2x16 .f32) : total5 (F := Ideal) x = val_main_v5 (F := Ideal) x := by
  funext y
  have e : ∀ j : Fin 8, ix3 j (y 0) (y 1) = idx_main_v5 y j := fun j => by funext a; fin_cases a <;> rfl
  rw [val_main_v5_apply, val_main_cst_4_apply, Fin.sum_univ_eight]
  unfold total5
  rw [View.canon_unit_zero (by funext a; fin_cases a <;> rfl)]
  pointwise [k0_pay11, k0_pay12]
  exact adds (f := fun j => x (ix3 j (y 0) (y 1))) (g := fun j => x (idx_main_v5 y j)) fun j => congrArg x (e j)

/-- Gradient 6. -/
theorem total6_eq (x : FVec Ideal S8x2x1024 .f32) : total6 (F := Ideal) x = val_main_v6 (F := Ideal) x := by
  funext y
  have e : ∀ j : Fin 8, ix3 j (y 0) (y 1) = idx_main_v6 y j := fun j => by funext a; fin_cases a <;> rfl
  rw [val_main_v6_apply, val_main_cst_5_apply, Fin.sum_univ_eight]
  unfold total6
  rw [View.canon_unit_zero (by funext a; fin_cases a <;> rfl)]
  pointwise [k0_pay13]
  exact adds (f := fun j => x (ix3 j (y 0) (y 1))) (g := fun j => x (idx_main_v6 y j)) fun j => congrArg x (e j)

/-- Gradient 7. -/
theorem total7_eq (x : FVec Ideal S8x2x1024 .f32) : total7 (F := Ideal) x = val_main_v7 (F := Ideal) x := by
  funext y
  have e : ∀ j : Fin 8, ix3 j (y 0) (y 1) = idx_main_v7 y j := fun j => by funext a; fin_cases a <;> rfl
  rw [val_main_v7_apply, val_main_cst_6_apply, Fin.sum_univ_eight]
  unfold total7
  rw [View.canon_unit_zero (by funext a; fin_cases a <;> rfl)]
  pointwise [k0_pay14]
  exact adds (f := fun j => x (ix3 j (y 0) (y 1))) (g := fun j => x (idx_main_v7 y j)) fun j => congrArg x (e j)

/-- Gradient 8. -/
theorem total8_eq (x : FVec Ideal S8x2x8x128x128 .bf16) : total8 (F := Ideal) x = val_main_v9 (F := Ideal) x := by
  funext y
  have e : ∀ j : Fin 8, ix5 j (y 0) (y 1) (y 2) (y 3) = idx_main_v9 y j := fun j => by funext a; fin_cases a <;> rfl
  rw [val_main_v9_apply, val_main_cst_7_apply, Fin.sum_univ_eight]
  unfold total8
  rw [View.canon_unit_zero (by funext a; fin_cases a <;> rfl)]
  pointwise [k0_pay15, k0_pay16, val_main_v8_apply]
  exact adds (f := fun j => x (ix5 j (y 0) (y 1) (y 2) (y 3))) (g := fun j => x (idx_main_v9 y j)) fun j => congrArg x (e j)

/-- Gradient 9. -/
theorem total9_eq (x : FVec Ideal S8x2x8x128 .f32) : total9 (F := Ideal) x = val_main_v10 (F := Ideal) x := by
  funext y
  have e : ∀ j : Fin 8, ix4 j (y 0) (y 1) (y 2) = idx_main_v10 y j := fun j => by funext a; fin_cases a <;> rfl
  rw [val_main_v10_apply, val_main_cst_8_apply, Fin.sum_univ_eight]
  unfold total9
  rw [View.canon_unit_zero (by funext a; fin_cases a <;> rfl)]
  pointwise [k0_pay17]
  exact adds (f := fun j => x (ix4 j (y 0) (y 1) (y 2))) (g := fun j => x (idx_main_v10 y j)) fun j => congrArg x (e j)

/-- Gradient 10. -/
theorem total10_eq (x : FVec Ideal S8x2x1024 .f32) : total10 (F := Ideal) x = val_main_v11 (F := Ideal) x := by
  funext y
  have e : ∀ j : Fin 8, ix3 j (y 0) (y 1) = idx_main_v11 y j := fun j => by funext a; fin_cases a <;> rfl
  rw [val_main_v11_apply, val_main_cst_9_apply, Fin.sum_univ_eight]
  unfold total10
  rw [View.canon_unit_zero (by funext a; fin_cases a <;> rfl)]
  pointwise [k0_pay18]
  exact adds (f := fun j => x (ix3 j (y 0) (y 1))) (g := fun j => x (idx_main_v11 y j)) fun j => congrArg x (e j)

/-- Gradient 11. -/
theorem total11_eq (x : FVec Ideal S8x2x2816 .f32) : total11 (F := Ideal) x = val_main_v12 (F := Ideal) x := by
  funext y
  have e : ∀ j : Fin 8, ix3 j (y 0) (y 1) = idx_main_v12 y j := fun j => by funext a; fin_cases a <;> rfl
  rw [val_main_v12_apply, val_main_cst_10_apply, Fin.sum_univ_eight]
  unfold total11
  rw [View.canon_unit_zero (by funext a; fin_cases a <;> rfl)]
  pointwise [k0_pay19]
  exact adds (f := fun j => x (ix3 j (y 0) (y 1))) (g := fun j => x (idx_main_v12 y j)) fun j => congrArg x (e j)

/-- Gradient 12. -/
theorem total12_eq (x : FVec Ideal S8x2x4x1536 .f32) : total12 (F := Ideal) x = val_main_v13 (F := Ideal) x := by
  funext y
  have e : ∀ j : Fin 8, ix4 j (y 0) (y 1) (y 2) = idx_main_v13 y j := fun j => by funext a; fin_cases a <;> rfl
  rw [val_main_v13_apply, val_main_cst_11_apply, Fin.sum_univ_eight]
  unfold total12
  rw [View.canon_unit_zero (by funext a; fin_cases a <;> rfl)]
  pointwise [k0_pay20, k0_pay21]
  exact adds (f := fun j => x (ix4 j (y 0) (y 1) (y 2))) (g := fun j => x (idx_main_v13 y j)) fun j => congrArg x (e j)

/-- Gradient 13. -/
theorem total13_eq (x : FVec Ideal S8x2x3x2816 .f32) : total13 (F := Ideal) x = val_main_v14 (F := Ideal) x := by
  funext y
  have e : ∀ j : Fin 8, ix4 j (y 0) (y 1) (y 2) = idx_main_v14 y j := fun j => by funext a; fin_cases a <;> rfl
  rw [val_main_v14_apply, val_main_cst_12_apply, Fin.sum_univ_eight]
  unfold total13
  rw [View.canon_unit_zero (by funext a; fin_cases a <;> rfl)]
  pointwise [k0_pay22, k0_pay23]
  exact adds (f := fun j => x (ix4 j (y 0) (y 1) (y 2))) (g := fun j => x (idx_main_v14 y j)) fun j => congrArg x (e j)

/-- Gradient 14. -/
theorem total14_eq (x : FVec Ideal S8x1x1024 .f32) : total14 (F := Ideal) x = val_main_v15 (F := Ideal) x := by
  funext y
  have e : ∀ j : Fin 8, ix3 j 0 (y 1) = idx_main_v15 y j := fun j => by funext a; fin_cases a <;> first | rfl | exact Subsingleton.elim (α := Fin 1) _ _
  rw [val_main_v15_apply, val_main_cst_13_apply, Fin.sum_univ_eight]
  unfold total14
  rw [View.canon_unit_zero (by funext a; fin_cases a <;> rfl)]
  pointwise [k0_pay1, k0_pay24]
  exact adds (f := fun j => x (ix3 j 0 (y 1))) (g := fun j => x (idx_main_v15 y j)) fun j => congrArg x (e j)

/-! ## What the call leaves -/

variable (m : (ℓ : Loc nD τ sig) → Buf (Elt Ideal) ℓ)

/-- Result 0. -/
theorem left0 (c : Dev nD) : (data m 0 c).arrAt 15 cfg0.N = val_main_v0 (F := Ideal) (start m c main_arg0) := by
  refine (data m 0 c).arrAt_eq_of_covers 15 _ (by decide +kernel) fun t hf y => ?_
  have hi : win0_0.index t = fun _ => 0 := at_origin 0 t
  have ho : win0_15.index t = fun _ => 0 := at_origin 15 t
  have hp : part m c 0 t = start m c main_arg0 := by funext z; blk_ext! [part, hi]
  blk_simp
  rw [show (data m 0 c).after 15 t = total0 (part m c 0 t) by dsimp only [data], hp, total0_eq]
  exact congrArg (val_main_v0 (F := Ideal) (start m c main_arg0)) (show y = (win0_15.blk t).view.emb y by blk_ext! [ho])

/-- Result 1. -/
theorem left1 (c : Dev nD) : (data m 0 c).arrAt 16 cfg0.N = val_main_v1 (F := Ideal) (start m c main_arg1) := by
  refine (data m 0 c).arrAt_eq_of_covers 16 _ (by decide +kernel) fun t hf y => ?_
  have hi : win0_1.index t = fun _ => 0 := at_origin 1 t
  have ho : win0_16.index t = fun _ => 0 := at_origin 16 t
  have hp : part m c 1 t = start m c main_arg1 := by funext z; blk_ext! [part, hi]
  blk_simp
  rw [show (data m 0 c).after 16 t = total1 (part m c 1 t) by dsimp only [data], hp, total1_eq]
  exact congrArg (val_main_v1 (F := Ideal) (start m c main_arg1)) (show y = (win0_16.blk t).view.emb y by blk_ext! [ho])

/-- Result 2. -/
theorem left2 (c : Dev nD) : (data m 0 c).arrAt 17 cfg0.N = val_main_v2 (F := Ideal) (start m c main_arg2) := by
  refine (data m 0 c).arrAt_eq_of_covers 17 _ (by decide +kernel) fun t hf y => ?_
  have hi : win0_2.index t = fun _ => 0 := at_origin 2 t
  have ho : win0_17.index t = fun _ => 0 := at_origin 17 t
  have hp : part m c 2 t = start m c main_arg2 := by funext z; blk_ext! [part, hi]
  blk_simp
  rw [show (data m 0 c).after 17 t = total2 (part m c 2 t) by dsimp only [data], hp, total2_eq]
  exact congrArg (val_main_v2 (F := Ideal) (start m c main_arg2)) (show y = (win0_17.blk t).view.emb y by blk_ext! [ho])

/-- Result 3. -/
theorem left3 (c : Dev nD) : (data m 0 c).arrAt 18 cfg0.N = val_main_v3 (F := Ideal) (start m c main_arg3) := by
  refine (data m 0 c).arrAt_eq_of_covers 18 _ (by decide +kernel) fun t hf y => ?_
  have hi : win0_3.index t = fun _ => 0 := at_origin 3 t
  have ho : win0_18.index t = fun _ => 0 := at_origin 18 t
  have hp : part m c 3 t = start m c main_arg3 := by funext z; blk_ext! [part, hi]
  blk_simp
  rw [show (data m 0 c).after 18 t = total3 (part m c 3 t) by dsimp only [data], hp, total3_eq]
  exact congrArg (val_main_v3 (F := Ideal) (start m c main_arg3)) (show y = (win0_18.blk t).view.emb y by blk_ext! [ho])

/-- Result 4. -/
theorem left4 (c : Dev nD) : (data m 0 c).arrAt 19 cfg0.N = val_main_v4 (F := Ideal) (start m c main_arg4) := by
  refine (data m 0 c).arrAt_eq_of_covers 19 _ (by decide +kernel) fun t hf y => ?_
  have hi : win0_4.index t = fun _ => 0 := at_origin 4 t
  have ho : win0_19.index t = fun _ => 0 := at_origin 19 t
  have hp : part m c 4 t = start m c main_arg4 := by funext z; blk_ext! [part, hi]
  blk_simp
  rw [show (data m 0 c).after 19 t = total4 (part m c 4 t) by dsimp only [data], hp, total4_eq]
  exact congrArg (val_main_v4 (F := Ideal) (start m c main_arg4)) (show y = (win0_19.blk t).view.emb y by blk_ext! [ho])

/-- Result 5. -/
theorem left5 (c : Dev nD) : (data m 0 c).arrAt 20 cfg0.N = val_main_v5 (F := Ideal) (start m c main_arg5) := by
  refine (data m 0 c).arrAt_eq_of_covers 20 _ (by decide +kernel) fun t hf y => ?_
  have hi : win0_5.index t = fun _ => 0 := at_origin 5 t
  have ho : win0_20.index t = fun _ => 0 := at_origin 20 t
  have hp : part m c 5 t = start m c main_arg5 := by funext z; blk_ext! [part, hi]
  blk_simp
  rw [show (data m 0 c).after 20 t = total5 (part m c 5 t) by dsimp only [data], hp, total5_eq]
  exact congrArg (val_main_v5 (F := Ideal) (start m c main_arg5)) (show y = (win0_20.blk t).view.emb y by blk_ext! [ho])

/-- Result 6. -/
theorem left6 (c : Dev nD) : (data m 0 c).arrAt 21 cfg0.N = val_main_v6 (F := Ideal) (start m c main_arg6) := by
  refine (data m 0 c).arrAt_eq_of_covers 21 _ (by decide +kernel) fun t hf y => ?_
  have hi : win0_6.index t = fun _ => 0 := at_origin 6 t
  have ho : win0_21.index t = fun _ => 0 := at_origin 21 t
  have hp : part m c 6 t = start m c main_arg6 := by funext z; blk_ext! [part, hi]
  blk_simp
  rw [show (data m 0 c).after 21 t = total6 (part m c 6 t) by dsimp only [data], hp, total6_eq]
  exact congrArg (val_main_v6 (F := Ideal) (start m c main_arg6)) (show y = (win0_21.blk t).view.emb y by blk_ext! [ho])

/-- Result 7. -/
theorem left7 (c : Dev nD) : (data m 0 c).arrAt 22 cfg0.N = val_main_v7 (F := Ideal) (start m c main_arg7) := by
  refine (data m 0 c).arrAt_eq_of_covers 22 _ (by decide +kernel) fun t hf y => ?_
  have hi : win0_7.index t = fun _ => 0 := at_origin 7 t
  have ho : win0_22.index t = fun _ => 0 := at_origin 22 t
  have hp : part m c 7 t = start m c main_arg7 := by funext z; blk_ext! [part, hi]
  blk_simp
  rw [show (data m 0 c).after 22 t = total7 (part m c 7 t) by dsimp only [data], hp, total7_eq]
  exact congrArg (val_main_v7 (F := Ideal) (start m c main_arg7)) (show y = (win0_22.blk t).view.emb y by blk_ext! [ho])

/-- Result 8. -/
theorem left8 (c : Dev nD) : (data m 0 c).arrAt 23 cfg0.N = val_main_v9 (F := Ideal) (start m c main_arg8) := by
  refine (data m 0 c).arrAt_eq_of_covers 23 _ (by decide +kernel) fun t hf y => ?_
  have hi : win0_8.index t = fun _ => 0 := at_origin 8 t
  have ho : win0_23.index t = fun _ => 0 := at_origin 23 t
  have hp : part m c 8 t = start m c main_arg8 := by funext z; blk_ext! [part, hi]
  blk_simp
  rw [show (data m 0 c).after 23 t = total8 (part m c 8 t) by dsimp only [data], hp, total8_eq]
  exact congrArg (val_main_v9 (F := Ideal) (start m c main_arg8)) (show y = (win0_23.blk t).view.emb y by blk_ext! [ho])

/-- Result 9. -/
theorem left9 (c : Dev nD) : (data m 0 c).arrAt 24 cfg0.N = val_main_v10 (F := Ideal) (start m c main_arg9) := by
  refine (data m 0 c).arrAt_eq_of_covers 24 _ (by decide +kernel) fun t hf y => ?_
  have hi : win0_9.index t = fun _ => 0 := at_origin 9 t
  have ho : win0_24.index t = fun _ => 0 := at_origin 24 t
  have hp : part m c 9 t = start m c main_arg9 := by funext z; blk_ext! [part, hi]
  blk_simp
  rw [show (data m 0 c).after 24 t = total9 (part m c 9 t) by dsimp only [data], hp, total9_eq]
  exact congrArg (val_main_v10 (F := Ideal) (start m c main_arg9)) (show y = (win0_24.blk t).view.emb y by blk_ext! [ho])

/-- Result 10. -/
theorem left10 (c : Dev nD) : (data m 0 c).arrAt 25 cfg0.N = val_main_v11 (F := Ideal) (start m c main_arg10) := by
  refine (data m 0 c).arrAt_eq_of_covers 25 _ (by decide +kernel) fun t hf y => ?_
  have hi : win0_10.index t = fun _ => 0 := at_origin 10 t
  have ho : win0_25.index t = fun _ => 0 := at_origin 25 t
  have hp : part m c 10 t = start m c main_arg10 := by funext z; blk_ext! [part, hi]
  blk_simp
  rw [show (data m 0 c).after 25 t = total10 (part m c 10 t) by dsimp only [data], hp, total10_eq]
  exact congrArg (val_main_v11 (F := Ideal) (start m c main_arg10)) (show y = (win0_25.blk t).view.emb y by blk_ext! [ho])

/-- Result 11. -/
theorem left11 (c : Dev nD) : (data m 0 c).arrAt 26 cfg0.N = val_main_v12 (F := Ideal) (start m c main_arg11) := by
  refine (data m 0 c).arrAt_eq_of_covers 26 _ (by decide +kernel) fun t hf y => ?_
  have hi : win0_11.index t = fun _ => 0 := at_origin 11 t
  have ho : win0_26.index t = fun _ => 0 := at_origin 26 t
  have hp : part m c 11 t = start m c main_arg11 := by funext z; blk_ext! [part, hi]
  blk_simp
  rw [show (data m 0 c).after 26 t = total11 (part m c 11 t) by dsimp only [data], hp, total11_eq]
  exact congrArg (val_main_v12 (F := Ideal) (start m c main_arg11)) (show y = (win0_26.blk t).view.emb y by blk_ext! [ho])

/-- Result 12. -/
theorem left12 (c : Dev nD) : (data m 0 c).arrAt 27 cfg0.N = val_main_v13 (F := Ideal) (start m c main_arg12) := by
  refine (data m 0 c).arrAt_eq_of_covers 27 _ (by decide +kernel) fun t hf y => ?_
  have hi : win0_12.index t = fun _ => 0 := at_origin 12 t
  have ho : win0_27.index t = fun _ => 0 := at_origin 27 t
  have hp : part m c 12 t = start m c main_arg12 := by funext z; blk_ext! [part, hi]
  blk_simp
  rw [show (data m 0 c).after 27 t = total12 (part m c 12 t) by dsimp only [data], hp, total12_eq]
  exact congrArg (val_main_v13 (F := Ideal) (start m c main_arg12)) (show y = (win0_27.blk t).view.emb y by blk_ext! [ho])

/-- Result 13. -/
theorem left13 (c : Dev nD) : (data m 0 c).arrAt 28 cfg0.N = val_main_v14 (F := Ideal) (start m c main_arg13) := by
  refine (data m 0 c).arrAt_eq_of_covers 28 _ (by decide +kernel) fun t hf y => ?_
  have hi : win0_13.index t = fun _ => 0 := at_origin 13 t
  have ho : win0_28.index t = fun _ => 0 := at_origin 28 t
  have hp : part m c 13 t = start m c main_arg13 := by funext z; blk_ext! [part, hi]
  blk_simp
  rw [show (data m 0 c).after 28 t = total13 (part m c 13 t) by dsimp only [data], hp, total13_eq]
  exact congrArg (val_main_v14 (F := Ideal) (start m c main_arg13)) (show y = (win0_28.blk t).view.emb y by blk_ext! [ho])

/-- Result 14. -/
theorem left14 (c : Dev nD) : (data m 0 c).arrAt 29 cfg0.N = val_main_v15 (F := Ideal) (start m c main_arg14) := by
  refine (data m 0 c).arrAt_eq_of_covers 29 _ (by decide +kernel) fun t hf y => ?_
  have hi : win0_14.index t = fun _ => 0 := at_origin 14 t
  have ho : win0_29.index t = fun _ => 0 := at_origin 29 t
  have hp : part m c 14 t = start m c main_arg14 := by funext z; blk_ext! [part, hi]
  blk_simp
  rw [show (data m 0 c).after 29 t = total14 (part m c 14 t) by dsimp only [data], hp, total14_eq]
  exact congrArg (val_main_v15 (F := Ideal) (start m c main_arg14)) (show y = (win0_29.blk t).view.emb y by blk_ext! [ho])

end Cert.SmallSumIdeal.Sums
-- ==== Proof.SmallSum.lean ====
module

public import proofs.«01_k».proof.Proof.SmallSumLeft

/-!
The call that adds the small weights' gradients over the devices is reference.py's sum.
-/

@[expose] public section

noncomputable section

namespace Cert.SmallSum

open Idealize.ShloMosaic Idealize.ShloMosaic.TcCoe Idealize.SL.Sem
open Cert.SmallSumIdeal.Sums Cert.SmallSumRefIdeal.Read

set_option maxHeartbeats 8000000 in
/-- The call leaves reference.py's fifteen sums. -/
theorem equal : Cert.algebraic_SmallSumIdeal_SmallSumRefIdeal := by
  intro m g m' g' _ agree
  refine ⟨fun c => val_main_v0 (F := Ideal) (start m c Cert.SmallSumIdeal.main_arg0), fun c => val_main_v1 (F := Ideal) (start m c Cert.SmallSumIdeal.main_arg1), fun c => val_main_v2 (F := Ideal) (start m c Cert.SmallSumIdeal.main_arg2), fun c => val_main_v3 (F := Ideal) (start m c Cert.SmallSumIdeal.main_arg3), fun c => val_main_v4 (F := Ideal) (start m c Cert.SmallSumIdeal.main_arg4), fun c => val_main_v5 (F := Ideal) (start m c Cert.SmallSumIdeal.main_arg5), fun c => val_main_v6 (F := Ideal) (start m c Cert.SmallSumIdeal.main_arg6), fun c => val_main_v7 (F := Ideal) (start m c Cert.SmallSumIdeal.main_arg7), fun c => val_main_v9 (F := Ideal) (start m c Cert.SmallSumIdeal.main_arg8), fun c => val_main_v10 (F := Ideal) (start m c Cert.SmallSumIdeal.main_arg9), fun c => val_main_v11 (F := Ideal) (start m c Cert.SmallSumIdeal.main_arg10), fun c => val_main_v12 (F := Ideal) (start m c Cert.SmallSumIdeal.main_arg11), fun c => val_main_v13 (F := Ideal) (start m c Cert.SmallSumIdeal.main_arg12), fun c => val_main_v14 (F := Ideal) (start m c Cert.SmallSumIdeal.main_arg13), fun c => val_main_v15 (F := Ideal) (start m c Cert.SmallSumIdeal.main_arg14),
    (θ_run _ _ _).mono (fun r h c => ⟨((h.1 c).1 15).trans (left0 m c), ((h.1 c).1 16).trans (left1 m c), ((h.1 c).1 17).trans (left2 m c), ((h.1 c).1 18).trans (left3 m c), ((h.1 c).1 19).trans (left4 m c), ((h.1 c).1 20).trans (left5 m c), ((h.1 c).1 21).trans (left6 m c), ((h.1 c).1 22).trans (left7 m c), ((h.1 c).1 23).trans (left8 m c), ((h.1 c).1 24).trans (left9 m c), ((h.1 c).1 25).trans (left10 m c), ((h.1 c).1 26).trans (left11 m c), ((h.1 c).1 27).trans (left12 m c), ((h.1 c).1 28).trans (left13 m c), ((h.1 c).1 29).trans (left14 m c),
      kept m h.1 c 0 rfl, kept m h.1 c 1 rfl, kept m h.1 c 2 rfl, kept m h.1 c 3 rfl, kept m h.1 c 4 rfl, kept m h.1 c 5 rfl, kept m h.1 c 6 rfl, kept m h.1 c 7 rfl, kept m h.1 c 8 rfl, kept m h.1 c 9 rfl, kept m h.1 c 10 rfl, kept m h.1 c 11 rfl, kept m h.1 c 12 rfl, kept m h.1 c 13 rfl, kept m h.1 c 14 rfl⟩) (runs m g), ?_⟩
  refine (θ_run _ _ _).mono (fun r h c => ?_) (Cert.SmallSumRefIdeal.Value.run m' g')
  obtain ⟨o0, o1, o2, o3, o4, o5, o6, o7, o8, o9, o10, o11, o12, o13, o14, rest⟩ := h c
  obtain ⟨a0, a1, a2, a3, a4, a5, a6, a7, a8, a9, a10, a11, a12, a13, a14⟩ := agree c
  exact ⟨o0.trans (congrArg (val_main_v0 (F := Ideal)) a0), o1.trans (congrArg (val_main_v1 (F := Ideal)) a1), o2.trans (congrArg (val_main_v2 (F := Ideal)) a2), o3.trans (congrArg (val_main_v3 (F := Ideal)) a3), o4.trans (congrArg (val_main_v4 (F := Ideal)) a4), o5.trans (congrArg (val_main_v5 (F := Ideal)) a5), o6.trans (congrArg (val_main_v6 (F := Ideal)) a6), o7.trans (congrArg (val_main_v7 (F := Ideal)) a7), o8.trans (congrArg (val_main_v9 (F := Ideal)) a8), o9.trans (congrArg (val_main_v10 (F := Ideal)) a9), o10.trans (congrArg (val_main_v11 (F := Ideal)) a10), o11.trans (congrArg (val_main_v12 (F := Ideal)) a11), o12.trans (congrArg (val_main_v13 (F := Ideal)) a12), o13.trans (congrArg (val_main_v14 (F := Ideal)) a13), o14.trans (congrArg (val_main_v15 (F := Ideal)) a14), rest⟩

set_option maxHeartbeats 8000000 in
/-- The reference runs and leaves its arguments as they were. -/
theorem ref_frame : Cert.quiescent_SmallSumRefIdeal := fun m ρ _ =>
  (θ_run Cert.SmallSumRefIdeal.defs _ _).mono
    (fun r h => ⟨fun c => by obtain ⟨_, _, _, _, _, _, _, _, _, _, _, _, _, _, _, rest⟩ := h c; exact rest, sem_eq_zero_of_no_sems (by decide) r.2⟩)
    (Cert.SmallSumRefIdeal.Value.run (F := Ideal) m ρ)

end Cert.SmallSum
-- ==== Proof.Spec.lean ====
module

public import Idealize.ShloMosaic.PureOps.Ideal
public import Idealize.ShloMosaic.PureOps.Ideal.Laws

/-!
The gradient of the gMLP gate on ONE chunk of 128 tokens, written with coordinates over the extended reals.
`u`, `v` are the two halves of the projection before the GELU, `ct` is the cotangent of the gate's output, `vg`
and `og` are the gains of the two root-mean-square norms, `ws` the spatial weights of the eight heads, `bs` their
biases. The kernel computes these functions of each chunk; the reference computes them of all chunks at once.
-/

@[expose] public section

noncomputable section

namespace Cert.Gate

open Idealize.ShloMosaic

/-- `x / 2`. -/
def half (x : EReal) : EReal := Ideal.ofBits .f32 0x3F000000#32 * x
/-- `x / √2`, by the rounded constant that both programs use. -/
def arg (x : EReal) : EReal := x * Ideal.ofBits .f32 0x3F3504F3#32
/-- `1 + erf (x / √2)`. -/
def cdf (x : EReal) : EReal := 1 + Ideal.erf (arg x)
/-- The exact GELU. -/
def gelu (x : EReal) : EReal := half x * cdf x
/-- The gradient of the GELU at `x` for the cotangent `g`. -/
def geluBwd (x g : EReal) : EReal :=
  Ideal.ofBits .f32 0x3F906EBB#32 * (half x * g) * Ideal.exp (-(arg x * arg x)) * Ideal.ofBits .f32 0x3F3504F3#32
    + half (g * cdf x)

/-- A block of 128 rows of 1024 numbers. -/
abbrev Rows : Type := Fin 128 → Fin 1024 → EReal

/-- The mean square of row `l`, plus the norm's ε. -/
def msq (X : Rows) (l : Fin 128) : EReal :=
  Ideal.div (∑ c : Fin 1024, X l c * X l c) (Ideal.ofBits .f32 0x44800000#32) + Ideal.ofBits .f32 0x358637BD#32
/-- The norm's factor of row `l`. -/
def rr (X : Rows) (l : Fin 128) : EReal := Ideal.rsqrt (msq X l)
/-- The derivative of the norm's factor with respect to the mean square. -/
def rd (X : Rows) (l : Fin 128) : EReal := Ideal.ofBits .f32 0xBF000000#32 * Ideal.div (rr X l) (msq X l)
/-- What the cotangent `G` of the normed rows adds to every entry of row `l`, by way of the mean square. -/
def rk (X G : Rows) (l : Fin 128) : EReal :=
  Ideal.div ((∑ c : Fin 1024, X l c * G l c) * rd X l) (Ideal.ofBits .f32 0x44800000#32)
/-- The gradient of the root-mean-square norm of `X` for the cotangent `G` (the gain already multiplied in). -/
def normBwd (X G : Rows) : Rows := fun l c => G l c * rr X l + X l c * rk X G l + rk X G l * X l c

/-- The head of column `c`. -/
def hd (c : Fin 1024) : Fin 8 := ⟨c.val / 128, by have := c.isLt; omega⟩
/-- Column `d` of head `h`. -/
def col (h : Fin 8) (d : Fin 128) : Fin 1024 := ⟨128 * h.val + d.val, by have := h.isLt; have := d.isLt; omega⟩
/-- `x` where position `j` is not after position `i`, and 0 elsewhere. -/
def causal (i j : Fin 128) (x : EReal) : EReal :=
  Scalar.select (IntOp.cmpi .sge (BitVec.ofNat 32 i.val) (BitVec.ofNat 32 j.val)) x 0

/-- What one chunk reads. -/
structure Tile where
  /-- the first half of the projection -/
  u : Rows
  /-- the second half of the projection -/
  v : Rows
  /-- the cotangent of the gate's normed output -/
  ct : Rows
  /-- the gain of the inner norm -/
  vg : Fin 1024 → EReal
  /-- the gain of the output norm -/
  og : Fin 1024 → EReal
  /-- the spatial weights -/
  ws : Fin 8 → Fin 128 → Fin 128 → EReal
  /-- the spatial biases -/
  bs : Fin 8 → Fin 128 → EReal

namespace Tile
variable (T : Tile)

/-- The gate's multiplicand. -/
def U : Rows := fun l c => gelu (T.u l c)
/-- The gated half before its norm. -/
def V : Rows := fun l c => gelu (T.v l c)
/-- The gated half after its norm. -/
def vn : Rows := fun l c => T.V l c * rr T.V l * T.vg c
/-- The masked spatial weights. -/
def w (h : Fin 8) (i j : Fin 128) : EReal := causal i j (T.ws h i j)
/-- The spatially mixed half. -/
def S : Rows := fun l c => (∑ j : Fin 128, T.w (hd c) l j * T.vn j c) + T.bs (hd c) l
/-- The gate's output before its norm. -/
def O : Rows := fun l c => T.U l c * T.S l c
/-- The chunk's part of the gradient of the output gain. -/
def dog (c : Fin 1024) : EReal := ∑ l : Fin 128, T.O l c * rr T.O l * T.ct l c
/-- The cotangent of the normed output with the gain multiplied in. -/
def G : Rows := fun l c => T.ct l c * T.og c
/-- The gradient of the gate's output before its norm. -/
def dO : Rows := normBwd T.O T.G
/-- The gradient of the mixed half. -/
def dS : Rows := fun l c => T.U l c * T.dO l c
/-- The gradient of the gate's multiplicand. -/
def dU : Rows := fun l c => T.dO l c * T.S l c
/-- The chunk's part of the gradient of the spatial biases. -/
def dbs (l : Fin 128) (h : Fin 8) : EReal := ∑ d : Fin 128, T.dS l (col h d)
/-- The chunk's part of the gradient of the spatial weights. -/
def dws (h : Fin 8) (i j : Fin 128) : EReal := causal i j (∑ d : Fin 128, T.dS i (col h d) * T.vn j (col h d))
/-- The gradient of the normed gated half. -/
def dvn : Rows := fun l c => ∑ i : Fin 128, T.w (hd c) i l * T.dS i c
/-- The chunk's part of the gradient of the inner gain. -/
def dvg (c : Fin 1024) : EReal := ∑ l : Fin 128, T.V l c * rr T.V l * T.dvn l c
/-- The gradient of the gated half before its norm. -/
def dV : Rows := normBwd T.V (fun l c => T.dvn l c * T.vg c)
/-- The gradient of the first half of the projection. -/
def du : Rows := fun l c => geluBwd (T.u l c) (T.dU l c)
/-- The gradient of the second half of the projection. -/
def dv : Rows := fun l c => geluBwd (T.v l c) (T.dV l c)

end Tile

/-- What the whole call reads, by coordinates: two sequences of 2048 tokens. -/
structure Args where
  /-- the projection: other columns, then the gate's two halves, then other columns -/
  proj : Fin 2 → Fin 2048 → Fin 4864 → EReal
  /-- the inner gain -/
  vg : Fin 1024 → EReal
  /-- the spatial weights -/
  ws : Fin 8 → Fin 128 → Fin 128 → EReal
  /-- the spatial biases -/
  bs : Fin 8 → Fin 128 → EReal
  /-- the output gain -/
  og : Fin 1024 → EReal
  /-- the cotangent: the gate's half is the second -/
  dy : Fin 2 → Fin 2048 → Fin 2048 → EReal

/-- Token `l` of chunk `q`. -/
def tok (q : Fin 16) (l : Fin 128) : Fin 2048 := ⟨128 * q.val + l.val, by have := q.isLt; have := l.isLt; omega⟩
/-- The chunk of token `s`. -/
def chunk (s : Fin 2048) : Fin 16 := ⟨s.val / 128, by have := s.isLt; omega⟩
/-- The place of token `s` in its chunk. -/
def place (s : Fin 2048) : Fin 128 := ⟨s.val % 128, by omega⟩

/-- Chunk `q` of sequence `b`. -/
def Args.tile (A : Args) (b : Fin 2) (q : Fin 16) : Tile where
  u l c := A.proj b (tok q l) ⟨1024 + c.val, by have := c.isLt; omega⟩
  v l c := A.proj b (tok q l) ⟨2048 + c.val, by have := c.isLt; omega⟩
  ct l c := A.dy b (tok q l) ⟨1024 + c.val, by have := c.isLt; omega⟩
  vg := A.vg
  og := A.og
  ws := A.ws
  bs := A.bs

namespace Args
variable (A : Args)

/-- The gradient of the first half of the projection. -/
def du (b : Fin 2) (s : Fin 2048) (c : Fin 1024) : EReal := (A.tile b (chunk s)).du (place s) c
/-- The gradient of the second half of the projection. -/
def dv (b : Fin 2) (s : Fin 2048) (c : Fin 1024) : EReal := (A.tile b (chunk s)).dv (place s) c
/-- The gradient of the inner gain. -/
def dvg (c : Fin 1024) : EReal := ∑ b : Fin 2, ∑ q : Fin 16, (A.tile b q).dvg c
/-- The gradient of the spatial weights. -/
def dws (h : Fin 8) (i j : Fin 128) : EReal := ∑ b : Fin 2, ∑ q : Fin 16, (A.tile b q).dws h i j
/-- The gradient of the spatial biases: head `x` in lane `x`, the lanes after the eight heads 0. -/
def dbs (l x : Fin 128) : EReal := if h : x.val < 8 then ∑ b : Fin 2, ∑ q : Fin 16, (A.tile b q).dbs l ⟨x.val, h⟩ else 0
/-- The gradient of the output gain. -/
def dog (c : Fin 1024) : EReal := ∑ b : Fin 2, ∑ q : Fin 16, (A.tile b q).dog c

end Args

end Cert.Gate
-- ==== Proof.Body.lean ====
module

public import proofs.«01_k».proof.Proof.Gen.GatingBwdIdeal.Skeleton
public import proofs.«01_k».proof.Proof.Spec
public import Idealize.ShloMosaic.Lib.Pointwise

/-!
What the gradient kernel computes of ONE chunk: the vectors of its body, named as the printed body names them
(`v52` is the body's `%52`), as functions of the seven blocks that the chunk reads.
-/

@[expose] public section

noncomputable section

namespace Cert.GatingBwdIdeal.Chunk

open Cert.GatingBwdIdeal Cert.GatingBwdIdeal.Gen Idealize.ShloMosaic Cert.Gate

/-- The seven blocks that one grid point reads. -/
structure In where
  /-- the first half of the projection -/
  x0 : Vec Ideal S1x128x1024 .f32
  /-- the second half of the projection -/
  x1 : Vec Ideal S1x128x1024 .f32
  /-- the inner gain -/
  x2 : Vec Ideal S1x1024 .f32
  /-- the spatial weights -/
  x3 : Vec Ideal S8x128x128 .f32
  /-- the spatial biases, transposed and padded to 128 lanes -/
  x4 : Vec Ideal S128x128 .f32
  /-- the output gain -/
  x5 : Vec Ideal S1x1024 .f32
  /-- the cotangent -/
  x6 : Vec Ideal S1x128x1024 .bf16

namespace In
variable (I : In)

/-- The chunk's blocks as functions of coordinates. -/
def tile : Tile where
  u l c := I.x0 (ix3 0 l c)
  v l c := I.x1 (ix3 0 l c)
  ct l c := I.x6 (ix3 0 l c)
  vg c := I.x2 (ix2 0 c)
  og c := I.x5 (ix2 0 c)
  ws h i j := I.x3 (ix3 h i j)
  bs h l := I.x4 (ix2 l ⟨h.val, by have := h.isLt; omega⟩)

def v5 : FVec Ideal S1x1024 .f32 :=
  k0_pay6 I.x2
def v8 : FVec Ideal S128x128 .f32 :=
  k0_pay7 I.x4
def v10 : FVec Ideal S1x1024 .f32 :=
  k0_pay8 I.x5
def v13 : FVec Ideal S128x1024 .f32 :=
  k0_pay9 I.x6
def v15 : FVec Ideal S128x1024 .f32 :=
  k0_pay10 I.x0
def v17 : FVec Ideal S128x1024 .f32 :=
  k0_pay11 I.x0
def v22 : FVec Ideal S128x1024 .f32 :=
  k0_pay12 I.x0
def v24 : FVec Ideal S128x1024 .f32 :=
  k0_pay13 I.x0
def v25 : FVec Ideal S128x1024 .f32 :=
  k0_pay14 I.x0
def v27 : FVec Ideal S128x1024 .f32 :=
  k0_pay15 I.x1
def v29 : FVec Ideal S128x1024 .f32 :=
  k0_pay16 I.x1
def v30 : FVec Ideal S128x1024 .f32 :=
  k0_pay17 I.x1
def v31 : FVec Ideal S128x1024 .f32 :=
  k0_pay18 I.x1
def v32 : FVec Ideal S128x1024 .f32 :=
  k0_pay19
def v34 : FVec Ideal S128x1024 .f32 :=
  k0_pay20 I.v31 v32
def v36 : FVec Ideal S128x1024 .f32 :=
  k0_pay21 I.v30
def v37 : FVec Ideal S128x1024 .f32 :=
  k0_pay22 I.v27 I.v30
def v44 : FVec Ideal S128x1 .f32 :=
  k0_pay23 I.v27 I.v30
def v45 : FVec Ideal S128x1 .f32 :=
  k0_pay24 I.v27 I.v30
def v48 : FVec Ideal S128x1 .f32 :=
  k0_pay25 I.v27 I.v30
def v50 : FVec Ideal S128x1024 .f32 :=
  k0_pay26 I.v27 I.v30
def v52 : FVec Ideal S128x1024 .f32 :=
  k0_pay27 I.v5 I.v27 I.v30
def v55 : IVec S128x128 1 :=
  k0_pay28
def v56 : IVec S1x128 32 :=
  iota .tc S1x128 32 [1] iota_S1x128_d1_w32
def v60 : FVec Ideal S1x128 .f32 :=
  k0_pay29
def v68 : FVec Ideal S128x128 .f32 :=
  k0_pay30 I.x3
def v69 : FVec Ideal S128x128 .f32 :=
  k0_pay31 I.v5 I.v27 I.v30
def v74 : FVec Ideal S128x128 .f32 :=
  k0_pay32 I.v5 I.x3 I.v8 I.v27 I.v30
def v78 : FVec Ideal S1x128 .f32 :=
  k0_pay33
def v81 : FVec Ideal S128 .f32 :=
  k0_pay34 I.v8
def v86 : FVec Ideal S128x128 .f32 :=
  k0_pay35 I.x3 v55
def v87 : FVec Ideal S128x128 .f32 :=
  k0_pay36 I.v52
def v92 : FVec Ideal S128x128 .f32 :=
  k0_pay37 I.x3 I.v52 v55 I.v81
def v96 : FVec Ideal S1x128 .f32 :=
  k0_pay38 v56
def v104 : FVec Ideal S128x128 .f32 :=
  k0_pay39 I.x3 v55
def v105 : FVec Ideal S128x128 .f32 :=
  k0_pay40 I.v52
def v110 : FVec Ideal S128x128 .f32 :=
  k0_pay41 I.x3 I.v8 I.v52 v55 v56
def v114 : FVec Ideal S1x128 .f32 :=
  k0_pay42 v56
def v122 : FVec Ideal S128x128 .f32 :=
  k0_pay43 I.x3 v55
def v123 : FVec Ideal S128x128 .f32 :=
  k0_pay44 I.v52
def v128 : FVec Ideal S128x128 .f32 :=
  k0_pay45 I.x3 I.v8 I.v52 v55 v56
def v130 : IVec S1x128 1 :=
  k0_pay46 v56
def v132 : FVec Ideal S1x128 .f32 :=
  k0_pay47 v130
def v140 : FVec Ideal S128x128 .f32 :=
  k0_pay48 I.x3 v55
def v141 : FVec Ideal S128x128 .f32 :=
  k0_pay49 I.v52
def v146 : FVec Ideal S128x128 .f32 :=
  k0_pay50 I.x3 I.v8 I.v52 v55 v130
def v150 : FVec Ideal S1x128 .f32 :=
  k0_pay51 v56
def v158 : FVec Ideal S128x128 .f32 :=
  k0_pay52 I.x3 v55
def v159 : FVec Ideal S128x128 .f32 :=
  k0_pay53 I.v52
def v164 : FVec Ideal S128x128 .f32 :=
  k0_pay54 I.x3 I.v8 I.v52 v55 v56
def v168 : FVec Ideal S1x128 .f32 :=
  k0_pay55 v56
def v172 : FVec Ideal S128x1 .f32 :=
  k0_pay56 I.v8 v56
def v176 : FVec Ideal S128x128 .f32 :=
  k0_pay57 I.x3 v55
def v177 : FVec Ideal S128x128 .f32 :=
  k0_pay58 I.v52
def v178 : FVec Ideal S128x128 .bf16 :=
  k0_pay59 I.x3 v55
def v179 : FVec Ideal S128x128 .bf16 :=
  k0_pay60 I.v52
def v186 : FVec Ideal S1x128 .f32 :=
  k0_pay61 v56
def v194 : FVec Ideal S128x128 .f32 :=
  k0_pay62 I.x3 v55
def v195 : FVec Ideal S128x128 .f32 :=
  k0_pay63 I.v52
def v201 : FVec Ideal S128x1024 .f32 :=
  k0_pay64 I.x3 I.v8 I.v52 v55 v56 I.v74 I.v92 I.v110 I.v128 I.v146 I.v164 I.v172 I.v178 I.v179 (constant S128x128 .f32 0#32)
def v202 : FVec Ideal S128x1024 .f32 :=
  k0_pay65 I.x3 I.v8 I.v25 I.v52 v55 v56 I.v74 I.v92 I.v110 I.v128 I.v146 I.v164 I.v172 I.v178 I.v179 (constant S128x128 .f32 0#32)
def v209 : FVec Ideal S128x1 .f32 :=
  k0_pay66 I.x3 I.v8 I.v25 I.v52 v55 v56 I.v74 I.v92 I.v110 I.v128 I.v146 I.v164 I.v172 I.v178 I.v179 (constant S128x128 .f32 0#32)
def v210 : FVec Ideal S128x1 .f32 :=
  k0_pay67 I.x3 I.v8 I.v25 I.v52 v55 v56 I.v74 I.v92 I.v110 I.v128 I.v146 I.v164 I.v172 I.v178 I.v179 (constant S128x128 .f32 0#32)
def v218 : FVec Ideal S1x1024 .f32 :=
  k0_pay68 I.x3 I.v8 I.v13 I.v25 I.v52 v55 v56 I.v74 I.v92 I.v110 I.v128 I.v146 I.v164 I.v172 I.v178 I.v179 (constant S128x128 .f32 0#32)
def v220 : FVec Ideal S128x1024 .f32 :=
  k0_pay69 I.v10 I.v13
def v225 : FVec Ideal S128x1024 .f32 :=
  k0_pay70 I.x3 I.v8 I.v10 I.v13 I.v25 I.v52 v55 v56 I.v74 I.v92 I.v110 I.v128 I.v146 I.v164 I.v172 I.v178 I.v179 (constant S128x128 .f32 0#32)
def v228 : FVec Ideal S128x1 .f32 :=
  k0_pay71 I.x3 I.v8 I.v10 I.v13 I.v25 I.v52 v55 v56 I.v74 I.v92 I.v110 I.v128 I.v146 I.v164 I.v172 I.v178 I.v179 (constant S128x128 .f32 0#32)
def v235 : FVec Ideal S128x1024 .f32 :=
  k0_pay72 I.v202 I.v225 I.v228
def v236 : FVec Ideal S128x1024 .f32 :=
  k0_pay73 I.v25 I.v202 I.v225 I.v228
def v237 : FVec Ideal S128x1024 .f32 :=
  k0_pay74 I.v201 I.v202 I.v225 I.v228
def v238 : FVec Ideal S128x128 .f32 :=
  k0_pay75 I.v25 I.v202 I.v225 I.v228
def v239 : FVec Ideal S128x128 .f32 :=
  k0_pay76 I.v25 I.v202 I.v225 I.v228
def v240 : FVec Ideal S128x128 .f32 :=
  k0_pay77 I.v25 I.v202 I.v225 I.v228
def v241 : FVec Ideal S128x128 .f32 :=
  k0_pay78 I.v25 I.v202 I.v225 I.v228
def v242 : FVec Ideal S128x128 .f32 :=
  k0_pay79 I.v25 I.v202 I.v225 I.v228
def v243 : FVec Ideal S128x128 .f32 :=
  k0_pay80 I.v25 I.v202 I.v225 I.v228
def v244 : FVec Ideal S128x128 .f32 :=
  k0_pay81 I.v25 I.v202 I.v225 I.v228
def v245 : FVec Ideal S128x128 .f32 :=
  k0_pay82 I.v25 I.v202 I.v225 I.v228
def v255 : FVec Ideal S128x1024 .f32 :=
  k0_pay83 I.v25 I.v194 I.v202 I.v225 I.v228
def v260 : FVec Ideal S8x128x128 .f32 :=
  k0_pay84 I.v25 v55 I.v195 I.v202 I.v225 I.v228
def v265 : FVec Ideal S128x128 .f32 :=
  k0_pay85 I.v25 v186 I.v202 I.v225 I.v228
def v267 : FVec Ideal S128x1 .f32 :=
  k0_pay86 I.v25 I.v202 I.v225 I.v228
def v270 : FVec Ideal S128x128 .f32 :=
  k0_pay87 I.v25 I.v177 I.v202 I.v225 I.v228
def v275 : FVec Ideal S128x896 .f32 :=
  k0_pay88 I.v25 I.v176 I.v202 I.v225 I.v228
def v276 : FVec Ideal S128x128 .f32 :=
  k0_pay89
def v305 : FVec Ideal S128x1024 .f32 :=
  k0_pay90 I.v158 I.v243 I.v255 I.v275 v276
def v313 : FVec Ideal S8x128x128 .f32 :=
  k0_pay91 v55 I.v159 I.v243 I.v260 I.v270
def v319 : FVec Ideal S128x128 .f32 :=
  k0_pay92 v150 v168 I.v243 I.v265 I.v267
def v321 : FVec Ideal S128x1 .f32 :=
  k0_pay93 I.v242
def v324 : FVec Ideal S128x128 .f32 :=
  k0_pay94 I.v141 I.v242
def v346 : FVec Ideal S128x128 .f32 :=
  k0_pay95 v132 I.v319 I.v321
def v359 : FVec Ideal S128x1024 .f32 :=
  k0_pay96 I.v122 I.v140 I.v241 I.v242 I.v305
def v367 : FVec Ideal S8x128x128 .f32 :=
  k0_pay97 v55 I.v123 I.v241 I.v313 I.v324
def v372 : FVec Ideal S128x128 .f32 :=
  k0_pay98 v114 I.v241
def v394 : FVec Ideal S8x128x128 .f32 :=
  k0_pay99 v55 I.v105 I.v240 I.v367
def v400 : FVec Ideal S128x128 .f32 :=
  k0_pay100 v96 I.v240 I.v346 I.v372
def v402 : FVec Ideal S128x1 .f32 :=
  k0_pay101 I.v239
def v413 : FVec Ideal S128x1024 .f32 :=
  k0_pay102 I.v86 I.v104 I.v239 I.v240 I.v359
def v418 : FVec Ideal S2x128x128 .f32 :=
  k0_pay103 v55 I.v87 I.v239
def v419 : FVec Ideal S6x128x128 .f32 :=
  k0_pay104
def v438 : FVec Ideal S128x1024 .f32 :=
  k0_pay105 I.v68 I.v238 I.v413
def v444 : FVec Ideal S8x128x128 .f32 :=
  k0_pay106 v55 I.v69 I.v238 I.v394 I.v418 v419
def v450 : FVec Ideal S128x128 .f32 :=
  k0_pay107 v60 v78 I.v238 I.v400 I.v402
def v453 : FVec Ideal S1x1024 .f32 :=
  k0_pay108 I.v50 I.v68 I.v238 I.v413
def v455 : FVec Ideal S128x1024 .f32 :=
  k0_pay109 I.v5 I.v68 I.v238 I.v413
def v460 : FVec Ideal S128x1024 .f32 :=
  k0_pay110 I.v5 I.v45 I.v68 I.v238 I.v413
def v466 : FVec Ideal S128x1024 .f32 :=
  k0_pay111 I.v5 I.v37 I.v48 I.v68 I.v238 I.v413
def v467 : FVec Ideal S128x1024 .f32 :=
  k0_pay112 I.v5 I.v37 I.v48 I.v68 I.v238 I.v413
def v494 : FVec Ideal S1x128x1024 .bf16 :=
  k0_pay113 I.v15 I.v22 I.v24 I.v237
def v498 : FVec Ideal S1x128x1024 .bf16 :=
  k0_pay114 I.v27 I.v34 I.v36 I.v37 I.v460 I.v466 I.v467

end In

end Cert.GatingBwdIdeal.Chunk
-- ==== Proof.Points.lean ====
module

public import proofs.«01_k».proof.Proof.Gen.GatingBwdIdeal.Frame
public import proofs.«01_k».proof.Proof.Body

/-!
What one grid point leaves in the six output buffers, as functions of the blocks it reads and, for the four sums,
of what the point before left.
-/

@[expose] public section

set_option maxRecDepth 16384

noncomputable section

namespace Cert.GatingBwdIdeal.Points

open Cert.GatingBwdIdeal Cert.GatingBwdIdeal.Gen Cert.GatingBwdIdeal.Chunk Cert.Gate
open Idealize.ShloMosaic Idealize.ShloMosaic.TcCoe Idealize.SL.Sem

variable (m : (ℓ : Loc nD τ sig) → Buf (Elt Ideal) ℓ)

/-- The blocks that point `t` reads. -/
def inp (c : Dev nD) (t : Fin cfg0.N) : In :=
  ⟨X0_0 m c t, X0_1 m c t, iblk m c 2 t, iblk m c 3 t, iblk m c 4 t, iblk m c 5 t, iblk m c 6 t⟩

/-- Offsets of zero, two of them. -/
theorem off2 : (![0, 0] : Fin 2 → ℕ) = fun _ => 0 := by funext a; fin_cases a <;> rfl
/-- Offsets of zero, three of them. -/
theorem off3 : (![0, 0, 0] : Fin 3 → ℕ) = fun _ => 0 := by funext a; fin_cases a <;> rfl

/-- A tuple of six is known by its parts. -/
theorem tuple6 {A B C D E F : Type} {a a' : A} {b b' : B} {c c' : C} {d d' : D} {e e' : E} {f f' : F} (ha : a = a')
    (hb : b = b') (hc : c = c') (hd : d = d') (he : e = e') (hf : f = f') :
    (a, b, c, d, e, f) = (a', b', c', d', e', f') := by
  subst ha hb hc hd he hf; rfl

/-- The first point writes its own values. -/
theorem outs_A (c : Dev nD) (t : Fin cfg0.N) (h0 : t.val % 32 = 0) (h1 : ¬1 ≤ t.val) :
    outsAt0 m c t.val t.isLt = ((inp m c t).v494, (inp m c t).v498, (inp m c t).v453, (inp m c t).v444,
      (inp m c t).v450, (inp m c t).v218) := by
  rw [outsAt0_A m c t h0 h1 h0 h1 h0 h1 h0 h1]
  refine tuple6 ?_ ?_ ?_ ?_ ?_ ?_
  rotate_left
  on_goal 6 =>
    unfold out0_A_7
    refine (View.read_writes_eq_canon _ _ _ (by intro y; exact cover0_A_7 (y := y) c ..)).trans ?_
  rotate_left
  on_goal 6 =>
    unfold out0_A_8
    refine (View.read_writes_eq_canon _ _ _ (by intro y; exact cover0_A_8 (y := y) c ..)).trans ?_
  rotate_left
  on_goal 6 =>
    unfold out0_A_9
    refine (View.read_writes_eq_canon _ _ _ (by intro y; exact cover0_A_9 (y := y) c ..)).trans ?_
  rotate_left
  on_goal 6 =>
    unfold out0_A_10
    refine (View.read_writes_eq_canon _ _ _ (by intro y; exact cover0_A_10 (y := y) c ..)).trans ?_
  rotate_left
  on_goal 6 =>
    unfold out0_A_11
    refine (View.read_writes_eq_canon _ _ _ (by intro y; exact cover0_A_11 (y := y) c ..)).trans ?_
  rotate_left
  on_goal 6 =>
    unfold out0_A_12
    refine (View.read_writes_eq_canon _ _ _ (by intro y; exact cover0_A_12 (y := y) c ..)).trans ?_
  all_goals
    unfold kernelRun0_A; dsimp only; sl_unfold_words
    simp only [View.readAt_eq_ld, (hs0_0 _).read_unread, (hs0_1 _).read_unread, (hs0_2 _).read_unread,
      (hs0_3 _).read_unread, (hs0_4 _).read_unread, (hs0_5 _).read_unread, (hs0_6 _).read_unread,
      View.ld_unit_zero (S := S1x128x1024) off3, View.ld_unit_zero (S := S1x1024) off2,
      View.ld_unit_zero (S := S8x128x128) off3, View.ld_unit_zero (S := S128x128) off2]
    first | rw [View.canon_unit_zero off3] | rw [View.canon_unit_zero off2]
    simp only [inp,
      In.v5, In.v8, In.v10, In.v13, In.v15, In.v17, In.v22, In.v24, In.v25, In.v27, In.v29, In.v30, In.v31,
      In.v32, In.v34, In.v36, In.v37, In.v44, In.v45, In.v48, In.v50, In.v52, In.v55, In.v56, In.v60, In.v68, In.v69, In.v74,
      In.v78, In.v81, In.v86, In.v87, In.v92, In.v96, In.v104, In.v105, In.v110, In.v114, In.v122, In.v123,
      In.v128, In.v130, In.v132, In.v140, In.v141, In.v146, In.v150, In.v158, In.v159, In.v164, In.v168,
      In.v172, In.v176, In.v177, In.v178, In.v179, In.v186, In.v194, In.v195, In.v201, In.v202, In.v209,
      In.v210, In.v218, In.v220, In.v225, In.v228, In.v235, In.v236, In.v237, In.v238, In.v239, In.v240,
      In.v241, In.v242, In.v243, In.v244, In.v245, In.v255, In.v260, In.v265, In.v267, In.v270, In.v275,
      In.v276, In.v305, In.v313, In.v319, In.v321, In.v324, In.v346, In.v359, In.v367, In.v372, In.v394,
      In.v400, In.v402, In.v413, In.v418, In.v419, In.v438, In.v444, In.v450, In.v453, In.v455, In.v460,
      In.v466, In.v467, In.v494, In.v498]
/-- A later point adds to the four sums. -/
theorem outs_B (c : Dev nD) (t : Fin cfg0.N) (h0 : ¬t.val % 32 = 0) (h1 : 1 ≤ t.val) :
    outsAt0 m c t.val t.isLt = ((inp m c t).v494, (inp m c t).v498,
      k0_pay115 (inp m c t).v453 (outsAt0 m c (t.val - 1) (Nat.lt_of_le_of_lt (Nat.sub_le _ _) t.isLt)).2.2.1,
      k0_pay1 (inp m c t).v444 (outsAt0 m c (t.val - 1) (Nat.lt_of_le_of_lt (Nat.sub_le _ _) t.isLt)).2.2.2.1,
      k0_pay2 (inp m c t).v450 (outsAt0 m c (t.val - 1) (Nat.lt_of_le_of_lt (Nat.sub_le _ _) t.isLt)).2.2.2.2.1,
      k0_pay3 (inp m c t).v218 (outsAt0 m c (t.val - 1) (Nat.lt_of_le_of_lt (Nat.sub_le _ _) t.isLt)).2.2.2.2.2) := by
  rw [outsAt0_B m c t h0 h1 h0 h1 h0 h1 h0 h1]
  refine tuple6 ?_ ?_ ?_ ?_ ?_ ?_
  rotate_left
  on_goal 6 =>
    unfold out0_B_7
    refine (View.read_writes_eq_canon _ _ _ (by intro y; exact cover0_B_7 (y := y) c ..)).trans ?_
  rotate_left
  on_goal 6 =>
    unfold out0_B_8
    refine (View.read_writes_eq_canon _ _ _ (by intro y; exact cover0_B_8 (y := y) c ..)).trans ?_
  rotate_left
  on_goal 6 =>
    unfold out0_B_9
    refine (View.read_writes_eq_canon _ _ _ (by intro y; exact cover0_B_9 (y := y) c ..)).trans ?_
  rotate_left
  on_goal 6 =>
    unfold out0_B_10
    refine (View.read_writes_eq_canon _ _ _ (by intro y; exact cover0_B_10 (y := y) c ..)).trans ?_
  rotate_left
  on_goal 6 =>
    unfold out0_B_11
    refine (View.read_writes_eq_canon _ _ _ (by intro y; exact cover0_B_11 (y := y) c ..)).trans ?_
  rotate_left
  on_goal 6 =>
    unfold out0_B_12
    refine (View.read_writes_eq_canon _ _ _ (by intro y; exact cover0_B_12 (y := y) c ..)).trans ?_
  all_goals
    unfold kernelRun0_B; dsimp only; sl_unfold_words
    simp only [View.readAt_eq_ld, (hs0_0 _).read_unread, (hs0_1 _).read_unread, (hs0_2 _).read_unread,
      (hs0_3 _).read_unread, (hs0_4 _).read_unread, (hs0_5 _).read_unread, (hs0_6 _).read_unread,
      (hs0_9 _).read_unread, (hs0_10 _).read_unread, (hs0_11 _).read_unread, (hs0_12 _).read_unread,
      View.ld_unit_zero (S := S1x128x1024) off3, View.ld_unit_zero (S := S1x1024) off2,
      View.ld_unit_zero (S := S8x128x128) off3, View.ld_unit_zero (S := S128x128) off2]
    first | rw [View.canon_unit_zero off3] | rw [View.canon_unit_zero off2]
    simp only [inp,
      In.v5, In.v8, In.v10, In.v13, In.v15, In.v17, In.v22, In.v24, In.v25, In.v27, In.v29, In.v30, In.v31,
      In.v32, In.v34, In.v36, In.v37, In.v44, In.v45, In.v48, In.v50, In.v52, In.v55, In.v56, In.v60, In.v68, In.v69, In.v74,
      In.v78, In.v81, In.v86, In.v87, In.v92, In.v96, In.v104, In.v105, In.v110, In.v114, In.v122, In.v123,
      In.v128, In.v130, In.v132, In.v140, In.v141, In.v146, In.v150, In.v158, In.v159, In.v164, In.v168,
      In.v172, In.v176, In.v177, In.v178, In.v179, In.v186, In.v194, In.v195, In.v201, In.v202, In.v209,
      In.v210, In.v218, In.v220, In.v225, In.v228, In.v235, In.v236, In.v237, In.v238, In.v239, In.v240,
      In.v241, In.v242, In.v243, In.v244, In.v245, In.v255, In.v260, In.v265, In.v267, In.v270, In.v275,
      In.v276, In.v305, In.v313, In.v319, In.v321, In.v324, In.v346, In.v359, In.v367, In.v372, In.v394,
      In.v400, In.v402, In.v413, In.v418, In.v419, In.v438, In.v444, In.v450, In.v453, In.v455, In.v460,
      In.v466, In.v467, In.v494, In.v498]

end Cert.GatingBwdIdeal.Points
-- ==== Proof.Forward.lean ====
module

public import proofs.«01_k».proof.Proof.Body
public import Idealize.ShloMosaic.Lib.Pointwise

/-!
The first half of the kernel's body: the values of the gate that it computes again are the specification's.
-/

@[expose] public section

set_option maxRecDepth 16384

noncomputable section

namespace Cert.Gate

open Idealize.ShloMosaic

/-- A product may leave the causal mask. -/
theorem causal_mul (i j : Fin 128) (x y : EReal) : causal i j (x * y) = causal i j x * y := by
  unfold causal Scalar.select
  split <;> simp

/-- The head of a column. -/
theorem hd_col (h : Fin 8) (d : Fin 128) : hd (col h d) = h := by
  apply Fin.ext
  have := d.isLt
  simp only [hd, col]
  omega

/-- Every column is column `d` of some head `h`. -/
theorem exists_col (c : Fin 1024) : ∃ h d, c = col h d :=
  ⟨hd c, ⟨c.val % 128, Nat.mod_lt _ (by norm_num)⟩, Fin.ext (Nat.div_add_mod c.val 128).symm⟩

/-- The 0-1 number of a comparison of two small numbers. -/
theorem onehot (x y : ℕ) (hx : x < 128) (hy : y < 128) :
    FloatOps.sitofp (F := Ideal) FTy.f32 (BitVec.setWidth 32 (IntOp.cmpi CmpIPredicate.eq (BitVec.ofNat 32 x) (BitVec.ofNat 32 y)))
      = if x = y then (1 : EReal) else 0 := by
  have e : (BitVec.ofNat 32 x = BitVec.ofNat 32 y) ↔ x = y := by
    constructor
    · intro h
      have := congrArg BitVec.toNat h
      simp only [BitVec.toNat_ofNat] at this
      omega
    · rintro rfl; rfl
  by_cases h : x = y
  · subst h
    simp only [IntOp.cmpi, beq_self_eq_true, if_true]
    show (((BitVec.setWidth 32 (BitVec.ofBool true)).toInt : ℝ) : EReal) = 1
    rw [show (BitVec.setWidth 32 (BitVec.ofBool true)).toInt = 1 from by decide]
    norm_num
  · have h' : (BitVec.ofNat 32 x == BitVec.ofNat 32 y) = false := by simpa [e] using h
    simp only [IntOp.cmpi, h', h, if_false]
    exact EReal.coe_eq_coe_iff.2 (by norm_num)

/-- Only lane `y` of a sum against its 0-1 numbers stays. -/
theorem sum_onehot (f : Fin 128 → EReal) (y : ℕ) (hy : y < 128) :
    ∑ x : Fin 128, f x * FloatOps.sitofp (F := Ideal) FTy.f32
        (BitVec.setWidth 32 (IntOp.cmpi CmpIPredicate.eq (BitVec.ofNat 32 x.val) (BitVec.ofNat 32 y)))
      = f ⟨y, hy⟩ := by
  rw [Finset.sum_eq_single ⟨y, hy⟩]
  · rw [onehot _ _ hy hy, if_pos rfl, mul_one]
  · intro b _ hb
    rw [onehot _ _ b.isLt hy, if_neg (fun h => hb (Fin.ext h)), mul_zero]
  · intro h; exact absurd (Finset.mem_univ _) h

namespace Tile
variable (T : Tile)

/-- The gate at a column. -/
theorem S_col (l : Fin 128) (h : Fin 8) (d : Fin 128) :
    T.S l (col h d) = (∑ j : Fin 128, causal l j (T.ws h l j * T.vn j (col h d))) + T.bs h l := by
  simp only [S, hd_col, w, causal_mul]

end Tile
end Cert.Gate

namespace Cert.GatingBwdIdeal.Chunk

open Cert.GatingBwdIdeal Cert.GatingBwdIdeal.Gen Idealize.ShloMosaic Cert.Gate

namespace In
variable (I : In)

/-- The step `5` of the computation at an index. -/
theorem v5_apply (c : Fin 1024) : I.v5 (ix2 0 c) = I.tile.vg c := by
  unfold v5; pointwise [k0_pay6]; rfl
/-- The step `8` of the computation at an index. -/
theorem v8_apply (l x : Fin 128) : I.v8 (ix2 l x) = I.x4 (ix2 l x) := by
  unfold v8; pointwise [k0_pay7]
/-- The step `10` of the computation at an index. -/
theorem v10_apply (c : Fin 1024) : I.v10 (ix2 0 c) = I.tile.og c := by
  unfold v10; pointwise [k0_pay8]; rfl
/-- The step `13` of the computation at an index. -/
theorem v13_apply (l : Fin 128) (c : Fin 1024) : I.v13 (ix2 l c) = I.tile.ct l c := by
  unfold v13; pointwise [k0_pay9]; rfl
/-- The step `25` of the computation at an index. -/
theorem v25_apply (l : Fin 128) (c : Fin 1024) : I.v25 (ix2 l c) = I.tile.U l c := by
  unfold v25; pointwise [k0_pay14, k0_pay13, k0_pay12, k0_pay11, k0_pay10, k0_pay4]; rfl
/-- The step `37` of the computation at an index. -/
theorem v37_apply (l : Fin 128) (c : Fin 1024) : I.v37 (ix2 l c) = I.tile.V l c := by
  unfold v37 v27 v30; pointwise [k0_pay22, k0_pay21, k0_pay15, k0_pay16, k0_pay17, k0_pay18, k0_pay5]; rfl
/-- The step `44` of the computation at an index. -/
theorem v44_apply (l : Fin 128) : I.v44 (ix2 l 0) = msq I.tile.V l := by
  unfold v44; pointwise [k0_pay23]
  simp only [show k0_pay22 I.v27 I.v30 = I.v37 from rfl, v37_apply]; rfl
/-- The step `45` of the computation at an index. -/
theorem v45_apply (l : Fin 128) : I.v45 (ix2 l 0) = rr I.tile.V l := by
  unfold v45; pointwise [k0_pay24]
  simp only [show k0_pay23 I.v27 I.v30 = I.v44 from rfl, v44_apply]; rfl
/-- The step `48` of the computation at an index. -/
theorem v48_apply (l : Fin 128) : I.v48 (ix2 l 0) = rd I.tile.V l := by
  unfold v48; pointwise [k0_pay25]
  simp only [show k0_pay23 I.v27 I.v30 = I.v44 from rfl, show k0_pay24 I.v27 I.v30 = I.v45 from rfl,
    v44_apply, v45_apply]; rfl
/-- The step `50` of the computation at an index. -/
theorem v50_apply (l : Fin 128) (c : Fin 1024) : I.v50 (ix2 l c) = I.tile.V l c * rr I.tile.V l := by
  unfold v50; pointwise [k0_pay26]
  simp only [show k0_pay22 I.v27 I.v30 = I.v37 from rfl, show k0_pay24 I.v27 I.v30 = I.v45 from rfl,
    v37_apply, v45_apply]
/-- The step `52` of the computation at an index. -/
theorem v52_apply (l : Fin 128) (c : Fin 1024) : I.v52 (ix2 l c) = I.tile.vn l c := by
  unfold v52; pointwise [k0_pay27]
  simp only [show k0_pay26 I.v27 I.v30 = I.v50 from rfl, v50_apply, v5_apply]; rfl
/-- The step `55` of the computation at an index. -/
theorem v55_apply (i j : Fin 128) :
    v55 (ix2 i j) = IntOp.cmpi CmpIPredicate.sge (BitVec.ofNat 32 i.val) (BitVec.ofNat 32 j.val) := by
  unfold v55; pointwise! [k0_pay28]
/-- The step `56` of the computation at an index. -/
theorem v56_apply (x : Fin 128) : v56 (ix2 0 x) = BitVec.ofNat 32 x.val := by
  unfold v56; pointwise!

/-- A head's output in the shape in which the kernel's matmul and bias sum give it. -/
theorem S_col' (l : Fin 128) (h : Fin 8) (d : Fin 128) :
    I.tile.S l (col h d)
      = (∑ j : Fin 128, Scalar.select (IntOp.cmpi CmpIPredicate.sge (BitVec.ofNat 32 l.val) (BitVec.ofNat 32 j.val))
          (I.x3 (ix3 h l j) * I.tile.vn j (col h d)) 0)
        + ∑ x : Fin 128, I.x4 (ix2 l x) * FloatOps.sitofp (F := Ideal) FTy.f32
            (BitVec.setWidth 32 (IntOp.cmpi CmpIPredicate.eq (BitVec.ofNat 32 x.val) (BitVec.ofNat 32 h.val))) := by
  rw [Tile.S_col, sum_onehot (fun x => I.x4 (ix2 l x)) h.val (by have := h.isLt; omega)]
  rfl

/-- The step `74` of the computation at an index. -/
theorem v74_apply (l d : Fin 128) : I.v74 (ix2 l d) = I.tile.S l (col 0 d) := by
  unfold v74; pointwise [k0_pay32, k0_pay31, k0_pay30, k0_pay29, k0_pay28]
  simp only [show k0_pay27 I.v5 I.v27 I.v30 = I.v52 from rfl, v52_apply, v8_apply, S_col',
    show (⟨d.val, by have := d.isLt; omega⟩ : Fin 1024) = col 0 d from Fin.ext (Nat.zero_add _).symm]
  rfl
/-- The step `92` of the computation at an index. -/
theorem v92_apply (l d : Fin 128) : I.v92 (ix2 l d) = I.tile.S l (col 1 d) := by
  unfold v92 v81; pointwise [k0_pay34, k0_pay33, k0_pay35, k0_pay36, k0_pay37]
  simp only [v52_apply, v8_apply, v55_apply, S_col']; rfl
/-- The step `110` of the computation at an index. -/
theorem v110_apply (l d : Fin 128) : I.v110 (ix2 l d) = I.tile.S l (col 2 d) := by
  unfold v110; pointwise [k0_pay38, k0_pay39, k0_pay40, k0_pay41]
  simp only [v52_apply, v8_apply, v55_apply, v56_apply, S_col']; rfl
/-- The step `128` of the computation at an index. -/
theorem v128_apply (l d : Fin 128) : I.v128 (ix2 l d) = I.tile.S l (col 3 d) := by
  unfold v128; pointwise [k0_pay42, k0_pay43, k0_pay44, k0_pay45]
  simp only [v52_apply, v8_apply, v55_apply, v56_apply, S_col']; rfl
/-- The step `146` of the computation at an index. -/
theorem v146_apply (l d : Fin 128) : I.v146 (ix2 l d) = I.tile.S l (col 4 d) := by
  unfold v146 v130; pointwise [k0_pay46, k0_pay47, k0_pay48, k0_pay49, k0_pay50]
  simp only [v52_apply, v8_apply, v55_apply, v56_apply, S_col']; rfl
/-- The step `164` of the computation at an index. -/
theorem v164_apply (l d : Fin 128) : I.v164 (ix2 l d) = I.tile.S l (col 5 d) := by
  unfold v164; pointwise [k0_pay51, k0_pay52, k0_pay53, k0_pay54]
  simp only [v52_apply, v8_apply, v55_apply, v56_apply, S_col']; rfl
/-- Heads 6 and 7 are put together only where the eight heads are joined. -/
theorem head6 (l d : Fin 128) :
    (∑ x : Fin 128, I.v178 (ix2 l x) * I.v179 (ix2 x d)) + I.v172 (ix2 l 0) = I.tile.S l (col 6 d) := by
  unfold v178 v179 v172; pointwise [k0_pay55, k0_pay56, k0_pay57, k0_pay58, k0_pay59, k0_pay60]
  simp only [v52_apply, v8_apply, v55_apply, v56_apply, S_col']; rfl
/-- The last head. -/
theorem head7 (l d : Fin 128) :
    (∑ x : Fin 128, I.v194 (ix2 l x) * I.v195 (ix2 x d)) + (∑ x : Fin 128, I.v8 (ix2 l x) * v186 (ix2 0 x))
      = I.tile.S l (col 7 d) := by
  unfold v194 v195 v186; pointwise [k0_pay61, k0_pay62, k0_pay63]
  simp only [v52_apply, v8_apply, v55_apply, v56_apply, S_col']; rfl

/-- The step `201` of the computation at an index. -/
theorem v201_apply (l : Fin 128) (c : Fin 1024) : I.v201 (ix2 l c) = I.tile.S l c := by
  have hc := c.isLt
  unfold v201; pointwise [k0_pay64]
  simp only [show k0_pay62 I.x3 v55 = I.v194 from rfl, show k0_pay63 I.v52 = I.v195 from rfl,
    show k0_pay61 v56 = v186 from rfl, v74_apply, v92_apply, v110_apply, v128_apply, v146_apply, v164_apply,
    head6, head7]
  split_ifs <;> exact congrArg (I.tile.S l) (Fin.ext (by simp [col]; try omega))
end In
end Cert.GatingBwdIdeal.Chunk
-- ==== Proof.Backward.lean ====
module

public import proofs.«01_k».proof.Proof.Forward
public import Idealize.ShloMosaic.Lib.Pointwise

/-!
The second half of the kernel's body: the gradients that one chunk gives are the specification's.
-/

@[expose] public section

set_option maxRecDepth 16384

noncomputable section

namespace Cert.GatingBwdIdeal.Chunk

open Cert.GatingBwdIdeal Cert.GatingBwdIdeal.Gen Idealize.ShloMosaic Cert.Gate

namespace In
variable (I : In)

/-- The step `202` of the computation, named. -/
theorem fold202 : k0_pay65 I.x3 I.v8 I.v25 I.v52 v55 v56 I.v74 I.v92 I.v110 I.v128 I.v146 I.v164 I.v172 I.v178
    I.v179 (constant S128x128 .f32 0#32) = I.v202 := rfl
/-- The step `209` of the computation, named. -/
theorem fold209 : k0_pay66 I.x3 I.v8 I.v25 I.v52 v55 v56 I.v74 I.v92 I.v110 I.v128 I.v146 I.v164 I.v172 I.v178
    I.v179 (constant S128x128 .f32 0#32) = I.v209 := rfl
/-- The step `210` of the computation, named. -/
theorem fold210 : k0_pay67 I.x3 I.v8 I.v25 I.v52 v55 v56 I.v74 I.v92 I.v110 I.v128 I.v146 I.v164 I.v172 I.v178
    I.v179 (constant S128x128 .f32 0#32) = I.v210 := rfl
/-- The step `220` of the computation, named. -/
theorem fold220 : k0_pay69 I.v10 I.v13 = I.v220 := rfl
/-- The step `235` of the computation, named. -/
theorem fold235 : k0_pay72 I.v202 I.v225 I.v228 = I.v235 := rfl
/-- The step `236` of the computation, named. -/
theorem fold236 : k0_pay73 I.v25 I.v202 I.v225 I.v228 = I.v236 := rfl

/-- The step `202` of the computation at an index. -/
theorem v202_apply (l : Fin 128) (c : Fin 1024) : I.v202 (ix2 l c) = I.tile.O l c := by
  unfold v202; pointwise [k0_pay65]
  rw [show k0_pay64 I.x3 I.v8 I.v52 v55 v56 I.v74 I.v92 I.v110 I.v128 I.v146 I.v164 I.v172 I.v178
    I.v179 (constant S128x128 .f32 0#32) = I.v201 from rfl, v25_apply, v201_apply]; rfl
/-- The step `209` of the computation at an index. -/
theorem v209_apply (l : Fin 128) : I.v209 (ix2 l 0) = msq I.tile.O l := by
  unfold v209; pointwise [k0_pay66]
  simp only [fold202, v202_apply]; rfl
/-- The step `210` of the computation at an index. -/
theorem v210_apply (l : Fin 128) : I.v210 (ix2 l 0) = rr I.tile.O l := by
  unfold v210; pointwise [k0_pay67]
  simp only [fold209, v209_apply]; rfl
/-- The step `218` of the computation at an index. -/
theorem v218_apply (c : Fin 1024) : I.v218 (ix2 0 c) = I.tile.dog c := by
  unfold v218; pointwise [k0_pay68]
  simp only [fold202, fold210, v202_apply, v210_apply, v13_apply]; rfl
/-- The step `220` of the computation at an index. -/
theorem v220_apply (l : Fin 128) (c : Fin 1024) : I.v220 (ix2 l c) = I.tile.G l c := by
  unfold v220; pointwise [k0_pay69]
  simp only [v10_apply, v13_apply]; rfl
/-- The step `225` of the computation at an index. -/
theorem v225_apply (l : Fin 128) (c : Fin 1024) : I.v225 (ix2 l c) = I.tile.G l c * rr I.tile.O l := by
  unfold v225; pointwise [k0_pay70]
  simp only [fold220, fold210, v220_apply, v210_apply]
/-- The step `228` of the computation at an index. -/
theorem v228_apply (l : Fin 128) : I.v228 (ix2 l 0) = rk I.tile.O I.tile.G l := by
  unfold v228; pointwise [k0_pay71]
  simp only [fold202, fold209, fold220, fold210, v202_apply, v209_apply, v220_apply, v210_apply]; rfl
/-- The step `235` of the computation at an index. -/
theorem v235_apply (l : Fin 128) (c : Fin 1024) : I.v235 (ix2 l c) = I.tile.dO l c := by
  unfold v235; pointwise [k0_pay72]
  simp only [Fin.sum_univ_one, v202_apply, v225_apply, v228_apply]; rfl
/-- The step `236` of the computation at an index. -/
theorem v236_apply (l : Fin 128) (c : Fin 1024) : I.v236 (ix2 l c) = I.tile.dS l c := by
  unfold v236; pointwise [k0_pay73]
  simp only [fold235, v25_apply, v235_apply]; rfl
/-- The step `237` of the computation at an index. -/
theorem v237_apply (l : Fin 128) (c : Fin 1024) : I.v237 (ix2 l c) = I.tile.dU l c := by
  unfold v237; pointwise [k0_pay74]
  simp only [fold235, v201_apply, v235_apply]; rfl

/-! The heads' columns of the gradient of the mixed half. -/

/-- The step `238` of the computation at an index. -/
theorem v238_apply (l d : Fin 128) : I.v238 (ix2 l d) = I.tile.dS l (col 0 d) := by
  unfold v238; pointwise [k0_pay75]
  rw [fold236, v236_apply]
  exact congrArg (I.tile.dS l) (Fin.ext (Nat.zero_add _).symm)
/-- The step `239` of the computation at an index. -/
theorem v239_apply (l d : Fin 128) : I.v239 (ix2 l d) = I.tile.dS l (col 1 d) := by
  unfold v239; pointwise [k0_pay76]; rw [fold236, v236_apply]; rfl
/-- The step `240` of the computation at an index. -/
theorem v240_apply (l d : Fin 128) : I.v240 (ix2 l d) = I.tile.dS l (col 2 d) := by
  unfold v240; pointwise [k0_pay77]; rw [fold236, v236_apply]; rfl
/-- The step `241` of the computation at an index. -/
theorem v241_apply (l d : Fin 128) : I.v241 (ix2 l d) = I.tile.dS l (col 3 d) := by
  unfold v241; pointwise [k0_pay78]; rw [fold236, v236_apply]; rfl
/-- The step `242` of the computation at an index. -/
theorem v242_apply (l d : Fin 128) : I.v242 (ix2 l d) = I.tile.dS l (col 4 d) := by
  unfold v242; pointwise [k0_pay79]; rw [fold236, v236_apply]; rfl
/-- The step `243` of the computation at an index. -/
theorem v243_apply (l d : Fin 128) : I.v243 (ix2 l d) = I.tile.dS l (col 5 d) := by
  unfold v243; pointwise [k0_pay80]; rw [fold236, v236_apply]; rfl
/-- The step `244` of the computation at an index. -/
theorem v244_apply (l d : Fin 128) : I.v244 (ix2 l d) = I.tile.dS l (col 6 d) := by
  unfold v244; pointwise [k0_pay81]; rw [fold236, v236_apply]; rfl
/-- The step `245` of the computation at an index. -/
theorem v245_apply (l d : Fin 128) : I.v245 (ix2 l d) = I.tile.dS l (col 7 d) := by
  unfold v245; pointwise [k0_pay82]; rw [fold236, v236_apply]; rfl

/-! The heads' masked weights. -/

/-- The step `68` of the computation at an index. -/
theorem v68_apply (i j : Fin 128) : I.v68 (ix2 i j) = I.tile.w 0 i j := by
  unfold v68; pointwise [k0_pay30, k0_pay28]; rfl
/-- The step `86` of the computation at an index. -/
theorem v86_apply (i j : Fin 128) : I.v86 (ix2 i j) = I.tile.w 1 i j := by
  unfold v86; pointwise [k0_pay35]; rw [v55_apply]; rfl
/-- The step `104` of the computation at an index. -/
theorem v104_apply (i j : Fin 128) : I.v104 (ix2 i j) = I.tile.w 2 i j := by
  unfold v104; pointwise [k0_pay39]; rw [v55_apply]; rfl
/-- The step `122` of the computation at an index. -/
theorem v122_apply (i j : Fin 128) : I.v122 (ix2 i j) = I.tile.w 3 i j := by
  unfold v122; pointwise [k0_pay43]; rw [v55_apply]; rfl
/-- The step `140` of the computation at an index. -/
theorem v140_apply (i j : Fin 128) : I.v140 (ix2 i j) = I.tile.w 4 i j := by
  unfold v140; pointwise [k0_pay48]; rw [v55_apply]; rfl
/-- The step `158` of the computation at an index. -/
theorem v158_apply (i j : Fin 128) : I.v158 (ix2 i j) = I.tile.w 5 i j := by
  unfold v158; pointwise [k0_pay52]; rw [v55_apply]; rfl
/-- The step `176` of the computation at an index. -/
theorem v176_apply (i j : Fin 128) : I.v176 (ix2 i j) = I.tile.w 6 i j := by
  unfold v176; pointwise [k0_pay57]; rw [v55_apply]; rfl
/-- The step `194` of the computation at an index. -/
theorem v194_apply (i j : Fin 128) : I.v194 (ix2 i j) = I.tile.w 7 i j := by
  unfold v194; pointwise [k0_pay62]; rw [v55_apply]; rfl

/-! The heads' columns of the normed gated half. -/

/-- The step `69` of the computation at an index. -/
theorem v69_apply (j d : Fin 128) : I.v69 (ix2 j d) = I.tile.vn j (col 0 d) := by
  unfold v69; pointwise [k0_pay31]
  rw [show k0_pay27 I.v5 I.v27 I.v30 = I.v52 from rfl, v52_apply]
  exact congrArg (I.tile.vn j) (Fin.ext (Nat.zero_add _).symm)
/-- The step `87` of the computation at an index. -/
theorem v87_apply (j d : Fin 128) : I.v87 (ix2 j d) = I.tile.vn j (col 1 d) := by
  unfold v87; pointwise [k0_pay36]; rw [v52_apply]; rfl
/-- The step `105` of the computation at an index. -/
theorem v105_apply (j d : Fin 128) : I.v105 (ix2 j d) = I.tile.vn j (col 2 d) := by
  unfold v105; pointwise [k0_pay40]; rw [v52_apply]; rfl
/-- The step `123` of the computation at an index. -/
theorem v123_apply (j d : Fin 128) : I.v123 (ix2 j d) = I.tile.vn j (col 3 d) := by
  unfold v123; pointwise [k0_pay44]; rw [v52_apply]; rfl
/-- The step `141` of the computation at an index. -/
theorem v141_apply (j d : Fin 128) : I.v141 (ix2 j d) = I.tile.vn j (col 4 d) := by
  unfold v141; pointwise [k0_pay49]; rw [v52_apply]; rfl
/-- The step `159` of the computation at an index. -/
theorem v159_apply (j d : Fin 128) : I.v159 (ix2 j d) = I.tile.vn j (col 5 d) := by
  unfold v159; pointwise [k0_pay53]; rw [v52_apply]; rfl
/-- The step `177` of the computation at an index. -/
theorem v177_apply (j d : Fin 128) : I.v177 (ix2 j d) = I.tile.vn j (col 6 d) := by
  unfold v177; pointwise [k0_pay58]; rw [v52_apply]; rfl
/-- The step `195` of the computation at an index. -/
theorem v195_apply (j d : Fin 128) : I.v195 (ix2 j d) = I.tile.vn j (col 7 d) := by
  unfold v195; pointwise [k0_pay63]; rw [v52_apply]; rfl

/-- The step `244` of the computation, named. -/
theorem fold244 : k0_pay81 I.v25 I.v202 I.v225 I.v228 = I.v244 := rfl
/-- The step `245` of the computation, named. -/
theorem fold245 : k0_pay82 I.v25 I.v202 I.v225 I.v228 = I.v245 := rfl

set_option maxHeartbeats 1000000 in
theorem v438_apply (l : Fin 128) (c : Fin 1024) : I.v438 (ix2 l c) = I.tile.dvn l c := by
  have hc := c.isLt
  unfold v438 v413 v359 v305 v255 v275 v276
  pointwise [k0_pay105, k0_pay102, k0_pay96, k0_pay90, k0_pay83, k0_pay88, k0_pay89]
  simp only [fold244, fold245, v238_apply, v239_apply, v240_apply, v241_apply, v242_apply, v243_apply, v244_apply,
    v245_apply, v68_apply, v86_apply, v104_apply, v122_apply, v140_apply, v158_apply, v176_apply, v194_apply]
  have ec : (hd c).val = c.val / 128 := rfl
  have hk : (hd c).val = 0 ∨ (hd c).val = 1 ∨ (hd c).val = 2 ∨ (hd c).val = 3 ∨ (hd c).val = 4 ∨ (hd c).val = 5
      ∨ (hd c).val = 6 ∨ (hd c).val = 7 := by omega
  rcases hk with hk | hk | hk | hk | hk | hk | hk | hk <;>
    repeat first | rw [dif_pos (by omega)] | rw [dif_neg (by omega)]
  all_goals
    simp only [zero_add, add_zero]
    refine Finset.sum_congr rfl fun x _ => congrArg₂ (· * ·) (congrArg (I.tile.w · x l) (Fin.ext hk.symm))
      (congrArg (I.tile.dS x) (Fin.ext ?_))
    simp only [col]
    omega
/-- The step `444` of the computation at an index. -/
theorem v444_apply (h : Fin 8) (i j : Fin 128) : I.v444 (ix3 h i j) = I.tile.dws h i j := by
  unfold v444 v394 v418 v419 v367 v313 v324 v260 v270
  pointwise [k0_pay106, k0_pay99, k0_pay103, k0_pay104, k0_pay97, k0_pay91, k0_pay94, k0_pay84, k0_pay87]
  simp only [fold244, fold245, v238_apply, v239_apply, v240_apply, v241_apply, v242_apply, v243_apply, v244_apply,
    v245_apply, v69_apply, v87_apply, v105_apply, v123_apply, v141_apply, v159_apply, v177_apply, v195_apply,
    v55_apply]
  fin_cases h <;> simp <;> rfl
/-- The step `450` of the computation at an index. -/
theorem v450_apply (l x : Fin 128) :
    I.v450 (ix2 l x) = if h : x.val < 8 then I.tile.dbs l ⟨x.val, h⟩ else 0 := by
  unfold v450 v400 v402 v346 v319 v265 v267 v372 v60 v78 v321 v96 v114 v132 v130 v150 v168 v186
  pointwise [k0_pay107, k0_pay100, k0_pay101, k0_pay95, k0_pay92, k0_pay85, k0_pay86, k0_pay98, k0_pay93, k0_pay29,
    k0_pay33, k0_pay38, k0_pay42, k0_pay47, k0_pay46, k0_pay51, k0_pay55, k0_pay61]
  simp only [fold244, fold245, v238_apply, v239_apply, v240_apply, v241_apply, v242_apply, v243_apply, v244_apply,
    v245_apply, v56_apply, Fin.sum_univ_one]
  have o (n : ℕ) (hn : n < 128) : FloatOps.sitofp (F := Ideal) FTy.f32
      (BitVec.setWidth 32 (IntOp.cmpi CmpIPredicate.eq (BitVec.ofNat 32 x.val) (BitVec.ofNat 32 n)))
      = if x.val = n then (1 : EReal) else 0 := onehot x.val n x.isLt hn
  rw [o 0 (by norm_num), o 1 (by norm_num), o 2 (by norm_num), o 3 (by norm_num), o 4 (by norm_num),
    o 5 (by norm_num), o 6 (by norm_num), o 7 (by norm_num)]
  obtain ⟨k, hk⟩ := x
  dsimp only
  by_cases h : k < 8
  · interval_cases k <;> simp <;> rfl
  · rw [dif_neg h]
    repeat rw [if_neg (by omega)]
    simp
/-- The step `453` of the computation at an index. -/
theorem v453_apply (c : Fin 1024) : I.v453 (ix2 0 c) = I.tile.dvg c := by
  unfold v453; pointwise [k0_pay108]
  simp only [show k0_pay105 I.v68 I.v238 I.v413 = I.v438 from rfl, v438_apply, v50_apply]; rfl
/-- The step `494` of the computation at an index. -/
theorem v494_apply (l : Fin 128) (c : Fin 1024) : I.v494 (ix3 0 l c) = I.tile.du l c := by
  unfold v494 v15 v22 v24
  pointwise [k0_pay113, k0_pay13, k0_pay12, k0_pay11, k0_pay10, k0_pay4]
  simp only [v237_apply]
  rw [zero_sub]; rfl
/-- The step `498` of the computation at an index. -/
theorem v498_apply (l : Fin 128) (c : Fin 1024) : I.v498 (ix3 0 l c) = I.tile.dv l c := by
  unfold v498 v34 v36 v31 v32 v30 v460 v466 v467
  pointwise [k0_pay114, k0_pay20, k0_pay21, k0_pay18, k0_pay19, k0_pay17, k0_pay16, k0_pay15, k0_pay5, k0_pay110, k0_pay111, k0_pay112, k0_pay109]
  simp only [show k0_pay105 I.v68 I.v238 I.v413 = I.v438 from rfl, v438_apply, v37_apply, v45_apply, v48_apply, v5_apply, Fin.sum_univ_one]
  rw [zero_sub, show I.v27 (ix2 l c) = half (I.tile.v l c) by unfold v27; pointwise [k0_pay15, k0_pay5]; rfl]; rfl
end In
end Cert.GatingBwdIdeal.Chunk
-- ==== Proof.Arrays.lean ====
module

public import proofs.«01_k».proof.Proof.Gen.GatingBwdIdeal.Value
public import proofs.«01_k».proof.Proof.Points
public import proofs.«01_k».proof.Proof.Backward
public import Idealize.ShloMosaic.Lib.Pointwise
public import Idealize.ShloMosaic.Lib.Pipeline.ValueKit.Point

@[expose] public section
set_option maxRecDepth 16384
noncomputable section
namespace Cert.GatingBwdIdeal.Arrays
open Cert.GatingBwdIdeal Cert.GatingBwdIdeal.Gen Cert.GatingBwdIdeal.Chunk Cert.GatingBwdIdeal.Points Cert.GatingBwdIdeal.Value Cert.Gate
open Idealize.ShloMosaic Idealize.ShloMosaic.TcCoe Idealize.SL.Sem
variable (m : (ℓ : Loc nD τ sig) → Buf (Elt Ideal) ℓ)

/-- The argument arrays by coordinates. -/
def args (c : Dev nD) : Args where
  proj b s n := m ((c : Thread nD τ).loc main_arg0) (ix3 b s n)
  vg k := m ((c : Thread nD τ).loc main_arg1) (ix1 k)
  ws h i j := m ((c : Thread nD τ).loc main_arg2) (ix3 h i j)
  bs h l := m ((c : Thread nD τ).loc main_arg3) (ix2 h l)
  og k := m ((c : Thread nD τ).loc main_arg4) (ix1 k)
  dy b s n := m ((c : Thread nD τ).loc main_arg5) (ix3 b s n)

/-- Which tile window 0 is on at a point. -/
theorem idx0 : ∀ t : Fin cfg0.N, win0_0.index t = ![t.val / 16, t.val % 16, 1] :=
  (by decide +kernel : ∀ t : Fin grid0.N, _)
/-- Which tile window 1 is on at a point. -/
theorem idx1 : ∀ t : Fin cfg0.N, win0_1.index t = ![t.val / 16, t.val % 16, 2] :=
  (by decide +kernel : ∀ t : Fin grid0.N, _)
/-- Which tile window 2 is on at a point. -/
theorem idx2 : ∀ t : Fin cfg0.N, win0_2.index t = ![0, 0] := (by decide +kernel : ∀ t : Fin grid0.N, _)
/-- Which tile window 3 is on at a point. -/
theorem idx3 : ∀ t : Fin cfg0.N, win0_3.index t = ![0, 0, 0] := (by decide +kernel : ∀ t : Fin grid0.N, _)
/-- Which tile window 4 is on at a point. -/
theorem idx4 : ∀ t : Fin cfg0.N, win0_4.index t = ![0, 0] := (by decide +kernel : ∀ t : Fin grid0.N, _)
/-- Which tile window 5 is on at a point. -/
theorem idx5 : ∀ t : Fin cfg0.N, win0_5.index t = ![0, 0] := (by decide +kernel : ∀ t : Fin grid0.N, _)
/-- Which tile window 6 is on at a point. -/
theorem idx6 : ∀ t : Fin cfg0.N, win0_6.index t = ![t.val / 16, t.val % 16, 0] :=
  (by decide +kernel : ∀ t : Fin grid0.N, _)

/-- The chunk of grid point `t`. -/
def pb (t : Fin cfg0.N) : Fin 2 := ⟨t.val / 16, by have := lt_of_lt_of_eq t.isLt N_0; omega⟩
def pq (t : Fin cfg0.N) : Fin 16 := ⟨t.val % 16, by omega⟩

/-- What a point reads of u. -/
theorem inp_u (c : Dev nD) (t : Fin cfg0.N) (l : Fin 128) (k : Fin 1024) :
    X0_0 m c t (ix3 0 l k) = ((args m c).tile (pb t) (pq t)).u l k := by
  unfold X0_0 Pipeline.Window.fill
  rw [dif_pos (moved0_0 t _)]
  dsimp only [Args.tile, args]
  blk_ext! [iblk, V, idx0 t]
  all_goals simp only [pb, pq, tok]; omega
/-- What a point reads of v. -/
theorem inp_v (c : Dev nD) (t : Fin cfg0.N) (l : Fin 128) (k : Fin 1024) :
    X0_1 m c t (ix3 0 l k) = ((args m c).tile (pb t) (pq t)).v l k := by
  unfold X0_1 Pipeline.Window.fill
  rw [dif_pos (moved0_1 t _)]
  dsimp only [Args.tile, args]
  blk_ext! [iblk, V, idx1 t]
  all_goals simp only [pb, pq, tok]; omega
/-- What a point reads of the chunk matrices. -/
theorem inp_ws (c : Dev nD) (t : Fin cfg0.N) (h : Fin 8) (l : Fin 128) (k : Fin 128) :
    iblk m c 3 t (ix3 h l k) = ((args m c).tile (pb t) (pq t)).ws h l k := by
  dsimp only [Args.tile, args]
  blk_ext! [iblk, V, idx3 t]
/-- What a point reads of the incoming gradient. -/
theorem inp_ct (c : Dev nD) (t : Fin cfg0.N) (l : Fin 128) (k : Fin 1024) :
    iblk m c 6 t (ix3 0 l k) = ((args m c).tile (pb t) (pq t)).ct l k := by
  dsimp only [Args.tile, args]
  blk_simp [iblk, idx6 t]
  unfold V
  simp only [hostOps0, hostOps0_1, hostOps0_2, List.flatten_cons, List.flatten_nil, List.append_nil, List.cons_append,
    List.nil_append]
  after_results
  pointwise
  blk_ext [idx6 t]
  all_goals simp only [pb, pq, tok]; omega
/-- What a point reads of v's gain. -/
theorem inp_vg (c : Dev nD) (t : Fin cfg0.N) (k : Fin 1024) :
    iblk m c 2 t (ix2 0 k) = ((args m c).tile (pb t) (pq t)).vg k := by
  dsimp only [Args.tile, args]
  blk_simp [iblk, idx2 t]
  unfold V
  simp only [hostOps0, hostOps0_1, hostOps0_2, List.flatten_cons, List.flatten_nil, List.append_nil, List.cons_append,
    List.nil_append]
  after_results
  pointwise
  blk_ext [idx2 t]
/-- What a point reads of the output's gain. -/
theorem inp_og (c : Dev nD) (t : Fin cfg0.N) (k : Fin 1024) :
    iblk m c 5 t (ix2 0 k) = ((args m c).tile (pb t) (pq t)).og k := by
  dsimp only [Args.tile, args]
  blk_simp [iblk, idx5 t]
  unfold V
  simp only [hostOps0, hostOps0_1, hostOps0_2, List.flatten_cons, List.flatten_nil, List.append_nil, List.cons_append,
    List.nil_append]
  after_results
  pointwise
  blk_ext [idx5 t]
/-- The biases as the host prepares them: transposed, then 120 lanes of zeros. -/
theorem V_bias (c : Dev nD) : V m c main_v3 = pad S128x128 ![0, 0] ![0, 120] ![0, 0]
    (transpose S128x8 [1, 0] (m ((c : Thread nD τ).loc main_arg3)) transposes_S8x128_S128x8_1_0)
    (sitofp .f32 (constantI S_ 32 0#32) : FVec Ideal S_ .f32) pads_S128x8_S128x128_000_01200 h_S_ := by
  unfold V
  simp only [hostOps0, hostOps0_1, hostOps0_2, List.flatten_cons, List.flatten_nil, List.append_nil, List.cons_append,
    List.nil_append]
  after_results
  rfl
/-- What a point reads of the bias. -/
theorem inp_bs (c : Dev nD) (t : Fin cfg0.N) (h : Fin 8) (l : Fin 128) :
    iblk m c 4 t (ix2 l ⟨h.val, by have := h.isLt; omega⟩) = ((args m c).tile (pb t) (pq t)).bs h l := by
  have hh := h.isLt
  dsimp only [Args.tile, args]
  refine Eq.trans (b := V m c main_v3 (ix2 l ⟨h.val, by omega⟩)) ?_ ?_
  · blk_simp [iblk, idx4 t]
    blk_ext [idx4 t]
  · rw [V_bias]
    pointwise

/-- A point's tile of the incoming gradient. -/
theorem inp_tile (c : Dev nD) (t : Fin cfg0.N) : (inp m c t).tile = (args m c).tile (pb t) (pq t) := by
  have e {T T' : Tile} (h1 : T.u = T'.u) (h2 : T.v = T'.v) (h3 : T.ct = T'.ct) (h4 : T.vg = T'.vg) (h5 : T.og = T'.og)
      (h6 : T.ws = T'.ws) (h7 : T.bs = T'.bs) : T = T' := by
    cases T; cases T'; simp only at h1 h2 h3 h4 h5 h6 h7; subst h1 h2 h3 h4 h5 h6 h7; rfl
  exact e (funext fun l => funext fun k => inp_u m c t l k) (funext fun l => funext fun k => inp_v m c t l k)
    (funext fun l => funext fun k => inp_ct m c t l k) (funext fun k => inp_vg m c t k) (funext fun k => inp_og m c t k)
    (funext fun h => funext fun i => funext fun j => inp_ws m c t h i j) (funext fun h => funext fun l => inp_bs m c t h l)

/-- The chunk of point `t`. -/
def tl (c : Dev nD) (t : Fin cfg0.N) : Tile := (args m c).tile (pb t) (pq t)

/-! The four running sums after point `n`. -/

/-- A point that starts the sums. -/
theorem pt_A (t : Fin cfg0.N) (h : t.val = 0) : t.val % 32 = 0 ∧ ¬1 ≤ t.val := by omega
/-- A point that adds to the sums. -/
theorem pt_B (t : Fin cfg0.N) (h : t.val ≠ 0) : ¬t.val % 32 = 0 ∧ 1 ≤ t.val := by
  have := lt_of_lt_of_eq t.isLt N_0; omega

/-- The sums that the points have left. -/
theorem sums (c : Dev nD) (n : ℕ) (hn : n < cfg0.N) :
    (∀ k, (outsAt0 m c n hn).2.2.1 (ix2 0 k) = ∑ t : Fin (n + 1), (tl m c ⟨t.val, by have := t.isLt; omega⟩).dvg k)
    ∧ (∀ h i j, (outsAt0 m c n hn).2.2.2.1 (ix3 h i j) = ∑ t : Fin (n + 1), (tl m c ⟨t.val, by have := t.isLt; omega⟩).dws h i j)
    ∧ (∀ (l x : Fin 128), (outsAt0 m c n hn).2.2.2.2.1 (ix2 l x)
        = ∑ t : Fin (n + 1), if h : x.val < 8 then (tl m c ⟨t.val, by have := t.isLt; omega⟩).dbs l ⟨x.val, h⟩ else 0)
    ∧ (∀ k, (outsAt0 m c n hn).2.2.2.2.2 (ix2 0 k) = ∑ t : Fin (n + 1), (tl m c ⟨t.val, by have := t.isLt; omega⟩).dog k) := by
  induction n with
  | zero =>
    rw [outs_A m c ⟨0, hn⟩ (by simp) (by simp)]
    refine ⟨fun k => ?_, fun h i j => ?_, fun l x => ?_, fun k => ?_⟩ <;> dsimp only
    · rw [In.v453_apply, inp_tile, Fin.sum_univ_one]; rfl
    · rw [In.v444_apply, inp_tile, Fin.sum_univ_one]; rfl
    · rw [In.v450_apply, inp_tile, Fin.sum_univ_one]; rfl
    · rw [In.v218_apply, inp_tile, Fin.sum_univ_one]; rfl
  | succ n ih =>
    obtain ⟨i1, i2, i3, i4⟩ := ih (by omega)
    obtain ⟨h0, h1⟩ := pt_B ⟨n + 1, hn⟩ (by simp)
    rw [outs_B m c ⟨n + 1, hn⟩ h0 h1]
    refine ⟨fun k => ?_, fun h i j => ?_, fun l x => ?_, fun k => ?_⟩ <;> dsimp only
    · pointwise [k0_pay115]
      rw [In.v453_apply, inp_tile, Fin.sum_univ_castSucc]
      exact congrArg (· + _) (i1 k)
    · pointwise [k0_pay1]
      rw [In.v444_apply, inp_tile, Fin.sum_univ_castSucc]
      exact congrArg (· + _) (i2 h i j)
    · pointwise [k0_pay2]
      rw [In.v450_apply, inp_tile, Fin.sum_univ_castSucc]
      exact congrArg (· + _) (i3 l x)
    · pointwise [k0_pay3]
      rw [In.v218_apply, inp_tile, Fin.sum_univ_castSucc]
      exact congrArg (· + _) (i4 k)

/-- What a point leaves of u's gradient. -/
theorem outs_du (c : Dev nD) (t : Fin cfg0.N) (l : Fin 128) (k : Fin 1024) :
    (outsAt0 m c t.val t.isLt).1 (ix3 0 l k) = (tl m c t).du l k := by
  by_cases h : t.val = 0
  · rw [outs_A m c t (pt_A t h).1 (pt_A t h).2]; dsimp only; rw [In.v494_apply, inp_tile]; rfl
  · rw [outs_B m c t (pt_B t h).1 (pt_B t h).2]; dsimp only; rw [In.v494_apply, inp_tile]; rfl
/-- What a point leaves of v's gradient. -/
theorem outs_dv (c : Dev nD) (t : Fin cfg0.N) (l : Fin 128) (k : Fin 1024) :
    (outsAt0 m c t.val t.isLt).2.1 (ix3 0 l k) = (tl m c t).dv l k := by
  by_cases h : t.val = 0
  · rw [outs_A m c t (pt_A t h).1 (pt_A t h).2]; dsimp only; rw [In.v498_apply, inp_tile]; rfl
  · rw [outs_B m c t (pt_B t h).1 (pt_B t h).2]; dsimp only; rw [In.v498_apply, inp_tile]; rfl

/-- A sum over the 32 points is the sum over the sequences and the chunks. -/
theorem sum_points (f : Fin 2 → Fin 16 → EReal) (n : ℕ) (hn : n = 31) (h : ∀ t : Fin (n + 1), t.val < cfg0.N) :
    ∑ t : Fin (n + 1), f (pb ⟨t.val, h t⟩) (pq ⟨t.val, h t⟩) = ∑ b : Fin 2, ∑ q : Fin 16, f b q := by
  subst hn
  rw [← Fintype.sum_prod_type' f]
  refine (Equiv.sum_comp (finProdFinEquiv (m := 2) (n := 16)).symm (fun p => f p.1 p.2)).symm.trans ?_ |>.symm
  rfl

/-- Which tile window 7 is on at a point. -/
theorem idx7 : ∀ t : Fin cfg0.N, win0_7.index t = ![t.val / 16, t.val % 16, 0] :=
  (by decide +kernel : ∀ t : Fin grid0.N, _)
/-- Which tile window 8 is on at a point. -/
theorem idx8 : ∀ t : Fin cfg0.N, win0_8.index t = ![t.val / 16, t.val % 16, 0] :=
  (by decide +kernel : ∀ t : Fin grid0.N, _)

/-- An index of three axes from its parts. -/
theorem split3 (y : Shape.Idx S1x128x1024) : ∃ (l : Fin 128) (k : Fin 1024), y = ix3 0 l k := by
  idx_vars y
  obtain rfl : y0 = 0 := Subsingleton.elim _ _
  exact ⟨_, _, rfl⟩
/-- An index of two axes from its parts. -/
theorem split2 (y : Shape.Idx S1x1024) : ∃ k : Fin 1024, y = ix2 0 k := by
  idx_vars y
  obtain rfl : y0 = 0 := Subsingleton.elim _ _
  exact ⟨_, rfl⟩
/-- An index of the chunk matrices from its parts. -/
theorem split33 (y : Shape.Idx S8x128x128) : ∃ (h : Fin 8) (i j : Fin 128), y = ix3 h i j := by
  idx_vars y
  exact ⟨_, _, _, rfl⟩
/-- An index of the bias from its parts. -/
theorem split22 (y : Shape.Idx S128x128) : ∃ l x : Fin 128, y = ix2 l x := by
  idx_vars y
  exact ⟨_, _, rfl⟩

/-- The tile of a token's gradient. -/
theorem du_tok (A : Args) (b : Fin 2) (q : Fin 16) (l : Fin 128) (k : Fin 1024) :
    A.du b (tok q l) k = (A.tile b q).du l k ∧ A.dv b (tok q l) k = (A.tile b q).dv l k := by
  have e1 : chunk (tok q l) = q := Fin.ext (by have := l.isLt; simp only [chunk, tok]; omega)
  have e2 : place (tok q l) = l := Fin.ext (by have := l.isLt; simp only [place, tok]; omega)
  unfold Args.du Args.dv
  rw [e1, e2]
  exact ⟨rfl, rfl⟩

/-- The kernel leaves u's gradient. -/
theorem final_du (c : Dev nD) : (dats m 0 c).arrAt 7 cfg0.N = fun i => (args m c).du (i 0) (i 1) (i 2) := by
  refine (dats m 0 c).arrAt_eq_of_covers 7 _ (by decide +kernel) fun t hf y => ?_
  blk_simp
  rw [after0_7]
  obtain ⟨l, k, hy⟩ := split3 y
  subst hy
  refine (outs_du m c t l k).trans ((du_tok (args m c) (pb t) (pq t) l k).1.symm.trans ?_)
  congr 1 <;> refine Fin.ext ?_ <;> blk_simp [idx7 t] <;> simp [pb, pq, tok] <;> omega
/-- The kernel leaves v's gradient. -/
theorem final_dv (c : Dev nD) : (dats m 0 c).arrAt 8 cfg0.N = fun i => (args m c).dv (i 0) (i 1) (i 2) := by
  refine (dats m 0 c).arrAt_eq_of_covers 8 _ (by decide +kernel) fun t hf y => ?_
  blk_simp
  rw [after0_8]
  obtain ⟨l, k, hy⟩ := split3 y
  subst hy
  refine (outs_dv m c t l k).trans ((du_tok (args m c) (pb t) (pq t) l k).2.symm.trans ?_)
  congr 1 <;> refine Fin.ext ?_ <;> blk_simp [idx8 t] <;> simp [pb, pq, tok] <;> omega

/-- Window 9 is written back once, at the end. -/
theorem last9 : ∀ t : Fin cfg0.N, (cfg0.win 9).flush t = true → t.val = 31 ∧ win0_9.index t = ![0, 0] :=
  (by decide +kernel : ∀ t : Fin grid0.N, win0_9.flush t = true → t.val = 31 ∧ win0_9.index t = ![0, 0])
/-- Window 10 is written back once, at the end. -/
theorem last10 : ∀ t : Fin cfg0.N, (cfg0.win 10).flush t = true → t.val = 31 ∧ win0_10.index t = ![0, 0, 0] :=
  (by decide +kernel : ∀ t : Fin grid0.N, win0_10.flush t = true → t.val = 31 ∧ win0_10.index t = ![0, 0, 0])
/-- Window 11 is written back once, at the end. -/
theorem last11 : ∀ t : Fin cfg0.N, (cfg0.win 11).flush t = true → t.val = 31 ∧ win0_11.index t = ![0, 0] :=
  (by decide +kernel : ∀ t : Fin grid0.N, win0_11.flush t = true → t.val = 31 ∧ win0_11.index t = ![0, 0])
/-- Window 12 is written back once, at the end. -/
theorem last12 : ∀ t : Fin cfg0.N, (cfg0.win 12).flush t = true → t.val = 31 ∧ win0_12.index t = ![0, 0] :=
  (by decide +kernel : ∀ t : Fin grid0.N, win0_12.flush t = true → t.val = 31 ∧ win0_12.index t = ![0, 0])

/-- The kernel leaves the gradient of v's gain. -/
theorem final_dvg (c : Dev nD) : (dats m 0 c).arrAt 9 cfg0.N = fun i => (args m c).dvg (i 1) := by
  refine (dats m 0 c).arrAt_eq_of_covers 9 _ (by decide +kernel) fun t hf y => ?_
  obtain ⟨ht, hi⟩ := last9 t hf
  blk_simp
  rw [after0_9]
  obtain ⟨k, hy⟩ := split2 y
  subst hy
  refine ((sums m c t.val t.isLt).1 k).trans ((sum_points (fun b q => ((args m c).tile b q).dvg k) t.val ht _).trans ?_)
  exact congrArg (args m c).dvg (Fin.ext (by blk_simp [hi]))
/-- The kernel leaves the gradient of the chunk matrices. -/
theorem final_dws (c : Dev nD) : (dats m 0 c).arrAt 10 cfg0.N = fun i => (args m c).dws (i 0) (i 1) (i 2) := by
  refine (dats m 0 c).arrAt_eq_of_covers 10 _ (by decide +kernel) fun t hf y => ?_
  obtain ⟨ht, hi⟩ := last10 t hf
  blk_simp
  rw [after0_10]
  obtain ⟨h, i, j, hy⟩ := split33 y
  subst hy
  refine ((sums m c t.val t.isLt).2.1 h i j).trans
    ((sum_points (fun b q => ((args m c).tile b q).dws h i j) t.val ht _).trans ?_)
  refine Eq.trans (b := (args m c).dws h i j) rfl ?_
  congr 1 <;> refine Fin.ext ?_ <;> blk_simp [hi] <;> simp
/-- The kernel leaves the gradient of the bias. -/
theorem final_dbs (c : Dev nD) : (dats m 0 c).arrAt 11 cfg0.N = fun i => (args m c).dbs (i 0) (i 1) := by
  refine (dats m 0 c).arrAt_eq_of_covers 11 _ (by decide +kernel) fun t hf y => ?_
  obtain ⟨ht, hi⟩ := last11 t hf
  blk_simp
  rw [after0_11]
  obtain ⟨l, x, hy⟩ := split22 y
  subst hy
  refine ((sums m c t.val t.isLt).2.2.1 l x).trans ((sum_points
    (fun b q => if h : x.val < 8 then ((args m c).tile b q).dbs l ⟨x.val, h⟩ else 0) t.val ht _).trans ?_)
  refine Eq.trans (b := (args m c).dbs l x) ?_ ?_
  · unfold Args.dbs
    split <;> simp
  · congr 1 <;> refine Fin.ext ?_ <;> blk_simp [hi] <;> simp
/-- The kernel leaves the gradient of the output's gain. -/
theorem final_dog (c : Dev nD) : (dats m 0 c).arrAt 12 cfg0.N = fun i => (args m c).dog (i 1) := by
  refine (dats m 0 c).arrAt_eq_of_covers 12 _ (by decide +kernel) fun t hf y => ?_
  obtain ⟨ht, hi⟩ := last12 t hf
  blk_simp
  rw [after0_12]
  obtain ⟨k, hy⟩ := split2 y
  subst hy
  refine ((sums m c t.val t.isLt).2.2.2 k).trans ((sum_points (fun b q => ((args m c).tile b q).dog k) t.val ht _).trans ?_)
  exact congrArg (args m c).dog (Fin.ext (by blk_simp [hi]))
end Cert.GatingBwdIdeal.Arrays
-- ==== Proof.Sums.lean ====
module

public import proofs.«01_k».proof.Proof.Gen.GatingRefIdeal.Read
public import proofs.«01_k».proof.Proof.Forward
public import Idealize.ShloMosaic.Lib.Pointwise

@[expose] public section
set_option maxRecDepth 16384
noncomputable section
namespace Cert.GatingRefIdeal.Sums
open Cert.GatingRefIdeal Cert.GatingRefIdeal.Gen Cert.GatingRefIdeal.Read Cert.Gate
open Idealize.ShloMosaic Idealize.ShloMosaic.TcCoe Idealize.SL.Sem Idealize.ShloMosaic.StableHlo

/-- A host sum over several axes is the sum over any parameters that enumerate the source indices of the result index. -/
theorem reduce_param {s t : Shape} {axes : List (Fin s.rank)} (h : s.ReducesTo axes t) (x : s.Idx → EReal) (init : EReal)
    (j : t.Idx) {ι : Type} [Fintype ι] (f : ι → s.Idx) (hi : Function.Injective f) (hd : ∀ k, h.drop (f k) = j)
    (hs : ∀ i, h.drop i = j → ∃ k, f k = i) : Ideal.hostReduceAdd h x init j = init + ∑ k, x (f k) := by
  unfold Ideal.hostReduceAdd
  congr 1
  exact (Finset.sum_bij (fun k _ => f k) (fun k _ => Finset.mem_filter.2 ⟨Finset.mem_univ _, hd k⟩)
    (fun _ _ _ _ e => hi e) (fun i m => (hs i (Finset.mem_filter.1 m).2).imp fun k e => ⟨Finset.mem_univ _, e⟩)
    (fun _ _ => rfl)).symm

/-- A sum over the tokens, chunk by chunk. -/
theorem rows_sum (h : S2x2048x1024.ReducesTo [0, 1] S1024) (x : S2x2048x1024.Idx → EReal) (init : EReal) (k : Fin 1024) :
    Ideal.hostReduceAdd h x init (ix1 k) = init + ∑ p : Fin 2 × Fin 2048, x (ix3 p.1 p.2 k) := by
  refine reduce_param h x init _ (fun p : Fin 2 × Fin 2048 => ix3 p.1 p.2 k) ?_ ?_ ?_
  · rintro ⟨a, b⟩ ⟨c, d⟩ e
    exact Prod.ext (congrFun e 0) (congrFun e 1)
  · rintro p
    funext a
    fin_cases a
    rfl
  · intro i e
    have e0 := congrFun e 0
    idx_vars i
    refine ⟨(i0, i1), ?_⟩
    have : i2 = k := e0
    rw [this]
/-- A sum over one entry. -/
theorem unit_sum (h : S1x1x1024.ReducesTo [0, 1] S1024) (x : S1x1x1024.Idx → EReal) (init : EReal) (k : Fin 1024) :
    Ideal.hostReduceAdd h x init (ix1 k) = init + ∑ p : Unit, x (ix3 0 0 k) := by
  refine reduce_param h x init _ (fun _ : Unit => ix3 0 0 k) ?_ ?_ ?_
  · intro _ _ _; rfl
  · rintro p
    funext a
    fin_cases a
    rfl
  · intro i e
    have e0 := congrFun e 0
    idx_vars i
    refine ⟨(), ?_⟩
    have : i2 = k := e0
    rw [this, Subsingleton.elim i0 0, Subsingleton.elim i1 0]
/-- A sum over the columns, head by head. -/
theorem heads_sum (h : S2x16x128x8x128.ReducesTo [0, 1, 4] S128x8) (x : S2x16x128x8x128.Idx → EReal) (init : EReal)
    (l : Fin 128) (g : Fin 8) :
    Ideal.hostReduceAdd h x init (ix2 l g) = init + ∑ p : Fin 2 × Fin 16 × Fin 128, x (ix5 p.1 p.2.1 l g p.2.2) := by
  refine reduce_param h x init _ (fun p : Fin 2 × Fin 16 × Fin 128 => ix5 p.1 p.2.1 l g p.2.2) ?_ ?_ ?_
  · rintro ⟨a, b, c⟩ ⟨a', b', c'⟩ e
    exact Prod.ext (congrFun e 0) (Prod.ext (congrFun e 1) (congrFun e 4))
  · rintro p
    funext a
    fin_cases a <;> rfl
  · intro i e
    have e0 := congrFun e 0
    have e1 := congrFun e 1
    idx_vars i
    refine ⟨(i0, i1, i4), ?_⟩
    have h2 : i2 = l := e0
    have h3 : i3 = g := e1
    rw [h2, h3]
/-- A sum over the heads with a unit axis. -/
theorem unit_heads (h : S1x1x128x8x1.ReducesTo [0, 1, 4] S128x8) (x : S1x1x128x8x1.Idx → EReal) (init : EReal)
    (l : Fin 128) (g : Fin 8) :
    Ideal.hostReduceAdd h x init (ix2 l g) = init + ∑ p : Unit, x (ix5 0 0 l g 0) := by
  refine reduce_param h x init _ (fun p : Unit => ix5 0 0 l g 0) ?_ ?_ ?_
  · intro _ _ _; rfl
  · rintro p
    funext a
    fin_cases a <;> rfl
  · intro i e
    have e0 := congrFun e 0
    have e1 := congrFun e 1
    idx_vars i
    refine ⟨(), ?_⟩
    have h2 : i2 = l := e0
    have h3 : i3 = g := e1
    rw [h2, h3, Subsingleton.elim i0 0, Subsingleton.elim i1 0, Subsingleton.elim i4 0]

/-- The contraction over sequences, chunks and columns of a head, as a sum over them. -/
theorem dot_sum (x : S8x2x16x128x128.Idx → EReal) (y : S2x16x128x8x128.Idx → EReal) (h : Fin 8) (i j : Fin 128) :
    Ideal.matmul dot_S8x2x16x128x128_S2x16x128x8x128_S8x128x128_123_014_4_2_0_3 x y (fun _ => 0) (ix3 h i j)
      = ∑ p : Fin 2 × Fin 16 × Fin 128, x (ix5 h p.1 p.2.1 p.2.2 i) * y (ix5 p.1 p.2.1 j h p.2.2) := by
  unfold Ideal.matmul
  rw [zero_add]
  symm
  refine Fintype.sum_bijective (fun p : Fin 2 × Fin 16 × Fin 128 => (fun a => match a with
    | ⟨0, _⟩ => p.1 | ⟨1, _⟩ => p.2.1 | ⟨2, _⟩ => p.2.2 : (dot_S8x2x16x128x128_S2x16x128x8x128_S8x128x128_123_014_4_2_0_3).contr.Idx)) ⟨?_, ?_⟩ _ _ ?_
  · rintro ⟨a, b, c⟩ ⟨a', b', c'⟩ e
    exact Prod.ext (congrFun e ⟨0, by decide⟩) (Prod.ext (congrFun e ⟨1, by decide⟩) (congrFun e ⟨2, by decide⟩))
  · intro k
    refine ⟨(k ⟨0, by decide⟩, k ⟨1, by decide⟩, k ⟨2, by decide⟩), ?_⟩
    funext a
    match a with
    | ⟨0, _⟩ => rfl
    | ⟨1, _⟩ => rfl
    | ⟨2, _⟩ => rfl
  · intro p
    congr 2
    · funext a
      fin_cases a <;> rfl
    · funext a
      fin_cases a <;> rfl
end Cert.GatingRefIdeal.Sums
-- ==== Proof.Ref.lean ====
module

public import proofs.«01_k».proof.Proof.Sums

@[expose] public section
set_option maxRecDepth 16384
noncomputable section
namespace Cert.GatingRefIdeal.Whole
open Cert.GatingRefIdeal Cert.GatingRefIdeal.Gen Cert.GatingRefIdeal.Read Cert.GatingRefIdeal.Sums Cert.Gate
open Idealize.ShloMosaic Idealize.ShloMosaic.TcCoe Idealize.SL.Sem Idealize.ShloMosaic.StableHlo

variable (x0 : (⟨S2x2048x4864, .f32⟩ : BufTy).Contents (Elt Ideal)) (x1 : (⟨S1024, .f32⟩ : BufTy).Contents (Elt Ideal))
  (x2 : (⟨S8x128x128, .f32⟩ : BufTy).Contents (Elt Ideal)) (x3 : (⟨S8x128, .f32⟩ : BufTy).Contents (Elt Ideal))
  (x4 : (⟨S1024, .f32⟩ : BufTy).Contents (Elt Ideal)) (x5 : (⟨S2x2048x2048, .bf16⟩ : BufTy).Contents (Elt Ideal))

/-- The argument arrays by coordinates. -/
def args : Args where
  proj b s n := x0 (ix3 b s n)
  vg k := x1 (ix1 k)
  ws h i j := x2 (ix3 h i j)
  bs h l := x3 (ix2 h l)
  og k := x4 (ix1 k)
  dy b s n := x5 (ix3 b s n)

/-- The two programs' forms of the GELU: `erfc (-x)` is `1 + erf x`. -/
theorem cdf_erfc (x : EReal) : Ideal.erfc (-x * Ideal.ofBits .f32 0x3F3504F3#32) = cdf x := by
  rw [EReal.neg_mul, Ideal.erfc_neg]
  rfl

/-- The constant of the GELU's derivative, negated in the reference. -/
theorem const_neg : Ideal.ofBits .f32 0xBF906EBB#32 = -Ideal.ofBits .f32 0x3F906EBB#32 := by
  simp [Ideal.ofBits, Ideal.ieee]

/-- The reference's form of the gradient of the GELU. -/
theorem geluBwd_erfc (x g : EReal) :
    -(Ideal.ofBits .f32 0xBF906EBB#32 * (Ideal.ofBits .f32 0x3F000000#32 * x * g)
        * Ideal.exp (-(-x * Ideal.ofBits .f32 0x3F3504F3#32 * (-x * Ideal.ofBits .f32 0x3F3504F3#32)))
        * Ideal.ofBits .f32 0x3F3504F3#32)
      + Ideal.ofBits .f32 0x3F000000#32 * (g * Ideal.erfc (-x * Ideal.ofBits .f32 0x3F3504F3#32)) = geluBwd x g := by
  rw [cdf_erfc, const_neg]
  have e : ∀ a b : EReal, -a * -b = a * b := fun a b => by rw [EReal.neg_mul, mul_comm, EReal.neg_mul, neg_neg, mul_comm]
  rw [EReal.neg_mul x, e]
  simp only [EReal.neg_mul, neg_neg]
  rfl

/-- A bit that is 1 or 0 by a comparison, as a condition. -/
theorem select_bit (i j : Fin 128) (x : EReal) :
    Scalar.select (Scalar.select (IntOp.cmpi CmpIPredicate.sge (IntOp.addi (BitVec.ofNat 32 i.val) 0#32) (BitVec.ofNat 32 j.val)) (1#1) (0#1)) x 0
      = causal i j x := by
  have e : ∀ b : BitVec 1, Scalar.select b (1#1) (0#1) = b := by decide
  rw [e, show IntOp.addi (BitVec.ofNat 32 i.val) 0#32 = BitVec.ofNat 32 i.val from BitVec.add_zero _]
  rfl

variable (b : Fin 2) (q : Fin 16) (l : Fin 128) (k : Fin 1024)

/-- The step `13` of the computation at an index. -/
theorem v13_apply : val_main_v13 x0 (ix3 b (tok q l) k) = ((args x0 x1 x2 x3 x4 x5).tile b q).U l k := by
  pointwise [val_main_v13, val_main_v12, val_main_v4, val_main_v8, val_main_v7, val_main_v5, val_main_v0, val_main_v3, val_main_v6, val_main_cst, val_main_cst_0]
  rw [cdf_erfc]
  rfl
/-- The step `14` of the computation at an index. -/
theorem v14_apply : val_main_v14 x0 (ix3 b (tok q l) k) = ((args x0 x1 x2 x3 x4 x5).tile b q).V l k := by
  pointwise [val_main_v14, val_main_v12, val_main_v4, val_main_v8, val_main_v7, val_main_v5, val_main_v0, val_main_v3, val_main_v6, val_main_cst, val_main_cst_0]
  rw [cdf_erfc]
  simp only [show 1024 + (1024 + k.val) = 2048 + k.val from by omega]
  rfl
/-- The step `21` of the computation at an index. -/
theorem v21_apply : val_main_v21 x0 (ix3 b (tok q l) 0) = msq ((args x0 x1 x2 x3 x4 x5).tile b q).V l := by
  pointwise [val_main_v21, val_main_v20, val_main_v19, val_main_v18, val_main_v17, val_main_v16, val_main_v15, val_main_cst_1, val_main_cst_2, val_main_cst_3]
  simp only [v14_apply x0 x1 x2 x3 x4 x5]
  rfl
/-- The step `22` of the computation at an index. -/
theorem v22_apply : val_main_v22 x0 (ix3 b (tok q l) 0) = rr ((args x0 x1 x2 x3 x4 x5).tile b q).V l := by
  pointwise [val_main_v22]
  rw [v21_apply x0 x1 x2 x3 x4 x5]
  rfl
/-- The step `25` of the computation at an index. -/
theorem v25_apply : val_main_v25 x0 (ix3 b (tok q l) 0) = rd ((args x0 x1 x2 x3 x4 x5).tile b q).V l := by
  pointwise [val_main_v25, val_main_v24, val_main_cst_4, val_main_v23]
  rw [v21_apply x0 x1 x2 x3 x4 x5, v22_apply x0 x1 x2 x3 x4 x5]
  rfl
/-- The step `27` of the computation at an index. -/
theorem v27_apply : val_main_v27 x0 (ix3 b (tok q l) k) = ((args x0 x1 x2 x3 x4 x5).tile b q).V l k * rr ((args x0 x1 x2 x3 x4 x5).tile b q).V l := by
  pointwise [val_main_v27, val_main_v26]
  rw [v14_apply x0 x1 x2 x3 x4 x5, v22_apply x0 x1 x2 x3 x4 x5]
/-- The step `30` of the computation at an index. -/
theorem v30_apply : val_main_v30 x0 x1 (ix3 b (tok q l) k) = ((args x0 x1 x2 x3 x4 x5).tile b q).vn l k := by
  pointwise [val_main_v30, val_main_v29, val_main_v28]
  rw [v27_apply x0 x1 x2 x3 x4 x5]
  rfl
/-- The chunks of the normed half, by head. -/
theorem v31_apply (h : Fin 8) (d : Fin 128) :
    val_main_v31 x0 x1 (ix5 b q l h d) = ((args x0 x1 x2 x3 x4 x5).tile b q).vn l (col h d) := by
  rw [val_main_v31_apply, ← v30_apply]
  congr 1
  have := b.isLt; have := q.isLt; have := l.isLt; have := h.isLt; have := d.isLt
  funext a
  refine Fin.ext ?_
  fin_cases a <;> simp [tok, col] <;> omega
/-- The step `35` of the computation at an index. -/
theorem v35_apply (h : Fin 8) (i j : Fin 128) :
    val_main_v35_0 x2 (ix3 h i j) = ((args x0 x1 x2 x3 x4 x5).tile b q).w h i j := by
  pointwise [val_main_v35_0, val_main_v35_1, val_main_v33, val_main_v34, val_main_v32, val_main_call0_v0, val_main_call0_v1, val_main_call0_v2, val_main_call0_v3, val_main_call0_v4, val_main_call0_v5, val_main_call0_c, val_main_call0_c_0, val_main_c, val_main_cst_5]
  exact select_bit i j _
/-- The place of column `k` in its head. -/
def lane (k : Fin 1024) : Fin 128 := ⟨k.val % 128, by omega⟩
/-- A column's head and lane. -/
theorem col_lane : col (hd k) (lane k) = k := Fin.ext (by simp only [col, hd, lane]; omega)
/-- The step `43` of the computation at an index. -/
theorem v43_apply : val_main_v43 x0 x1 x2 x3 (ix3 b (tok q l) k) = ((args x0 x1 x2 x3 x4 x5).tile b q).S l k := by
  rw [val_main_v43_apply, show idx_main_v43 (ix3 b (tok q l) k) = ix5 b q l (hd k) (lane k) from by
    have := b.isLt; have := q.isLt; have := l.isLt; have := k.isLt
    funext a
    refine Fin.ext ?_
    fin_cases a <;> simp [tok, hd, lane] <;> omega]
  pointwise [val_main_v42, val_main_v41, val_main_v40, val_main_v39, val_main_v38, val_main_v37, val_main_v36]
  simp only [v31_apply x0 x1 x2 x3 x4 x5, v35_apply x0 x1 x2 x3 x4 x5 b q, col_lane]
  simp only [mul_comm (Tile.vn _ _ _)]
  rfl
/-- The step `44` of the computation at an index. -/
theorem v44_apply : val_main_v44 x0 x1 x2 x3 (ix3 b (tok q l) k) = ((args x0 x1 x2 x3 x4 x5).tile b q).O l k := by
  pointwise [val_main_v44]
  rw [v13_apply x0 x1 x2 x3 x4 x5, v43_apply x0 x1 x2 x3 x4 x5]
  rfl
/-- The step `51` of the computation at an index. -/
theorem v51_apply : val_main_v51 x0 x1 x2 x3 (ix3 b (tok q l) 0) = msq ((args x0 x1 x2 x3 x4 x5).tile b q).O l := by
  pointwise [val_main_v51, val_main_v50, val_main_v49, val_main_v48, val_main_v47, val_main_v46, val_main_v45, val_main_cst_6, val_main_cst_7, val_main_cst_8]
  simp only [v44_apply x0 x1 x2 x3 x4 x5]
  rfl
/-- The step `52` of the computation at an index. -/
theorem v52_apply : val_main_v52 x0 x1 x2 x3 (ix3 b (tok q l) 0) = rr ((args x0 x1 x2 x3 x4 x5).tile b q).O l := by
  pointwise [val_main_v52]
  rw [v51_apply x0 x1 x2 x3 x4 x5]
  rfl
/-- The step `55` of the computation at an index. -/
theorem v55_apply : val_main_v55 x0 x1 x2 x3 (ix3 b (tok q l) 0) = rd ((args x0 x1 x2 x3 x4 x5).tile b q).O l := by
  pointwise [val_main_v55, val_main_v54, val_main_cst_9, val_main_v53]
  rw [v51_apply x0 x1 x2 x3 x4 x5, v52_apply x0 x1 x2 x3 x4 x5]
  rfl
/-- The step `2` of the computation at an index. -/
theorem v2_apply : val_main_v2 x5 (ix3 b (tok q l) k) = ((args x0 x1 x2 x3 x4 x5).tile b q).ct l k := by
  pointwise [val_main_v2, val_main_v1]
  rfl
/-- The step `61` of the computation at an index. -/
theorem v61_apply : val_main_v61 x0 x1 x2 x3 x5 (ix3 b (tok q l) k)
    = ((args x0 x1 x2 x3 x4 x5).tile b q).O l k * rr ((args x0 x1 x2 x3 x4 x5).tile b q).O l * ((args x0 x1 x2 x3 x4 x5).tile b q).ct l k := by
  pointwise [val_main_v61, val_main_v57, val_main_v56]
  rw [v44_apply x0 x1 x2 x3 x4 x5, v52_apply x0 x1 x2 x3 x4 x5, v2_apply x0 x1 x2 x3 x4 x5]
/-- The step `65` of the computation at an index. -/
theorem v65_apply : val_main_v65 x4 x5 (ix3 b (tok q l) k) = ((args x0 x1 x2 x3 x4 x5).tile b q).G l k := by
  pointwise [val_main_v65, val_main_v64, val_main_v58]
  rw [v2_apply x0 x1 x2 x3 x4 x5]
  rfl
/-- The step `75` of the computation at an index. -/
theorem v75_apply : val_main_v75 x0 x1 x2 x3 x4 x5 (ix2 b (tok q l))
    = rk ((args x0 x1 x2 x3 x4 x5).tile b q).O ((args x0 x1 x2 x3 x4 x5).tile b q).G l := by
  pointwise [val_main_v75, val_main_v74, val_main_v73, val_main_v72, val_main_v69, val_main_v68, val_main_v67, val_main_cst_12, val_main_cst_13, val_main_cst_14]
  rw [Fin.sum_univ_one]
  simp only [v44_apply x0 x1 x2 x3 x4 x5, v65_apply x0 x1 x2 x3 x4 x5, v55_apply x0 x1 x2 x3 x4 x5]
  rfl
/-- The step `80` of the computation at an index. -/
theorem v80_apply : val_main_v80 x0 x1 x2 x3 x4 x5 (ix3 b (tok q l) k) = ((args x0 x1 x2 x3 x4 x5).tile b q).dO l k := by
  pointwise [val_main_v80, val_main_v79, val_main_v78, val_main_v77, val_main_v76, val_main_v71, val_main_v70]
  simp only [v44_apply x0 x1 x2 x3 x4 x5, v65_apply x0 x1 x2 x3 x4 x5, v52_apply x0 x1 x2 x3 x4 x5, v75_apply x0 x1 x2 x3 x4 x5]
  rfl
/-- The step `81` of the computation at an index. -/
theorem v81_apply : val_main_v81 x0 x1 x2 x3 x4 x5 (ix3 b (tok q l) k) = ((args x0 x1 x2 x3 x4 x5).tile b q).dS l k := by
  pointwise [val_main_v81]
  rw [v13_apply x0 x1 x2 x3 x4 x5, v80_apply]
  rfl
/-- The step `82` of the computation at an index. -/
theorem v82_apply : val_main_v82 x0 x1 x2 x3 x4 x5 (ix3 b (tok q l) k) = ((args x0 x1 x2 x3 x4 x5).tile b q).dU l k := by
  pointwise [val_main_v82]
  rw [v43_apply x0 x1 x2 x3 x4 x5, v80_apply]
  rfl
/-- The step `83` of the computation at an index. -/
theorem v83_apply (h : Fin 8) (d : Fin 128) :
    val_main_v83 x0 x1 x2 x3 x4 x5 (ix5 b q l h d) = ((args x0 x1 x2 x3 x4 x5).tile b q).dS l (col h d) := by
  rw [val_main_v83_apply, ← v81_apply]
  congr 1
  have := b.isLt; have := q.isLt; have := l.isLt; have := h.isLt; have := d.isLt
  funext a
  refine Fin.ext ?_
  fin_cases a <;> simp [tok, col] <;> omega
/-- The step `95` of the computation at an index. -/
theorem v95_apply : val_main_v95 x0 x1 x2 x3 x4 x5 (ix3 b (tok q l) k) = ((args x0 x1 x2 x3 x4 x5).tile b q).dvn l k := by
  rw [val_main_v95_apply, show idx_main_v95 (ix3 b (tok q l) k) = ix5 b q l (hd k) (lane k) from by
    have := b.isLt; have := q.isLt; have := l.isLt; have := k.isLt
    funext a
    refine Fin.ext ?_
    fin_cases a <;> simp [tok, hd, lane] <;> omega]
  pointwise [val_main_v93, val_main_v92, val_main_v90]
  simp only [v83_apply x0 x1 x2 x3 x4 x5, v35_apply x0 x1 x2 x3 x4 x5 b q, col_lane]
  simp only [mul_comm (Tile.dS _ _ _)]
  rfl
/-- The step `96` of the computation at an index. -/
theorem v96_apply : val_main_v96 x0 x1 x2 x3 x4 x5 (ix3 b (tok q l) k)
    = ((args x0 x1 x2 x3 x4 x5).tile b q).V l k * rr ((args x0 x1 x2 x3 x4 x5).tile b q).V l * ((args x0 x1 x2 x3 x4 x5).tile b q).dvn l k := by
  pointwise [val_main_v96]
  rw [v27_apply x0 x1 x2 x3 x4 x5, v95_apply]
/-- The step `100` of the computation at an index. -/
theorem v100_apply : val_main_v100 x0 x1 x2 x3 x4 x5 (ix3 b (tok q l) k)
    = ((args x0 x1 x2 x3 x4 x5).tile b q).dvn l k * ((args x0 x1 x2 x3 x4 x5).tile b q).vg k := by
  pointwise [val_main_v100, val_main_v99, val_main_v28]
  rw [v95_apply]
  rfl
/-- The step `110` of the computation at an index. -/
theorem v110_apply : val_main_v110 x0 x1 x2 x3 x4 x5 (ix2 b (tok q l))
    = rk ((args x0 x1 x2 x3 x4 x5).tile b q).V
        (fun l c => ((args x0 x1 x2 x3 x4 x5).tile b q).dvn l c * ((args x0 x1 x2 x3 x4 x5).tile b q).vg c) l := by
  pointwise [val_main_v110, val_main_v109, val_main_v108, val_main_v107, val_main_v104, val_main_v103, val_main_v102, val_main_cst_20, val_main_cst_21, val_main_cst_22]
  rw [Fin.sum_univ_one]
  simp only [v14_apply x0 x1 x2 x3 x4 x5, v100_apply x0 x1 x2 x3 x4 x5, v25_apply x0 x1 x2 x3 x4 x5]
  rfl
/-- The step `115` of the computation at an index. -/
theorem v115_apply : val_main_v115 x0 x1 x2 x3 x4 x5 (ix3 b (tok q l) k) = ((args x0 x1 x2 x3 x4 x5).tile b q).dV l k := by
  pointwise [val_main_v115, val_main_v114, val_main_v113, val_main_v112, val_main_v111, val_main_v106, val_main_v105]
  simp only [v14_apply x0 x1 x2 x3 x4 x5, v100_apply x0 x1 x2 x3 x4 x5, v22_apply x0 x1 x2 x3 x4 x5, v110_apply x0 x1 x2 x3 x4 x5]
  rfl
/-- The left half of the gradient. -/
theorem v116_left : val_main_v116 x0 x1 x2 x3 x4 x5 (ix3 b (tok q l) ⟨k.val, by omega⟩) = ((args x0 x1 x2 x3 x4 x5).tile b q).dU l k := by
  rw [← v82_apply]
  pointwise [val_main_v116]
/-- The right half of the gradient. -/
theorem v116_right : val_main_v116 x0 x1 x2 x3 x4 x5 (ix3 b (tok q l) ⟨1024 + k.val, by omega⟩) = ((args x0 x1 x2 x3 x4 x5).tile b q).dV l k := by
  rw [← v115_apply]
  pointwise [val_main_v116]
/-- The step `129` of the computation at an index. -/
theorem v129_apply : val_main_v129 x0 x1 x2 x3 x4 x5 (ix3 b (tok q l) k) = ((args x0 x1 x2 x3 x4 x5).tile b q).du l k := by
  pointwise [val_main_v129, val_main_v128, val_main_v127, val_main_v126, val_main_v125, val_main_v124, val_main_v123, val_main_v122, val_main_v121, val_main_v120, val_main_v119, val_main_v118, val_main_v117, val_main_v11, val_main_v10, val_main_v9, val_main_v8, val_main_v7, val_main_v6, val_main_v5, val_main_v4, val_main_v3, val_main_v0, val_main_cst, val_main_cst_0, val_main_cst_23, val_main_cst_24, val_main_cst_25]
  rw [v116_left, geluBwd_erfc]
  rfl
/-- The step `130` of the computation at an index. -/
theorem v130_apply : val_main_v130 x0 x1 x2 x3 x4 x5 (ix3 b (tok q l) k) = ((args x0 x1 x2 x3 x4 x5).tile b q).dv l k := by
  pointwise [val_main_v130, val_main_v128, val_main_v127, val_main_v126, val_main_v125, val_main_v124, val_main_v123, val_main_v122, val_main_v121, val_main_v120, val_main_v119, val_main_v118, val_main_v117, val_main_v11, val_main_v10, val_main_v9, val_main_v8, val_main_v7, val_main_v6, val_main_v5, val_main_v4, val_main_v3, val_main_v0, val_main_cst, val_main_cst_0, val_main_cst_23, val_main_cst_24, val_main_cst_25]
  rw [v116_right, geluBwd_erfc]
  simp only [show 1024 + (1024 + k.val) = 2048 + k.val from by omega]
  rfl

/-- A token's chunk and place. -/
theorem tok_chunk (s : Fin 2048) : tok (chunk s) (place s) = s := Fin.ext (by simp only [tok, chunk, place]; omega)
/-- A sum over the tokens of a sequence, chunk by chunk. -/
theorem sum_tok (f : Fin 2048 → EReal) : ∑ s, f s = ∑ q : Fin 16, ∑ l : Fin 128, f (tok q l) := by
  rw [← Fintype.sum_prod_type']
  refine (Fintype.sum_bijective (fun p : Fin 16 × Fin 128 => tok p.1 p.2) ⟨?_, fun s => ⟨(chunk s, place s), tok_chunk s⟩⟩ _ _
    fun _ => rfl).symm
  rintro ⟨a, c⟩ ⟨a', c'⟩ e
  have e' := congrArg Fin.val e
  simp only [tok] at e'
  have := c.isLt
  have := c'.isLt
  exact Prod.ext (Fin.ext (by show a.val = a'.val; omega)) (Fin.ext (by show c.val = c'.val; omega))

/-- The reference's u's gradient. -/
theorem result_du (i : S2x2048x1024.Idx) : val_main_v129 x0 x1 x2 x3 x4 x5 i = (args x0 x1 x2 x3 x4 x5).du (i 0) (i 1) (i 2) := by
  idx_vars i
  have e := v129_apply x0 x1 x2 x3 x4 x5 i0 (chunk i1) (place i1) i2
  rw [tok_chunk] at e
  exact e
/-- The reference's v's gradient. -/
theorem result_dv (i : S2x2048x1024.Idx) : val_main_v130 x0 x1 x2 x3 x4 x5 i = (args x0 x1 x2 x3 x4 x5).dv (i 0) (i 1) (i 2) := by
  idx_vars i
  have e := v130_apply x0 x1 x2 x3 x4 x5 i0 (chunk i1) (place i1) i2
  rw [tok_chunk] at e
  exact e
/-- A mask on a sum is the mask on each summand. -/
theorem causal_sum {ι : Type} [Fintype ι] (i j : Fin 128) (f : ι → EReal) : causal i j (∑ p, f p) = ∑ p, causal i j (f p) := by
  unfold causal Scalar.select
  split <;> simp

/-- The reference's gradient of v's gain. -/
theorem result_dvg (i : S1x1024.Idx) : val_main_v131 x0 x1 x2 x3 x4 x5 i = (args x0 x1 x2 x3 x4 x5).dvg (i 1) := by
  idx_vars i
  obtain rfl : i0 = 0 := Subsingleton.elim _ _
  pointwise [val_main_v131, val_main_v101, val_main_cst_19]
  rw [unit_sum]
  pointwise [val_main_v98, val_main_v97, val_main_cst_18]
  rw [rows_sum]
  simp only [Fintype.sum_prod_type, sum_tok, v96_apply, zero_add, Finset.univ_unique, Finset.sum_singleton]
  rfl
/-- The reference's gradient of the output's gain. -/
theorem result_dog (i : S1x1024.Idx) : val_main_v134 x0 x1 x2 x3 x5 i = (args x0 x1 x2 x3 x4 x5).dog (i 1) := by
  idx_vars i
  obtain rfl : i0 = 0 := Subsingleton.elim _ _
  pointwise [val_main_v134, val_main_v66, val_main_cst_11]
  rw [unit_sum]
  pointwise [val_main_v63, val_main_v62, val_main_cst_10]
  rw [rows_sum]
  simp only [Fintype.sum_prod_type, sum_tok, v61_apply x0 x1 x2 x3 x4 x5, zero_add, Finset.univ_unique, Finset.sum_singleton]
  rfl
/-- The reference's gradient of the chunk matrices. -/
theorem result_dws (i : S8x128x128.Idx) : val_main_v94 x0 x1 x2 x3 x4 x5 i = (args x0 x1 x2 x3 x4 x5).dws (i 0) (i 1) (i 2) := by
  idx_vars i
  pointwise [val_main_v94, val_main_v91, val_main_call2_v0, val_main_call2_cst, val_main_v35_1, val_main_v33, val_main_v34, val_main_v32, val_main_call0_v0, val_main_call0_v1, val_main_call0_v2, val_main_call0_v3, val_main_call0_v4, val_main_call0_v5, val_main_call0_c, val_main_call0_c_0, val_main_c, val_main_cst_5]
  rw [select_bit, dot_sum]
  have e : ∀ (b : Fin 2) (q : Fin 16) (d : Fin 128),
      val_main_v90 x0 x1 x2 x3 x4 x5 (ix5 i0 b q d i1) = ((args x0 x1 x2 x3 x4 x5).tile b q).dS i1 (col i0 d) := fun b q d => by
    rw [← v83_apply]
    pointwise [val_main_v90]
  simp only [e, v31_apply x0 x1 x2 x3 x4 x5, Fintype.sum_prod_type, causal_sum]
  unfold Args.dws Tile.dws
  simp only [causal_sum]
/-- The reference's gradient of the bias. -/
theorem result_dbs (i : S128x128.Idx) : val_main_v133 x0 x1 x2 x3 x4 x5 i = (args x0 x1 x2 x3 x4 x5).dbs (i 0) (i 1) := by
  idx_vars i
  have e : ∀ h : Fin 8, val_main_v85 x0 x1 x2 x3 x4 x5 (ix5 0 0 i0 h 0)
      = ∑ b : Fin 2, ∑ q : Fin 16, ((args x0 x1 x2 x3 x4 x5).tile b q).dbs i0 h := fun h => by
    pointwise [val_main_v85, val_main_v84, val_main_cst_15]
    rw [heads_sum]
    simp only [Fintype.sum_prod_type, v83_apply, zero_add]
    rfl
  pointwise [val_main_v133, val_main_v132, val_main_v89, val_main_v88, val_main_v87, val_main_v86, val_main_call3_v0, val_main_c_26, val_main_cst_16, val_main_cst_17]
  simp only [unit_heads, e, zero_add, Finset.univ_unique, Finset.sum_singleton]
  unfold Args.dbs
  refine dite_congr rfl (fun _ => rfl) fun _ => ?_
  show (((0#32).toInt : ℝ) : EReal) = 0
  simp
end Cert.GatingRefIdeal.Whole
-- ==== Proof.Equal.lean ====
module

public import proofs.«01_k».proof.Defs
public import proofs.«01_k».proof.Proof.Arrays
public import proofs.«01_k».proof.Proof.Ref

/-!
The gradient of the gate: the kernel and the reference write the same arrays.
-/

@[expose] public section
noncomputable section
namespace Cert.Gate
open Idealize.ShloMosaic Idealize.ShloMosaic.TcCoe Idealize.SL.Sem

/-- On arguments that agree, the kernel and the reference both run and end with equal gradients. -/
theorem equal : Cert.algebraic_GatingBwdIdeal_GatingRefIdeal := by
  intro m g m' g' _ agree
  have ha : ∀ c, Cert.GatingRefIdeal.Whole.args (StableHlo.launchContents m' c (Proc.devRef .tc Cert.GatingRefIdeal.main_arg0)) (StableHlo.launchContents m' c (Proc.devRef .tc Cert.GatingRefIdeal.main_arg1)) (StableHlo.launchContents m' c (Proc.devRef .tc Cert.GatingRefIdeal.main_arg2)) (StableHlo.launchContents m' c (Proc.devRef .tc Cert.GatingRefIdeal.main_arg3)) (StableHlo.launchContents m' c (Proc.devRef .tc Cert.GatingRefIdeal.main_arg4)) (StableHlo.launchContents m' c (Proc.devRef .tc Cert.GatingRefIdeal.main_arg5))
      = Cert.GatingBwdIdeal.Arrays.args m c := fun c => by
    obtain ⟨h0, h1, h2, h3, h4, h5⟩ := agree c
    rw [show StableHlo.launchContents m' c (Proc.devRef .tc Cert.GatingRefIdeal.main_arg0) = m ((c.tc : Thread Cert.GatingBwdIdeal.nD Cert.GatingBwdIdeal.τ).loc Cert.GatingBwdIdeal.main_arg0) from h0]
    rw [show StableHlo.launchContents m' c (Proc.devRef .tc Cert.GatingRefIdeal.main_arg1) = m ((c.tc : Thread Cert.GatingBwdIdeal.nD Cert.GatingBwdIdeal.τ).loc Cert.GatingBwdIdeal.main_arg1) from h1]
    rw [show StableHlo.launchContents m' c (Proc.devRef .tc Cert.GatingRefIdeal.main_arg2) = m ((c.tc : Thread Cert.GatingBwdIdeal.nD Cert.GatingBwdIdeal.τ).loc Cert.GatingBwdIdeal.main_arg2) from h2]
    rw [show StableHlo.launchContents m' c (Proc.devRef .tc Cert.GatingRefIdeal.main_arg3) = m ((c.tc : Thread Cert.GatingBwdIdeal.nD Cert.GatingBwdIdeal.τ).loc Cert.GatingBwdIdeal.main_arg3) from h3]
    rw [show StableHlo.launchContents m' c (Proc.devRef .tc Cert.GatingRefIdeal.main_arg4) = m ((c.tc : Thread Cert.GatingBwdIdeal.nD Cert.GatingBwdIdeal.τ).loc Cert.GatingBwdIdeal.main_arg4) from h4]
    rw [show StableHlo.launchContents m' c (Proc.devRef .tc Cert.GatingRefIdeal.main_arg5) = m ((c.tc : Thread Cert.GatingBwdIdeal.nD Cert.GatingBwdIdeal.τ).loc Cert.GatingBwdIdeal.main_arg5) from h5]
    rfl
  refine ⟨fun c i => (Cert.GatingBwdIdeal.Arrays.args m c).du (i 0) (i 1) (i 2),
    fun c i => (Cert.GatingBwdIdeal.Arrays.args m c).dv (i 0) (i 1) (i 2),
    fun c i => (Cert.GatingBwdIdeal.Arrays.args m c).dvg (i 1),
    fun c i => (Cert.GatingBwdIdeal.Arrays.args m c).dws (i 0) (i 1) (i 2),
    fun c i => (Cert.GatingBwdIdeal.Arrays.args m c).dbs (i 0) (i 1),
    fun c i => (Cert.GatingBwdIdeal.Arrays.args m c).dog (i 1), ?_, ?_⟩
  · refine (θ_run _ _ _).mono (fun r h c => ?_) (Cert.GatingBwdIdeal.Value.run_blocks m g)
    obtain ⟨h0, h1, h2, h3, h4, h5, hk⟩ := h c
    exact ⟨h0.trans (Cert.GatingBwdIdeal.Arrays.final_du m c), h1.trans (Cert.GatingBwdIdeal.Arrays.final_dv m c),
      h2.trans (Cert.GatingBwdIdeal.Arrays.final_dvg m c), h3.trans (Cert.GatingBwdIdeal.Arrays.final_dws m c),
      h4.trans (Cert.GatingBwdIdeal.Arrays.final_dbs m c), h5.trans (Cert.GatingBwdIdeal.Arrays.final_dog m c), hk⟩
  · refine (θ_run _ _ _).mono (fun r h c => ?_) (Cert.GatingRefIdeal.Value.run m' g')
    obtain ⟨h0, h1, h2, h3, h4, h5, hk⟩ := h c
    refine ⟨h0.trans ?_, h1.trans ?_, h2.trans ?_, h3.trans ?_, h4.trans ?_, h5.trans ?_, hk⟩
    · rw [Cert.GatingRefIdeal.Read.val_main_v129_eq]
      exact funext fun i => (Cert.GatingRefIdeal.Whole.result_du _ _ _ _ _ _ i).trans (by rw [ha])
    · rw [Cert.GatingRefIdeal.Read.val_main_v130_eq]
      exact funext fun i => (Cert.GatingRefIdeal.Whole.result_dv _ _ _ _ _ _ i).trans (by rw [ha])
    · rw [Cert.GatingRefIdeal.Read.val_main_v131_eq]
      exact funext fun i => (Cert.GatingRefIdeal.Whole.result_dvg _ _ _ _ _ _ i).trans (by rw [ha])
    · rw [Cert.GatingRefIdeal.Read.val_main_v94_eq]
      exact funext fun i => (Cert.GatingRefIdeal.Whole.result_dws _ _ _ _ _ _ i).trans (by rw [ha])
    · rw [Cert.GatingRefIdeal.Read.val_main_v133_eq]
      exact funext fun i => (Cert.GatingRefIdeal.Whole.result_dbs _ _ _ _ _ _ i).trans (by rw [ha])
    · rw [Cert.GatingRefIdeal.Read.val_main_v134_eq]
      exact funext fun i => (Cert.GatingRefIdeal.Whole.result_dog _ _ _ _ (StableHlo.launchContents m' c (Proc.devRef .tc Cert.GatingRefIdeal.main_arg4)) _ i).trans (by rw [ha])

/-- The reference runs and leaves its arguments as they were. -/
theorem frame_ref : Cert.quiescent_GatingRefIdeal := fun m ρ _ =>
  (θ_run Cert.GatingRefIdeal.defs _ _).mono (fun r h => ⟨fun c => (h c).2.2.2.2.2.2, sem_eq_zero_of_no_sems (by decide) r.2⟩)
    (Cert.GatingRefIdeal.Value.run (F := Ideal) m ρ)
end Cert.Gate
-- ==== Proof.WInFwd.lean ====
module

public import proofs.«01_k».proof.Proof.Gen.WInFwdIdeal.Value
public import proofs.«01_k».proof.Proof.Gen.WInFwdRefIdeal.Run
public import proofs.«01_k».proof.Proof.Gen.WInFwdRefIdeal.Read
public import proofs.«01_k».proof.Proof.Product
public import proofs.«01_k».proof.Defs

@[expose] public section

set_option maxRecDepth 16384

noncomputable section

namespace Cert.WInFwdIdeal.Tiles

open Cert.WInFwdIdeal Cert.WInFwdIdeal.Gen Cert.WInFwdIdeal.Value Cert.Product
open Idealize.ShloMosaic Idealize.ShloMosaic.TcCoe Idealize.SL.Sem

variable (m : (ℓ : Loc nD τ sig) → Buf (Elt Ideal) ℓ)

/-- What a tile computes is the product of its two blocks. -/
theorem tile_product (x : FVec Ideal S2048x1024 .bf16) (y : FVec Ideal S1024x256 .bf16) (l : Fin 2048) (j : Fin 256) :
    (k0_pay1 (F := Ideal) x y (ix2 l j) : EReal) = ∑ k : Fin 1024, x (ix2 l k) * y (ix2 k j) := by
  pointwise [k0_pay1]

/-- Every tile writes its own product out. -/
theorem out_tile (c : Dev nD) (t : Fin cfg0.N) : outsAt0 m c t = k0_pay1 (iblk m c 0 t) (iblk m c 1 t) := by
  unfold outsAt0 out0_A_2
  refine (View.read_writes_eq_canon _ _ _ (by intro y; exact cover0_A_2 (y := y) c ..)).trans ?_
  unfold kernelRun0_A; dsimp only; sl_unfold_words
  simp only [View.readAt_eq_ld, (hs0_0 _).read_unread, (hs0_1 _).read_unread, View.ld_unit_zero (S := S2048x1024) off2, View.ld_unit_zero (S := S1024x256) off2]
  rw [View.canon_unit_zero off2]

/-- Which tile window 0 is on at a point. -/
theorem idx0 : ∀ t : Fin cfg0.N, win0_0.index t = ![t.val / 19, 0] := (by decide +kernel : ∀ t : Fin grid0.N, _)

/-- Which tile window 1 is on at a point. -/
theorem idx1 : ∀ t : Fin cfg0.N, win0_1.index t = ![0, t.val % 19] := (by decide +kernel : ∀ t : Fin grid0.N, _)

/-- Which tile window 2 is on at a point. -/
theorem idx2 : ∀ t : Fin cfg0.N, win0_2.index t = ![t.val / 19, t.val % 19] := (by decide +kernel : ∀ t : Fin grid0.N, _)

/-- The tile of the first matrix at a point of the grid. -/
theorem blk0 (c : Dev nD) (t : Fin cfg0.N) (l : Fin 2048) (k : Fin 1024) :
    iblk m c 0 t (ix2 l k) = ent (V m c main_v0) (t.val / 19 * 2048 + l.val) k.val := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (k : Fin 1024) (j : Fin 256) :
    iblk m c 1 t (ix2 k j) = ent (V m c main_arg1) k.val (t.val % 19 * 256 + j.val) := by
  have ht := lt_of_lt_of_eq t.isLt N_0
  unfold ent
  rw [dif_pos ⟨by omega, by omega⟩]
  blk_ext! [iblk, idx1 t]

/-- The array the kernel leaves, over the arrays its call is given. -/
theorem left (c : Dev nD) : (dats m 0 c).arrAt 2 cfg0.N = prodNN (V m c main_v0) (V m c main_arg1) := by
  refine Eq.trans ?_ (range_nn (V m c main_v0) (V m c main_arg1))
  refine (dats m 0 c).arrAt_eq_of_covers 2 _ (by decide +kernel) fun t hf y => ?_
  blk_simp
  rw [after0_2, out_tile m c t]
  obtain ⟨l, j, rfl⟩ := split2 y
  have e0 : win0_2.index t 0 * 2048 + (ix2 l j 0).val = (t.val / 19 * 2048 + l.val) := by rw [idx2 t]; rfl
  have e1 : win0_2.index t 1 * 256 + (ix2 l j 1).val = (t.val % 19 * 256 + j.val) := by rw [idx2 t]; rfl
  rw [e0, e1, Finset.sum_range]
  refine (tile_product _ _ l j).trans ?_
  simp only [blk0, blk1]

/-- An argument's two leading axes are read as one. -/
theorem v0_flat (c : Dev nD) : V m c main_v0 = flat (m ((c : Thread nD τ).loc main_arg0)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodNN (flat (m ((c : Thread nD τ).loc main_arg0))) (m ((c : Thread nD τ).loc main_arg1)) := by
  rw [left, v0_flat, V_main_arg1]

end Cert.WInFwdIdeal.Tiles

namespace Cert.WInFwdRefIdeal.Whole

open Cert.WInFwdRefIdeal Cert.WInFwdRefIdeal.Read Cert.Product
open Idealize.ShloMosaic Idealize.ShloMosaic.TcCoe Idealize.SL.Sem

/-- The reference's product is that same product. -/
theorem result (a : FVec Ideal S2x2048x1024 .bf16) (w : FVec Ideal S1024x4864 .bf16) : val_main_v3 (F := Ideal) a w = prodNN (flat a) w := by
  funext i
  obtain ⟨i, j, rfl⟩ := split2 i
  pointwise [val_main_v3, val_main_v2, val_main_v1, val_main_v0]
  rfl

end Cert.WInFwdRefIdeal.Whole

namespace Cert.WInFwd

open Idealize.ShloMosaic Idealize.ShloMosaic.TcCoe Idealize.SL.Sem Cert.Product

/-- On arguments that agree, the kernel and the reference both run and end with equal results. -/
theorem equal : Cert.algebraic_WInFwdIdeal_WInFwdRefIdeal := by
  intro m g m' g' _ agree
  refine ⟨fun c => (WInFwdIdeal.Gen.dats m 0 c).arrAt 2 WInFwdIdeal.cfg0.N, WInFwdIdeal.Value.run_blocks m g, ?_⟩
  refine (θ_run _ _ _).mono (fun r h c => ⟨(h c).1.trans ?_, (h c).2⟩) (WInFwdRefIdeal.Value.run m' g')
  obtain ⟨h0, h1⟩ := agree c
  rw [WInFwdRefIdeal.Read.val_main_v3_eq, h0, h1]
  exact (WInFwdRefIdeal.Whole.result _ _).trans (WInFwdIdeal.Tiles.final m c).symm

/-- The reference runs and leaves its arguments as they were. -/
theorem ref_frame : Cert.quiescent_WInFwdRefIdeal := fun m ρ _ =>
  (θ_run Cert.WInFwdRefIdeal.defs _ _).mono (fun r h => ⟨fun c => (h c).2, sem_eq_zero_of_no_sems (by decide) r.2⟩)
    (Cert.WInFwdRefIdeal.Value.run (F := Ideal) m ρ)

end Cert.WInFwd
-- ==== Proof.WInDx.lean ====
module

public import proofs.«01_k».proof.Proof.Gen.WInDxIdeal.Value
public import proofs.«01_k».proof.Proof.Gen.WInDxRefIdeal.Run
public import proofs.«01_k».proof.Proof.Gen.WInDxRefIdeal.Read
public import proofs.«01_k».proof.Proof.Product
public import proofs.«01_k».proof.Defs

@[expose] public section

set_option maxRecDepth 16384

noncomputable section

namespace Cert.WInDxIdeal.Tiles

open Cert.WInDxIdeal Cert.WInDxIdeal.Gen Cert.WInDxIdeal.Value Cert.Product
open Idealize.ShloMosaic Idealize.ShloMosaic.TcCoe Idealize.SL.Sem

variable (m : (ℓ : Loc nD τ sig) → Buf (Elt Ideal) ℓ)

/-- The first tile of a block starts its sum. -/
theorem acc_first (c : Dev nD) (t : Fin cfg0.N) (h0 : t.val % 2 = 0) :
    (outsAt0 m c t.val t.isLt).2 = k0_pay2 (iblk m c 0 t) (iblk m c 1 t) := by
  rw [outsAt0_A m c t h0 (by omega) (by omega)]
  dsimp only
  unfold sout0_A_0
  refine (View.read_writes_eq_canon _ _ _ (by intro y; exact scover0_A_0 (y := y) c ..)).trans ?_
  unfold kernelRun0_A; dsimp only; sl_unfold_words
  simp only [View.readAt_eq_ld, (hs0_0 _).read_unread, (hs0_1 _).read_unread, View.ld_unit_zero (S := S512x2432) off2, View.ld_unit_zero (S := S1024x2432) off2]
  rw [View.canon_unit_zero off2]

/-- A later tile adds to it. -/
theorem acc_next (c : Dev nD) (t : Fin cfg0.N) (h0 : ¬t.val % 2 = 0) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h0 (by omega) (by omega)]
  dsimp only
  unfold sout0_B_0
  refine (View.read_writes_eq_canon _ _ _ (by intro y; exact scover0_B_0 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S512x2432) off2, View.ld_unit_zero (S := S1024x2432) off2, View.ld_unit_zero (S := S512x1024) off2]
  rw [View.canon_unit_zero off2]

/-- The last tile of a block writes the sum out. -/
theorem out_last (c : Dev nD) (t : Fin cfg0.N) (h2 : t.val % 2 = 1) :
    (outsAt0 m c t.val t.isLt).1 = k0_pay4 (outsAt0 m c t.val t.isLt).2 := by
  rw [acc_next m c t (by omega), outsAt0_B m c t (by omega) (by omega) (by omega)]
  dsimp only
  unfold out0_B_2
  refine (View.read_writes_eq_canon _ _ _ (by intro y; exact cover0_B_2 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S512x2432) off2, View.ld_unit_zero (S := S1024x2432) off2, View.ld_unit_zero (S := S512x1024) off2]
  rw [View.canon_unit_zero off2, View.readCov_cons_toLoadRect]

/-- Which tile window 0 is on at a point. -/
theorem idx0 : ∀ t : Fin cfg0.N, win0_0.index t = ![t.val / 2, t.val % 2] := (by decide +kernel : ∀ t : Fin grid0.N, _)

/-- Which tile window 1 is on at a point. -/
theorem idx1 : ∀ t : Fin cfg0.N, win0_1.index t = ![0, t.val % 2] := (by decide +kernel : ∀ t : Fin grid0.N, _)

/-- Which tile window 2 is on at a point. -/
theorem idx2 : ∀ t : Fin cfg0.N, win0_2.index t = ![t.val / 2, 0] := (by decide +kernel : ∀ t : Fin grid0.N, _)

/-- The tile of the first matrix at a point of the grid. -/
theorem blk0 (c : Dev nD) (t : Fin cfg0.N) (l : Fin 512) (k : Fin 2432) :
    iblk m c 0 t (ix2 l k) = ent (V m c main_v0) (t.val / 2 * 512 + l.val) (t.val % 2 * 2432 + k.val) := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (j : Fin 1024) (k : Fin 2432) :
    iblk m c 1 t (ix2 j k) = ent (V m c main_arg0) j.val (t.val % 2 * 2432 + k.val) := by
  have ht := lt_of_lt_of_eq t.isLt N_0
  unfold ent
  rw [dif_pos ⟨by omega, by omega⟩]
  blk_ext! [iblk, idx1 t]

/-- What the sum of a block holds after each of its tiles. -/
theorem acc_eq (c : Dev nD) (l : Fin 512) (j : Fin 1024) : ∀ n h, (outsAt0 m c n h).2 (ix2 l j)
    = ∑ k ∈ Finset.range ((n % 2 + 1) * 2432), ent (V m c main_v0) (n / 2 * 512 + l.val) k * ent (V m c main_arg0) j.val k := by
  refine running (by norm_num) (fun n h => (outsAt0 m c n h).2 (ix2 l j))
    (fun q k => ent (V m c main_v0) (q * 512 + l.val) k * ent (V m c main_arg0) j.val k) (fun n h hn => ?_) (fun n h hn => ?_)
  · rw [acc_first m c ⟨n, h⟩ hn, Finset.sum_range]
    pointwise [k0_pay2, k0_pay1]
    simp only [blk0, blk1, hn, Nat.zero_mul, Nat.zero_add]
  · rw [acc_next m c ⟨n, h⟩ hn, Finset.sum_range]
    pointwise [k0_pay3, k0_pay1]
    simp only [blk0, blk1]

/-- The array the kernel leaves, over the arrays its call is given. -/
theorem left (c : Dev nD) : (dats m 0 c).arrAt 2 cfg0.N = prodNT (V m c main_v0) (V m c main_arg0) := by
  refine Eq.trans ?_ (range_nt (V m c main_v0) (V m c main_arg0))
  refine (dats m 0 c).arrAt_eq_of_covers 2 _ (by decide +kernel) fun t hf y => ?_
  have h3 := (flush0_2 t).1 hf
  blk_simp
  rw [after0_2, out_last m c t h3]
  obtain ⟨l, j, rfl⟩ := split2 y
  refine (show k0_pay4 (outsAt0 m c t.val t.isLt).2 (ix2 l j) = (outsAt0 m c t.val t.isLt).2 (ix2 l j) by pointwise [k0_pay4]).trans ?_
  rw [acc_eq, h3]
  have e0 : win0_2.index t 0 * 512 + (ix2 l j 0).val = (t.val / 2 * 512 + l.val) := by rw [idx2 t]; rfl
  have e1 : win0_2.index t 1 * 1024 + (ix2 l j 1).val = j.val := by rw [idx2 t]; exact Nat.zero_add _
  rw [e0, e1]

/-- An argument's two leading axes are read as one. -/
theorem v0_flat (c : Dev nD) : V m c main_v0 = flat (m ((c : Thread nD τ).loc main_arg1)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodNT (flat (m ((c : Thread nD τ).loc main_arg1))) (m ((c : Thread nD τ).loc main_arg0)) := by
  rw [left, v0_flat, V_main_arg0]

end Cert.WInDxIdeal.Tiles

namespace Cert.WInDxRefIdeal.Whole

open Cert.WInDxRefIdeal Cert.WInDxRefIdeal.Read Cert.Product
open Idealize.ShloMosaic Idealize.ShloMosaic.TcCoe Idealize.SL.Sem

/-- The reference's gradient of the activations is that same product. -/
theorem result (w : FVec Ideal S1024x4864 .bf16) (dy : FVec Ideal S2x2048x4864 .bf16) : val_main_v6 (F := Ideal) w dy = prodNT (flat dy) w := by
  funext i
  obtain ⟨i, j, rfl⟩ := split2 i
  pointwise [val_main_v6, val_main_v5, val_main_v4, val_main_v1, val_main_v0]
  rfl

end Cert.WInDxRefIdeal.Whole

namespace Cert.WInDx

open Idealize.ShloMosaic Idealize.ShloMosaic.TcCoe Idealize.SL.Sem Cert.Product

/-- On arguments that agree, the kernel and the reference both run and end with equal results. -/
theorem equal : Cert.algebraic_WInDxIdeal_WInDxRefIdeal := by
  intro m g m' g' _ agree
  refine ⟨fun c => (WInDxIdeal.Gen.dats m 0 c).arrAt 2 WInDxIdeal.cfg0.N, WInDxIdeal.Value.run_blocks m g, ?_⟩
  refine (θ_run _ _ _).mono (fun r h c => ⟨(h c).1.trans ?_, (h c).2⟩) (WInDxRefIdeal.Value.run m' g')
  obtain ⟨h0, h1⟩ := agree c
  rw [WInDxRefIdeal.Read.val_main_v6_eq, h0, h1]
  exact (WInDxRefIdeal.Whole.result _ _).trans (WInDxIdeal.Tiles.final m c).symm

/-- The reference runs and leaves its arguments as they were. -/
theorem ref_frame : Cert.quiescent_WInDxRefIdeal := fun m ρ _ =>
  (θ_run Cert.WInDxRefIdeal.defs _ _).mono (fun r h => ⟨fun c => (h c).2, sem_eq_zero_of_no_sems (by decide) r.2⟩)
    (Cert.WInDxRefIdeal.Value.run (F := Ideal) m ρ)

end Cert.WInDx
-- ==== Proof.WInDw.lean ====
module

public import proofs.«01_k».proof.Proof.Gen.WInDwIdeal.Value
public import proofs.«01_k».proof.Proof.Gen.WInDwRefIdeal.Run
public import proofs.«01_k».proof.Proof.Gen.WInDwRefIdeal.Read
public import proofs.«01_k».proof.Proof.Product
public import proofs.«01_k».proof.Defs

@[expose] public section

set_option maxRecDepth 16384

noncomputable section

namespace Cert.WInDwIdeal.Tiles

open Cert.WInDwIdeal Cert.WInDwIdeal.Gen Cert.WInDwIdeal.Value Cert.Product
open Idealize.ShloMosaic Idealize.ShloMosaic.TcCoe Idealize.SL.Sem

variable (m : (ℓ : Loc nD τ sig) → Buf (Elt Ideal) ℓ)

/-- The first tile of a block starts its sum. -/
theorem acc_first (c : Dev nD) (t : Fin cfg0.N) (h0 : t.val % 4 = 0) :
    (outsAt0 m c t.val t.isLt).2 = k0_pay2 (iblk m c 0 t) (iblk m c 1 t) := by
  rw [outsAt0_A m c t h0 (by omega) (by omega)]
  dsimp only
  unfold sout0_A_0
  refine (View.read_writes_eq_canon _ _ _ (by intro y; exact scover0_A_0 (y := y) c ..)).trans ?_
  unfold kernelRun0_A; dsimp only; sl_unfold_words
  simp only [View.readAt_eq_ld, (hs0_0 _).read_unread, (hs0_1 _).read_unread, View.ld_unit_zero (S := S1024x512) off2, View.ld_unit_zero (S := S1024x2432) off2]
  rw [View.canon_unit_zero off2]

/-- A later tile adds to it. -/
theorem acc_next (c : Dev nD) (t : Fin cfg0.N) (h0 : ¬t.val % 4 = 0) :
    (outsAt0 m c t.val t.isLt).2
      = k0_pay3 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    refine (View.read_writes_eq_canon _ _ _ (by intro y; exact scover0_C_0 (y := y) c ..)).trans ?_
    unfold kernelRun0_C; dsimp only; sl_unfold_words
    simp only [View.readAt_eq_ld, (hs0_0 _).read_unread, (hs0_1 _).read_unread, (Memref.isWhole_whole _).read_unread,
      View.ld_unit_zero (S := S1024x512) off2, View.ld_unit_zero (S := S1024x2432) off2, View.ld_unit_zero (S := S512x2432) off2]
    rw [View.canon_unit_zero off2]
  · rw [outsAt0_B m c t h0 (by omega) h2]
    dsimp only
    unfold sout0_B_0
    refine (View.read_writes_eq_canon _ _ _ (by intro y; exact scover0_B_0 (y := y) c ..)).trans ?_
    unfold kernelRun0_B; dsimp only; sl_unfold_words
    simp only [View.readAt_eq_ld, (hs0_0 _).read_unread, (hs0_1 _).read_unread, (Memref.isWhole_whole _).read_unread,
      View.ld_unit_zero (S := S1024x512) off2, View.ld_unit_zero (S := S1024x2432) off2, View.ld_unit_zero (S := S512x2432) off2]
    rw [View.canon_unit_zero off2]

/-- The last tile of a block writes the sum out. -/
theorem out_last (c : Dev nD) (t : Fin cfg0.N) (h2 : t.val % 4 = 3) :
    (outsAt0 m c t.val t.isLt).1 = k0_pay4 (outsAt0 m c t.val t.isLt).2 := by
  rw [acc_next m c t (by omega), outsAt0_C m c t (by omega) (by omega) h2]
  dsimp only
  unfold out0_C_2
  refine (View.read_writes_eq_canon _ _ _ (by intro y; exact cover0_C_2 (y := y) c ..)).trans ?_
  unfold kernelRun0_C; dsimp only; sl_unfold_words
  simp only [View.readAt_eq_ld, (hs0_0 _).read_unread, (hs0_1 _).read_unread, (Memref.isWhole_whole _).read_unread,
    View.ld_unit_zero (S := S1024x512) off2, View.ld_unit_zero (S := S1024x2432) off2, View.ld_unit_zero (S := S512x2432) off2]
  rw [View.canon_unit_zero off2, View.readCov_cons_toLoadRect]

/-- Which tile window 0 is on at a point. -/
theorem idx0 : ∀ t : Fin cfg0.N, win0_0.index t = ![t.val % 4, t.val / 4 / 2] := (by decide +kernel : ∀ t : Fin grid0.N, _)

/-- Which tile window 1 is on at a point. -/
theorem idx1 : ∀ t : Fin cfg0.N, win0_1.index t = ![t.val % 4, t.val / 4 % 2] := (by decide +kernel : ∀ t : Fin grid0.N, _)

/-- Which tile window 2 is on at a point. -/
theorem idx2 : ∀ t : Fin cfg0.N, win0_2.index t = ![t.val / 4 / 2, t.val / 4 % 2] := (by decide +kernel : ∀ t : Fin grid0.N, _)

/-- The tile of the first matrix at a point of the grid. -/
theorem blk0 (c : Dev nD) (t : Fin cfg0.N) (k : Fin 1024) (l : Fin 512) :
    iblk m c 0 t (ix2 k l) = ent (V m c main_v0) (t.val % 4 * 1024 + k.val) (t.val / 4 / 2 * 512 + l.val) := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (k : Fin 1024) (j : Fin 2432) :
    iblk m c 1 t (ix2 k j) = ent (V m c main_v1) (t.val % 4 * 1024 + k.val) (t.val / 4 % 2 * 2432 + j.val) := by
  have ht := lt_of_lt_of_eq t.isLt N_0
  unfold ent
  rw [dif_pos ⟨by omega, by omega⟩]
  blk_ext! [iblk, idx1 t]

/-- What the sum of a block holds after each of its tiles. -/
theorem acc_eq (c : Dev nD) (l : Fin 512) (j : Fin 2432) : ∀ n h, (outsAt0 m c n h).2 (ix2 l j)
    = ∑ k ∈ Finset.range ((n % 4 + 1) * 1024), ent (V m c main_v0) k (n / 4 / 2 * 512 + l.val) * ent (V m c main_v1) k (n / 4 % 2 * 2432 + j.val) := by
  refine running (by norm_num) (fun n h => (outsAt0 m c n h).2 (ix2 l j))
    (fun q k => ent (V m c main_v0) k (q / 2 * 512 + l.val) * ent (V m c main_v1) k (q % 2 * 2432 + j.val)) (fun n h hn => ?_) (fun n h hn => ?_)
  · rw [acc_first m c ⟨n, h⟩ hn, Finset.sum_range]
    pointwise [k0_pay2, k0_pay1]
    simp only [blk0, blk1, hn, Nat.zero_mul, Nat.zero_add]
  · rw [acc_next m c ⟨n, h⟩ hn, Finset.sum_range]
    pointwise [k0_pay3, k0_pay1]
    simp only [blk0, blk1]

/-- The array the kernel leaves, over the arrays its call is given. -/
theorem left (c : Dev nD) : (dats m 0 c).arrAt 2 cfg0.N = prodTN (V m c main_v0) (V m c main_v1) := by
  refine Eq.trans ?_ (range_tn (V m c main_v0) (V m c main_v1))
  refine (dats m 0 c).arrAt_eq_of_covers 2 _ (by decide +kernel) fun t hf y => ?_
  have h3 := (flush0_2 t).1 hf
  blk_simp
  rw [after0_2, out_last m c t h3]
  obtain ⟨l, j, rfl⟩ := split2 y
  refine (show k0_pay4 (outsAt0 m c t.val t.isLt).2 (ix2 l j) = (outsAt0 m c t.val t.isLt).2 (ix2 l j) by pointwise [k0_pay4]).trans ?_
  rw [acc_eq, h3]
  have e0 : win0_2.index t 0 * 512 + (ix2 l j 0).val = (t.val / 4 / 2 * 512 + l.val) := by rw [idx2 t]; rfl
  have e1 : win0_2.index t 1 * 2432 + (ix2 l j 1).val = (t.val / 4 % 2 * 2432 + j.val) := by rw [idx2 t]; rfl
  rw [e0, e1]

/-- An argument's two leading axes are read as one. -/
theorem v0_flat (c : Dev nD) : V m c main_v0 = flat (m ((c : Thread nD τ).loc main_arg0)) := by
  funext y
  obtain ⟨i, k, rfl⟩ := split2 y
  unfold V
  simp only [hostOps0]
  after_results
  pointwise
  rfl

/-- An argument's two leading axes are read as one. -/
theorem v1_flat (c : Dev nD) : V m c main_v1 = flat (m ((c : Thread nD τ).loc main_arg1)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodTN (flat (m ((c : Thread nD τ).loc main_arg0))) (flat (m ((c : Thread nD τ).loc main_arg1))) := by
  rw [left, v0_flat, v1_flat]

end Cert.WInDwIdeal.Tiles

namespace Cert.WInDwRefIdeal.Whole

open Cert.WInDwRefIdeal Cert.WInDwRefIdeal.Read Cert.Product
open Idealize.ShloMosaic Idealize.ShloMosaic.TcCoe Idealize.SL.Sem

/-- The reference's gradient of the weight is that same product. -/
theorem result (a : FVec Ideal S2x2048x1024 .bf16) (dy : FVec Ideal S2x2048x4864 .bf16) : val_main_v6 (F := Ideal) a dy = prodTN (flat a) (flat dy) := by
  funext i
  obtain ⟨i, j, rfl⟩ := split2 i
  pointwise [val_main_v6, val_main_v5, val_main_v4, val_main_v1, val_main_v0]
  exact (token_sum _).trans (Finset.sum_congr rfl fun r _ => mul_comm _ _)

end Cert.WInDwRefIdeal.Whole

namespace Cert.WInDw

open Idealize.ShloMosaic Idealize.ShloMosaic.TcCoe Idealize.SL.Sem Cert.Product

/-- On arguments that agree, the kernel and the reference both run and end with equal results. -/
theorem equal : Cert.algebraic_WInDwIdeal_WInDwRefIdeal := by
  intro m g m' g' _ agree
  refine ⟨fun c => (WInDwIdeal.Gen.dats m 0 c).arrAt 2 WInDwIdeal.cfg0.N, WInDwIdeal.Value.run_blocks m g, ?_⟩
  refine (θ_run _ _ _).mono (fun r h c => ⟨(h c).1.trans ?_, (h c).2⟩) (WInDwRefIdeal.Value.run m' g')
  obtain ⟨h0, h1⟩ := agree c
  rw [WInDwRefIdeal.Read.val_main_v6_eq, h0, h1]
  exact (WInDwRefIdeal.Whole.result _ _).trans (WInDwIdeal.Tiles.final m c).symm

/-- The reference runs and leaves its arguments as they were. -/
theorem ref_frame : Cert.quiescent_WInDwRefIdeal := fun m ρ _ =>
  (θ_run Cert.WInDwRefIdeal.defs _ _).mono (fun r h => ⟨fun c => (h c).2, sem_eq_zero_of_no_sems (by decide) r.2⟩)
    (Cert.WInDwRefIdeal.Value.run (F := Ideal) m ρ)

end Cert.WInDw
-- ==== Proof.WOutFwd.lean ====
module

public import proofs.«01_k».proof.Proof.Gen.WOutFwdIdeal.Value
public import proofs.«01_k».proof.Proof.Gen.WOutFwdRefIdeal.Run
public import proofs.«01_k».proof.Proof.Gen.WOutFwdRefIdeal.Read
public import proofs.«01_k».proof.Proof.Product
public import proofs.«01_k».proof.Defs

@[expose] public section

set_option maxRecDepth 16384

noncomputable section

namespace Cert.WOutFwdIdeal.Tiles

open Cert.WOutFwdIdeal Cert.WOutFwdIdeal.Gen Cert.WOutFwdIdeal.Value Cert.Product
open Idealize.ShloMosaic Idealize.ShloMosaic.TcCoe Idealize.SL.Sem

variable (m : (ℓ : Loc nD τ sig) → Buf (Elt Ideal) ℓ)

/-- What a tile computes is the product of its two blocks. -/
theorem tile_product (x : FVec Ideal S1024x2048 .bf16) (y : FVec Ideal S2048x1024 .bf16) (l : Fin 1024) (j : Fin 1024) :
    (k0_pay1 (F := Ideal) x y (ix2 l j) : EReal) = ∑ k : Fin 2048, x (ix2 l k) * y (ix2 k j) := by
  pointwise [k0_pay1]

/-- Every tile writes its own product out. -/
theorem out_tile (c : Dev nD) (t : Fin cfg0.N) : outsAt0 m c t = k0_pay1 (iblk m c 0 t) (iblk m c 1 t) := by
  unfold outsAt0 out0_A_2
  refine (View.read_writes_eq_canon _ _ _ (by intro y; exact cover0_A_2 (y := y) c ..)).trans ?_
  unfold kernelRun0_A; dsimp only; sl_unfold_words
  simp only [View.readAt_eq_ld, (hs0_0 _).read_unread, (hs0_1 _).read_unread, View.ld_unit_zero (S := S1024x2048) off2, View.ld_unit_zero (S := S2048x1024) off2]
  rw [View.canon_unit_zero off2]

/-- Which tile window 0 is on at a point. -/
theorem idx0 : ∀ t : Fin cfg0.N, win0_0.index t = ![t.val, 0] := (by decide +kernel : ∀ t : Fin grid0.N, _)

/-- Which tile window 1 is on at a point. -/
theorem idx1 : ∀ t : Fin cfg0.N, win0_1.index t = ![0, 0] := (by decide +kernel : ∀ t : Fin grid0.N, _)

/-- Which tile window 2 is on at a point. -/
theorem idx2 : ∀ t : Fin cfg0.N, win0_2.index t = ![t.val, 0] := (by decide +kernel : ∀ t : Fin grid0.N, _)

/-- The tile of the first matrix at a point of the grid. -/
theorem blk0 (c : Dev nD) (t : Fin cfg0.N) (l : Fin 1024) (k : Fin 2048) :
    iblk m c 0 t (ix2 l k) = ent (V m c main_v0) (t.val * 1024 + l.val) k.val := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (k : Fin 2048) (j : Fin 1024) :
    iblk m c 1 t (ix2 k j) = ent (V m c main_arg1) k.val j.val := by
  have ht := lt_of_lt_of_eq t.isLt N_0
  unfold ent
  rw [dif_pos ⟨by omega, by omega⟩]
  blk_ext! [iblk, idx1 t]

/-- The array the kernel leaves, over the arrays its call is given. -/
theorem left (c : Dev nD) : (dats m 0 c).arrAt 2 cfg0.N = prodNN (V m c main_v0) (V m c main_arg1) := by
  refine Eq.trans ?_ (range_nn (V m c main_v0) (V m c main_arg1))
  refine (dats m 0 c).arrAt_eq_of_covers 2 _ (by decide +kernel) fun t hf y => ?_
  blk_simp
  rw [after0_2, out_tile m c t]
  obtain ⟨l, j, rfl⟩ := split2 y
  have e0 : win0_2.index t 0 * 1024 + (ix2 l j 0).val = (t.val * 1024 + l.val) := by rw [idx2 t]; rfl
  have e1 : win0_2.index t 1 * 1024 + (ix2 l j 1).val = j.val := by rw [idx2 t]; exact Nat.zero_add _
  rw [e0, e1, Finset.sum_range]
  refine (tile_product _ _ l j).trans ?_
  simp only [blk0, blk1]

/-- An argument's two leading axes are read as one. -/
theorem v0_flat (c : Dev nD) : V m c main_v0 = flat (m ((c : Thread nD τ).loc main_arg0)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodNN (flat (m ((c : Thread nD τ).loc main_arg0))) (m ((c : Thread nD τ).loc main_arg1)) := by
  rw [left, v0_flat, V_main_arg1]

end Cert.WOutFwdIdeal.Tiles

namespace Cert.WOutFwdRefIdeal.Whole

open Cert.WOutFwdRefIdeal Cert.WOutFwdRefIdeal.Read Cert.Product
open Idealize.ShloMosaic Idealize.ShloMosaic.TcCoe Idealize.SL.Sem

/-- The reference's product is that same product. -/
theorem result (a : FVec Ideal S2x2048x2048 .bf16) (w : FVec Ideal S2048x1024 .bf16) : val_main_v3 (F := Ideal) a w = prodNN (flat a) w := by
  funext i
  obtain ⟨i, j, rfl⟩ := split2 i
  pointwise [val_main_v3, val_main_v2, val_main_v1, val_main_v0]
  rfl

end Cert.WOutFwdRefIdeal.Whole

namespace Cert.WOutFwd

open Idealize.ShloMosaic Idealize.ShloMosaic.TcCoe Idealize.SL.Sem Cert.Product

/-- On arguments that agree, the kernel and the reference both run and end with equal results. -/
theorem equal : Cert.algebraic_WOutFwdIdeal_WOutFwdRefIdeal := by
  intro m g m' g' _ agree
  refine ⟨fun c => (WOutFwdIdeal.Gen.dats m 0 c).arrAt 2 WOutFwdIdeal.cfg0.N, WOutFwdIdeal.Value.run_blocks m g, ?_⟩
  refine (θ_run _ _ _).mono (fun r h c => ⟨(h c).1.trans ?_, (h c).2⟩) (WOutFwdRefIdeal.Value.run m' g')
  obtain ⟨h0, h1⟩ := agree c
  rw [WOutFwdRefIdeal.Read.val_main_v3_eq, h0, h1]
  exact (WOutFwdRefIdeal.Whole.result _ _).trans (WOutFwdIdeal.Tiles.final m c).symm

/-- The reference runs and leaves its arguments as they were. -/
theorem ref_frame : Cert.quiescent_WOutFwdRefIdeal := fun m ρ _ =>
  (θ_run Cert.WOutFwdRefIdeal.defs _ _).mono (fun r h => ⟨fun c => (h c).2, sem_eq_zero_of_no_sems (by decide) r.2⟩)
    (Cert.WOutFwdRefIdeal.Value.run (F := Ideal) m ρ)

end Cert.WOutFwd
-- ==== Proof.WOutDx.lean ====
module

public import proofs.«01_k».proof.Proof.Gen.WOutDxIdeal.Value
public import proofs.«01_k».proof.Proof.Gen.WOutDxRefIdeal.Run
public import proofs.«01_k».proof.Proof.Gen.WOutDxRefIdeal.Read
public import proofs.«01_k».proof.Proof.Product
public import proofs.«01_k».proof.Defs

@[expose] public section

set_option maxRecDepth 16384

noncomputable section

namespace Cert.WOutDxIdeal.Tiles

open Cert.WOutDxIdeal Cert.WOutDxIdeal.Gen Cert.WOutDxIdeal.Value Cert.Product
open Idealize.ShloMosaic Idealize.ShloMosaic.TcCoe Idealize.SL.Sem

variable (m : (ℓ : Loc nD τ sig) → Buf (Elt Ideal) ℓ)

/-- What a tile computes is the product of its two blocks. -/
theorem tile_product (x : FVec Ideal S1024x1024 .bf16) (y : FVec Ideal S2048x1024 .bf16) (l : Fin 1024) (j : Fin 2048) :
    (k0_pay1 (F := Ideal) x y (ix2 l j) : EReal) = ∑ k : Fin 1024, x (ix2 l k) * y (ix2 j k) := by
  pointwise [k0_pay1]

/-- Every tile writes its own product out. -/
theorem out_tile (c : Dev nD) (t : Fin cfg0.N) : outsAt0 m c t = k0_pay1 (iblk m c 0 t) (iblk m c 1 t) := by
  unfold outsAt0 out0_A_2
  refine (View.read_writes_eq_canon _ _ _ (by intro y; exact cover0_A_2 (y := y) c ..)).trans ?_
  unfold kernelRun0_A; dsimp only; sl_unfold_words
  simp only [View.readAt_eq_ld, (hs0_0 _).read_unread, (hs0_1 _).read_unread, View.ld_unit_zero (S := S1024x1024) off2, View.ld_unit_zero (S := S2048x1024) off2]
  rw [View.canon_unit_zero off2]

/-- Which tile window 0 is on at a point. -/
theorem idx0 : ∀ t : Fin cfg0.N, win0_0.index t = ![t.val, 0] := (by decide +kernel : ∀ t : Fin grid0.N, _)

/-- Which tile window 1 is on at a point. -/
theorem idx1 : ∀ t : Fin cfg0.N, win0_1.index t = ![0, 0] := (by decide +kernel : ∀ t : Fin grid0.N, _)

/-- Which tile window 2 is on at a point. -/
theorem idx2 : ∀ t : Fin cfg0.N, win0_2.index t = ![t.val, 0] := (by decide +kernel : ∀ t : Fin grid0.N, _)

/-- The tile of the first matrix at a point of the grid. -/
theorem blk0 (c : Dev nD) (t : Fin cfg0.N) (l : Fin 1024) (k : Fin 1024) :
    iblk m c 0 t (ix2 l k) = ent (V m c main_v0) (t.val * 1024 + l.val) k.val := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (j : Fin 2048) (k : Fin 1024) :
    iblk m c 1 t (ix2 j k) = ent (V m c main_arg0) j.val k.val := by
  have ht := lt_of_lt_of_eq t.isLt N_0
  unfold ent
  rw [dif_pos ⟨by omega, by omega⟩]
  blk_ext! [iblk, idx1 t]

/-- The array the kernel leaves, over the arrays its call is given. -/
theorem left (c : Dev nD) : (dats m 0 c).arrAt 2 cfg0.N = prodNT (V m c main_v0) (V m c main_arg0) := by
  refine Eq.trans ?_ (range_nt (V m c main_v0) (V m c main_arg0))
  refine (dats m 0 c).arrAt_eq_of_covers 2 _ (by decide +kernel) fun t hf y => ?_
  blk_simp
  rw [after0_2, out_tile m c t]
  obtain ⟨l, j, rfl⟩ := split2 y
  have e0 : win0_2.index t 0 * 1024 + (ix2 l j 0).val = (t.val * 1024 + l.val) := by rw [idx2 t]; rfl
  have e1 : win0_2.index t 1 * 2048 + (ix2 l j 1).val = j.val := by rw [idx2 t]; exact Nat.zero_add _
  rw [e0, e1, Finset.sum_range]
  refine (tile_product _ _ l j).trans ?_
  simp only [blk0, blk1]

/-- An argument's two leading axes are read as one. -/
theorem v0_flat (c : Dev nD) : V m c main_v0 = flat (m ((c : Thread nD τ).loc main_arg1)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodNT (flat (m ((c : Thread nD τ).loc main_arg1))) (m ((c : Thread nD τ).loc main_arg0)) := by
  rw [left, v0_flat, V_main_arg0]

end Cert.WOutDxIdeal.Tiles

namespace Cert.WOutDxRefIdeal.Whole

open Cert.WOutDxRefIdeal Cert.WOutDxRefIdeal.Read Cert.Product
open Idealize.ShloMosaic Idealize.ShloMosaic.TcCoe Idealize.SL.Sem

/-- The reference's gradient of the activations is that same product. -/
theorem result (w : FVec Ideal S2048x1024 .bf16) (dy : FVec Ideal S2x2048x1024 .bf16) : val_main_v6 (F := Ideal) w dy = prodNT (flat dy) w := by
  funext i
  obtain ⟨i, j, rfl⟩ := split2 i
  pointwise [val_main_v6, val_main_v5, val_main_v4, val_main_v1, val_main_v0]
  rfl

end Cert.WOutDxRefIdeal.Whole

namespace Cert.WOutDx

open Idealize.ShloMosaic Idealize.ShloMosaic.TcCoe Idealize.SL.Sem Cert.Product

/-- On arguments that agree, the kernel and the reference both run and end with equal results. -/
theorem equal : Cert.algebraic_WOutDxIdeal_WOutDxRefIdeal := by
  intro m g m' g' _ agree
  refine ⟨fun c => (WOutDxIdeal.Gen.dats m 0 c).arrAt 2 WOutDxIdeal.cfg0.N, WOutDxIdeal.Value.run_blocks m g, ?_⟩
  refine (θ_run _ _ _).mono (fun r h c => ⟨(h c).1.trans ?_, (h c).2⟩) (WOutDxRefIdeal.Value.run m' g')
  obtain ⟨h0, h1⟩ := agree c
  rw [WOutDxRefIdeal.Read.val_main_v6_eq, h0, h1]
  exact (WOutDxRefIdeal.Whole.result _ _).trans (WOutDxIdeal.Tiles.final m c).symm

/-- The reference runs and leaves its arguments as they were. -/
theorem ref_frame : Cert.quiescent_WOutDxRefIdeal := fun m ρ _ =>
  (θ_run Cert.WOutDxRefIdeal.defs _ _).mono (fun r h => ⟨fun c => (h c).2, sem_eq_zero_of_no_sems (by decide) r.2⟩)
    (Cert.WOutDxRefIdeal.Value.run (F := Ideal) m ρ)

end Cert.WOutDx
-- ==== Proof.WOutDw.lean ====
module

public import proofs.«01_k».proof.Proof.Gen.WOutDwIdeal.Value
public import proofs.«01_k».proof.Proof.Gen.WOutDwRefIdeal.Run
public import proofs.«01_k».proof.Proof.Gen.WOutDwRefIdeal.Read
public import proofs.«01_k».proof.Proof.Product
public import proofs.«01_k».proof.Defs

@[expose] public section

set_option maxRecDepth 16384

noncomputable section

namespace Cert.WOutDwIdeal.Tiles

open Cert.WOutDwIdeal Cert.WOutDwIdeal.Gen Cert.WOutDwIdeal.Value Cert.Product
open Idealize.ShloMosaic Idealize.ShloMosaic.TcCoe Idealize.SL.Sem

variable (m : (ℓ : Loc nD τ sig) → Buf (Elt Ideal) ℓ)

/-- The first tile of a block starts its sum. -/
theorem acc_first (c : Dev nD) (t : Fin cfg0.N) (h0 : t.val % 2 = 0) :
    (outsAt0 m c t.val t.isLt).2 = k0_pay2 (iblk m c 0 t) (iblk m c 1 t) := by
  rw [outsAt0_A m c t h0 (by omega) (by omega)]
  dsimp only
  unfold sout0_A_0
  refine (View.read_writes_eq_canon _ _ _ (by intro y; exact scover0_A_0 (y := y) c ..)).trans ?_
  unfold kernelRun0_A; dsimp only; sl_unfold_words
  simp only [View.readAt_eq_ld, (hs0_0 _).read_unread, (hs0_1 _).read_unread, View.ld_unit_zero (S := S2048x1024) off2]
  rw [View.canon_unit_zero off2]

/-- A later tile adds to it. -/
theorem acc_next (c : Dev nD) (t : Fin cfg0.N) (h0 : ¬t.val % 2 = 0) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h0 (by omega) (by omega)]
  dsimp only
  unfold sout0_B_0
  refine (View.read_writes_eq_canon _ _ _ (by intro y; exact scover0_B_0 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S2048x1024) off2, View.ld_unit_zero (S := S1024x1024) off2]
  rw [View.canon_unit_zero off2]

/-- The last tile of a block writes the sum out. -/
theorem out_last (c : Dev nD) (t : Fin cfg0.N) (h2 : t.val % 2 = 1) :
    (outsAt0 m c t.val t.isLt).1 = k0_pay4 (outsAt0 m c t.val t.isLt).2 := by
  rw [acc_next m c t (by omega), outsAt0_B m c t (by omega) (by omega) (by omega)]
  dsimp only
  unfold out0_B_2
  refine (View.read_writes_eq_canon _ _ _ (by intro y; exact cover0_B_2 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S2048x1024) off2, View.ld_unit_zero (S := S1024x1024) off2]
  rw [View.canon_unit_zero off2, View.readCov_cons_toLoadRect]

/-- Which tile window 0 is on at a point. -/
theorem idx0 : ∀ t : Fin cfg0.N, win0_0.index t = ![t.val % 2, t.val / 2] := (by decide +kernel : ∀ t : Fin grid0.N, _)

/-- Which tile window 1 is on at a point. -/
theorem idx1 : ∀ t : Fin cfg0.N, win0_1.index t = ![t.val % 2, 0] := (by decide +kernel : ∀ t : Fin grid0.N, _)

/-- Which tile window 2 is on at a point. -/
theorem idx2 : ∀ t : Fin cfg0.N, win0_2.index t = ![t.val / 2, 0] := (by decide +kernel : ∀ t : Fin grid0.N, _)

/-- The tile of the first matrix at a point of the grid. -/
theorem blk0 (c : Dev nD) (t : Fin cfg0.N) (k : Fin 2048) (l : Fin 1024) :
    iblk m c 0 t (ix2 k l) = ent (V m c main_v0) (t.val % 2 * 2048 + k.val) (t.val / 2 * 1024 + l.val) := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (k : Fin 2048) (j : Fin 1024) :
    iblk m c 1 t (ix2 k j) = ent (V m c main_v1) (t.val % 2 * 2048 + k.val) j.val := by
  have ht := lt_of_lt_of_eq t.isLt N_0
  unfold ent
  rw [dif_pos ⟨by omega, by omega⟩]
  blk_ext! [iblk, idx1 t]

/-- What the sum of a block holds after each of its tiles. -/
theorem acc_eq (c : Dev nD) (l : Fin 1024) (j : Fin 1024) : ∀ n h, (outsAt0 m c n h).2 (ix2 l j)
    = ∑ k ∈ Finset.range ((n % 2 + 1) * 2048), ent (V m c main_v0) k (n / 2 * 1024 + l.val) * ent (V m c main_v1) k j.val := by
  refine running (by norm_num) (fun n h => (outsAt0 m c n h).2 (ix2 l j))
    (fun q k => ent (V m c main_v0) k (q * 1024 + l.val) * ent (V m c main_v1) k j.val) (fun n h hn => ?_) (fun n h hn => ?_)
  · rw [acc_first m c ⟨n, h⟩ hn, Finset.sum_range]
    pointwise [k0_pay2, k0_pay1]
    simp only [blk0, blk1, hn, Nat.zero_mul, Nat.zero_add]
  · rw [acc_next m c ⟨n, h⟩ hn, Finset.sum_range]
    pointwise [k0_pay3, k0_pay1]
    simp only [blk0, blk1]

/-- The array the kernel leaves, over the arrays its call is given. -/
theorem left (c : Dev nD) : (dats m 0 c).arrAt 2 cfg0.N = prodTN (V m c main_v0) (V m c main_v1) := by
  refine Eq.trans ?_ (range_tn (V m c main_v0) (V m c main_v1))
  refine (dats m 0 c).arrAt_eq_of_covers 2 _ (by decide +kernel) fun t hf y => ?_
  have h3 := (flush0_2 t).1 hf
  blk_simp
  rw [after0_2, out_last m c t h3]
  obtain ⟨l, j, rfl⟩ := split2 y
  refine (show k0_pay4 (outsAt0 m c t.val t.isLt).2 (ix2 l j) = (outsAt0 m c t.val t.isLt).2 (ix2 l j) by pointwise [k0_pay4]).trans ?_
  rw [acc_eq, h3]
  have e0 : win0_2.index t 0 * 1024 + (ix2 l j 0).val = (t.val / 2 * 1024 + l.val) := by rw [idx2 t]; rfl
  have e1 : win0_2.index t 1 * 1024 + (ix2 l j 1).val = j.val := by rw [idx2 t]; exact Nat.zero_add _
  rw [e0, e1]

/-- An argument's two leading axes are read as one. -/
theorem v0_flat (c : Dev nD) : V m c main_v0 = flat (m ((c : Thread nD τ).loc main_arg0)) := by
  funext y
  obtain ⟨i, k, rfl⟩ := split2 y
  unfold V
  simp only [hostOps0]
  after_results
  pointwise
  rfl

/-- An argument's two leading axes are read as one. -/
theorem v1_flat (c : Dev nD) : V m c main_v1 = flat (m ((c : Thread nD τ).loc main_arg1)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodTN (flat (m ((c : Thread nD τ).loc main_arg0))) (flat (m ((c : Thread nD τ).loc main_arg1))) := by
  rw [left, v0_flat, v1_flat]

end Cert.WOutDwIdeal.Tiles

namespace Cert.WOutDwRefIdeal.Whole

open Cert.WOutDwRefIdeal Cert.WOutDwRefIdeal.Read Cert.Product
open Idealize.ShloMosaic Idealize.ShloMosaic.TcCoe Idealize.SL.Sem

/-- The reference's gradient of the weight is that same product. -/
theorem result (a : FVec Ideal S2x2048x2048 .bf16) (dy : FVec Ideal S2x2048x1024 .bf16) : val_main_v6 (F := Ideal) a dy = prodTN (flat a) (flat dy) := by
  funext i
  obtain ⟨i, j, rfl⟩ := split2 i
  pointwise [val_main_v6, val_main_v5, val_main_v4, val_main_v1, val_main_v0]
  exact (token_sum _).trans (Finset.sum_congr rfl fun r _ => mul_comm _ _)

end Cert.WOutDwRefIdeal.Whole

namespace Cert.WOutDw

open Idealize.ShloMosaic Idealize.ShloMosaic.TcCoe Idealize.SL.Sem Cert.Product

/-- On arguments that agree, the kernel and the reference both run and end with equal results. -/
theorem equal : Cert.algebraic_WOutDwIdeal_WOutDwRefIdeal := by
  intro m g m' g' _ agree
  refine ⟨fun c => (WOutDwIdeal.Gen.dats m 0 c).arrAt 2 WOutDwIdeal.cfg0.N, WOutDwIdeal.Value.run_blocks m g, ?_⟩
  refine (θ_run _ _ _).mono (fun r h c => ⟨(h c).1.trans ?_, (h c).2⟩) (WOutDwRefIdeal.Value.run m' g')
  obtain ⟨h0, h1⟩ := agree c
  rw [WOutDwRefIdeal.Read.val_main_v6_eq, h0, h1]
  exact (WOutDwRefIdeal.Whole.result _ _).trans (WOutDwIdeal.Tiles.final m c).symm

/-- The reference runs and leaves its arguments as they were. -/
theorem ref_frame : Cert.quiescent_WOutDwRefIdeal := fun m ρ _ =>
  (θ_run Cert.WOutDwRefIdeal.defs _ _).mono (fun r h => ⟨fun c => (h c).2, sem_eq_zero_of_no_sems (by decide) r.2⟩)
    (Cert.WOutDwRefIdeal.Value.run (F := Ideal) m ρ)

end Cert.WOutDw
-- ==== Proof.FfUpFwd.lean ====
module

public import proofs.«01_k».proof.Proof.Gen.FfUpFwdIdeal.Value
public import proofs.«01_k».proof.Proof.Gen.FfUpFwdRefIdeal.Run
public import proofs.«01_k».proof.Proof.Gen.FfUpFwdRefIdeal.Read
public import proofs.«01_k».proof.Proof.Product
public import proofs.«01_k».proof.Defs

@[expose] public section

set_option maxRecDepth 16384

noncomputable section

namespace Cert.FfUpFwdIdeal.Tiles

open Cert.FfUpFwdIdeal Cert.FfUpFwdIdeal.Gen Cert.FfUpFwdIdeal.Value Cert.Product
open Idealize.ShloMosaic Idealize.ShloMosaic.TcCoe Idealize.SL.Sem

variable (m : (ℓ : Loc nD τ sig) → Buf (Elt Ideal) ℓ)

/-- What a tile computes is the product of its two blocks. -/
theorem tile_product (x : FVec Ideal S1024x1024 .bf16) (y : FVec Ideal S1024x1408 .bf16) (l : Fin 1024) (j : Fin 1408) :
    (k0_pay1 (F := Ideal) x y (ix2 l j) : EReal) = ∑ k : Fin 1024, x (ix2 l k) * y (ix2 k j) := by
  pointwise [k0_pay1]

/-- Every tile writes its own product out. -/
theorem out_tile (c : Dev nD) (t : Fin cfg0.N) : outsAt0 m c t = k0_pay1 (iblk m c 0 t) (iblk m c 1 t) := by
  unfold outsAt0 out0_A_2
  refine (View.read_writes_eq_canon _ _ _ (by intro y; exact cover0_A_2 (y := y) c ..)).trans ?_
  unfold kernelRun0_A; dsimp only; sl_unfold_words
  simp only [View.readAt_eq_ld, (hs0_0 _).read_unread, (hs0_1 _).read_unread, View.ld_unit_zero (S := S1024x1024) off2, View.ld_unit_zero (S := S1024x1408) off2]
  rw [View.canon_unit_zero off2]

/-- Which tile window 0 is on at a point. -/
theorem idx0 : ∀ t : Fin cfg0.N, win0_0.index t = ![t.val / 4, 0] := (by decide +kernel : ∀ t : Fin grid0.N, _)

/-- Which tile window 1 is on at a point. -/
theorem idx1 : ∀ t : Fin cfg0.N, win0_1.index t = ![0, t.val % 4] := (by decide +kernel : ∀ t : Fin grid0.N, _)

/-- Which tile window 2 is on at a point. -/
theorem idx2 : ∀ t : Fin cfg0.N, win0_2.index t = ![t.val / 4, t.val % 4] := (by decide +kernel : ∀ t : Fin grid0.N, _)

/-- The tile of the first matrix at a point of the grid. -/
theorem blk0 (c : Dev nD) (t : Fin cfg0.N) (l : Fin 1024) (k : Fin 1024) :
    iblk m c 0 t (ix2 l k) = ent (V m c main_v0) (t.val / 4 * 1024 + l.val) k.val := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (k : Fin 1024) (j : Fin 1408) :
    iblk m c 1 t (ix2 k j) = ent (V m c main_arg1) k.val (t.val % 4 * 1408 + j.val) := by
  have ht := lt_of_lt_of_eq t.isLt N_0
  unfold ent
  rw [dif_pos ⟨by omega, by omega⟩]
  blk_ext! [iblk, idx1 t]

/-- The array the kernel leaves, over the arrays its call is given. -/
theorem left (c : Dev nD) : (dats m 0 c).arrAt 2 cfg0.N = prodNN (V m c main_v0) (V m c main_arg1) := by
  refine Eq.trans ?_ (range_nn (V m c main_v0) (V m c main_arg1))
  refine (dats m 0 c).arrAt_eq_of_covers 2 _ (by decide +kernel) fun t hf y => ?_
  blk_simp
  rw [after0_2, out_tile m c t]
  obtain ⟨l, j, rfl⟩ := split2 y
  have e0 : win0_2.index t 0 * 1024 + (ix2 l j 0).val = (t.val / 4 * 1024 + l.val) := by rw [idx2 t]; rfl
  have e1 : win0_2.index t 1 * 1408 + (ix2 l j 1).val = (t.val % 4 * 1408 + j.val) := by rw [idx2 t]; rfl
  rw [e0, e1, Finset.sum_range]
  refine (tile_product _ _ l j).trans ?_
  simp only [blk0, blk1]

/-- An argument's two leading axes are read as one. -/
theorem v0_flat (c : Dev nD) : V m c main_v0 = flat (m ((c : Thread nD τ).loc main_arg0)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodNN (flat (m ((c : Thread nD τ).loc main_arg0))) (m ((c : Thread nD τ).loc main_arg1)) := by
  rw [left, v0_flat, V_main_arg1]

end Cert.FfUpFwdIdeal.Tiles

namespace Cert.FfUpFwdRefIdeal.Whole

open Cert.FfUpFwdRefIdeal Cert.FfUpFwdRefIdeal.Read Cert.Product
open Idealize.ShloMosaic Idealize.ShloMosaic.TcCoe Idealize.SL.Sem

/-- The reference's product is that same product. -/
theorem result (a : FVec Ideal S2x2048x1024 .bf16) (w : FVec Ideal S1024x5632 .bf16) : val_main_v3 (F := Ideal) a w = prodNN (flat a) w := by
  funext i
  obtain ⟨i, j, rfl⟩ := split2 i
  pointwise [val_main_v3, val_main_v2, val_main_v1, val_main_v0]
  rfl

end Cert.FfUpFwdRefIdeal.Whole

namespace Cert.FfUpFwd

open Idealize.ShloMosaic Idealize.ShloMosaic.TcCoe Idealize.SL.Sem Cert.Product

/-- On arguments that agree, the kernel and the reference both run and end with equal results. -/
theorem equal : Cert.algebraic_FfUpFwdIdeal_FfUpFwdRefIdeal := by
  intro m g m' g' _ agree
  refine ⟨fun c => (FfUpFwdIdeal.Gen.dats m 0 c).arrAt 2 FfUpFwdIdeal.cfg0.N, FfUpFwdIdeal.Value.run_blocks m g, ?_⟩
  refine (θ_run _ _ _).mono (fun r h c => ⟨(h c).1.trans ?_, (h c).2⟩) (FfUpFwdRefIdeal.Value.run m' g')
  obtain ⟨h0, h1⟩ := agree c
  rw [FfUpFwdRefIdeal.Read.val_main_v3_eq, h0, h1]
  exact (FfUpFwdRefIdeal.Whole.result _ _).trans (FfUpFwdIdeal.Tiles.final m c).symm

/-- The reference runs and leaves its arguments as they were. -/
theorem ref_frame : Cert.quiescent_FfUpFwdRefIdeal := fun m ρ _ =>
  (θ_run Cert.FfUpFwdRefIdeal.defs _ _).mono (fun r h => ⟨fun c => (h c).2, sem_eq_zero_of_no_sems (by decide) r.2⟩)
    (Cert.FfUpFwdRefIdeal.Value.run (F := Ideal) m ρ)

end Cert.FfUpFwd
-- ==== Proof.FfUpDx.lean ====
module

public import proofs.«01_k».proof.Proof.Gen.FfUpDxIdeal.Value
public import proofs.«01_k».proof.Proof.Gen.FfUpDxRefIdeal.Run
public import proofs.«01_k».proof.Proof.Gen.FfUpDxRefIdeal.Read
public import proofs.«01_k».proof.Proof.Product
public import proofs.«01_k».proof.Defs

@[expose] public section

set_option maxRecDepth 16384

noncomputable section

namespace Cert.FfUpDxIdeal.Tiles

open Cert.FfUpDxIdeal Cert.FfUpDxIdeal.Gen Cert.FfUpDxIdeal.Value Cert.Product
open Idealize.ShloMosaic Idealize.ShloMosaic.TcCoe Idealize.SL.Sem

variable (m : (ℓ : Loc nD τ sig) → Buf (Elt Ideal) ℓ)

/-- The first tile of a block starts its sum. -/
theorem acc_first (c : Dev nD) (t : Fin cfg0.N) (h0 : t.val % 4 = 0) :
    (outsAt0 m c t.val t.isLt).2 = k0_pay2 (iblk m c 0 t) (iblk m c 1 t) := by
  rw [outsAt0_A m c t h0 (by omega) (by omega)]
  dsimp only
  unfold sout0_A_0
  refine (View.read_writes_eq_canon _ _ _ (by intro y; exact scover0_A_0 (y := y) c ..)).trans ?_
  unfold kernelRun0_A; dsimp only; sl_unfold_words
  simp only [View.readAt_eq_ld, (hs0_0 _).read_unread, (hs0_1 _).read_unread, View.ld_unit_zero (S := S1024x1408) off2]
  rw [View.canon_unit_zero off2]

/-- A later tile adds to it. -/
theorem acc_next (c : Dev nD) (t : Fin cfg0.N) (h0 : ¬t.val % 4 = 0) :
    (outsAt0 m c t.val t.isLt).2
      = k0_pay3 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    refine (View.read_writes_eq_canon _ _ _ (by intro y; exact scover0_C_0 (y := y) c ..)).trans ?_
    unfold kernelRun0_C; dsimp only; sl_unfold_words
    simp only [View.readAt_eq_ld, (hs0_0 _).read_unread, (hs0_1 _).read_unread, (Memref.isWhole_whole _).read_unread,
      View.ld_unit_zero (S := S1024x1408) off2, View.ld_unit_zero (S := S1024x1024) off2]
    rw [View.canon_unit_zero off2]
  · rw [outsAt0_B m c t h0 (by omega) h2]
    dsimp only
    unfold sout0_B_0
    refine (View.read_writes_eq_canon _ _ _ (by intro y; exact scover0_B_0 (y := y) c ..)).trans ?_
    unfold kernelRun0_B; dsimp only; sl_unfold_words
    simp only [View.readAt_eq_ld, (hs0_0 _).read_unread, (hs0_1 _).read_unread, (Memref.isWhole_whole _).read_unread,
      View.ld_unit_zero (S := S1024x1408) off2, View.ld_unit_zero (S := S1024x1024) off2]
    rw [View.canon_unit_zero off2]

/-- The last tile of a block writes the sum out. -/
theorem out_last (c : Dev nD) (t : Fin cfg0.N) (h2 : t.val % 4 = 3) :
    (outsAt0 m c t.val t.isLt).1 = k0_pay4 (outsAt0 m c t.val t.isLt).2 := by
  rw [acc_next m c t (by omega), outsAt0_C m c t (by omega) (by omega) h2]
  dsimp only
  unfold out0_C_2
  refine (View.read_writes_eq_canon _ _ _ (by intro y; exact cover0_C_2 (y := y) c ..)).trans ?_
  unfold kernelRun0_C; dsimp only; sl_unfold_words
  simp only [View.readAt_eq_ld, (hs0_0 _).read_unread, (hs0_1 _).read_unread, (Memref.isWhole_whole _).read_unread,
    View.ld_unit_zero (S := S1024x1408) off2, View.ld_unit_zero (S := S1024x1024) off2]
  rw [View.canon_unit_zero off2, View.readCov_cons_toLoadRect]

/-- Which tile window 0 is on at a point. -/
theorem idx0 : ∀ t : Fin cfg0.N, win0_0.index t = ![t.val / 4, t.val % 4] := (by decide +kernel : ∀ t : Fin grid0.N, _)

/-- Which tile window 1 is on at a point. -/
theorem idx1 : ∀ t : Fin cfg0.N, win0_1.index t = ![0, t.val % 4] := (by decide +kernel : ∀ t : Fin grid0.N, _)

/-- Which tile window 2 is on at a point. -/
theorem idx2 : ∀ t : Fin cfg0.N, win0_2.index t = ![t.val / 4, 0] := (by decide +kernel : ∀ t : Fin grid0.N, _)

/-- The tile of the first matrix at a point of the grid. -/
theorem blk0 (c : Dev nD) (t : Fin cfg0.N) (l : Fin 1024) (k : Fin 1408) :
    iblk m c 0 t (ix2 l k) = ent (V m c main_v0) (t.val / 4 * 1024 + l.val) (t.val % 4 * 1408 + k.val) := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (j : Fin 1024) (k : Fin 1408) :
    iblk m c 1 t (ix2 j k) = ent (V m c main_arg0) j.val (t.val % 4 * 1408 + k.val) := by
  have ht := lt_of_lt_of_eq t.isLt N_0
  unfold ent
  rw [dif_pos ⟨by omega, by omega⟩]
  blk_ext! [iblk, idx1 t]

/-- What the sum of a block holds after each of its tiles. -/
theorem acc_eq (c : Dev nD) (l : Fin 1024) (j : Fin 1024) : ∀ n h, (outsAt0 m c n h).2 (ix2 l j)
    = ∑ k ∈ Finset.range ((n % 4 + 1) * 1408), ent (V m c main_v0) (n / 4 * 1024 + l.val) k * ent (V m c main_arg0) j.val k := by
  refine running (by norm_num) (fun n h => (outsAt0 m c n h).2 (ix2 l j))
    (fun q k => ent (V m c main_v0) (q * 1024 + l.val) k * ent (V m c main_arg0) j.val k) (fun n h hn => ?_) (fun n h hn => ?_)
  · rw [acc_first m c ⟨n, h⟩ hn, Finset.sum_range]
    pointwise [k0_pay2, k0_pay1]
    simp only [blk0, blk1, hn, Nat.zero_mul, Nat.zero_add]
  · rw [acc_next m c ⟨n, h⟩ hn, Finset.sum_range]
    pointwise [k0_pay3, k0_pay1]
    simp only [blk0, blk1]

/-- The array the kernel leaves, over the arrays its call is given. -/
theorem left (c : Dev nD) : (dats m 0 c).arrAt 2 cfg0.N = prodNT (V m c main_v0) (V m c main_arg0) := by
  refine Eq.trans ?_ (range_nt (V m c main_v0) (V m c main_arg0))
  refine (dats m 0 c).arrAt_eq_of_covers 2 _ (by decide +kernel) fun t hf y => ?_
  have h3 := (flush0_2 t).1 hf
  blk_simp
  rw [after0_2, out_last m c t h3]
  obtain ⟨l, j, rfl⟩ := split2 y
  refine (show k0_pay4 (outsAt0 m c t.val t.isLt).2 (ix2 l j) = (outsAt0 m c t.val t.isLt).2 (ix2 l j) by pointwise [k0_pay4]).trans ?_
  rw [acc_eq, h3]
  have e0 : win0_2.index t 0 * 1024 + (ix2 l j 0).val = (t.val / 4 * 1024 + l.val) := by rw [idx2 t]; rfl
  have e1 : win0_2.index t 1 * 1024 + (ix2 l j 1).val = j.val := by rw [idx2 t]; exact Nat.zero_add _
  rw [e0, e1]

/-- An argument's two leading axes are read as one. -/
theorem v0_flat (c : Dev nD) : V m c main_v0 = flat (m ((c : Thread nD τ).loc main_arg1)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodNT (flat (m ((c : Thread nD τ).loc main_arg1))) (m ((c : Thread nD τ).loc main_arg0)) := by
  rw [left, v0_flat, V_main_arg0]

end Cert.FfUpDxIdeal.Tiles

namespace Cert.FfUpDxRefIdeal.Whole

open Cert.FfUpDxRefIdeal Cert.FfUpDxRefIdeal.Read Cert.Product
open Idealize.ShloMosaic Idealize.ShloMosaic.TcCoe Idealize.SL.Sem

/-- The reference's gradient of the activations is that same product. -/
theorem result (w : FVec Ideal S1024x5632 .bf16) (dy : FVec Ideal S2x2048x5632 .bf16) : val_main_v6 (F := Ideal) w dy = prodNT (flat dy) w := by
  funext i
  obtain ⟨i, j, rfl⟩ := split2 i
  pointwise [val_main_v6, val_main_v5, val_main_v4, val_main_v1, val_main_v0]
  rfl

end Cert.FfUpDxRefIdeal.Whole

namespace Cert.FfUpDx

open Idealize.ShloMosaic Idealize.ShloMosaic.TcCoe Idealize.SL.Sem Cert.Product

/-- On arguments that agree, the kernel and the reference both run and end with equal results. -/
theorem equal : Cert.algebraic_FfUpDxIdeal_FfUpDxRefIdeal := by
  intro m g m' g' _ agree
  refine ⟨fun c => (FfUpDxIdeal.Gen.dats m 0 c).arrAt 2 FfUpDxIdeal.cfg0.N, FfUpDxIdeal.Value.run_blocks m g, ?_⟩
  refine (θ_run _ _ _).mono (fun r h c => ⟨(h c).1.trans ?_, (h c).2⟩) (FfUpDxRefIdeal.Value.run m' g')
  obtain ⟨h0, h1⟩ := agree c
  rw [FfUpDxRefIdeal.Read.val_main_v6_eq, h0, h1]
  exact (FfUpDxRefIdeal.Whole.result _ _).trans (FfUpDxIdeal.Tiles.final m c).symm

/-- The reference runs and leaves its arguments as they were. -/
theorem ref_frame : Cert.quiescent_FfUpDxRefIdeal := fun m ρ _ =>
  (θ_run Cert.FfUpDxRefIdeal.defs _ _).mono (fun r h => ⟨fun c => (h c).2, sem_eq_zero_of_no_sems (by decide) r.2⟩)
    (Cert.FfUpDxRefIdeal.Value.run (F := Ideal) m ρ)

end Cert.FfUpDx
-- ==== Proof.FfUpDw.lean ====
module

public import proofs.«01_k».proof.Proof.Gen.FfUpDwIdeal.Value
public import proofs.«01_k».proof.Proof.Gen.FfUpDwRefIdeal.Run
public import proofs.«01_k».proof.Proof.Gen.FfUpDwRefIdeal.Read
public import proofs.«01_k».proof.Proof.Product
public import proofs.«01_k».proof.Defs

@[expose] public section

set_option maxRecDepth 16384

noncomputable section

namespace Cert.FfUpDwIdeal.Tiles

open Cert.FfUpDwIdeal Cert.FfUpDwIdeal.Gen Cert.FfUpDwIdeal.Value Cert.Product
open Idealize.ShloMosaic Idealize.ShloMosaic.TcCoe Idealize.SL.Sem

variable (m : (ℓ : Loc nD τ sig) → Buf (Elt Ideal) ℓ)

/-- The first tile of a block starts its sum. -/
theorem acc_first (c : Dev nD) (t : Fin cfg0.N) (h0 : t.val % 2 = 0) :
    (outsAt0 m c t.val t.isLt).2 = k0_pay2 (iblk m c 0 t) (iblk m c 1 t) := by
  rw [outsAt0_A m c t h0 (by omega) (by omega)]
  dsimp only
  unfold sout0_A_0
  refine (View.read_writes_eq_canon _ _ _ (by intro y; exact scover0_A_0 (y := y) c ..)).trans ?_
  unfold kernelRun0_A; dsimp only; sl_unfold_words
  simp only [View.readAt_eq_ld, (hs0_0 _).read_unread, (hs0_1 _).read_unread, View.ld_unit_zero (S := S2048x512) off2, View.ld_unit_zero (S := S2048x1408) off2]
  rw [View.canon_unit_zero off2]

/-- A later tile adds to it. -/
theorem acc_next (c : Dev nD) (t : Fin cfg0.N) (h0 : ¬t.val % 2 = 0) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h0 (by omega) (by omega)]
  dsimp only
  unfold sout0_B_0
  refine (View.read_writes_eq_canon _ _ _ (by intro y; exact scover0_B_0 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S2048x512) off2, View.ld_unit_zero (S := S2048x1408) off2, View.ld_unit_zero (S := S512x1408) off2]
  rw [View.canon_unit_zero off2]

/-- The last tile of a block writes the sum out. -/
theorem out_last (c : Dev nD) (t : Fin cfg0.N) (h2 : t.val % 2 = 1) :
    (outsAt0 m c t.val t.isLt).1 = k0_pay4 (outsAt0 m c t.val t.isLt).2 := by
  rw [acc_next m c t (by omega), outsAt0_B m c t (by omega) (by omega) (by omega)]
  dsimp only
  unfold out0_B_2
  refine (View.read_writes_eq_canon _ _ _ (by intro y; exact cover0_B_2 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S2048x512) off2, View.ld_unit_zero (S := S2048x1408) off2, View.ld_unit_zero (S := S512x1408) off2]
  rw [View.canon_unit_zero off2, View.readCov_cons_toLoadRect]

/-- Which tile window 0 is on at a point. -/
theorem idx0 : ∀ t : Fin cfg0.N, win0_0.index t = ![t.val % 2, t.val / 2 / 4] := (by decide +kernel : ∀ t : Fin grid0.N, _)

/-- Which tile window 1 is on at a point. -/
theorem idx1 : ∀ t : Fin cfg0.N, win0_1.index t = ![t.val % 2, t.val / 2 % 4] := (by decide +kernel : ∀ t : Fin grid0.N, _)

/-- Which tile window 2 is on at a point. -/
theorem idx2 : ∀ t : Fin cfg0.N, win0_2.index t = ![t.val / 2 / 4, t.val / 2 % 4] := (by decide +kernel : ∀ t : Fin grid0.N, _)

/-- The tile of the first matrix at a point of the grid. -/
theorem blk0 (c : Dev nD) (t : Fin cfg0.N) (k : Fin 2048) (l : Fin 512) :
    iblk m c 0 t (ix2 k l) = ent (V m c main_v0) (t.val % 2 * 2048 + k.val) (t.val / 2 / 4 * 512 + l.val) := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (k : Fin 2048) (j : Fin 1408) :
    iblk m c 1 t (ix2 k j) = ent (V m c main_v1) (t.val % 2 * 2048 + k.val) (t.val / 2 % 4 * 1408 + j.val) := by
  have ht := lt_of_lt_of_eq t.isLt N_0
  unfold ent
  rw [dif_pos ⟨by omega, by omega⟩]
  blk_ext! [iblk, idx1 t]

/-- What the sum of a block holds after each of its tiles. -/
theorem acc_eq (c : Dev nD) (l : Fin 512) (j : Fin 1408) : ∀ n h, (outsAt0 m c n h).2 (ix2 l j)
    = ∑ k ∈ Finset.range ((n % 2 + 1) * 2048), ent (V m c main_v0) k (n / 2 / 4 * 512 + l.val) * ent (V m c main_v1) k (n / 2 % 4 * 1408 + j.val) := by
  refine running (by norm_num) (fun n h => (outsAt0 m c n h).2 (ix2 l j))
    (fun q k => ent (V m c main_v0) k (q / 4 * 512 + l.val) * ent (V m c main_v1) k (q % 4 * 1408 + j.val)) (fun n h hn => ?_) (fun n h hn => ?_)
  · rw [acc_first m c ⟨n, h⟩ hn, Finset.sum_range]
    pointwise [k0_pay2, k0_pay1]
    simp only [blk0, blk1, hn, Nat.zero_mul, Nat.zero_add]
  · rw [acc_next m c ⟨n, h⟩ hn, Finset.sum_range]
    pointwise [k0_pay3, k0_pay1]
    simp only [blk0, blk1]

/-- The array the kernel leaves, over the arrays its call is given. -/
theorem left (c : Dev nD) : (dats m 0 c).arrAt 2 cfg0.N = prodTN (V m c main_v0) (V m c main_v1) := by
  refine Eq.trans ?_ (range_tn (V m c main_v0) (V m c main_v1))
  refine (dats m 0 c).arrAt_eq_of_covers 2 _ (by decide +kernel) fun t hf y => ?_
  have h3 := (flush0_2 t).1 hf
  blk_simp
  rw [after0_2, out_last m c t h3]
  obtain ⟨l, j, rfl⟩ := split2 y
  refine (show k0_pay4 (outsAt0 m c t.val t.isLt).2 (ix2 l j) = (outsAt0 m c t.val t.isLt).2 (ix2 l j) by pointwise [k0_pay4]).trans ?_
  rw [acc_eq, h3]
  have e0 : win0_2.index t 0 * 512 + (ix2 l j 0).val = (t.val / 2 / 4 * 512 + l.val) := by rw [idx2 t]; rfl
  have e1 : win0_2.index t 1 * 1408 + (ix2 l j 1).val = (t.val / 2 % 4 * 1408 + j.val) := by rw [idx2 t]; rfl
  rw [e0, e1]

/-- An argument's two leading axes are read as one. -/
theorem v0_flat (c : Dev nD) : V m c main_v0 = flat (m ((c : Thread nD τ).loc main_arg0)) := by
  funext y
  obtain ⟨i, k, rfl⟩ := split2 y
  unfold V
  simp only [hostOps0]
  after_results
  pointwise
  rfl

/-- An argument's two leading axes are read as one. -/
theorem v1_flat (c : Dev nD) : V m c main_v1 = flat (m ((c : Thread nD τ).loc main_arg1)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodTN (flat (m ((c : Thread nD τ).loc main_arg0))) (flat (m ((c : Thread nD τ).loc main_arg1))) := by
  rw [left, v0_flat, v1_flat]

end Cert.FfUpDwIdeal.Tiles

namespace Cert.FfUpDwRefIdeal.Whole

open Cert.FfUpDwRefIdeal Cert.FfUpDwRefIdeal.Read Cert.Product
open Idealize.ShloMosaic Idealize.ShloMosaic.TcCoe Idealize.SL.Sem

/-- The reference's gradient of the weight is that same product. -/
theorem result (a : FVec Ideal S2x2048x1024 .bf16) (dy : FVec Ideal S2x2048x5632 .bf16) : val_main_v6 (F := Ideal) a dy = prodTN (flat a) (flat dy) := by
  funext i
  obtain ⟨i, j, rfl⟩ := split2 i
  pointwise [val_main_v6, val_main_v5, val_main_v4, val_main_v1, val_main_v0]
  exact (token_sum _).trans (Finset.sum_congr rfl fun r _ => mul_comm _ _)

end Cert.FfUpDwRefIdeal.Whole

namespace Cert.FfUpDw

open Idealize.ShloMosaic Idealize.ShloMosaic.TcCoe Idealize.SL.Sem Cert.Product

/-- On arguments that agree, the kernel and the reference both run and end with equal results. -/
theorem equal : Cert.algebraic_FfUpDwIdeal_FfUpDwRefIdeal := by
  intro m g m' g' _ agree
  refine ⟨fun c => (FfUpDwIdeal.Gen.dats m 0 c).arrAt 2 FfUpDwIdeal.cfg0.N, FfUpDwIdeal.Value.run_blocks m g, ?_⟩
  refine (θ_run _ _ _).mono (fun r h c => ⟨(h c).1.trans ?_, (h c).2⟩) (FfUpDwRefIdeal.Value.run m' g')
  obtain ⟨h0, h1⟩ := agree c
  rw [FfUpDwRefIdeal.Read.val_main_v6_eq, h0, h1]
  exact (FfUpDwRefIdeal.Whole.result _ _).trans (FfUpDwIdeal.Tiles.final m c).symm

/-- The reference runs and leaves its arguments as they were. -/
theorem ref_frame : Cert.quiescent_FfUpDwRefIdeal := fun m ρ _ =>
  (θ_run Cert.FfUpDwRefIdeal.defs _ _).mono (fun r h => ⟨fun c => (h c).2, sem_eq_zero_of_no_sems (by decide) r.2⟩)
    (Cert.FfUpDwRefIdeal.Value.run (F := Ideal) m ρ)

end Cert.FfUpDw
-- ==== Proof.FfDownFwd.lean ====
module

public import proofs.«01_k».proof.Proof.Gen.FfDownFwdIdeal.Value
public import proofs.«01_k».proof.Proof.Gen.FfDownFwdRefIdeal.Run
public import proofs.«01_k».proof.Proof.Gen.FfDownFwdRefIdeal.Read
public import proofs.«01_k».proof.Proof.Product
public import proofs.«01_k».proof.Defs

@[expose] public section

set_option maxRecDepth 16384

noncomputable section

namespace Cert.FfDownFwdIdeal.Tiles

open Cert.FfDownFwdIdeal Cert.FfDownFwdIdeal.Gen Cert.FfDownFwdIdeal.Value Cert.Product
open Idealize.ShloMosaic Idealize.ShloMosaic.TcCoe Idealize.SL.Sem

variable (m : (ℓ : Loc nD τ sig) → Buf (Elt Ideal) ℓ)

/-- The first tile of a block starts its sum. -/
theorem acc_first (c : Dev nD) (t : Fin cfg0.N) (h0 : t.val % 2 = 0) :
    (outsAt0 m c t.val t.isLt).2 = k0_pay2 (iblk m c 0 t) (iblk m c 1 t) := by
  rw [outsAt0_A m c t h0 (by omega) (by omega)]
  dsimp only
  unfold sout0_A_0
  refine (View.read_writes_eq_canon _ _ _ (by intro y; exact scover0_A_0 (y := y) c ..)).trans ?_
  unfold kernelRun0_A; dsimp only; sl_unfold_words
  simp only [View.readAt_eq_ld, (hs0_0 _).read_unread, (hs0_1 _).read_unread, View.ld_unit_zero (S := S1024x1408) off2, View.ld_unit_zero (S := S1408x1024) off2]
  rw [View.canon_unit_zero off2]

/-- A later tile adds to it. -/
theorem acc_next (c : Dev nD) (t : Fin cfg0.N) (h0 : ¬t.val % 2 = 0) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h0 (by omega) (by omega)]
  dsimp only
  unfold sout0_B_0
  refine (View.read_writes_eq_canon _ _ _ (by intro y; exact scover0_B_0 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S1024x1408) off2, View.ld_unit_zero (S := S1408x1024) off2, View.ld_unit_zero (S := S1024x1024) off2]
  rw [View.canon_unit_zero off2]

/-- The last tile of a block writes the sum out. -/
theorem out_last (c : Dev nD) (t : Fin cfg0.N) (h2 : t.val % 2 = 1) :
    (outsAt0 m c t.val t.isLt).1 = (outsAt0 m c t.val t.isLt).2 := by
  rw [acc_next m c t (by omega), outsAt0_B m c t (by omega) (by omega) (by omega)]
  dsimp only
  unfold out0_B_2
  refine (View.read_writes_eq_canon _ _ _ (by intro y; exact cover0_B_2 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S1024x1408) off2, View.ld_unit_zero (S := S1408x1024) off2, View.ld_unit_zero (S := S1024x1024) off2]
  rw [View.canon_unit_zero off2, View.readCov_cons_toLoadRect]

/-- Which tile window 0 is on at a point. -/
theorem idx0 : ∀ t : Fin cfg0.N, win0_0.index t = ![t.val / 2, t.val % 2] := (by decide +kernel : ∀ t : Fin grid0.N, _)

/-- Which tile window 1 is on at a point. -/
theorem idx1 : ∀ t : Fin cfg0.N, win0_1.index t = ![t.val % 2, 0] := (by decide +kernel : ∀ t : Fin grid0.N, _)

/-- Which tile window 2 is on at a point. -/
theorem idx2 : ∀ t : Fin cfg0.N, win0_2.index t = ![t.val / 2, 0] := (by decide +kernel : ∀ t : Fin grid0.N, _)

/-- The tile of the first matrix at a point of the grid. -/
theorem blk0 (c : Dev nD) (t : Fin cfg0.N) (l : Fin 1024) (k : Fin 1408) :
    iblk m c 0 t (ix2 l k) = ent (V m c main_v0) (t.val / 2 * 1024 + l.val) (t.val % 2 * 1408 + k.val) := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (k : Fin 1408) (j : Fin 1024) :
    iblk m c 1 t (ix2 k j) = ent (V m c main_arg1) (t.val % 2 * 1408 + k.val) j.val := by
  have ht := lt_of_lt_of_eq t.isLt N_0
  unfold ent
  rw [dif_pos ⟨by omega, by omega⟩]
  blk_ext! [iblk, idx1 t]

/-- What the sum of a block holds after each of its tiles. -/
theorem acc_eq (c : Dev nD) (l : Fin 1024) (j : Fin 1024) : ∀ n h, (outsAt0 m c n h).2 (ix2 l j)
    = ∑ k ∈ Finset.range ((n % 2 + 1) * 1408), ent (V m c main_v0) (n / 2 * 1024 + l.val) k * ent (V m c main_arg1) k j.val := by
  refine running (by norm_num) (fun n h => (outsAt0 m c n h).2 (ix2 l j))
    (fun q k => ent (V m c main_v0) (q * 1024 + l.val) k * ent (V m c main_arg1) k j.val) (fun n h hn => ?_) (fun n h hn => ?_)
  · rw [acc_first m c ⟨n, h⟩ hn, Finset.sum_range]
    pointwise [k0_pay2, k0_pay1]
    simp only [blk0, blk1, hn, Nat.zero_mul, Nat.zero_add]
  · rw [acc_next m c ⟨n, h⟩ hn, Finset.sum_range]
    pointwise [k0_pay3, k0_pay1]
    simp only [blk0, blk1]

/-- The array the kernel leaves, over the arrays its call is given. -/
theorem left (c : Dev nD) : (dats m 0 c).arrAt 2 cfg0.N = prodNN (V m c main_v0) (V m c main_arg1) := by
  refine Eq.trans ?_ (range_nn (V m c main_v0) (V m c main_arg1))
  refine (dats m 0 c).arrAt_eq_of_covers 2 _ (by decide +kernel) fun t hf y => ?_
  have h3 := (flush0_2 t).1 hf
  blk_simp
  rw [after0_2, out_last m c t h3]
  obtain ⟨l, j, rfl⟩ := split2 y
  rw [acc_eq, h3]
  have e0 : win0_2.index t 0 * 1024 + (ix2 l j 0).val = (t.val / 2 * 1024 + l.val) := by rw [idx2 t]; rfl
  have e1 : win0_2.index t 1 * 1024 + (ix2 l j 1).val = j.val := by rw [idx2 t]; exact Nat.zero_add _
  rw [e0, e1]

/-- An argument's two leading axes are read as one. -/
theorem v0_flat (c : Dev nD) : V m c main_v0 = flat (m ((c : Thread nD τ).loc main_arg0)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodNN (flat (m ((c : Thread nD τ).loc main_arg0))) (m ((c : Thread nD τ).loc main_arg1)) := by
  rw [left, v0_flat, V_main_arg1]

end Cert.FfDownFwdIdeal.Tiles

namespace Cert.FfDownFwdRefIdeal.Whole

open Cert.FfDownFwdRefIdeal Cert.FfDownFwdRefIdeal.Read Cert.Product
open Idealize.ShloMosaic Idealize.ShloMosaic.TcCoe Idealize.SL.Sem

/-- The reference's product is that same product. -/
theorem result (a : FVec Ideal S2x2048x2816 .bf16) (w : FVec Ideal S2816x1024 .bf16) : val_main_v3 (F := Ideal) a w = prodNN (flat a) w := by
  funext i
  obtain ⟨i, j, rfl⟩ := split2 i
  pointwise [val_main_v3, val_main_v2, val_main_v1, val_main_v0]
  rfl

end Cert.FfDownFwdRefIdeal.Whole

namespace Cert.FfDownFwd

open Idealize.ShloMosaic Idealize.ShloMosaic.TcCoe Idealize.SL.Sem Cert.Product

/-- On arguments that agree, the kernel and the reference both run and end with equal results. -/
theorem equal : Cert.algebraic_FfDownFwdIdeal_FfDownFwdRefIdeal := by
  intro m g m' g' _ agree
  refine ⟨fun c => (FfDownFwdIdeal.Gen.dats m 0 c).arrAt 2 FfDownFwdIdeal.cfg0.N, FfDownFwdIdeal.Value.run_blocks m g, ?_⟩
  refine (θ_run _ _ _).mono (fun r h c => ⟨(h c).1.trans ?_, (h c).2⟩) (FfDownFwdRefIdeal.Value.run m' g')
  obtain ⟨h0, h1⟩ := agree c
  rw [FfDownFwdRefIdeal.Read.val_main_v3_eq, h0, h1]
  exact (FfDownFwdRefIdeal.Whole.result _ _).trans (FfDownFwdIdeal.Tiles.final m c).symm

/-- The reference runs and leaves its arguments as they were. -/
theorem ref_frame : Cert.quiescent_FfDownFwdRefIdeal := fun m ρ _ =>
  (θ_run Cert.FfDownFwdRefIdeal.defs _ _).mono (fun r h => ⟨fun c => (h c).2, sem_eq_zero_of_no_sems (by decide) r.2⟩)
    (Cert.FfDownFwdRefIdeal.Value.run (F := Ideal) m ρ)

end Cert.FfDownFwd
-- ==== Proof.FfDownDx.lean ====
module

public import proofs.«01_k».proof.Proof.Gen.FfDownDxIdeal.Value
public import proofs.«01_k».proof.Proof.Gen.FfDownDxRefIdeal.Run
public import proofs.«01_k».proof.Proof.Gen.FfDownDxRefIdeal.Read
public import proofs.«01_k».proof.Proof.Product
public import proofs.«01_k».proof.Defs

@[expose] public section

set_option maxRecDepth 16384

noncomputable section

namespace Cert.FfDownDxIdeal.Tiles

open Cert.FfDownDxIdeal Cert.FfDownDxIdeal.Gen Cert.FfDownDxIdeal.Value Cert.Product
open Idealize.ShloMosaic Idealize.ShloMosaic.TcCoe Idealize.SL.Sem

variable (m : (ℓ : Loc nD τ sig) → Buf (Elt Ideal) ℓ)

/-- What a tile computes is the product of its two blocks. -/
theorem tile_product (x : FVec Ideal S1024x1024 .bf16) (y : FVec Ideal S1408x1024 .bf16) (l : Fin 1024) (j : Fin 1408) :
    (k0_pay1 (F := Ideal) x y (ix2 l j) : EReal) = ∑ k : Fin 1024, x (ix2 l k) * y (ix2 j k) := by
  pointwise [k0_pay1]

/-- Every tile writes its own product out. -/
theorem out_tile (c : Dev nD) (t : Fin cfg0.N) : outsAt0 m c t = k0_pay1 (iblk m c 0 t) (iblk m c 1 t) := by
  unfold outsAt0 out0_A_2
  refine (View.read_writes_eq_canon _ _ _ (by intro y; exact cover0_A_2 (y := y) c ..)).trans ?_
  unfold kernelRun0_A; dsimp only; sl_unfold_words
  simp only [View.readAt_eq_ld, (hs0_0 _).read_unread, (hs0_1 _).read_unread, View.ld_unit_zero (S := S1024x1024) off2, View.ld_unit_zero (S := S1408x1024) off2]
  rw [View.canon_unit_zero off2]

/-- Which tile window 0 is on at a point. -/
theorem idx0 : ∀ t : Fin cfg0.N, win0_0.index t = ![t.val / 2, 0] := (by decide +kernel : ∀ t : Fin grid0.N, _)

/-- Which tile window 1 is on at a point. -/
theorem idx1 : ∀ t : Fin cfg0.N, win0_1.index t = ![t.val % 2, 0] := (by decide +kernel : ∀ t : Fin grid0.N, _)

/-- Which tile window 2 is on at a point. -/
theorem idx2 : ∀ t : Fin cfg0.N, win0_2.index t = ![t.val / 2, t.val % 2] := (by decide +kernel : ∀ t : Fin grid0.N, _)

/-- The tile of the first matrix at a point of the grid. -/
theorem blk0 (c : Dev nD) (t : Fin cfg0.N) (l : Fin 1024) (k : Fin 1024) :
    iblk m c 0 t (ix2 l k) = ent (V m c main_v0) (t.val / 2 * 1024 + l.val) k.val := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (j : Fin 1408) (k : Fin 1024) :
    iblk m c 1 t (ix2 j k) = ent (V m c main_arg0) (t.val % 2 * 1408 + j.val) k.val := by
  have ht := lt_of_lt_of_eq t.isLt N_0
  unfold ent
  rw [dif_pos ⟨by omega, by omega⟩]
  blk_ext! [iblk, idx1 t]

/-- The array the kernel leaves, over the arrays its call is given. -/
theorem left (c : Dev nD) : (dats m 0 c).arrAt 2 cfg0.N = prodNT (V m c main_v0) (V m c main_arg0) := by
  refine Eq.trans ?_ (range_nt (V m c main_v0) (V m c main_arg0))
  refine (dats m 0 c).arrAt_eq_of_covers 2 _ (by decide +kernel) fun t hf y => ?_
  blk_simp
  rw [after0_2, out_tile m c t]
  obtain ⟨l, j, rfl⟩ := split2 y
  have e0 : win0_2.index t 0 * 1024 + (ix2 l j 0).val = (t.val / 2 * 1024 + l.val) := by rw [idx2 t]; rfl
  have e1 : win0_2.index t 1 * 1408 + (ix2 l j 1).val = (t.val % 2 * 1408 + j.val) := by rw [idx2 t]; rfl
  rw [e0, e1, Finset.sum_range]
  refine (tile_product _ _ l j).trans ?_
  simp only [blk0, blk1]

/-- An argument's two leading axes are read as one. -/
theorem v0_flat (c : Dev nD) : V m c main_v0 = flat (m ((c : Thread nD τ).loc main_arg1)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodNT (flat (m ((c : Thread nD τ).loc main_arg1))) (m ((c : Thread nD τ).loc main_arg0)) := by
  rw [left, v0_flat, V_main_arg0]

end Cert.FfDownDxIdeal.Tiles

namespace Cert.FfDownDxRefIdeal.Whole

open Cert.FfDownDxRefIdeal Cert.FfDownDxRefIdeal.Read Cert.Product
open Idealize.ShloMosaic Idealize.ShloMosaic.TcCoe Idealize.SL.Sem

/-- The reference's gradient of the activations is that same product. -/
theorem result (w : FVec Ideal S2816x1024 .bf16) (dy : FVec Ideal S2x2048x1024 .bf16) : val_main_v6 (F := Ideal) w dy = prodNT (flat dy) w := by
  funext i
  obtain ⟨i, j, rfl⟩ := split2 i
  pointwise [val_main_v6, val_main_v5, val_main_v4, val_main_v1, val_main_v0]
  rfl

end Cert.FfDownDxRefIdeal.Whole

namespace Cert.FfDownDx

open Idealize.ShloMosaic Idealize.ShloMosaic.TcCoe Idealize.SL.Sem Cert.Product

/-- On arguments that agree, the kernel and the reference both run and end with equal results. -/
theorem equal : Cert.algebraic_FfDownDxIdeal_FfDownDxRefIdeal := by
  intro m g m' g' _ agree
  refine ⟨fun c => (FfDownDxIdeal.Gen.dats m 0 c).arrAt 2 FfDownDxIdeal.cfg0.N, FfDownDxIdeal.Value.run_blocks m g, ?_⟩
  refine (θ_run _ _ _).mono (fun r h c => ⟨(h c).1.trans ?_, (h c).2⟩) (FfDownDxRefIdeal.Value.run m' g')
  obtain ⟨h0, h1⟩ := agree c
  rw [FfDownDxRefIdeal.Read.val_main_v6_eq, h0, h1]
  exact (FfDownDxRefIdeal.Whole.result _ _).trans (FfDownDxIdeal.Tiles.final m c).symm

/-- The reference runs and leaves its arguments as they were. -/
theorem ref_frame : Cert.quiescent_FfDownDxRefIdeal := fun m ρ _ =>
  (θ_run Cert.FfDownDxRefIdeal.defs _ _).mono (fun r h => ⟨fun c => (h c).2, sem_eq_zero_of_no_sems (by decide) r.2⟩)
    (Cert.FfDownDxRefIdeal.Value.run (F := Ideal) m ρ)

end Cert.FfDownDx
-- ==== Proof.FfDownDw.lean ====
module

public import proofs.«01_k».proof.Proof.Gen.FfDownDwIdeal.Value
public import proofs.«01_k».proof.Proof.Gen.FfDownDwRefIdeal.Run
public import proofs.«01_k».proof.Proof.Gen.FfDownDwRefIdeal.Read
public import proofs.«01_k».proof.Proof.Product
public import proofs.«01_k».proof.Defs

@[expose] public section

set_option maxRecDepth 16384

noncomputable section

namespace Cert.FfDownDwIdeal.Tiles

open Cert.FfDownDwIdeal Cert.FfDownDwIdeal.Gen Cert.FfDownDwIdeal.Value Cert.Product
open Idealize.ShloMosaic Idealize.ShloMosaic.TcCoe Idealize.SL.Sem

variable (m : (ℓ : Loc nD τ sig) → Buf (Elt Ideal) ℓ)

/-- The first tile of a block starts its sum. -/
theorem acc_first (c : Dev nD) (t : Fin cfg0.N) (h0 : t.val % 2 = 0) :
    (outsAt0 m c t.val t.isLt).2 = k0_pay2 (iblk m c 0 t) (iblk m c 1 t) := by
  rw [outsAt0_A m c t h0 (by omega) (by omega)]
  dsimp only
  unfold sout0_A_0
  refine (View.read_writes_eq_canon _ _ _ (by intro y; exact scover0_A_0 (y := y) c ..)).trans ?_
  unfold kernelRun0_A; dsimp only; sl_unfold_words
  simp only [View.readAt_eq_ld, (hs0_0 _).read_unread, (hs0_1 _).read_unread, View.ld_unit_zero (S := S2048x1408) off2, View.ld_unit_zero (S := S2048x512) off2]
  rw [View.canon_unit_zero off2]

/-- A later tile adds to it. -/
theorem acc_next (c : Dev nD) (t : Fin cfg0.N) (h0 : ¬t.val % 2 = 0) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h0 (by omega) (by omega)]
  dsimp only
  unfold sout0_B_0
  refine (View.read_writes_eq_canon _ _ _ (by intro y; exact scover0_B_0 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S2048x1408) off2, View.ld_unit_zero (S := S2048x512) off2, View.ld_unit_zero (S := S1408x512) off2]
  rw [View.canon_unit_zero off2]

/-- The last tile of a block writes the sum out. -/
theorem out_last (c : Dev nD) (t : Fin cfg0.N) (h2 : t.val % 2 = 1) :
    (outsAt0 m c t.val t.isLt).1 = k0_pay4 (outsAt0 m c t.val t.isLt).2 := by
  rw [acc_next m c t (by omega), outsAt0_B m c t (by omega) (by omega) (by omega)]
  dsimp only
  unfold out0_B_2
  refine (View.read_writes_eq_canon _ _ _ (by intro y; exact cover0_B_2 (y := y) c ..)).trans ?_
  unfold kernelRun0_B; dsimp only; sl_unfold_words
  simp only [View.readAt_eq_ld, (hs0_0 _).read_unread, (hs0_1 _).read_unread, (Memref.isWhole_whole _).read_unread,
    View.ld_unit_zero (S := S2048x1408) off2, View.ld_unit_zero (S := S2048x512) off2, View.ld_unit_zero (S := S1408x512) off2]
  rw [View.canon_unit_zero off2, View.readCov_cons_toLoadRect]

/-- Which tile window 0 is on at a point. -/
theorem idx0 : ∀ t : Fin cfg0.N, win0_0.index t = ![t.val % 2, t.val / 2 / 2] := (by decide +kernel : ∀ t : Fin grid0.N, _)

/-- Which tile window 1 is on at a point. -/
theorem idx1 : ∀ t : Fin cfg0.N, win0_1.index t = ![t.val % 2, t.val / 2 % 2] := (by decide +kernel : ∀ t : Fin grid0.N, _)

/-- Which tile window 2 is on at a point. -/
theorem idx2 : ∀ t : Fin cfg0.N, win0_2.index t = ![t.val / 2 / 2, t.val / 2 % 2] := (by decide +kernel : ∀ t : Fin grid0.N, _)

/-- The tile of the first matrix at a point of the grid. -/
theorem blk0 (c : Dev nD) (t : Fin cfg0.N) (k : Fin 2048) (l : Fin 1408) :
    iblk m c 0 t (ix2 k l) = ent (V m c main_v0) (t.val % 2 * 2048 + k.val) (t.val / 2 / 2 * 1408 + l.val) := by
  have ht := lt_of_lt_of_eq t.isLt N_0
  unfold ent
  rw [dif_pos ⟨by omega, by omega⟩]
  blk_ext! [iblk, idx0 t]

/-- The tile of the second matrix at a point of the grid. -/
theorem blk1 (c : Dev nD) (t : Fin cfg0.N) (k : Fin 2048) (j : Fin 512) :
    iblk m c 1 t (ix2 k j) = ent (V m c main_v1) (t.val % 2 * 2048 + k.val) (t.val / 2 % 2 * 512 + j.val) := by
  have ht := lt_of_lt_of_eq t.isLt N_0
  unfold ent
  rw [dif_pos ⟨by omega, by omega⟩]
  blk_ext! [iblk, idx1 t]

/-- What the sum of a block holds after each of its tiles. -/
theorem acc_eq (c : Dev nD) (l : Fin 1408) (j : Fin 512) : ∀ n h, (outsAt0 m c n h).2 (ix2 l j)
    = ∑ k ∈ Finset.range ((n % 2 + 1) * 2048), ent (V m c main_v0) k (n / 2 / 2 * 1408 + l.val) * ent (V m c main_v1) k (n / 2 % 2 * 512 + j.val) := by
  refine running (by norm_num) (fun n h => (outsAt0 m c n h).2 (ix2 l j))
    (fun q k => ent (V m c main_v0) k (q / 2 * 1408 + l.val) * ent (V m c main_v1) k (q % 2 * 512 + j.val)) (fun n h hn => ?_) (fun n h hn => ?_)
  · rw [acc_first m c ⟨n, h⟩ hn, Finset.sum_range]
    pointwise [k0_pay2, k0_pay1]
    simp only [blk0, blk1, hn, Nat.zero_mul, Nat.zero_add]
  · rw [acc_next m c ⟨n, h⟩ hn, Finset.sum_range]
    pointwise [k0_pay3, k0_pay1]
    simp only [blk0, blk1]

/-- The array the kernel leaves, over the arrays its call is given. -/
theorem left (c : Dev nD) : (dats m 0 c).arrAt 2 cfg0.N = prodTN (V m c main_v0) (V m c main_v1) := by
  refine Eq.trans ?_ (range_tn (V m c main_v0) (V m c main_v1))
  refine (dats m 0 c).arrAt_eq_of_covers 2 _ (by decide +kernel) fun t hf y => ?_
  have h3 := (flush0_2 t).1 hf
  blk_simp
  rw [after0_2, out_last m c t h3]
  obtain ⟨l, j, rfl⟩ := split2 y
  refine (show k0_pay4 (outsAt0 m c t.val t.isLt).2 (ix2 l j) = (outsAt0 m c t.val t.isLt).2 (ix2 l j) by pointwise [k0_pay4]).trans ?_
  rw [acc_eq, h3]
  have e0 : win0_2.index t 0 * 1408 + (ix2 l j 0).val = (t.val / 2 / 2 * 1408 + l.val) := by rw [idx2 t]; rfl
  have e1 : win0_2.index t 1 * 512 + (ix2 l j 1).val = (t.val / 2 % 2 * 512 + j.val) := by rw [idx2 t]; rfl
  rw [e0, e1]

/-- An argument's two leading axes are read as one. -/
theorem v0_flat (c : Dev nD) : V m c main_v0 = flat (m ((c : Thread nD τ).loc main_arg0)) := by
  funext y
  obtain ⟨i, k, rfl⟩ := split2 y
  unfold V
  simp only [hostOps0]
  after_results
  pointwise
  rfl

/-- An argument's two leading axes are read as one. -/
theorem v1_flat (c : Dev nD) : V m c main_v1 = flat (m ((c : Thread nD τ).loc main_arg1)) := by
  funext y
  obtain ⟨i, k, rfl⟩ := split2 y
  unfold V
  simp only [hostOps0]
  after_results
  pointwise
  rfl

/-- The array the kernel leaves, over the arguments. -/
theorem final (c : Dev nD) : (dats m 0 c).arrAt 2 cfg0.N = prodTN (flat (m ((c : Thread nD τ).loc main_arg0))) (flat (m ((c : Thread nD τ).loc main_arg1))) := by
  rw [left, v0_flat, v1_flat]

end Cert.FfDownDwIdeal.Tiles

namespace Cert.FfDownDwRefIdeal.Whole

open Cert.FfDownDwRefIdeal Cert.FfDownDwRefIdeal.Read Cert.Product
open Idealize.ShloMosaic Idealize.ShloMosaic.TcCoe Idealize.SL.Sem

/-- The reference's gradient of the weight is that same product. -/
theorem result (a : FVec Ideal S2x2048x2816 .bf16) (dy : FVec Ideal S2x2048x1024 .bf16) : val_main_v6 (F := Ideal) a dy = prodTN (flat a) (flat dy) := by
  funext i
  obtain ⟨i, j, rfl⟩ := split2 i
  pointwise [val_main_v6, val_main_v5, val_main_v4, val_main_v1, val_main_v0]
  exact (token_sum _).trans (Finset.sum_congr rfl fun r _ => mul_comm _ _)

end Cert.FfDownDwRefIdeal.Whole

namespace Cert.FfDownDw

open Idealize.ShloMosaic Idealize.ShloMosaic.TcCoe Idealize.SL.Sem Cert.Product

/-- On arguments that agree, the kernel and the reference both run and end with equal results. -/
theorem equal : Cert.algebraic_FfDownDwIdeal_FfDownDwRefIdeal := by
  intro m g m' g' _ agree
  refine ⟨fun c => (FfDownDwIdeal.Gen.dats m 0 c).arrAt 2 FfDownDwIdeal.cfg0.N, FfDownDwIdeal.Value.run_blocks m g, ?_⟩
  refine (θ_run _ _ _).mono (fun r h c => ⟨(h c).1.trans ?_, (h c).2⟩) (FfDownDwRefIdeal.Value.run m' g')
  obtain ⟨h0, h1⟩ := agree c
  rw [FfDownDwRefIdeal.Read.val_main_v6_eq, h0, h1]
  exact (FfDownDwRefIdeal.Whole.result _ _).trans (FfDownDwIdeal.Tiles.final m c).symm

/-- The reference runs and leaves its arguments as they were. -/
theorem ref_frame : Cert.quiescent_FfDownDwRefIdeal := fun m ρ _ =>
  (θ_run Cert.FfDownDwRefIdeal.defs _ _).mono (fun r h => ⟨fun c => (h c).2, sem_eq_zero_of_no_sems (by decide) r.2⟩)
    (Cert.FfDownDwRefIdeal.Value.run (F := Ideal) m ρ)

end Cert.FfDownDw
-- ==== Proof.lean ====
module

public import proofs.«01_k».proof.Proof.Gen.AdamAdaW.Frame
public import proofs.«01_k».proof.Proof.Gen.AdamWIn.Frame
public import proofs.«01_k».proof.Proof.Gen.AdamWOut.Frame
public import proofs.«01_k».proof.Proof.Gen.AdamFfUp.Frame
public import proofs.«01_k».proof.Proof.Gen.AdamFfDown.Frame
public import proofs.«01_k».proof.Proof.Gen.AdaBwd.Frame
public import proofs.«01_k».proof.Proof.Gen.NormBwd.Frame
public import proofs.«01_k».proof.Proof.AdamAdaW
public import proofs.«01_k».proof.Proof.AdamWIn
public import proofs.«01_k».proof.Proof.AdamWOut
public import proofs.«01_k».proof.Proof.AdamFfUp
public import proofs.«01_k».proof.Proof.AdamFfDown
public import proofs.«01_k».proof.Proof.AdaBwd
public import proofs.«01_k».proof.Proof.NormBwd
public import proofs.«01_k».proof.Proof.SmallSum
public import proofs.«01_k».proof.Proof.SmallSumPlain
public import proofs.«01_k».proof.Defs
public import proofs.«01_k».proof.Proof.Gen.GatingBwd
public import proofs.«01_k».proof.Proof.Gen.GatingBwd.Skeleton
public import proofs.«01_k».proof.Proof.Gen.GatingBwd.Launch
public import proofs.«01_k».proof.Proof.Gen.GatingBwd.Points
public import proofs.«01_k».proof.Proof.Gen.GatingBwd.Frame
public import proofs.«01_k».proof.Proof.Gen.GatingBwdIdeal
public import proofs.«01_k».proof.Proof.Gen.GatingBwdIdeal.Skeleton
public import proofs.«01_k».proof.Proof.Gen.GatingBwdIdeal.Launch
public import proofs.«01_k».proof.Proof.Gen.GatingBwdIdeal.Points
public import proofs.«01_k».proof.Proof.Gen.GatingBwdIdeal.Frame
public import proofs.«01_k».proof.Proof.Gen.GatingRefIdeal
public import proofs.«01_k».proof.Proof.Gen.GatingBwdIdeal.Value
public import proofs.«01_k».proof.Proof.Gen.GatingRefIdeal.Run
public import proofs.«01_k».proof.Proof.Gen.GatingRefIdeal.Read
public import proofs.«01_k».proof.Proof.Equal
public import proofs.«01_k».proof.Proof.Gen.WInFwd
public import proofs.«01_k».proof.Proof.Gen.WInFwd.Skeleton
public import proofs.«01_k».proof.Proof.Gen.WInFwd.Launch
public import proofs.«01_k».proof.Proof.Gen.WInFwd.Points
public import proofs.«01_k».proof.Proof.Gen.WInFwd.Frame
public import proofs.«01_k».proof.Proof.Gen.WInFwdIdeal
public import proofs.«01_k».proof.Proof.Gen.WInFwdIdeal.Skeleton
public import proofs.«01_k».proof.Proof.Gen.WInFwdIdeal.Launch
public import proofs.«01_k».proof.Proof.Gen.WInFwdIdeal.Points
public import proofs.«01_k».proof.Proof.Gen.WInFwdIdeal.Frame
public import proofs.«01_k».proof.Proof.Gen.WInFwdRefIdeal
public import proofs.«01_k».proof.Proof.Gen.WInFwdIdeal.Value
public import proofs.«01_k».proof.Proof.Gen.WInFwdRefIdeal.Run
public import proofs.«01_k».proof.Proof.Gen.WInFwdRefIdeal.Read
public import proofs.«01_k».proof.Proof.WInFwd
public import proofs.«01_k».proof.Proof.Gen.WInDx
public import proofs.«01_k».proof.Proof.Gen.WInDx.Skeleton
public import proofs.«01_k».proof.Proof.Gen.WInDx.Launch
public import proofs.«01_k».proof.Proof.Gen.WInDx.Points
public import proofs.«01_k».proof.Proof.Gen.WInDx.Frame
public import proofs.«01_k».proof.Proof.Gen.WInDxIdeal
public import proofs.«01_k».proof.Proof.Gen.WInDxIdeal.Skeleton
public import proofs.«01_k».proof.Proof.Gen.WInDxIdeal.Launch
public import proofs.«01_k».proof.Proof.Gen.WInDxIdeal.Points
public import proofs.«01_k».proof.Proof.Gen.WInDxIdeal.Frame
public import proofs.«01_k».proof.Proof.Gen.WInDxRefIdeal
public import proofs.«01_k».proof.Proof.Gen.WInDxIdeal.Value
public import proofs.«01_k».proof.Proof.Gen.WInDxRefIdeal.Run
public import proofs.«01_k».proof.Proof.Gen.WInDxRefIdeal.Read
public import proofs.«01_k».proof.Proof.WInDx
public import proofs.«01_k».proof.Proof.Gen.WInDw
public import proofs.«01_k».proof.Proof.Gen.WInDw.Skeleton
public import proofs.«01_k».proof.Proof.Gen.WInDw.Launch
public import proofs.«01_k».proof.Proof.Gen.WInDw.Points
public import proofs.«01_k».proof.Proof.Gen.WInDw.Frame
public import proofs.«01_k».proof.Proof.Gen.WInDwIdeal
public import proofs.«01_k».proof.Proof.Gen.WInDwIdeal.Skeleton
public import proofs.«01_k».proof.Proof.Gen.WInDwIdeal.Launch
public import proofs.«01_k».proof.Proof.Gen.WInDwIdeal.Points
public import proofs.«01_k».proof.Proof.Gen.WInDwIdeal.Frame
public import proofs.«01_k».proof.Proof.Gen.WInDwRefIdeal
public import proofs.«01_k».proof.Proof.Gen.WInDwIdeal.Value
public import proofs.«01_k».proof.Proof.Gen.WInDwRefIdeal.Run
public import proofs.«01_k».proof.Proof.Gen.WInDwRefIdeal.Read
public import proofs.«01_k».proof.Proof.WInDw
public import proofs.«01_k».proof.Proof.Gen.WOutFwd
public import proofs.«01_k».proof.Proof.Gen.WOutFwd.Skeleton
public import proofs.«01_k».proof.Proof.Gen.WOutFwd.Launch
public import proofs.«01_k».proof.Proof.Gen.WOutFwd.Points
public import proofs.«01_k».proof.Proof.Gen.WOutFwd.Frame
public import proofs.«01_k».proof.Proof.Gen.WOutFwdIdeal
public import proofs.«01_k».proof.Proof.Gen.WOutFwdIdeal.Skeleton
public import proofs.«01_k».proof.Proof.Gen.WOutFwdIdeal.Launch
public import proofs.«01_k».proof.Proof.Gen.WOutFwdIdeal.Points
public import proofs.«01_k».proof.Proof.Gen.WOutFwdIdeal.Frame
public import proofs.«01_k».proof.Proof.Gen.WOutFwdRefIdeal
public import proofs.«01_k».proof.Proof.Gen.WOutFwdIdeal.Value
public import proofs.«01_k».proof.Proof.Gen.WOutFwdRefIdeal.Run
public import proofs.«01_k».proof.Proof.Gen.WOutFwdRefIdeal.Read
public import proofs.«01_k».proof.Proof.WOutFwd
public import proofs.«01_k».proof.Proof.Gen.WOutDx
public import proofs.«01_k».proof.Proof.Gen.WOutDx.Skeleton
public import proofs.«01_k».proof.Proof.Gen.WOutDx.Launch
public import proofs.«01_k».proof.Proof.Gen.WOutDx.Points
public import proofs.«01_k».proof.Proof.Gen.WOutDx.Frame
public import proofs.«01_k».proof.Proof.Gen.WOutDxIdeal
public import proofs.«01_k».proof.Proof.Gen.WOutDxIdeal.Skeleton
public import proofs.«01_k».proof.Proof.Gen.WOutDxIdeal.Launch
public import proofs.«01_k».proof.Proof.Gen.WOutDxIdeal.Points
public import proofs.«01_k».proof.Proof.Gen.WOutDxIdeal.Frame
public import proofs.«01_k».proof.Proof.Gen.WOutDxRefIdeal
public import proofs.«01_k».proof.Proof.Gen.WOutDxIdeal.Value
public import proofs.«01_k».proof.Proof.Gen.WOutDxRefIdeal.Run
public import proofs.«01_k».proof.Proof.Gen.WOutDxRefIdeal.Read
public import proofs.«01_k».proof.Proof.WOutDx
public import proofs.«01_k».proof.Proof.Gen.WOutDw
public import proofs.«01_k».proof.Proof.Gen.WOutDw.Skeleton
public import proofs.«01_k».proof.Proof.Gen.WOutDw.Launch
public import proofs.«01_k».proof.Proof.Gen.WOutDw.Points
public import proofs.«01_k».proof.Proof.Gen.WOutDw.Frame
public import proofs.«01_k».proof.Proof.Gen.WOutDwIdeal
public import proofs.«01_k».proof.Proof.Gen.WOutDwIdeal.Skeleton
public import proofs.«01_k».proof.Proof.Gen.WOutDwIdeal.Launch
public import proofs.«01_k».proof.Proof.Gen.WOutDwIdeal.Points
public import proofs.«01_k».proof.Proof.Gen.WOutDwIdeal.Frame
public import proofs.«01_k».proof.Proof.Gen.WOutDwRefIdeal
public import proofs.«01_k».proof.Proof.Gen.WOutDwIdeal.Value
public import proofs.«01_k».proof.Proof.Gen.WOutDwRefIdeal.Run
public import proofs.«01_k».proof.Proof.Gen.WOutDwRefIdeal.Read
public import proofs.«01_k».proof.Proof.WOutDw
public import proofs.«01_k».proof.Proof.Gen.FfUpFwd
public import proofs.«01_k».proof.Proof.Gen.FfUpFwd.Skeleton
public import proofs.«01_k».proof.Proof.Gen.FfUpFwd.Launch
public import proofs.«01_k».proof.Proof.Gen.FfUpFwd.Points
public import proofs.«01_k».proof.Proof.Gen.FfUpFwd.Frame
public import proofs.«01_k».proof.Proof.Gen.FfUpFwdIdeal
public import proofs.«01_k».proof.Proof.Gen.FfUpFwdIdeal.Skeleton
public import proofs.«01_k».proof.Proof.Gen.FfUpFwdIdeal.Launch
public import proofs.«01_k».proof.Proof.Gen.FfUpFwdIdeal.Points
public import proofs.«01_k».proof.Proof.Gen.FfUpFwdIdeal.Frame
public import proofs.«01_k».proof.Proof.Gen.FfUpFwdRefIdeal
public import proofs.«01_k».proof.Proof.Gen.FfUpFwdIdeal.Value
public import proofs.«01_k».proof.Proof.Gen.FfUpFwdRefIdeal.Run
public import proofs.«01_k».proof.Proof.Gen.FfUpFwdRefIdeal.Read
public import proofs.«01_k».proof.Proof.FfUpFwd
public import proofs.«01_k».proof.Proof.Gen.FfUpDx
public import proofs.«01_k».proof.Proof.Gen.FfUpDx.Skeleton
public import proofs.«01_k».proof.Proof.Gen.FfUpDx.Launch
public import proofs.«01_k».proof.Proof.Gen.FfUpDx.Points
public import proofs.«01_k».proof.Proof.Gen.FfUpDx.Frame
public import proofs.«01_k».proof.Proof.Gen.FfUpDxIdeal
public import proofs.«01_k».proof.Proof.Gen.FfUpDxIdeal.Skeleton
public import proofs.«01_k».proof.Proof.Gen.FfUpDxIdeal.Launch
public import proofs.«01_k».proof.Proof.Gen.FfUpDxIdeal.Points
public import proofs.«01_k».proof.Proof.Gen.FfUpDxIdeal.Frame
public import proofs.«01_k».proof.Proof.Gen.FfUpDxRefIdeal
public import proofs.«01_k».proof.Proof.Gen.FfUpDxIdeal.Value
public import proofs.«01_k».proof.Proof.Gen.FfUpDxRefIdeal.Run
public import proofs.«01_k».proof.Proof.Gen.FfUpDxRefIdeal.Read
public import proofs.«01_k».proof.Proof.FfUpDx
public import proofs.«01_k».proof.Proof.Gen.FfUpDw
public import proofs.«01_k».proof.Proof.Gen.FfUpDw.Skeleton
public import proofs.«01_k».proof.Proof.Gen.FfUpDw.Launch
public import proofs.«01_k».proof.Proof.Gen.FfUpDw.Points
public import proofs.«01_k».proof.Proof.Gen.FfUpDw.Frame
public import proofs.«01_k».proof.Proof.Gen.FfUpDwIdeal
public import proofs.«01_k».proof.Proof.Gen.FfUpDwIdeal.Skeleton
public import proofs.«01_k».proof.Proof.Gen.FfUpDwIdeal.Launch
public import proofs.«01_k».proof.Proof.Gen.FfUpDwIdeal.Points
public import proofs.«01_k».proof.Proof.Gen.FfUpDwIdeal.Frame
public import proofs.«01_k».proof.Proof.Gen.FfUpDwRefIdeal
public import proofs.«01_k».proof.Proof.Gen.FfUpDwIdeal.Value
public import proofs.«01_k».proof.Proof.Gen.FfUpDwRefIdeal.Run
public import proofs.«01_k».proof.Proof.Gen.FfUpDwRefIdeal.Read
public import proofs.«01_k».proof.Proof.FfUpDw
public import proofs.«01_k».proof.Proof.Gen.FfDownFwd
public import proofs.«01_k».proof.Proof.Gen.FfDownFwd.Skeleton
public import proofs.«01_k».proof.Proof.Gen.FfDownFwd.Launch
public import proofs.«01_k».proof.Proof.Gen.FfDownFwd.Points
public import proofs.«01_k».proof.Proof.Gen.FfDownFwd.Frame
public import proofs.«01_k».proof.Proof.Gen.FfDownFwdIdeal
public import proofs.«01_k».proof.Proof.Gen.FfDownFwdIdeal.Skeleton
public import proofs.«01_k».proof.Proof.Gen.FfDownFwdIdeal.Launch
public import proofs.«01_k».proof.Proof.Gen.FfDownFwdIdeal.Points
public import proofs.«01_k».proof.Proof.Gen.FfDownFwdIdeal.Frame
public import proofs.«01_k».proof.Proof.Gen.FfDownFwdRefIdeal
public import proofs.«01_k».proof.Proof.Gen.FfDownFwdIdeal.Value
public import proofs.«01_k».proof.Proof.Gen.FfDownFwdRefIdeal.Run
public import proofs.«01_k».proof.Proof.Gen.FfDownFwdRefIdeal.Read
public import proofs.«01_k».proof.Proof.FfDownFwd
public import proofs.«01_k».proof.Proof.Gen.FfDownDx
public import proofs.«01_k».proof.Proof.Gen.FfDownDx.Skeleton
public import proofs.«01_k».proof.Proof.Gen.FfDownDx.Launch
public import proofs.«01_k».proof.Proof.Gen.FfDownDx.Points
public import proofs.«01_k».proof.Proof.Gen.FfDownDx.Frame
public import proofs.«01_k».proof.Proof.Gen.FfDownDxIdeal
public import proofs.«01_k».proof.Proof.Gen.FfDownDxIdeal.Skeleton
public import proofs.«01_k».proof.Proof.Gen.FfDownDxIdeal.Launch
public import proofs.«01_k».proof.Proof.Gen.FfDownDxIdeal.Points
public import proofs.«01_k».proof.Proof.Gen.FfDownDxIdeal.Frame
public import proofs.«01_k».proof.Proof.Gen.FfDownDxRefIdeal
public import proofs.«01_k».proof.Proof.Gen.FfDownDxIdeal.Value
public import proofs.«01_k».proof.Proof.Gen.FfDownDxRefIdeal.Run
public import proofs.«01_k».proof.Proof.Gen.FfDownDxRefIdeal.Read
public import proofs.«01_k».proof.Proof.FfDownDx
public import proofs.«01_k».proof.Proof.Gen.FfDownDw
public import proofs.«01_k».proof.Proof.Gen.FfDownDw.Skeleton
public import proofs.«01_k».proof.Proof.Gen.FfDownDw.Launch
public import proofs.«01_k».proof.Proof.Gen.FfDownDw.Points
public import proofs.«01_k».proof.Proof.Gen.FfDownDw.Frame
public import proofs.«01_k».proof.Proof.Gen.FfDownDwIdeal
public import proofs.«01_k».proof.Proof.Gen.FfDownDwIdeal.Skeleton
public import proofs.«01_k».proof.Proof.Gen.FfDownDwIdeal.Launch
public import proofs.«01_k».proof.Proof.Gen.FfDownDwIdeal.Points
public import proofs.«01_k».proof.Proof.Gen.FfDownDwIdeal.Frame
public import proofs.«01_k».proof.Proof.Gen.FfDownDwRefIdeal
public import proofs.«01_k».proof.Proof.Gen.FfDownDwIdeal.Value
public import proofs.«01_k».proof.Proof.Gen.FfDownDwRefIdeal.Run
public import proofs.«01_k».proof.Proof.Gen.FfDownDwRefIdeal.Read
public import proofs.«01_k».proof.Proof.FfDownDw
public import Idealize.ShloMosaic.Adequacy
public import Idealize.ShloMosaic.Init

@[expose] public section

noncomputable section

namespace Cert.Proof

open Idealize.ShloMosaic Idealize.SL.Sem Cert.GatingBwd

/-- The gradients of the gate, the modulation and the first norm, the products, and the optimizer: the frames, the idealizations, and the values. -/
theorem claim : Cert.Claim := ⟨Cert.GatingBwd.Gen.facts,
  Cert.GatingBwdIdeal.Gen.facts,
  Cert.GatingRefIdeal.Gen.facts,
  Cert.WInFwd.Gen.facts, Cert.WInFwdIdeal.Gen.facts, Cert.WInFwdRefIdeal.Gen.facts,
  Cert.WInDx.Gen.facts, Cert.WInDxIdeal.Gen.facts, Cert.WInDxRefIdeal.Gen.facts,
  Cert.WInDw.Gen.facts, Cert.WInDwIdeal.Gen.facts, Cert.WInDwRefIdeal.Gen.facts,
  Cert.WOutFwd.Gen.facts, Cert.WOutFwdIdeal.Gen.facts, Cert.WOutFwdRefIdeal.Gen.facts,
  Cert.WOutDx.Gen.facts, Cert.WOutDxIdeal.Gen.facts, Cert.WOutDxRefIdeal.Gen.facts,
  Cert.WOutDw.Gen.facts, Cert.WOutDwIdeal.Gen.facts, Cert.WOutDwRefIdeal.Gen.facts,
  Cert.FfUpFwd.Gen.facts, Cert.FfUpFwdIdeal.Gen.facts, Cert.FfUpFwdRefIdeal.Gen.facts,
  Cert.FfUpDx.Gen.facts, Cert.FfUpDxIdeal.Gen.facts, Cert.FfUpDxRefIdeal.Gen.facts,
  Cert.FfUpDw.Gen.facts, Cert.FfUpDwIdeal.Gen.facts, Cert.FfUpDwRefIdeal.Gen.facts,
  Cert.FfDownFwd.Gen.facts, Cert.FfDownFwdIdeal.Gen.facts, Cert.FfDownFwdRefIdeal.Gen.facts,
  Cert.FfDownDx.Gen.facts, Cert.FfDownDxIdeal.Gen.facts, Cert.FfDownDxRefIdeal.Gen.facts,
  Cert.FfDownDw.Gen.facts, Cert.FfDownDwIdeal.Gen.facts, Cert.FfDownDwRefIdeal.Gen.facts,
  Cert.AdamAdaW.Gen.facts, Cert.AdamAdaWIdeal.Gen.facts, Cert.AdamAdaWRefIdeal.Gen.facts,
  Cert.AdamWIn.Gen.facts, Cert.AdamWInIdeal.Gen.facts, Cert.AdamWInRefIdeal.Gen.facts,
  Cert.AdamWOut.Gen.facts, Cert.AdamWOutIdeal.Gen.facts, Cert.AdamWOutRefIdeal.Gen.facts,
  Cert.AdamFfUp.Gen.facts, Cert.AdamFfUpIdeal.Gen.facts, Cert.AdamFfUpRefIdeal.Gen.facts,
  Cert.AdamFfDown.Gen.facts, Cert.AdamFfDownIdeal.Gen.facts, Cert.AdamFfDownRefIdeal.Gen.facts,
  Cert.AdaBwd.Gen.facts, Cert.AdaBwdIdeal.Gen.facts, Cert.AdaBwdRefIdeal.Gen.facts,
  Cert.NormBwd.Gen.facts, Cert.NormBwdIdeal.Gen.facts, Cert.NormBwdRefIdeal.Gen.facts,
  Cert.SmallSum.Gen.facts, Cert.SmallSumIdeal.Gen.facts, Cert.SmallSumRefIdeal.Gen.facts,
  fun m ρ _ => Cert.GatingBwd.Gen.frame m ρ,
  fun m ρ _ => Cert.GatingBwdIdeal.Gen.frame m ρ,
  Cert.Gate.frame_ref,
  fun m ρ _ => Cert.WInFwd.Gen.frame m ρ, fun m ρ _ => Cert.WInFwdIdeal.Gen.frame m ρ, Cert.WInFwd.ref_frame,
  fun m ρ _ => Cert.WInDx.Gen.frame m ρ, fun m ρ _ => Cert.WInDxIdeal.Gen.frame m ρ, Cert.WInDx.ref_frame,
  fun m ρ _ => Cert.WInDw.Gen.frame m ρ, fun m ρ _ => Cert.WInDwIdeal.Gen.frame m ρ, Cert.WInDw.ref_frame,
  fun m ρ _ => Cert.WOutFwd.Gen.frame m ρ, fun m ρ _ => Cert.WOutFwdIdeal.Gen.frame m ρ, Cert.WOutFwd.ref_frame,
  fun m ρ _ => Cert.WOutDx.Gen.frame m ρ, fun m ρ _ => Cert.WOutDxIdeal.Gen.frame m ρ, Cert.WOutDx.ref_frame,
  fun m ρ _ => Cert.WOutDw.Gen.frame m ρ, fun m ρ _ => Cert.WOutDwIdeal.Gen.frame m ρ, Cert.WOutDw.ref_frame,
  fun m ρ _ => Cert.FfUpFwd.Gen.frame m ρ, fun m ρ _ => Cert.FfUpFwdIdeal.Gen.frame m ρ, Cert.FfUpFwd.ref_frame,
  fun m ρ _ => Cert.FfUpDx.Gen.frame m ρ, fun m ρ _ => Cert.FfUpDxIdeal.Gen.frame m ρ, Cert.FfUpDx.ref_frame,
  fun m ρ _ => Cert.FfUpDw.Gen.frame m ρ, fun m ρ _ => Cert.FfUpDwIdeal.Gen.frame m ρ, Cert.FfUpDw.ref_frame,
  fun m ρ _ => Cert.FfDownFwd.Gen.frame m ρ, fun m ρ _ => Cert.FfDownFwdIdeal.Gen.frame m ρ, Cert.FfDownFwd.ref_frame,
  fun m ρ _ => Cert.FfDownDx.Gen.frame m ρ, fun m ρ _ => Cert.FfDownDxIdeal.Gen.frame m ρ, Cert.FfDownDx.ref_frame,
  fun m ρ _ => Cert.FfDownDw.Gen.frame m ρ, fun m ρ _ => Cert.FfDownDwIdeal.Gen.frame m ρ, Cert.FfDownDw.ref_frame,
  fun m ρ _ => Cert.AdamAdaW.Gen.frame m ρ, fun m ρ _ => Cert.AdamAdaWIdeal.Gen.frame m ρ, Cert.AdamAdaW.ref_frame,
  fun m ρ _ => Cert.AdamWIn.Gen.frame m ρ, fun m ρ _ => Cert.AdamWInIdeal.Gen.frame m ρ, Cert.AdamWIn.ref_frame,
  fun m ρ _ => Cert.AdamWOut.Gen.frame m ρ, fun m ρ _ => Cert.AdamWOutIdeal.Gen.frame m ρ, Cert.AdamWOut.ref_frame,
  fun m ρ _ => Cert.AdamFfUp.Gen.frame m ρ, fun m ρ _ => Cert.AdamFfUpIdeal.Gen.frame m ρ, Cert.AdamFfUp.ref_frame,
  fun m ρ _ => Cert.AdamFfDown.Gen.frame m ρ, fun m ρ _ => Cert.AdamFfDownIdeal.Gen.frame m ρ, Cert.AdamFfDown.ref_frame,
  fun m ρ _ => Cert.AdaBwd.Gen.frame m ρ, fun m ρ _ => Cert.AdaBwdIdeal.Gen.frame m ρ, Cert.AdaBwd.ref_frame,
  fun m ρ _ => Cert.NormBwd.Gen.frame m ρ, fun m ρ _ => Cert.NormBwdIdeal.Gen.frame m ρ, Cert.NormBwd.ref_frame,
  fun m ρ _ => Cert.SmallSum.Sums.frame m ρ, fun m ρ _ => Cert.SmallSumIdeal.Sums.frame m ρ, Cert.SmallSum.ref_frame,
  trivial, Cert.Gate.equal,
  trivial, Cert.WInFwd.equal,
  trivial, Cert.WInDx.equal,
  trivial, Cert.WInDw.equal,
  trivial, Cert.WOutFwd.equal,
  trivial, Cert.WOutDx.equal,
  trivial, Cert.WOutDw.equal,
  trivial, Cert.FfUpFwd.equal,
  trivial, Cert.FfUpDx.equal,
  trivial, Cert.FfUpDw.equal,
  trivial, Cert.FfDownFwd.equal,
  trivial, Cert.FfDownDx.equal,
  trivial, Cert.FfDownDw.equal,
  trivial, Cert.AdamAdaW.equal,
  trivial, Cert.AdamWIn.equal,
  trivial, Cert.AdamWOut.equal,
  trivial, Cert.AdamFfUp.equal,
  trivial, Cert.AdamFfDown.equal,
  trivial, Cert.AdaBwd.equal,
  trivial, Cert.NormBwd.equal,
  trivial, Cert.SmallSum.equal⟩

end Cert.Proof

end
